-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_args8 [hPre_finite_args8 : Cert.Pre_finite_args8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_args8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_args8 [hPre_finite_args8 : Cert.Pre_finite_args8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_args8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_args9 [hPre_finite_args9 : Cert.Pre_finite_args9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_args9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_args9 [hPre_finite_args9 : Cert.Pre_finite_args9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_args9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite_args8 [hKernel8Ideal : Cert.Kernel8Ideal.Facts] [hPre_finite_args8 : Cert.Pre_finite_args8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_args8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite_args8 [hReference8Ideal : Cert.Reference8Ideal.Facts] [hPre_finite_args8 : Cert.Pre_finite_args8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_args8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite_args9 [hKernel9Ideal : Cert.Kernel9Ideal.Facts] [hPre_finite_args9 : Cert.Pre_finite_args9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_args9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite_args9 [hReference9Ideal : Cert.Reference9Ideal.Facts] [hPre_finite_args9 : Cert.Pre_finite_args9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_args9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_args8 [hKernel8Ideal : Cert.Kernel8Ideal.Facts] [hReference8Ideal : Cert.Reference8Ideal.Facts] [hPre_finite_args8 : Cert.Pre_finite_args8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_args8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite_args9 [hKernel9Ideal : Cert.Kernel9Ideal.Facts] [hReference9Ideal : Cert.Reference9Ideal.Facts] [hPre_finite_args9 : Cert.Pre_finite_args9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_args9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_args : Cert.Pre_finite_args.Facts) (hPre_finite_args8 : Cert.Pre_finite_args8.Facts) (hPre_finite_args9 : Cert.Pre_finite_args9.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_args8 (hKernel8Ideal := hKernel8Ideal) (hPre_finite_args8 := hPre_finite_args8)
    ∧ quiescent_Reference8Ideal (hReference8Ideal := hReference8Ideal)
    ∧ quiescent_Reference8Ideal_pre_finite_args8 (hReference8Ideal := hReference8Ideal) (hPre_finite_args8 := hPre_finite_args8)
    ∧ quiescent_Kernel9 (hKernel9 := hKernel9)
    ∧ quiescent_Kernel9Ideal (hKernel9Ideal := hKernel9Ideal)
    ∧ quiescent_Kernel9Ideal_pre_finite_args9 (hKernel9Ideal := hKernel9Ideal) (hPre_finite_args9 := hPre_finite_args9)
    ∧ quiescent_Reference9Ideal (hReference9Ideal := hReference9Ideal)
    ∧ quiescent_Reference9Ideal_pre_finite_args9 (hReference9Ideal := hReference9Ideal) (hPre_finite_args9 := hPre_finite_args9)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_args8 (hKernel8Ideal := hKernel8Ideal) (hReference8Ideal := hReference8Ideal) (hPre_finite_args8 := hPre_finite_args8)
    ∧ preserves_Kernel9_Kernel9Ideal
    ∧ algebraic_Kernel9Ideal_Reference9Ideal_pre_finite_args9 (hKernel9Ideal := hKernel9Ideal) (hReference9Ideal := hReference9Ideal) (hPre_finite_args9 := hPre_finite_args9)
-- ==== Pre_finite_args.lean ====
abbrev S32768x4608 : Shape := ⟨2, ![32768, 4608]⟩
abbrev S32768x128 : Shape := ⟨2, ![32768, 128]⟩
abbrev S4x3072 : Shape := ⟨2, ![4, 3072]⟩
abbrev S8 : Shape := ⟨1, ![8]⟩
abbrev S128 : Shape := ⟨1, ![128]⟩
abbrev S_ : Shape := ⟨0, ![]⟩

class Facts : Prop where
  bitsLt_bf16_f32 : FTy.bits .bf16 < FTy.bits .f32
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S4x3072 : S_.BroadcastsInDim S4x3072 (![] : Fin 0 → Fin S4x3072.rank)
  reducesTo_S4x3072_S_d0_1 : S4x3072.ReducesTo [0, 1] S_
  bcast_S_S8 : S_.BroadcastsInDim S8 (![] : Fin 0 → Fin S8.rank)
  reducesTo_S8_S_d0 : S8.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S8 .f32) (main_arg5 : FVec F S128 .f32) (main_v14 : IVec S_ 1) (main_v15 : FVec F S8 .f32) (main_v16 : FVec F S8 .f32) : IVec S_ 1 :=
  let main_v17 : IVec S8 1 := cmpf .olt main_v15 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v14 main_v18
  let main_v20 : FVec F S8 .f32 := Host.absf main_arg4
  let main_cst_6 : FVec F S_ .f32 := constant S_ .f32 0x7F800000#32
  let main_v21 : FVec F S8 .f32 := broadcastInDim S8 ![] bcast_S_S8 main_cst_6
  let main_v22 : IVec S8 1 := cmpf .olt main_v20 main_v21
  let main_c_7 : IVec S_ 1 := constantI S_ 1 1#1
  let main_v23 : IVec S_ 1 := (fun x v => Host.reduce IntOp.andi x v reducesTo_S8_S_d0 h_S_) main_v22 main_c_7
  let main_v24 : IVec S_ 1 := andi main_v19 main_v23
  let main_v25 : FVec F S128 .f32 := Host.absf main_arg5
  let main_cst_8 : FVec F S_ .f32 := constant S_ .f32 0x7F800000#32
  let main_v26 : FVec F S128 .f32 := broadcastInDim S128 ![] bcast_S_S128 main_cst_8
  let main_v27 : IVec S128 1 := cmpf .olt main_v25 main_v26
  let main_c_9 : IVec S_ 1 := constantI S_ 1 1#1
  let main_v28 : IVec S_ 1 := (fun x v => Host.reduce IntOp.andi x v reducesTo_S128_S_d0 h_S_) main_v27 main_c_9
  let main_v29 : IVec S_ 1 := andi main_v24 main_v28
  main_v29

def fn {F : FTy → Type} [FloatOps F] (main_arg0 : FVec F S32768x4608 .bf16) (main_arg1 : FVec F S32768x128 .f32) (main_arg2 : FVec F S4x3072 .f32) (main_arg3 : FVec F S8 .f32) (main_arg4 : FVec F S8 .f32) (main_arg5 : FVec F S128 .f32) : IVec S_ 1 :=
  let main_v0 : FVec F S32768x4608 .f32 := (extf .f32 · bitsLt_bf16_f32) main_arg0
  let main_v1 : FVec F S32768x4608 .f32 := Host.absf main_v0
  let main_cst : FVec F S_ .f32 := constant S_ .f32 0x7F800000#32
  let main_v2 : FVec F S32768x4608 .f32 := broadcastInDim S32768x4608 ![] bcast_S_S32768x4608 main_cst
  let main_v3 : IVec S32768x4608 1 := cmpf .olt main_v1 main_v2
  let main_c : IVec S_ 1 := constantI S_ 1 1#1
  let main_v4 : IVec S_ 1 := (fun x v => Host.reduce IntOp.andi x v reducesTo_S32768x4608_S_d0_1 h_S_) main_v3 main_c
  let main_v5 : FVec F S32768x128 .f32 := Host.absf main_arg1
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  let main_c_1 : IVec S_ 1 := constantI S_ 1 1#1
  let main_v8 : IVec S_ 1 := (fun x v => Host.reduce IntOp.andi x v reducesTo_S32768x128_S_d0_1 h_S_) main_v7 main_c_1
  let main_v9 : IVec S_ 1 := andi main_v4 main_v8
  let main_v10 : FVec F S4x3072 .f32 := Host.absf main_arg2
  let main_cst_2 : FVec F S_ .f32 := constant S_ .f32 0x7F800000#32
  let main_v11 : FVec F S4x3072 .f32 := broadcastInDim S4x3072 ![] bcast_S_S4x3072 main_cst_2
  let main_v12 : IVec S4x3072 1 := cmpf .olt main_v10 main_v11
  let main_c_3 : IVec S_ 1 := constantI S_ 1 1#1
  let main_v13 : IVec S_ 1 := (fun x v => Host.reduce IntOp.andi x v reducesTo_S4x3072_S_d0_1 h_S_) main_v12 main_c_3
  let main_v14 : IVec S_ 1 := andi main_v9 main_v13
  let main_v15 : FVec F S8 .f32 := Host.absf main_arg3
  let main_cst_4 : FVec F S_ .f32 := constant S_ .f32 0x7F800000#32
  let main_v16 : FVec F S8 .f32 := broadcastInDim S8 ![] bcast_S_S8 main_cst_4
  fn_part1 (F := F) main_arg4 main_arg5 main_v14 main_v15 main_v16
-- ==== Pre_finite_args8.lean ====
abbrev S32768x4608 : Shape := ⟨2, ![32768, 4608]⟩
abbrev S2048x1024 : Shape := ⟨2, ![2048, 1024]⟩
abbrev S_ : Shape := ⟨0, ![]⟩

class Facts : Prop where
  bitsLt_bf16_f32 : FTy.bits .bf16 < FTy.bits .f32
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S32768x4608 .bf16) (main_arg1 : FVec F S2048x1024 .bf16) : IVec S_ 1 :=
  let main_v0 : FVec F S32768x4608 .f32 := (extf .f32 · bitsLt_bf16_f32) main_arg0
  let main_v1 : FVec F S32768x4608 .f32 := Host.absf main_v0
  let main_cst : FVec F S_ .f32 := constant S_ .f32 0x7F800000#32
  let main_v2 : FVec F S32768x4608 .f32 := broadcastInDim S32768x4608 ![] bcast_S_S32768x4608 main_cst
  let main_v3 : IVec S32768x4608 1 := cmpf .olt main_v1 main_v2
  let main_c : IVec S_ 1 := constantI S_ 1 1#1
  let main_v4 : IVec S_ 1 := (fun x v => Host.reduce IntOp.andi x v reducesTo_S32768x4608_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  main_v10
-- ==== Pre_finite_args9.lean ====
abbrev S32768x2560 : Shape := ⟨2, ![32768, 2560]⟩
abbrev S2048x1024 : Shape := ⟨2, ![2048, 1024]⟩
abbrev S_ : Shape := ⟨0, ![]⟩

class Facts : Prop where
  bitsLt_bf16_f32 : FTy.bits .bf16 < FTy.bits .f32
  bcast_S_S32768x2560 : S_.BroadcastsInDim S32768x2560 (![] : Fin 0 → Fin S32768x2560.rank)
  reducesTo_S32768x2560_S_d0_1 : S32768x2560.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S32768x2560 .bf16) (main_arg1 : FVec F S2048x1024 .bf16) : IVec S_ 1 :=
  let main_v0 : FVec F S32768x2560 .f32 := (extf .f32 · bitsLt_bf16_f32) main_arg0
  let main_v1 : FVec F S32768x2560 .f32 := Host.absf main_v0
  let main_cst : FVec F S_ .f32 := constant S_ .f32 0x7F800000#32
  let main_v2 : FVec F S32768x2560 .f32 := broadcastInDim S32768x2560 ![] bcast_S_S32768x2560 main_cst
  let main_v3 : IVec S32768x2560 1 := cmpf .olt main_v1 main_v2
  let main_c : IVec S_ 1 := constantI S_ 1 1#1
  let main_v4 : IVec S_ 1 := (fun x v => Host.reduce IntOp.andi x v reducesTo_S32768x2560_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  main_v10
-- ==== Kernel.lean ====
abbrev S32768x4608 : Shape := ⟨2, ![32768, 4608]⟩
abbrev S32768x128 : Shape := ⟨2, ![32768, 128]⟩
abbrev S4x3072 : Shape := ⟨2, ![4, 3072]⟩
abbrev S8 : Shape := ⟨1, ![8]⟩
abbrev S128 : Shape := ⟨1, ![128]⟩
abbrev S_ : Shape := ⟨0, ![]⟩
abbrev S1x1x128 : Shape := ⟨3, ![1, 1, 128]⟩
abbrev S1x8 : Shape := ⟨2, ![1, 8]⟩
abbrev S1 : Shape := ⟨1, ![1]⟩
abbrev S2 : Shape := ⟨1, ![2]⟩
abbrev S4x3x1x1024 : Shape := ⟨4, ![4, 3, 1, 1024]⟩
abbrev S3x1x4x1024 : Shape := ⟨4, ![3, 1, 4, 1024]⟩
abbrev S3x1x8x1024 : Shape := ⟨4, ![3, 1, 8, 1024]⟩
abbrev S1x128 : Shape := ⟨2, ![1, 128]⟩
abbrev S32768x1024 : Shape := ⟨2, ![32768, 1024]⟩
abbrev S256x1024 : Shape := ⟨2, ![256, 1024]⟩
abbrev S256x128 : Shape := ⟨2, ![256, 128]⟩
abbrev S264x1024 : Shape := ⟨2, ![264, 1024]⟩
abbrev S8x128x128 : Shape := ⟨3, ![8, 128, 128]⟩
abbrev S8x1024 : Shape := ⟨2, ![8, 1024]⟩
abbrev S1x1x8x1024 : Shape := ⟨4, ![1, 1, 8, 1024]⟩
abbrev S1x1024 : Shape := ⟨2, ![1, 1024]⟩
abbrev S248x1024 : Shape := ⟨2, ![248, 1024]⟩
abbrev S256x256 : Shape := ⟨2, ![256, 256]⟩
abbrev S1x128x128 : Shape := ⟨3, ![1, 128, 128]⟩
abbrev S128x128 : Shape := ⟨2, ![128, 128]⟩
abbrev S64x128 : Shape := ⟨2, ![64, 128]⟩
abbrev S128x256 : Shape := ⟨2, ![128, 256]⟩
abbrev S256 : Shape := ⟨1, ![256]⟩
abbrev S256x1 : Shape := ⟨2, ![256, 1]⟩
abbrev S1x256 : Shape := ⟨2, ![1, 256]⟩
abbrev S128x64 : Shape := ⟨2, ![128, 64]⟩
abbrev S64x256 : Shape := ⟨2, ![64, 256]⟩
abbrev S1x1 : Shape := ⟨2, ![1, 1]⟩
abbrev S64 : Shape := ⟨1, ![64]⟩
abbrev S64x1 : Shape := ⟨2, ![64, 1]⟩

abbrev nBuf : Space → Nat
  | .hbm => 32
  | .vmem => 20
  | .smem => 0
  | _ => 0

abbrev bufTy : (tb : Table) → Fin (tcTables nBuf tb) → BufTy
  | .hbm, ⟨0, _⟩ => ⟨S32768x4608, .bf16⟩
  | .hbm, ⟨1, _⟩ => ⟨S32768x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S_, .f32⟩
  | .hbm, ⟨7, _⟩ => ⟨S1x1x128, .f32⟩
  | .hbm, ⟨8, _⟩ => ⟨S8, .f32⟩
  | .hbm, ⟨9, _⟩ => ⟨S1x8, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x1x128, .f32⟩
  | .hbm, ⟨16, _⟩ => ⟨S_, .f32⟩
  | .hbm, ⟨17, _⟩ => ⟨S1x1x128, .f32⟩
  | .hbm, ⟨18, _⟩ => ⟨S1x8, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x1x128, .f32⟩
  | .hbm, ⟨25, _⟩ => ⟨S4x3x1x1024, .f32⟩
  | .hbm, ⟨26, _⟩ => ⟨S3x1x4x1024, .f32⟩
  | .hbm, ⟨27, _⟩ => ⟨S_, .i32⟩
  | .hbm, ⟨28, _⟩ => ⟨S_, .f32⟩
  | .hbm, ⟨29, _⟩ => ⟨S3x1x8x1024, .f32⟩
  | .hbm, ⟨30, _⟩ => ⟨S1x128, .f32⟩
  | .hbm, ⟨31, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S3x1x8x1024, .f32⟩
  | .local _ .vmem, ⟨11, _⟩ => ⟨S1x1x128, .f32⟩
  | .local _ .vmem, ⟨12, _⟩ => ⟨S1x1x128, .f32⟩
  | .local _ .vmem, ⟨13, _⟩ => ⟨S1x128, .f32⟩
  | .local _ .vmem, ⟨14, _⟩ => ⟨S256x1024, .bf16⟩
  | .local _ .vmem, ⟨15, _⟩ => ⟨S256x1024, .bf16⟩
  | .local _ .vmem, ⟨16, _⟩ => ⟨S264x1024, .f32⟩
  | .local _ .vmem, ⟨17, _⟩ => ⟨S264x1024, .f32⟩
  | .local _ .vmem, ⟨18, _⟩ => ⟨S264x1024, .f32⟩
  | .local _ .vmem, ⟨19, _⟩ => ⟨S8x128x128, .f32⟩
  | _, _ => ⟨S32768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S3x1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S32768x4608 : Shape := ⟨2, ![32768, 4608]⟩
abbrev S32768x128 : Shape := ⟨2, ![32768, 128]⟩
abbrev S4x3072 : Shape := ⟨2, ![4, 3072]⟩
abbrev S8 : Shape := ⟨1, ![8]⟩
abbrev S128 : Shape := ⟨1, ![128]⟩
abbrev S32768x3072 : Shape := ⟨2, ![32768, 3072]⟩
abbrev S8x4096x3072 : Shape := ⟨3, ![8, 4096, 3072]⟩
abbrev S8x4096x128 : Shape := ⟨3, ![8, 4096, 128]⟩
abbrev S_ : Shape := ⟨0, ![]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x8 : Shape := ⟨3, ![1, 1, 8]⟩
abbrev S8x8x128x128 : Shape := ⟨4, ![8, 8, 128, 128]⟩
abbrev S4096x8x8x128 : Shape := ⟨4, ![4096, 8, 8, 128]⟩
abbrev S4096x8x8 : Shape := ⟨3, ![4096, 8, 8]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S1x1x1x128 : Shape := ⟨4, ![1, 1, 1, 128]⟩
abbrev S32768x1024 : Shape := ⟨2, ![32768, 1024]⟩

abbrev nBuf : Space → Nat
  | .hbm => 209
  | .vmem => 0
  | .smem => 0
  | _ => 0

abbrev hbmTy0_0 (i : Nat) : BufTy := match i % 128 with
  | 0 => ⟨S32768x4608, .bf16⟩
  | 1 => ⟨S32768x128, .f32⟩
  | 2 => ⟨S4x3072, .f32⟩
  | 3 => ⟨S8, .f32⟩
  | 4 => ⟨S8, .f32⟩
  | 5 => ⟨S128, .f32⟩
  | 6 => ⟨S32768x4608, .f32⟩
  | 7 => ⟨S32768x3072, .f32⟩
  | 8 => ⟨S8x4096x3072, .f32⟩
  | 9 => ⟨S8x4096x128, .f32⟩
  | 10 => ⟨S_, .i32⟩
  | 11 => ⟨S_, .f32⟩
  | 12 => ⟨S8x4099x3072, .f32⟩
  | 13 => ⟨S8x4096x3072, .f32⟩
  | 14 => ⟨S1x3072, .f32⟩
  | 15 => ⟨S3072, .f32⟩
  | 16 => ⟨S1x1x3072, .f32⟩
  | 17 => ⟨S8x4096x3072, .f32⟩
  | 18 => ⟨S8x4096x3072, .f32⟩
  | 19 => ⟨S8x4096x3072, .f32⟩
  | 20 => ⟨S1x3072, .f32⟩
  | 21 => ⟨S3072, .f32⟩
  | 22 => ⟨S1x1x3072, .f32⟩
  | 23 => ⟨S8x4096x3072, .f32⟩
  | 24 => ⟨S8x4096x3072, .f32⟩
  | 25 => ⟨S8x4096x3072, .f32⟩
  | 26 => ⟨S8x4096x3072, .f32⟩
  | 27 => ⟨S1x3072, .f32⟩
  | 28 => ⟨S3072, .f32⟩
  | 29 => ⟨S1x1x3072, .f32⟩
  | 30 => ⟨S8x4096x3072, .f32⟩
  | 31 => ⟨S8x4096x3072, .f32⟩
  | 32 => ⟨S8x4096x3072, .f32⟩
  | 33 => ⟨S8x4096x3072, .f32⟩
  | 34 => ⟨S1x3072, .f32⟩
  | 35 => ⟨S3072, .f32⟩
  | 36 => ⟨S1x1x3072, .f32⟩
  | 37 => ⟨S8x4096x3072, .f32⟩
  | 38 => ⟨S8x4096x3072, .f32⟩
  | 39 => ⟨S8x4096x3072, .f32⟩
  | 40 => ⟨S8x4096x3072, .f32⟩
  | 41 => ⟨S8x4096x3072, .f32⟩
  | 42 => ⟨S_, .f32⟩
  | 43 => ⟨S8x4096x3072, .f32⟩
  | 44 => ⟨S8x4096x3072, .f32⟩
  | 45 => ⟨S_, .f32⟩
  | 46 => ⟨S8x4096x3072, .f32⟩
  | 47 => ⟨S8x4096x3072, .f32⟩
  | 48 => ⟨S8x4096x3072, .f32⟩
  | 49 => ⟨S8x4096x3x8x128, .f32⟩
  | 50 => ⟨S8x4096x1x8x128, .f32⟩
  | 51 => ⟨S8x4096x8x128, .f32⟩
  | 52 => ⟨S8x4096x8x128, .f32⟩
  | 53 => ⟨S_, .f32⟩
  | 54 => ⟨S8x4096x8, .f32⟩
  | 55 => ⟨S8x4096x8x1, .f32⟩
  | 56 => ⟨S_, .f32⟩
  | 57 => ⟨S8x4096x8x1, .f32⟩
  | 58 => ⟨S8x4096x8x1, .f32⟩
  | 59 => ⟨S8x4096x8x1, .f32⟩
  | 60 => ⟨S8x4096x8x128, .f32⟩
  | 61 => ⟨S8x4096x8x128, .f32⟩
  | 62 => ⟨S_, .f32⟩
  | 63 => ⟨S8x4096x8x128, .f32⟩
  | 64 => ⟨S8x4096x8x128, .f32⟩
  | 65 => ⟨S8x4096x1x8x128, .f32⟩
  | 66 => ⟨S8x4096x8x128, .f32⟩
  | 67 => ⟨S8x4096x8x128, .f32⟩
  | 68 => ⟨S_, .f32⟩
  | 69 => ⟨S8x4096x8, .f32⟩
  | 70 => ⟨S8x4096x8x1, .f32⟩
  | 71 => ⟨S_, .f32⟩
  | 72 => ⟨S8x4096x8x1, .f32⟩
  | 73 => ⟨S8x4096x8x1, .f32⟩
  | 74 => ⟨S8x4096x8x1, .f32⟩
  | 75 => ⟨S8x4096x8x128, .f32⟩
  | 76 => ⟨S8x4096x8x128, .f32⟩
  | 77 => ⟨S8x4096x1x8x128, .f32⟩
  | 78 => ⟨S8x4096x8x128, .f32⟩
  | 79 => ⟨S8x4096x8, .f32⟩
  | 80 => ⟨S8x4096x8, .f32⟩
  | 81 => ⟨S8x4096x8, .f32⟩
  | 82 => ⟨S_, .f32⟩
  | 83 => ⟨S8x4096x8, .f32⟩
  | 84 => ⟨S8x4096x8, .f32⟩
  | 85 => ⟨S_, .f32⟩
  | 86 => ⟨S8x4096x8, .f32⟩
  | 87 => ⟨S8x4096x8, .f32⟩
  | 88 => ⟨S8, .f32⟩
  | 89 => ⟨S8, .f32⟩
  | 90 => ⟨S8x4096x8, .f32⟩
  | 91 => ⟨S1x1x8, .f32⟩
  | 92 => ⟨S8x4096x8, .f32⟩
  | 93 => ⟨S8x4096x8, .f32⟩
  | 94 => ⟨S_, .f32⟩
  | 95 => ⟨S8x4096x8, .f32⟩
  | 96 => ⟨S8x4096x8, .f32⟩
  | 97 => ⟨S8x4096x8, .f32⟩
  | 98 => ⟨S8x4096x8, .f32⟩
  | 99 => ⟨S8x4096x8, .i1⟩
  | 100 => ⟨S8x4096x8, .f32⟩
  | 101 => ⟨S8x4096x8, .f32⟩
  | 102 => ⟨S8x4096x8, .f32⟩
  | 103 => ⟨S8x4096x8, .f32⟩
  | 104 => ⟨S8x4096x8, .f32⟩
  | 105 => ⟨S8x4096x8, .f32⟩
  | 106 => ⟨S8x4096x8, .f32⟩
  | 107 => ⟨S8x4096x8, .f32⟩
  | 108 => ⟨S1x1x8, .f32⟩
  | 109 => ⟨S8x4096x8, .f32⟩
  | 110 => ⟨S8x4096x8, .f32⟩
  | 111 => ⟨S8x4096x8, .f32⟩
  | 112 => ⟨S_, .f32⟩
  | 113 => ⟨S8x8x128x128, .f32⟩
  | 114 => ⟨S4096x8x8x128, .f32⟩
  | 115 => ⟨S4096x8x8x128, .f32⟩
  | 116 => ⟨S4096x8x8x128, .f32⟩
  | 117 => ⟨S4096x8x8, .f32⟩
  | 118 => ⟨S4096x8x8, .f32⟩
  | 119 => ⟨S_, .f32⟩
  | 120 => ⟨S4096x8x8x128, .f32⟩
  | 121 => ⟨S_, .i32⟩
  | 122 => ⟨S4096x8x8x128, .f32⟩
  | 123 => ⟨S4096x8x8x128, .f32⟩
  | 124 => ⟨S4096x8x8x128, .f32⟩
  | 125 => ⟨S4096x8x8, .f32⟩
  | 126 => ⟨S4096x8x8, .f32⟩
  | 127 => ⟨S_, .i32⟩
  | _ => ⟨S32768x4608, .bf16⟩

abbrev hbmTy0_1 (i : Nat) : BufTy := match i % 128 with
  | 0 => ⟨S8x8x128x128, .f32⟩
  | 1 => ⟨S4096x8x8x128, .f32⟩
  | 2 => ⟨S_, .i32⟩
  | 3 => ⟨S_, .i1⟩
  | 4 => ⟨S_, .i32⟩
  | 5 => ⟨S_, .i32⟩
  | 6 => ⟨S_, .i32⟩
  | 7 => ⟨S1x8x8x128, .f32⟩
  | 8 => ⟨S8x8x128, .f32⟩
  | 9 => ⟨S_, .i32⟩
  | 10 => ⟨S_, .i32⟩
  | 11 => ⟨S_, .i32⟩
  | 12 => ⟨S1x8x8x128, .f32⟩
  | 13 => ⟨S8x8x128, .f32⟩
  | 14 => ⟨S_, .i32⟩
  | 15 => ⟨S_, .i32⟩
  | 16 => ⟨S_, .i32⟩
  | 17 => ⟨S1x8x8x128, .f32⟩
  | 18 => ⟨S8x8x128, .f32⟩
  | 19 => ⟨S_, .i32⟩
  | 20 => ⟨S_, .i32⟩
  | 21 => ⟨S1x8x8, .f32⟩
  | 22 => ⟨S8x8, .f32⟩
  | 23 => ⟨S_, .i32⟩
  | 24 => ⟨S_, .i32⟩
  | 25 => ⟨S1x8x8, .f32⟩
  | 26 => ⟨S8x8, .f32⟩
  | 27 => ⟨S8x8x1x1, .f32⟩
  | 28 => ⟨S8x8x128x128, .f32⟩
  | 29 => ⟨S8x8x128x128, .f32⟩
  | 30 => ⟨S8x8x128, .f32⟩
  | 31 => ⟨S8x8x128, .f32⟩
  | 32 => ⟨S8x8x1, .f32⟩
  | 33 => ⟨S8x8x128, .f32⟩
  | 34 => ⟨S8x8x128, .f32⟩
  | 35 => ⟨S8x8x128x1, .f32⟩
  | 36 => ⟨S8x8x1x128, .f32⟩
  | 37 => ⟨S8x8x128x128, .f32⟩
  | 38 => ⟨S8x8x128x128, .f32⟩
  | 39 => ⟨S8x8x128x128, .f32⟩
  | 40 => ⟨S8x8x128x128, .f32⟩
  | 41 => ⟨S8x8x128, .f32⟩
  | 42 => ⟨S1x8x8x128, .f32⟩
  | 43 => ⟨S_, .i32⟩
  | 44 => ⟨S_, .i32⟩
  | 45 => ⟨S_, .i32⟩
  | 46 => ⟨S4096x8x8x128, .f32⟩
  | 47 => ⟨S_, .i32⟩
  | 48 => ⟨S_, .i32⟩
  | 49 => ⟨S8x4096x8x128, .f32⟩
  | 50 => ⟨S8x4096x8x128, .f32⟩
  | 51 => ⟨S_, .f32⟩
  | 52 => ⟨S8x4096x8, .f32⟩
  | 53 => ⟨S8x4096x8x1, .f32⟩
  | 54 => ⟨S_, .f32⟩
  | 55 => ⟨S8x4096x8x1, .f32⟩
  | 56 => ⟨S8x4096x8x1, .f32⟩
  | 57 => ⟨S_, .f32⟩
  | 58 => ⟨S8x4096x8x1, .f32⟩
  | 59 => ⟨S8x4096x8x1, .f32⟩
  | 60 => ⟨S8x4096x8x1, .f32⟩
  | 61 => ⟨S8x4096x8x128, .f32⟩
  | 62 => ⟨S8x4096x8x128, .f32⟩
  | 63 => ⟨S1x1x1x128, .f32⟩
  | 64 => ⟨S8x4096x8x128, .f32⟩
  | 65 => ⟨S8x4096x8x128, .f32⟩
  | 66 => ⟨S32768x4608, .f32⟩
  | 67 => ⟨S32768x1024, .f32⟩
  | 68 => ⟨S8x4096x8x128, .f32⟩
  | 69 => ⟨S8x4096x8x128, .f32⟩
  | 70 => ⟨S8x4096x8x128, .f32⟩
  | 71 => ⟨S_, .f32⟩
  | 72 => ⟨S8x4096x8x128, .f32⟩
  | 73 => ⟨S8x4096x8x128, .f32⟩
  | 74 => ⟨S_, .f32⟩
  | 75 => ⟨S8x4096x8x128, .f32⟩
  | 76 => ⟨S8x4096x8x128, .f32⟩
  | 77 => ⟨S8x4096x8x128, .f32⟩
  | 78 => ⟨S8x4096x8x128, .f32⟩
  | 79 => ⟨S32768x1024, .f32⟩
  | 80 => ⟨S32768x1024, .bf16⟩
  | _ => ⟨S32768x4608, .bf16⟩

abbrev hbmTy (i : Nat) : BufTy := match i / 128 with
  | 0 => hbmTy0_0 i
  | 1 => hbmTy0_1 i
  | _ => ⟨S32768x4608, .bf16⟩

abbrev bufTy : (tb : Table) → Fin (tcTables nBuf tb) → BufTy
  | .hbm, ⟨i, _⟩ => hbmTy i
  | _, _ => ⟨S32768x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_4 : Ref sig .tc := ⟨.hbm, 82, rfl⟩
abbrev main_v61 : Ref sig .tc := ⟨.hbm, 83, rfl⟩
abbrev main_v62 : Ref sig .tc := ⟨.hbm, 84, rfl⟩
abbrev main_cst_5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_6 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_7 : Ref sig .tc := ⟨.hbm, 119, rfl⟩
abbrev main_v82 : Ref sig .tc := ⟨.hbm, 120, rfl⟩
abbrev main_c_8 : Ref sig .tc := ⟨.hbm, 121, rfl⟩
abbrev main_v83_0 : Ref sig .tc := ⟨.hbm, 122, rfl⟩
abbrev main_v83_1 : Ref sig .tc := ⟨.hbm, 123, rfl⟩
abbrev main_v83_2 : Ref sig .tc := ⟨.hbm, 124, rfl⟩
abbrev main_v83_3 : Ref sig .tc := ⟨.hbm, 125, rfl⟩
abbrev main_v83_4 : Ref sig .tc := ⟨.hbm, 126, rfl⟩
abbrev main_v83_5 : Ref sig .tc := ⟨.hbm, 127, rfl⟩
abbrev main_v83_6 : Ref sig .tc := ⟨.hbm, 128, rfl⟩
abbrev main_v83_7 : Ref sig .tc := ⟨.hbm, 129, rfl⟩
abbrev main_while0c_c_19 : Ref sig .tc := ⟨.hbm, 130, rfl⟩
abbrev main_while0c_v105 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_c_1 : Ref sig .tc := ⟨.hbm, 134, rfl⟩
abbrev main_while0b_call3_v0 : Ref sig .tc := ⟨.hbm, 135, rfl⟩
abbrev main_while0b_v105 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_c_1 : Ref sig .tc := ⟨.hbm, 139, rfl⟩
abbrev main_while0b_call4_v0 : Ref sig .tc := ⟨.hbm, 140, rfl⟩
abbrev main_while0b_v106 : Ref sig .tc := ⟨.hbm, 141, rfl⟩
abbrev main_while0b_call5_c : Ref sig .tc := ⟨.hbm, 142, rfl⟩
abbrev main_while0b_call5_c_0 : Ref sig .tc := ⟨.hbm, 143, rfl⟩
abbrev main_while0b_call5_c_1 : Ref sig .tc := ⟨.hbm, 144, rfl⟩
abbrev main_while0b_call5_v0 : Ref sig .tc := ⟨.hbm, 145, rfl⟩
abbrev main_while0b_v107 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_v0 : Ref sig .tc := ⟨.hbm, 149, rfl⟩
abbrev main_while0b_v108 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_v0 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_call8_v0 : Ref sig .tc := ⟨.hbm, 170, rfl⟩
abbrev main_while0b_call8_c : Ref sig .tc := ⟨.hbm, 171, rfl⟩
abbrev main_while0b_call8_c_0 : Ref sig .tc := ⟨.hbm, 172, rfl⟩
abbrev main_while0b_call8_c_1 : Ref sig .tc := ⟨.hbm, 173, rfl⟩
abbrev main_while0b_v125 : Ref sig .tc := ⟨.hbm, 174, rfl⟩
abbrev main_while0b_c_19 : Ref sig .tc := ⟨.hbm, 175, rfl⟩
abbrev main_while0b_v126 : Ref sig .tc := ⟨.hbm, 176, rfl⟩
abbrev main_v84 : Ref sig .tc := ⟨.hbm, 177, rfl⟩
abbrev main_v85 : Ref sig .tc := ⟨.hbm, 178, rfl⟩
abbrev main_cst_9 : Ref sig .tc := ⟨.hbm, 179, rfl⟩
abbrev main_v86 : Ref sig .tc := ⟨.hbm, 180, rfl⟩
abbrev main_v87 : Ref sig .tc := ⟨.hbm, 181, rfl⟩
abbrev main_cst_10 : Ref sig .tc := ⟨.hbm, 182, rfl⟩
abbrev main_v88 : Ref sig .tc := ⟨.hbm, 183, rfl⟩
abbrev main_v89 : Ref sig .tc := ⟨.hbm, 184, rfl⟩
abbrev main_cst_11 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_call9_v0 : Ref sig .tc := ⟨.hbm, 197, rfl⟩
abbrev main_call9_v1 : Ref sig .tc := ⟨.hbm, 198, rfl⟩
abbrev main_call9_cst : Ref sig .tc := ⟨.hbm, 199, rfl⟩
abbrev main_call9_v2 : Ref sig .tc := ⟨.hbm, 200, rfl⟩
abbrev main_call9_v3 : Ref sig .tc := ⟨.hbm, 201, rfl⟩
abbrev main_call9_cst_0 : Ref sig .tc := ⟨.hbm, 202, rfl⟩
abbrev main_call9_v4 : Ref sig .tc := ⟨.hbm, 203, rfl⟩
abbrev main_call9_v5 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S32768x512 : Shape := ⟨2, ![32768, 512]⟩
abbrev S1536x1024 : Shape := ⟨2, ![1536, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S1x1024 : Shape := ⟨2, ![1, 1024]⟩
abbrev S_ : Shape := ⟨0, ![]⟩
abbrev S8x2816 : Shape := ⟨2, ![8, 2816]⟩
abbrev S1x2816 : Shape := ⟨2, ![1, 2816]⟩
abbrev S32768x2816 : Shape := ⟨2, ![32768, 2816]⟩
abbrev S512x1024 : Shape := ⟨2, ![512, 1024]⟩
abbrev S512x512 : Shape := ⟨2, ![512, 512]⟩
abbrev S512x2816 : Shape := ⟨2, ![512, 2816]⟩
abbrev S256x1024 : Shape := ⟨2, ![256, 1024]⟩
abbrev S1024x1024 : Shape := ⟨2, ![1024, 1024]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S248x256 : Shape := ⟨2, ![248, 256]⟩
abbrev S1x256 : Shape := ⟨2, ![1, 256]⟩

abbrev nBuf : Space → Nat
  | .hbm => 17
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S1536x1024, .bf16⟩
  | .hbm, ⟨9, _⟩ => ⟨S1024x5632, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S8x2816, .f32⟩
  | .hbm, ⟨14, _⟩ => ⟨S1x2816, .f32⟩
  | .hbm, ⟨15, _⟩ => ⟨S32768x1024, .f32⟩
  | .hbm, ⟨16, _⟩ => ⟨S32768x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1536x1024, .bf16⟩
  | .local _ .vmem, ⟨7, _⟩ => ⟨S1x1024, .f32⟩
  | .local _ .vmem, ⟨8, _⟩ => ⟨S1024x5632, .bf16⟩
  | .local _ .vmem, ⟨9, _⟩ => ⟨S8x2816, .f32⟩
  | .local _ .vmem, ⟨10, _⟩ => ⟨S1x2816, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | .local _ .vmem, ⟨14, _⟩ => ⟨S512x2816, .bf16⟩
  | .local _ .vmem, ⟨15, _⟩ => ⟨S8x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x512 : Shape := ⟨2, ![32768, 512]⟩
abbrev S1536x1024 : Shape := ⟨2, ![1536, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S32768x1536 : Shape := ⟨2, ![32768, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S1536x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S32768x1024, .f32⟩
  | .hbm, ⟨9, _⟩ => ⟨S32768x512, .f32⟩
  | .hbm, ⟨10, _⟩ => ⟨S32768x1536, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x5632, .f32⟩
  | .hbm, ⟨30, _⟩ => ⟨S32768x2816, .f32⟩
  | .hbm, ⟨31, _⟩ => ⟨S32768x2816, .f32⟩
  | .hbm, ⟨32, _⟩ => ⟨S8x4096x2816, .f32⟩
  | .hbm, ⟨33, _⟩ => ⟨S_, .i32⟩
  | .hbm, ⟨34, _⟩ => ⟨S_, .f32⟩
  | .hbm, ⟨35, _⟩ => ⟨S8x4098x2816, .f32⟩
  | .hbm, ⟨36, _⟩ => ⟨S8x4096x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S1x1x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S32768x2816, .f32⟩
  | .hbm, ⟨69, _⟩ => ⟨S32768x2816, .f32⟩
  | .hbm, ⟨70, _⟩ => ⟨S32768x2816, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel3.lean ====
abbrev S32768x1024 : Shape := ⟨2, ![32768, 1024]⟩
abbrev S32768x2816 : Shape := ⟨2, ![32768, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x2816, .bf16⟩
  | .hbm, ⟨2, _⟩ => ⟨S2816x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S32768x2816 : Shape := ⟨2, ![32768, 2816]⟩
abbrev S2816x1024 : Shape := ⟨2, ![2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2816, .bf16⟩
  | .hbm, ⟨2, _⟩ => ⟨S2816x1024, .f32⟩
  | .hbm, ⟨3, _⟩ => ⟨S1024, .f32⟩
  | .hbm, ⟨4, _⟩ => ⟨S32768x2816, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x4608 : Shape := ⟨2, ![1024, 4608]⟩
abbrev S1024x128 : Shape := ⟨2, ![1024, 128]⟩
abbrev S1x1024 : Shape := ⟨2, ![1, 1024]⟩
abbrev S32768x4608 : Shape := ⟨2, ![32768, 4608]⟩
abbrev S32768x128 : Shape := ⟨2, ![32768, 128]⟩
abbrev S512x1024 : Shape := ⟨2, ![512, 1024]⟩
abbrev S512x4608 : Shape := ⟨2, ![512, 4608]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4608, .bf16⟩
  | .hbm, ⟨3, _⟩ => ⟨S1024x128, .bf16⟩
  | .hbm, ⟨4, _⟩ => ⟨S1x1024, .f32⟩
  | .hbm, ⟨5, _⟩ => ⟨S32768x4608, .bf16⟩
  | .hbm, ⟨6, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S1024x128, .bf16⟩
  | .local _ .vmem, ⟨5, _⟩ => ⟨S512x4608, .bf16⟩
  | .local _ .vmem, ⟨6, _⟩ => ⟨S512x4608, .bf16⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S1024 : Shape := ⟨1, ![1024]⟩
abbrev S1024x4608 : Shape := ⟨2, ![1024, 4608]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4608 : Shape := ⟨2, ![32768, 4608]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4608, .bf16⟩
  | .hbm, ⟨3, _⟩ => ⟨S1024x128, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x4608, .f32⟩
  | .hbm, ⟨21, _⟩ => ⟨S32768x4608, .f32⟩
  | .hbm, ⟨22, _⟩ => ⟨S32768x4608, .bf16⟩
  | .hbm, ⟨23, _⟩ => ⟨S1024x128, .f32⟩
  | .hbm, ⟨24, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S32768x1024 : Shape := ⟨2, ![32768, 1024]⟩
abbrev S32768x2816 : Shape := ⟨2, ![32768, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x2816, .bf16⟩
  | .hbm, ⟨2, _⟩ => ⟨S2816x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x1024 : Shape := ⟨2, ![32768, 1024]⟩
abbrev S32768x2816 : Shape := ⟨2, ![32768, 2816]⟩
abbrev S2816x1024 : Shape := ⟨2, ![2816, 1024]⟩
abbrev S1024 : Shape := ⟨1, ![1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2816, .bf16⟩
  | .hbm, ⟨2, _⟩ => ⟨S2816x1024, .f32⟩
  | .hbm, ⟨3, _⟩ => ⟨S1024, .f32⟩
  | .hbm, ⟨4, _⟩ => ⟨S32768x2816, .f32⟩
  | .hbm, ⟨5, _⟩ => ⟨S32768x1024, .f32⟩
  | .hbm, ⟨6, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x2560 : Shape := ⟨2, ![1024, 2560]⟩
abbrev S1024x768 : Shape := ⟨2, ![1024, 768]⟩
abbrev S1x1024 : Shape := ⟨2, ![1, 1024]⟩
abbrev S32768x2560 : Shape := ⟨2, ![32768, 2560]⟩
abbrev S32768x768 : Shape := ⟨2, ![32768, 768]⟩
abbrev S512x1024 : Shape := ⟨2, ![512, 1024]⟩
abbrev S512x2560 : Shape := ⟨2, ![512, 2560]⟩
abbrev S512x768 : Shape := ⟨2, ![512, 768]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S1024x512 : Shape := ⟨2, ![1024, 512]⟩
abbrev S256x512 : Shape := ⟨2, ![256, 512]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .bf16⟩
  | .hbm, ⟨3, _⟩ => ⟨S1024x768, .bf16⟩
  | .hbm, ⟨4, _⟩ => ⟨S1x1024, .f32⟩
  | .hbm, ⟨5, _⟩ => ⟨S32768x2560, .bf16⟩
  | .hbm, ⟨6, _⟩ => ⟨S32768x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x768, .bf16⟩
  | .local _ .vmem, ⟨5, _⟩ => ⟨S512x2560, .bf16⟩
  | .local _ .vmem, ⟨6, _⟩ => ⟨S512x2560, .bf16⟩
  | .local _ .vmem, ⟨7, _⟩ => ⟨S512x768, .f32⟩
  | .local _ .vmem, ⟨8, _⟩ => ⟨S512x768, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x1024 : Shape := ⟨2, ![32768, 1024]⟩
abbrev S1024 : Shape := ⟨1, ![1024]⟩
abbrev S1024x2560 : Shape := ⟨2, ![1024, 2560]⟩
abbrev S1024x768 : Shape := ⟨2, ![1024, 768]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2560 : Shape := ⟨2, ![32768, 2560]⟩
abbrev S32768x768 : Shape := ⟨2, ![32768, 768]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .bf16⟩
  | .hbm, ⟨3, _⟩ => ⟨S1024x768, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x2560, .f32⟩
  | .hbm, ⟨21, _⟩ => ⟨S32768x2560, .f32⟩
  | .hbm, ⟨22, _⟩ => ⟨S32768x2560, .bf16⟩
  | .hbm, ⟨23, _⟩ => ⟨S1024x768, .f32⟩
  | .hbm, ⟨24, _⟩ => ⟨S32768x768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S2048x1024 : Shape := ⟨2, ![2048, 1024]⟩
abbrev S1024 : Shape := ⟨1, ![1024]⟩
abbrev S1024x1024 : Shape := ⟨2, ![1024, 1024]⟩
abbrev S1024x128 : Shape := ⟨2, ![1024, 128]⟩
abbrev S1x1024 : Shape := ⟨2, ![1, 1024]⟩
abbrev S2048x128 : Shape := ⟨2, ![2048, 128]⟩
abbrev S512x1024 : Shape := ⟨2, ![512, 1024]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .bf16⟩
  | .hbm, ⟨3, _⟩ => ⟨S1024x128, .bf16⟩
  | .hbm, ⟨4, _⟩ => ⟨S1x1024, .f32⟩
  | .hbm, ⟨5, _⟩ => ⟨S2048x1024, .bf16⟩
  | .hbm, ⟨6, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x128, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S2048x1024, .f32⟩
  | .hbm, ⟨21, _⟩ => ⟨S2048x1024, .bf16⟩
  | .hbm, ⟨22, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S32768x4608 : Shape := ⟨2, ![32768, 4608]⟩
abbrev S2048x1024 : Shape := ⟨2, ![2048, 1024]⟩
abbrev S32768x512 : Shape := ⟨2, ![32768, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S32768x4608, .bf16⟩
  | .hbm, ⟨1, _⟩ => ⟨S2048x1024, .bf16⟩
  | .hbm, ⟨2, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S256x1024, .bf16⟩
  | .local _ .vmem, ⟨3, _⟩ => ⟨S256x1024, .bf16⟩
  | .local _ .vmem, ⟨4, _⟩ => ⟨S1024x512, .bf16⟩
  | .local _ .vmem, ⟨5, _⟩ => ⟨S1024x512, .bf16⟩
  | _, _ => ⟨S32768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S32768x4608 : Shape := ⟨2, ![32768, 4608]⟩
abbrev S2048x1024 : Shape := ⟨2, ![2048, 1024]⟩
abbrev S32768x512 : Shape := ⟨2, ![32768, 512]⟩
abbrev S8x4096x4x128 : Shape := ⟨4, ![8, 4096, 4, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x4608, .bf16⟩
  | .hbm, ⟨1, _⟩ => ⟨S2048x1024, .bf16⟩
  | .hbm, ⟨2, _⟩ => ⟨S32768x512, .bf16⟩
  | .hbm, ⟨3, _⟩ => ⟨S32768x512, .f32⟩
  | .hbm, ⟨4, _⟩ => ⟨S8x4096x4x128, .f32⟩
  | .hbm, ⟨5, _⟩ => ⟨S2048x1024, .f32⟩
  | .hbm, ⟨6, _⟩ => ⟨S8x256x2x4x128, .f32⟩
  | .hbm, ⟨7, _⟩ => ⟨S8x256x1x4x128, .f32⟩
  | .hbm, ⟨8, _⟩ => ⟨S8x256x4x128, .f32⟩
  | .hbm, ⟨9, _⟩ => ⟨S8x256x1x4x128, .f32⟩
  | .hbm, ⟨10, _⟩ => ⟨S8x256x4x128, .f32⟩
  | .hbm, ⟨11, _⟩ => ⟨S8x4x4096x256, .f32⟩
  | .hbm, ⟨12, _⟩ => ⟨S_, .f32⟩
  | .hbm, ⟨13, _⟩ => ⟨S8x4x4096x256, .f32⟩
  | .hbm, ⟨14, _⟩ => ⟨S8x4x4096x256, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x256, .f32⟩
  | .hbm, ⟨22, _⟩ => ⟨S8x4x4096x256, .f32⟩
  | .hbm, ⟨23, _⟩ => ⟨S8x4x4096x256, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x256, .f32⟩
  | .hbm, ⟨28, _⟩ => ⟨S8x4x4096x256, .f32⟩
  | .hbm, ⟨29, _⟩ => ⟨S8x4x128x4096, .f32⟩
  | .hbm, ⟨30, _⟩ => ⟨S8x4096x4x128, .f32⟩
  | .hbm, ⟨31, _⟩ => ⟨S32768x512, .f32⟩
  | .hbm, ⟨32, _⟩ => ⟨S32768x512, .bf16⟩
  | _, _ => ⟨S32768x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S32768x2560 : Shape := ⟨2, ![32768, 2560]⟩
abbrev S2048x1024 : Shape := ⟨2, ![2048, 1024]⟩
abbrev S32768x512 : Shape := ⟨2, ![32768, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S32768x2560, .bf16⟩
  | .hbm, ⟨1, _⟩ => ⟨S2048x1024, .bf16⟩
  | .hbm, ⟨2, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S256x1024, .bf16⟩
  | .local _ .vmem, ⟨3, _⟩ => ⟨S256x1024, .bf16⟩
  | .local _ .vmem, ⟨4, _⟩ => ⟨S1024x512, .bf16⟩
  | .local _ .vmem, ⟨5, _⟩ => ⟨S1024x512, .bf16⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S32768x2560 : Shape := ⟨2, ![32768, 2560]⟩
abbrev S2048x1024 : Shape := ⟨2, ![2048, 1024]⟩
abbrev S32768x512 : Shape := ⟨2, ![32768, 512]⟩
abbrev S8x4096x4x128 : Shape := ⟨4, ![8, 4096, 4, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S2048x1024, .bf16⟩
  | .hbm, ⟨2, _⟩ => ⟨S32768x512, .bf16⟩
  | .hbm, ⟨3, _⟩ => ⟨S32768x512, .f32⟩
  | .hbm, ⟨4, _⟩ => ⟨S8x4096x4x128, .f32⟩
  | .hbm, ⟨5, _⟩ => ⟨S2048x1024, .f32⟩
  | .hbm, ⟨6, _⟩ => ⟨S8x256x2x4x128, .f32⟩
  | .hbm, ⟨7, _⟩ => ⟨S8x256x1x4x128, .f32⟩
  | .hbm, ⟨8, _⟩ => ⟨S8x256x4x128, .f32⟩
  | .hbm, ⟨9, _⟩ => ⟨S8x256x1x4x128, .f32⟩
  | .hbm, ⟨10, _⟩ => ⟨S8x256x4x128, .f32⟩
  | .hbm, ⟨11, _⟩ => ⟨S8x4x4096x256, .f32⟩
  | .hbm, ⟨12, _⟩ => ⟨S_, .f32⟩
  | .hbm, ⟨13, _⟩ => ⟨S8x4x4096x256, .f32⟩
  | .hbm, ⟨14, _⟩ => ⟨S8x4x4096x256, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x256, .f32⟩
  | .hbm, ⟨22, _⟩ => ⟨S8x4x4096x256, .f32⟩
  | .hbm, ⟨23, _⟩ => ⟨S8x4x4096x256, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x256, .f32⟩
  | .hbm, ⟨28, _⟩ => ⟨S8x4x4096x256, .f32⟩
  | .hbm, ⟨29, _⟩ => ⟨S8x4x128x4096, .f32⟩
  | .hbm, ⟨30, _⟩ => ⟨S8x4096x4x128, .f32⟩
  | .hbm, ⟨31, _⟩ => ⟨S32768x512, .f32⟩
  | .hbm, ⟨32, _⟩ => ⟨S32768x512, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.Head.lean ====
module

public import proofs.«01_k».proof.Proof.Gen.KernelIdeal

@[expose] public section

/-!
# One head of the kernel's body

The body works on 256 tokens of eight heads at once, in 64-token chunks, and writes out the eight heads
one beside the other. Here are the values it computes, once, with the head and the chunk as arguments:
the convolution of a column block (`convOut`), the normalised queries and keys, the decay matrix of a
chunk, the solution of the chunk's triangular system by doubling (`xSol`), and the chunk's read and
update of the state (`stStep`, `outChunk`).
-/

noncomputable section

namespace Cert.KernelIdeal.Head

open Idealize.ShloMosaic Idealize.SL.Sem
open Cert.KernelIdeal Cert.KernelIdeal.Gen

variable {F : FTy → Type} [FloatOps F]

/-- The zero and the one of the float constants. -/
abbrev z32 : F .f32 := Scalar.ofBits .f32 0x00000000#32
abbrev o32 : F .f32 := Scalar.ofBits .f32 0x3F800000#32
abbrev eps : F .f32 := Scalar.ofBits .f32 0x358637BD#32

theorem sl_rows (ci : Fin 4) : S256x128.Slices ![64 * ci.val, 0] S64x128 := by revert ci; decide
theorem sl_arows (ci : Fin 4) : S256x256.Slices ![64 * ci.val, 0] S64x256 := by revert ci; decide
theorem sl_one (ci : Fin 4) : S256x1.Slices ![64 * ci.val, 0] S1x1 := by revert ci; decide
theorem sl_col (r : Fin 8) : S256x128.Slices ![0, r.val] S256x1 := by revert r; decide
theorem sl_gcol (r : Fin 8) : S256x128.Slices ![0, 8 + r.val] S256x1 := by revert r; decide
theorem sl_grow (r : Fin 8) : S128x256.Slices ![8 + r.val, 0] S1x256 := by revert r; decide

/-! ## The convolution -/

/-- The rows `k` before: the block rolled down by `k`, its first `k` rows from the halo. -/
def shifted (k : BitVec 32) (x : FVec F S256x1024 .f32) (prev : FVec F S8x1024 .f32) : FVec F S256x1024 .f32 :=
  concatenate S256x1024 0
    [⟨S8x1024, select (cmpi .slt (iota .tc S8x1024 32 [0] iota_S8x1024_d0_w32) (broadcast S8x1024 k))
        (dynamicRotate 0 k none prev rotates_S8x1024_d0)
        (extractStridedSlice S8x1024 ![0, 0] (dynamicRotate 0 k none x rotates_S256x1024_d0) slices_S256x1024_o0_0_S8x1024)⟩,
     ⟨S248x1024, extractStridedSlice S248x1024 ![8, 0] (dynamicRotate 0 k none x rotates_S256x1024_d0) slices_S256x1024_o8_0_S248x1024⟩]
    concatenates_S8x1024_S248x1024_S256x1024_d0

/-- The taps of one column block. -/
def taps (w : FVec F S1x1x8x1024 .f32) : FVec F S8x1024 .f32 := shapeCast S8x1024 w shapeCasts_S1x1x8x1024_S8x1024

/-- The four-tap causal convolution of a block. -/
def conv (x : FVec F S256x1024 .f32) (prev : FVec F S8x1024 .f32) (w : FVec F S1x1x8x1024 .f32) : FVec F S256x1024 .f32 :=
  addf (addf (addf
    (mulf x (broadcastTo S256x1024 (extractStridedSlice S1x1024 ![3, 0] (taps w) slices_S8x1024_o3_0_S1x1024) broadcasts_S1x1024_S256x1024))
    (mulf (shifted 1#32 x prev) (broadcastTo S256x1024 (extractStridedSlice S1x1024 ![2, 0] (taps w) slices_S8x1024_o2_0_S1x1024) broadcasts_S1x1024_S256x1024)))
    (mulf (shifted 2#32 x prev) (broadcastTo S256x1024 (extractStridedSlice S1x1024 ![1, 0] (taps w) slices_S8x1024_o1_0_S1x1024) broadcasts_S1x1024_S256x1024)))
    (mulf (shifted 3#32 x prev) (broadcastTo S256x1024 (extractStridedSlice S1x1024 ![0, 0] (taps w) slices_S8x1024_o0_0_S1x1024) broadcasts_S1x1024_S256x1024))

/-- The convolution's output after its sigmoid-weighted nonlinearity. -/
def convOut (x : FVec F S256x1024 .bf16) (prev : FVec F S8x1024 .f32) (w : FVec F S1x1x8x1024 .f32) : FVec F S256x1024 .f32 :=
  shapeCast S256x1024
    (mulf (conv (extf .f32 x bitsLt_bf16_f32) prev w)
      (divf (broadcast S256x1024 o32) (addf (broadcast S256x1024 o32) (exp (subf (broadcast S256x1024 z32) (conv (extf .f32 x bitsLt_bf16_f32) prev w))))))
    shapeCasts_S256x1024_S256x1024

/-- The last eight rows of a block, kept for the next one. -/
def halo (x : FVec F S256x1024 .bf16) : FVec F S8x1024 .f32 :=
  shapeCast S8x1024 (extractStridedSlice S8x1024 ![248, 0] (extf .f32 x bitsLt_bf16_f32) slices_S256x1024_o248_0_S8x1024) shapeCasts_S8x1024_S8x1024

/-! ## Masks and gates -/

abbrev rows : IVec S256x256 32 := iota .tc S256x256 32 [0] iota_S256x256_d0_w32
abbrev cols : IVec S256x256 32 := iota .tc S256x256 32 [1] iota_S256x256_d1_w32

/-- The chunk an index belongs to. -/
def chunkOf (v : IVec S256x256 32) : IVec S256x256 32 :=
  select
    (andi
      (cmpi .ne (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32))
    (divsi v (broadcast S256x256 64#32))

/-- Same chunk; same chunk and not later; same chunk and earlier. -/
def same : IVec S256x256 1 := cmpi .eq (chunkOf rows) (chunkOf cols)
def incl : IVec S256x256 1 := andi same (cmpi .sge rows cols)
def strict : IVec S256x256 1 := andi same (cmpi .sgt rows cols)

/-- A mask as a matrix of ones and zeros. -/
def maskMat (c : IVec S256x256 1) : FVec F S256x256 .bf16 :=
  truncf .bf16 (select c (broadcast S256x256 o32) (broadcast S256x256 z32)) bitsLt_bf16_f32

/-- The write strengths of all heads. -/
def betaAll (gt : FVec F S256x128 .f32) : FVec F S256x128 .f32 :=
  divf (broadcast S256x128 o32) (addf (broadcast S256x128 o32) (exp (subf (broadcast S256x128 z32) gt)))

/-- The negated decay rates. -/
def negA (arow : FVec F S1x1x128 .f32) : FVec F S128 .f32 :=
  subf (broadcast S128 z32) (shapeCast S128 arow shapeCasts_S1x1x128_S128)

/-- The log decay of every token and head. -/
def logDecay (gt : FVec F S256x128 .f32) (dtrow arow : FVec F S1x1x128 .f32) : FVec F S256x128 .f32 :=
  let x := addf gt (broadcastTo S256x128 (shapeCast S1x128 (shapeCast S128 dtrow shapeCasts_S1x1x128_S128) shapeCasts_S128_S1x128) broadcasts_S1x128_S256x128)
  mulf (broadcastTo S256x128 (shapeCast S1x128 (negA arow) shapeCasts_S128_S1x128) broadcasts_S1x128_S256x128)
    (addf (maximumf x (broadcast S256x128 z32))
      (log (addf (broadcast S256x128 o32) (exp (subf (broadcast S256x128 z32) (absf x))))))

/-- A value in three parts of half its precision, and the three parts. -/
def hi (g : FVec F S256x128 .f32) : FVec F S256x128 .bf16 := truncf .bf16 g bitsLt_bf16_f32
def rest (g : FVec F S256x128 .f32) : FVec F S256x128 .f32 := subf g (extf .f32 (hi g) bitsLt_bf16_f32)

/-- The product with a mask, part by part. -/
def maskSum (m : FVec F S256x256 .bf16) (g : FVec F S256x128 .f32) : FVec F S256x128 .f32 :=
  addf (addf
    (matmul dot_S256x256_S256x128_S256x128_1_0_0_1_n_n none m (hi g) (constant S256x128 .f32 0x00000000#32))
    (matmul dot_S256x256_S256x128_S256x128_1_0_0_1_n_n none m (hi (rest g)) (constant S256x128 .f32 0x00000000#32)))
    (matmul dot_S256x256_S256x128_S256x128_1_0_0_1_n_n none m (hi (rest (rest g))) (constant S256x128 .f32 0x00000000#32))

/-- The running sum of the log decay within its chunk, and the chunk's sum. -/
def gcAll (gt : FVec F S256x128 .f32) (dtrow arow : FVec F S1x1x128 .f32) : FVec F S256x128 .f32 :=
  maskSum (maskMat incl) (logDecay gt dtrow arow)
def gendAll (gt : FVec F S256x128 .f32) (dtrow arow : FVec F S1x1x128 .f32) : FVec F S256x128 .f32 :=
  maskSum (maskMat same) (logDecay gt dtrow arow)

/-! ## One head -/

/-- A row-normalised block. -/
def unitRows (h : FVec F S256x128 .f32) : FVec F S256x128 .f32 :=
  mulf h (broadcastTo S256x128
    (rsqrt (addf (shapeCast S256x1 (multiReduction .add [1] S256 (mulf h h) 0x00000000#32 reduces_S256x128_S256 (.inl rfl) rfl) shapeCasts_S256_S256x1)
      (broadcast S256x1 eps))) broadcasts_S256x1_S256x128)

/-- A head's queries, normalised and scaled. -/
def qn (q : FVec F S256x128 .f32) : FVec F S256x128 .f32 :=
  mulf (unitRows q) (broadcast S256x128 (Scalar.ofBits .f32 0x3DB504F3#32 : F .f32))

/-- The rows of a block times a column. -/
def byCol (x : FVec F S256x128 .f32) (b : FVec F S256x1 .f32) : FVec F S256x128 .f32 :=
  mulf x (broadcastTo S256x128 b broadcasts_S256x1_S256x128)

/-- The decay from one token to a later one of its chunk. -/
def decay (gc : FVec F S256x1 .f32) (gr : FVec F S1x256 .f32) : FVec F S256x256 .f32 :=
  select incl
    (exp (select incl (subf (broadcastTo S256x256 gc broadcasts_S256x1_S256x256) (broadcastTo S256x256 gr broadcasts_S1x256_S256x256)) (broadcast S256x256 z32)))
    (broadcast S256x256 z32)

/-- Products of the rows of two blocks. -/
def rowDots (x y : FVec F S256x128 .f32) : FVec F S256x256 .f32 :=
  matmul dot_S256x128_S256x128_S256x256_1_1_0_0_n_n none (truncf .bf16 x bitsLt_bf16_f32) (truncf .bf16 y bitsLt_bf16_f32) (constant S256x256 .f32 0x00000000#32)

/-- What a token reads of the values written before it in its chunk. -/
def attn (q k : FVec F S256x128 .f32) (gc : FVec F S256x1 .f32) (gr : FVec F S1x256 .f32) : FVec F S256x256 .bf16 :=
  truncf .bf16 (select incl (mulf (rowDots (qn q) (unitRows k)) (decay gc gr)) (broadcast S256x256 z32)) bitsLt_bf16_f32

/-- The negated triangular matrix of a chunk's corrections. -/
def lneg (k : FVec F S256x128 .f32) (b gc : FVec F S256x1 .f32) (gr : FVec F S1x256 .f32) : FVec F S256x256 .f32 :=
  subf (broadcast S256x256 z32)
    (select strict (mulf (rowDots (byCol (unitRows k) b) (unitRows k)) (decay gc gr)) (broadcast S256x256 z32))

/-- The right hand sides: values and decayed keys, weighted. -/
def rhs (k v : FVec F S256x128 .f32) (b gc : FVec F S256x1 .f32) : FVec F S256x256 .f32 :=
  concatenate S256x256 1 [⟨S256x128, byCol v b⟩, ⟨S256x128, byCol (byCol (unitRows k) b) (exp gc)⟩] concatenates_S256x128_S256x128_S256x256_d1

/-- A square product. -/
def sqMul (x y : FVec F S256x256 .f32) : FVec F S256x256 .f32 :=
  matmul dot_S256x256_S256x256_S256x256_1_0_0_1_n_n none (truncf .bf16 x bitsLt_bf16_f32) (truncf .bf16 y bitsLt_bf16_f32) (constant S256x256 .f32 0x00000000#32)

/-- One doubling of the solution. -/
def dbl (p : FVec F S256x256 .f32 × FVec F S256x256 .f32) : FVec F S256x256 .f32 × FVec F S256x256 .f32 :=
  (sqMul p.1 p.1, addf p.2 (sqMul p.1 p.2))

/-- The triangular system's solution after six doublings. -/
def xSol (m x : FVec F S256x256 .f32) : FVec F S256x256 .f32 :=
  (dbl (dbl (dbl (dbl (dbl (dbl (m, x))))))).2

/-- A head's 256 tokens: queries, keys, values, write strengths, and the decay sums as columns and row. -/
structure Dat (F : FTy → Type) where
  q : FVec F S256x128 .f32
  k : FVec F S256x128 .f32
  v : FVec F S256x128 .f32
  b : FVec F S256x1 .f32
  gc : FVec F S256x1 .f32
  ge : FVec F S256x1 .f32
  gr : FVec F S1x256 .f32

namespace Dat

variable (h : Dat F)

/-- The solution of the head's system. -/
def sol : FVec F S256x256 .f32 := xSol (lneg h.k h.b h.gc h.gr) (rhs h.k h.v h.b h.gc)

/-- Its two halves: what each token writes if the state were empty, and what it takes back per state. -/
def u : FVec F S256x128 .f32 := extractStridedSlice S256x128 ![0, 0] h.sol slices_S256x256_o0_0_S256x128
def w : FVec F S256x128 .bf16 := truncf .bf16 (extractStridedSlice S256x128 ![0, 128] h.sol slices_S256x256_o0_128_S256x128) bitsLt_bf16_f32

/-- The queries decayed from the chunk's start, and the keys decayed to its end. -/
def qd : FVec F S256x128 .bf16 := truncf .bf16 (byCol (qn h.q) (exp h.gc)) bitsLt_bf16_f32
def kd : FVec F S256x128 .f32 := byCol (unitRows h.k) (exp (subf h.ge h.gc))

/-- The state read by the corrections and by the queries of a chunk. -/
def wq (ci : Fin 4) (st : FVec F S128x128 .f32) : FVec F S128x128 .f32 :=
  matmul dot_S128x128_S128x128_S128x128_1_0_0_1_n_n none
    (concatenate S128x128 0 [⟨S64x128, extractStridedSlice S64x128 ![64 * ci.val, 0] h.w (sl_rows ci)⟩,
      ⟨S64x128, extractStridedSlice S64x128 ![64 * ci.val, 0] h.qd (sl_rows ci)⟩] concatenates_S64x128_S64x128_S128x128_d0)
    (truncf .bf16 st bitsLt_bf16_f32) (constant S128x128 .f32 0x00000000#32)

/-- The values a chunk writes. -/
def vnew (ci : Fin 4) (st : FVec F S128x128 .f32) : FVec F S64x128 .bf16 :=
  truncf .bf16 (subf (extractStridedSlice S64x128 ![64 * ci.val, 0] h.u (sl_rows ci))
    (extractStridedSlice S64x128 ![0, 0] (h.wq ci st) slices_S128x128_o0_0_S64x128)) bitsLt_bf16_f32

/-- They stand at the chunk's rows, zeros elsewhere. -/
def place (ci : Fin 4) (x : FVec F S64x128 .bf16) : FVec F S256x128 .bf16 :=
  let o : FVec F S64x128 .bf16 := broadcast S64x128 (Scalar.ofBits .bf16 0x0000#16 : F .bf16)
  concatenate S256x128 0
    (match ci with
      | 0 => [⟨S64x128, x⟩, ⟨S64x128, o⟩, ⟨S64x128, o⟩, ⟨S64x128, o⟩]
      | 1 => [⟨S64x128, o⟩, ⟨S64x128, x⟩, ⟨S64x128, o⟩, ⟨S64x128, o⟩]
      | 2 => [⟨S64x128, o⟩, ⟨S64x128, o⟩, ⟨S64x128, x⟩, ⟨S64x128, o⟩]
      | 3 => [⟨S64x128, o⟩, ⟨S64x128, o⟩, ⟨S64x128, o⟩, ⟨S64x128, x⟩])
    (by fin_cases ci <;> exact concatenates_S64x128_S64x128_S64x128_S64x128_S256x128_d0)

/-- A chunk's reads. -/
def read (ci : Fin 4) (st : FVec F S128x128 .f32) : FVec F S64x128 .f32 :=
  addf (extractStridedSlice S64x128 ![64, 0] (h.wq ci st) slices_S128x128_o64_0_S64x128)
    (matmul dot_S64x256_S256x128_S64x128_1_0_0_1_n_n none
      (extractStridedSlice S64x256 ![64 * ci.val, 0] (attn h.q h.k h.gc h.gr) (sl_arows ci)) (place ci (h.vnew ci st))
      (constant S64x128 .f32 0x00000000#32))

/-- The state after a chunk. -/
def next (ci : Fin 4) (st : FVec F S128x128 .f32) : FVec F S128x128 .f32 :=
  addf (mulf st (broadcastTo S128x128 (extractStridedSlice S1x1 ![64 * ci.val, 0] (exp h.ge) (sl_one ci)) broadcasts_S1x1_S128x128))
    (matmul dot_S128x64_S64x128_S128x128_1_0_0_1_n_n none
      (truncf .bf16 (transpose S128x64 [1, 0] (extractStridedSlice S64x128 ![64 * ci.val, 0] h.kd (sl_rows ci)) transposes_S64x128_p1_0_S128x64) bitsLt_bf16_f32)
      (h.vnew ci st) (constant S128x128 .f32 0x00000000#32))

/-- The state before each chunk. -/
def st0 (s0 : FVec F S1x128x128 .f32) : FVec F S128x128 .f32 := shapeCast S128x128 s0 shapeCasts_S1x128x128_S128x128
def stAt (s0 : FVec F S1x128x128 .f32) (ci : Fin 4) : FVec F S128x128 .f32 :=
  match ci with
  | 0 => st0 s0
  | 1 => h.next 0 (st0 s0)
  | 2 => h.next 1 (h.next 0 (st0 s0))
  | 3 => h.next 2 (h.next 1 (h.next 0 (st0 s0)))

/-- The state left to the next block of tokens. -/
def stEnd (s0 : FVec F S1x128x128 .f32) : FVec F S1x128x128 .f32 :=
  shapeCast S1x128x128 (h.next 3 (h.stAt s0 3)) shapeCasts_S128x128_S1x128x128

end Dat

/-- A chunk's reads, normalised, scaled and gated. -/
def gated (o : FVec F S64x128 .f32) (nw : FVec F S1x128 .f32) (z : FVec F S64x128 .bf16) : FVec F S64x128 .bf16 :=
  let zf : FVec F S64x128 .f32 := extf .f32 z bitsLt_bf16_f32
  truncf .bf16
    (mulf
      (mulf (mulf o (broadcastTo S64x128
          (rsqrt (addf (divf (shapeCast S64x1 (multiReduction .add [1] S64 (mulf o o) 0x00000000#32 reduces_S64x128_S64 (.inl rfl) rfl) shapeCasts_S64_S64x1)
            (broadcast S64x1 (Scalar.ofBits .f32 0x43000000#32 : F .f32))) (broadcast S64x1 eps))) broadcasts_S64x1_S64x128))
        (broadcastTo S64x128 (shapeCast S1x128 nw shapeCasts_S1x128_S1x128) broadcasts_S1x128_S64x128))
      (mulf zf (divf (broadcast S64x128 o32) (addf (broadcast S64x128 o32) (exp (subf (broadcast S64x128 z32) zf))))))
    bitsLt_bf16_f32

/-- Head `r` of a block: its three column blocks, and the gates' columns. -/
def datOf (r : Fin 8) (q k v : FVec F S256x128 .f32) (gt : FVec F S256x128 .f32) (dtrow arow : FVec F S1x1x128 .f32) : Dat F where
  q := q
  k := k
  v := v
  b := extractStridedSlice S256x1 ![0, r.val] (betaAll gt) (sl_col r)
  gc := extractStridedSlice S256x1 ![0, 8 + r.val] (gcAll gt dtrow arow) (sl_gcol r)
  ge := extractStridedSlice S256x1 ![0, 8 + r.val] (gendAll gt dtrow arow) (sl_gcol r)
  gr := extractStridedSlice S1x256 ![8 + r.val, 0]
    (transpose S128x256 [1, 0] (gcAll gt dtrow arow) transposes_S256x128_p1_0_S128x256) (sl_grow r)

end Cert.KernelIdeal.Head
-- ==== Proof.Pieces.lean ====
module

public import proofs.«01_k».proof.Proof.Gen.KernelIdeal.Frame
public import proofs.«01_k».proof.Proof.Head

@[expose] public section

set_option maxRecDepth 16384

/-!
# What the body stores, in terms of one head's values

The body's stores, as the frame's run lists them, are the values of `Head` at the sixty-four-token
chunks and the heads: by unfolding, once per case of the body's one test.
-/

noncomputable section

namespace Cert.KernelIdeal.Head

open Idealize.ShloMosaic Idealize.ShloMosaic.TcCoe Idealize.ShloMosaic.Tactic Idealize.SL Idealize.SL.Sem
open Cert.KernelIdeal Cert.KernelIdeal.Gen

variable {F : FTy → Type} [FloatOps F]

theorem in_out (ci : Fin 4) (r : Fin 8) : ∀ a, (![64 * ci.val, 128 * r.val] : Fin 2 → Nat) a + S64x128.size a ≤ S256x1024.size a := by
  revert ci r; decide
theorem in_scr (r : Fin 8) : ∀ a, (![8, 128 * r.val] : Fin 2 → Nat) a + S256x128.size a ≤ S264x1024.size a := by
  revert r; decide
theorem in_st (r : Fin 8) : ∀ a, (![r.val, 0, 0] : Fin 3 → Nat) a + S1x128x128.size a ≤ S8x128x128.size a := by
  revert r; decide
theorem in_tap (i : Fin 3) : ∀ a, (![i.val, 0, 0, 0] : Fin 4 → Nat) a + S1x1x8x1024.size a ≤ S3x1x8x1024.size a := by
  revert i; decide

/-- A chunk of a head in the output block, a head's columns of a convolved block, a head's state, and one
    block's taps. -/
abbrev rOut (ci : Fin 4) (r : Fin 8) : Rect S256x1024 := Rect.unit ![64 * ci.val, 128 * r.val] S64x128.size (in_out ci r)
abbrev rScr (r : Fin 8) : Rect S264x1024 := Rect.unit ![8, 128 * r.val] S256x128.size (in_scr r)
abbrev rSt (r : Fin 8) : Rect S8x128x128 := Rect.unit ![r.val, 0, 0] S1x128x128.size (in_st r)
abbrev rTap (i : Fin 3) : Rect S3x1x8x1024 := Rect.unit ![i.val, 0, 0, 0] S1x1x8x1024.size (in_tap i)
abbrev rHalo : Rect S264x1024 := Rect.unit ![0, 0] S8x1024.size inb_S264x1024_S8x1024_0_0
abbrev rBody : Rect S264x1024 := Rect.unit ![8, 0] S256x1024.size inb_S264x1024_S256x1024_8_0
abbrev rX : Rect S256x1024 := Rect.unit ![0, 0] S256x1024.size inb_S256x1024_S256x1024_0_0

/-- The stores into a convolved block's buffer. -/
def scr (x : FVec F S256x1024 .bf16) (prev : FVec F S8x1024 .f32) (w : FVec F S1x1x8x1024 .f32)
    (tl : List (View.Piece (Elt F) S264x1024 .f32)) : List (View.Piece (Elt F) S264x1024 .f32) :=
  ⟨rHalo, halo x⟩ :: ⟨rBody, convOut x prev w⟩ :: tl

/-- The values the body reads: each head's columns and state, the gates and the parameters. -/
structure Ins (F : FTy → Type) where
  q : Fin 8 → FVec F S256x128 .f32
  k : Fin 8 → FVec F S256x128 .f32
  v : Fin 8 → FVec F S256x128 .f32
  z : Fin 4 → Fin 8 → FVec F S64x128 .bf16
  gt : FVec F S256x128 .f32
  arow : FVec F S1x1x128 .f32
  dtrow : FVec F S1x1x128 .f32
  nw : FVec F S1x128 .f32
  st : Fin 8 → FVec F S1x128x128 .f32

namespace Ins

variable (I : Ins F)

/-- One head's 256 tokens. -/
def dat (r : Fin 8) : Dat F := datOf r (I.q r) (I.k r) (I.v r) I.gt I.dtrow I.arow

/-- One chunk of one head, as stored. -/
def out (ci : Fin 4) (r : Fin 8) : FVec F S64x128 .bf16 :=
  gated ((I.dat r).read ci ((I.dat r).stAt (I.st r) ci)) I.nw (I.z ci r)

/-- The output's store of a chunk and head, and the state's of a head. -/
def po (ci : Fin 4) (r : Fin 8) : View.Piece (Elt F) S256x1024 .bf16 := ⟨rOut ci r, I.out ci r⟩
def ps (r : Fin 8) : View.Piece (Elt F) S8x128x128 .f32 := ⟨rSt r, (I.dat r).stEnd (I.st r)⟩

/-- The stores into the output block and into the states, last first. -/
def outs : List (View.Piece (Elt F) S256x1024 .bf16) :=
  [I.po 3 7, I.po 3 6, I.po 3 5, I.po 3 4, I.po 3 3, I.po 3 2, I.po 3 1, I.po 3 0,
   I.po 2 7, I.po 2 6, I.po 2 5, I.po 2 4, I.po 2 3, I.po 2 2, I.po 2 1, I.po 2 0,
   I.po 1 7, I.po 1 6, I.po 1 5, I.po 1 4, I.po 1 3, I.po 1 2, I.po 1 1, I.po 1 0,
   I.po 0 7, I.po 0 6, I.po 0 5, I.po 0 4, I.po 0 3, I.po 0 2, I.po 0 1, I.po 0 0]
def sts (tl : List (View.Piece (Elt F) S8x128x128 .f32)) : List (View.Piece (Elt F) S8x128x128 .f32) :=
  I.ps 7 :: I.ps 6 :: I.ps 5 :: I.ps 4 :: I.ps 3 :: I.ps 2 :: I.ps 1 :: I.ps 0 :: tl

end Ins

variable (c : Dev nD) (i : grid0.Coords)
  (arg3 : Memref sig .tc .vmem S256x1024 .bf16) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x128 .f32) (harg7 : arg7.IsWhole)
  (arg8 : Memref sig .tc .vmem S3x1x8x1024 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S1x128 .f32) (harg11 : arg11.IsWhole)
  (arg12 : Memref sig .tc .vmem S256x1024 .bf16) (harg12 : arg12.IsWhole)
  (arg13 : Memref sig .tc .vmem S264x1024 .f32) (harg13 : arg13.IsWhole)
  (arg14 : Memref sig .tc .vmem S264x1024 .f32) (harg14 : arg14.IsWhole)
  (arg15 : Memref sig .tc .vmem S264x1024 .f32) (harg15 : arg15.IsWhole)
  (arg16 : Memref sig .tc .vmem S8x128x128 .f32) (harg16 : arg16.IsWhole)
  (x0 : Vec F S256x1024 .bf16) (x1 : Vec F S256x1024 .bf16) (x2 : Vec F S256x1024 .bf16) (x3 : Vec F S256x1024 .bf16) (x4 : Vec F S256x128 .f32) (x5 : Vec F S3x1x8x1024 .f32) (x6 : Vec F S1x1x128 .f32) (x7 : Vec F S1x1x128 .f32) (x8 : Vec F S1x128 .f32)
  (xs0 : Vec F S264x1024 .f32) (xs1 : Vec F S264x1024 .f32) (xs2 : Vec F S264x1024 .f32) (xs3 : Vec F S8x128x128 .f32)

/-- The three convolved blocks as stored, from the halos and what the buffers held before. -/
def scr0 (prev : FVec F S8x1024 .f32) (tl : List (View.Piece (Elt F) S264x1024 .f32)) : List (View.Piece (Elt F) S264x1024 .f32) :=
  scr (arg3.view.readAt (Elt F) rX.toLoadRect (harg3.unread x0)) prev (arg8.view.readAt (Elt F) (rTap 0).toLoadRect (harg8.unread x5)) tl
def scr1 (prev : FVec F S8x1024 .f32) (tl : List (View.Piece (Elt F) S264x1024 .f32)) : List (View.Piece (Elt F) S264x1024 .f32) :=
  scr (arg4.view.readAt (Elt F) rX.toLoadRect (harg4.unread x1)) prev (arg8.view.readAt (Elt F) (rTap 1).toLoadRect (harg8.unread x5)) tl
def scr2 (prev : FVec F S8x1024 .f32) (tl : List (View.Piece (Elt F) S264x1024 .f32)) : List (View.Piece (Elt F) S264x1024 .f32) :=
  scr (arg5.view.readAt (Elt F) rX.toLoadRect (harg5.unread x2)) prev (arg8.view.readAt (Elt F) (rTap 2).toLoadRect (harg8.unread x5)) tl

/-- The body's reads, from the stores into the convolved blocks and the heads' states. -/
def ins (p0 p1 p2 : List (View.Piece (Elt F) S264x1024 .f32)) (st : Fin 8 → FVec F S1x128x128 .f32) : Ins F where
  q r := arg13.view.readCov p0 (rScr r).toLoadRect
  k r := arg14.view.readCov p1 (rScr r).toLoadRect
  v r := arg15.view.readCov p2 (rScr r).toLoadRect
  z ci r := arg6.view.readAt (Elt F) (rOut ci r).toLoadRect (harg6.unread x3)
  gt := arg7.view.readAt (Elt F) (Rect.unit ![0, 0] S256x128.size inb_S256x128_S256x128_0_0).toLoadRect (harg7.unread x4)
  arow := arg9.view.readAt (Elt F) (Rect.unit ![0, 0, 0] S1x1x128.size inb_S1x1x128_S1x1x128_0_0_0).toLoadRect (harg9.unread x6)
  dtrow := arg10.view.readAt (Elt F) (Rect.unit ![0, 0, 0] S1x1x128.size inb_S1x1x128_S1x1x128_0_0_0).toLoadRect (harg10.unread x7)
  nw := arg11.view.readAt (Elt F) (Rect.unit ![0, 0] S1x128.size inb_S1x128_S1x128_0_0).toLoadRect (harg11.unread x8)
  st := st

/-! ## Later blocks of a sequence -/

section B

/-- The stores into the convolved blocks, and the body's reads. -/
def q0B := scr0 arg3 harg3 arg8 harg8 x0 x5 (arg13.view.readAt (Elt F) rHalo.toLoadRect (harg13.unread xs0)) []
def q1B := scr1 arg4 harg4 arg8 harg8 x1 x5 (arg14.view.readAt (Elt F) rHalo.toLoadRect (harg14.unread xs1)) []
def q2B := scr2 arg5 harg5 arg8 harg8 x2 x5 (arg15.view.readAt (Elt F) rHalo.toLoadRect (harg15.unread xs2)) []
def insB : Ins F :=
  ins arg6 harg6 arg7 harg7 arg9 harg9 arg10 harg10 arg11 harg11 arg13 arg14 arg15 x3 x4 x6 x7 x8
    (q0B arg3 harg3 arg8 harg8 arg13 harg13 x0 x5 xs0)
    (q1B arg4 harg4 arg8 harg8 arg14 harg14 x1 x5 xs1)
    (q2B arg5 harg5 arg8 harg8 arg15 harg15 x2 x5 xs2)
    (fun r => arg16.view.readAt (Elt F) (rSt r).toLoadRect (harg16.unread xs3))

variable (hc0 : ¬cond0_0 i)

theorem scr0_B : ((kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).2.1 = q0B arg3 harg3 arg8 harg8 arg13 harg13 x0 x5 xs0 := by
  sl_kernel_rfl

theorem scr1_B : ((kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).2.2.1 = q1B arg4 harg4 arg8 harg8 arg14 harg14 x1 x5 xs1 := by
  sl_kernel_rfl

theorem scr2_B : ((kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).2.2.2.1 = q2B arg5 harg5 arg8 harg8 arg15 harg15 x2 x5 xs2 := by
  sl_kernel_rfl

theorem outs_B : ((kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).1 = (insB arg3 harg3 arg4 harg4 arg5 harg5 arg6 harg6 arg7 harg7 arg8 harg8 arg9 harg9 arg10 harg10 arg11 harg11 arg13 harg13 arg14 harg14 arg15 harg15 arg16 harg16 x0 x1 x2 x3 x4 x5 x6 x7 x8 xs0 xs1 xs2 xs3).outs := by
  sl_kernel_rfl

theorem sts_B : ((kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).2.2.2.2.1 = (insB arg3 harg3 arg4 harg4 arg5 harg5 arg6 harg6 arg7 harg7 arg8 harg8 arg9 harg9 arg10 harg10 arg11 harg11 arg13 harg13 arg14 harg14 arg15 harg15 arg16 harg16 x0 x1 x2 x3 x4 x5 x6 x7 x8 xs0 xs1 xs2 xs3).sts [] := by
  sl_kernel_rfl

end B

/-! ## The first block of a sequence -/

section A

/-- The cleared halos and states. -/
abbrev hal (p : FVec F S8x1024 .f32) : List (View.Piece (Elt F) S264x1024 .f32) := [⟨rHalo, p⟩]
abbrev clr : List (View.Piece (Elt F) S8x128x128 .f32) :=
  [⟨Rect.unit ![0, 0, 0] S8x128x128.size inb_S8x128x128_S8x128x128_0_0_0, k0_pay11⟩]

/-- The stores into the convolved blocks, and the body's reads. -/
def q0A : List (View.Piece (Elt F) S264x1024 .f32) := scr0 arg3 harg3 arg8 harg8 x0 x5 (View.readCov (Val := Elt F) arg13.view (hal k0_pay8) rHalo.toLoadRect) (hal k0_pay8)
def q1A : List (View.Piece (Elt F) S264x1024 .f32) := scr1 arg4 harg4 arg8 harg8 x1 x5 (View.readCov (Val := Elt F) arg14.view (hal k0_pay9) rHalo.toLoadRect) (hal k0_pay9)
def q2A : List (View.Piece (Elt F) S264x1024 .f32) := scr2 arg5 harg5 arg8 harg8 x2 x5 (View.readCov (Val := Elt F) arg15.view (hal k0_pay10) rHalo.toLoadRect) (hal k0_pay10)
def insA : Ins F :=
  ins arg6 harg6 arg7 harg7 arg9 harg9 arg10 harg10 arg11 harg11 arg13 arg14 arg15 x3 x4 x6 x7 x8
    (q0A arg3 harg3 arg8 harg8 arg13 x0 x5)
    (q1A arg4 harg4 arg8 harg8 arg14 x1 x5)
    (q2A arg5 harg5 arg8 harg8 arg15 x2 x5)
    (fun r => arg16.view.readCov clr (rSt r).toLoadRect)

variable (hc0 : cond0_0 i)

theorem scr0_A : ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).2.1 = q0A arg3 harg3 arg8 harg8 arg13 x0 x5 := by
  sl_kernel_rfl

theorem scr1_A : ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).2.2.1 = q1A arg4 harg4 arg8 harg8 arg14 x1 x5 := by
  sl_kernel_rfl

theorem scr2_A : ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).2.2.2.1 = q2A arg5 harg5 arg8 harg8 arg15 x2 x5 := by
  sl_kernel_rfl

theorem outs_A : ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).1 = (insA arg3 harg3 arg4 harg4 arg5 harg5 arg6 harg6 arg7 harg7 arg8 harg8 arg9 harg9 arg10 harg10 arg11 harg11 arg13 arg14 arg15 arg16 x0 x1 x2 x3 x4 x5 x6 x7 x8).outs := by
  sl_kernel_rfl

theorem sts_A : ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).2.2.2.2.1 = (insA arg3 harg3 arg4 harg4 arg5 harg5 arg6 harg6 arg7 harg7 arg8 harg8 arg9 harg9 arg10 harg10 arg11 harg11 arg13 arg14 arg15 arg16 x0 x1 x2 x3 x4 x5 x6 x7 x8).sts clr := by
  sl_kernel_rfl

end A

end Cert.KernelIdeal.Head
-- ==== Proof.Recurrence.lean ====
module

public import Mathlib.Analysis.SpecialFunctions.Exp
public import Mathlib.Data.Matrix.Mul
public import Mathlib.LinearAlgebra.Matrix.Notation

@[expose] public section

/-!
# The gated delta rule over the reals

One head's state is a matrix `S`. A token decays it by `exp g`, reads the value its key retrieves, and
writes back the difference from the token's value, scaled by `β`. `tok` is that rule token by token.
`tok_closed` is the same state for a whole chunk at once, from the corrected values `V` that solve the
chunk's triangular system; `doubling` is how the kernel solves that system.
-/

noncomputable section

namespace Cert.Delta

open Finset

variable {D E : Type} [Fintype D]

/-- The running sum of the log decays before token `n`. -/
def cum (g : ℕ → ℝ) (n : ℕ) : ℝ := ∑ j ∈ range n, g j

theorem cum_succ (g : ℕ → ℝ) (n : ℕ) : cum g (n + 1) = cum g n + g n := sum_range_succ _ _

/-- The state after `n` tokens, from the state `S`. -/
def tok (k : ℕ → D → ℝ) (v : ℕ → E → ℝ) (g β : ℕ → ℝ) (S : D → E → ℝ) : ℕ → D → E → ℝ
  | 0 => S
  | n + 1 => fun d e => tok k v g β S n d e * Real.exp (g n)
      + k n d * ((v n e - ∑ d', k n d' * (tok k v g β S n d' e * Real.exp (g n))) * β n)

/-- The state after `n` tokens in closed form, over corrected values `V` that solve the triangular system. -/
theorem tok_closed (k : ℕ → D → ℝ) (v : ℕ → E → ℝ) (g β : ℕ → ℝ) (S : D → E → ℝ) (V : ℕ → E → ℝ) (N : ℕ)
    (hV : ∀ n < N, ∀ e, V n e + ∑ j ∈ range n, β n * (∑ d, k n d * k j d) * Real.exp (cum g (n + 1) - cum g (j + 1)) * V j e
      = β n * v n e - β n * Real.exp (cum g (n + 1)) * ∑ d, k n d * S d e) :
    ∀ n ≤ N, ∀ d e, tok k v g β S n d e
      = Real.exp (cum g n) * S d e + ∑ j ∈ range n, Real.exp (cum g n - cum g (j + 1)) * k j d * V j e := by
  intro n
  induction n with
  | zero => intro _ d e; simp [tok, cum]
  | succ n ih =>
    intro hn d e
    have h1 : ∀ d, tok k v g β S n d e * Real.exp (g n)
        = Real.exp (cum g (n + 1)) * S d e
          + ∑ j ∈ range n, Real.exp (cum g (n + 1) - cum g (j + 1)) * k j d * V j e := by
      intro d
      rw [ih (by omega) d e, add_mul, sum_mul, cum_succ, Real.exp_add]
      congr 1
      · ring
      · refine sum_congr rfl fun j _ => ?_
        rw [show cum g n + g n - cum g (j + 1) = (cum g n - cum g (j + 1)) + g n by ring, Real.exp_add]
        ring
    have h2 : (v n e - ∑ d', k n d' * (tok k v g β S n d' e * Real.exp (g n))) * β n = V n e := by
      have h := hV n (by omega) e
      simp only [h1]
      have h3 : ∑ d', k n d' * (Real.exp (cum g (n + 1)) * S d' e
            + ∑ j ∈ range n, Real.exp (cum g (n + 1) - cum g (j + 1)) * k j d' * V j e)
          = Real.exp (cum g (n + 1)) * ∑ d', k n d' * S d' e
            + ∑ j ∈ range n, (∑ d', k n d' * k j d') * Real.exp (cum g (n + 1) - cum g (j + 1)) * V j e := by
        simp only [mul_add, sum_add_distrib, mul_sum, sum_mul]
        congr 1
        · exact sum_congr rfl fun _ _ => by ring
        · rw [sum_comm]
          exact sum_congr rfl fun _ _ => sum_congr rfl fun _ _ => by ring
      rw [h3]
      have h4 : ∑ j ∈ range n, β n * (∑ d, k n d * k j d) * Real.exp (cum g (n + 1) - cum g (j + 1)) * V j e
          = β n * ∑ j ∈ range n, (∑ d, k n d * k j d) * Real.exp (cum g (n + 1) - cum g (j + 1)) * V j e := by
        rw [mul_sum]; exact sum_congr rfl fun _ _ => by ring
      rw [h4] at h
      linear_combination (-1 : ℝ) * h
    show tok k v g β S n d e * Real.exp (g n) + k n d * _ = _
    rw [h2, h1, sum_range_succ, sub_self, Real.exp_zero]
    ring

/-- What a query reads after its own token, over the same corrected values. -/
theorem read_closed (k : ℕ → D → ℝ) (v : ℕ → E → ℝ) (g β : ℕ → ℝ) (S : D → E → ℝ) (V : ℕ → E → ℝ) (N : ℕ)
    (hV : ∀ n < N, ∀ e, V n e + ∑ j ∈ range n, β n * (∑ d, k n d * k j d) * Real.exp (cum g (n + 1) - cum g (j + 1)) * V j e
      = β n * v n e - β n * Real.exp (cum g (n + 1)) * ∑ d, k n d * S d e)
    (q : D → ℝ) (n : ℕ) (hn : n < N) (e : E) :
    ∑ d, q d * tok k v g β S (n + 1) d e
      = (∑ d, q d * Real.exp (cum g (n + 1)) * S d e)
        + ∑ j ∈ range (n + 1), (∑ d, q d * k j d) * Real.exp (cum g (n + 1) - cum g (j + 1)) * V j e := by
  simp only [tok_closed k v g β S V N hV (n + 1) (by omega), mul_add, sum_add_distrib, mul_sum, sum_mul]
  congr 1
  · exact sum_congr rfl fun _ _ => by ring
  · rw [sum_comm]
    exact sum_congr rfl fun _ _ => sum_congr rfl fun _ _ => by ring

/-- Tokens compose: the state after `a + n` tokens is the state after `n` more from the state after `a`. -/
theorem tok_add (k : ℕ → D → ℝ) (v : ℕ → E → ℝ) (g β : ℕ → ℝ) (S : D → E → ℝ) (a n : ℕ) :
    tok k v g β S (a + n)
      = tok (fun i => k (a + i)) (fun i => v (a + i)) (fun i => g (a + i)) (fun i => β (a + i)) (tok k v g β S a) n := by
  induction n with
  | zero => rfl
  | succ n ih => rw [← Nat.add_assoc]; simp only [tok, ih]

/-- Tokens depend on their own keys, values and gates only. -/
theorem tok_congr {k k' : ℕ → D → ℝ} {v v' : ℕ → E → ℝ} {g g' β β' : ℕ → ℝ} (S : D → E → ℝ) (n : ℕ)
    (hk : ∀ i < n, k i = k' i) (hv : ∀ i < n, v i = v' i) (hg : ∀ i < n, g i = g' i) (hβ : ∀ i < n, β i = β' i) :
    tok k v g β S n = tok k' v' g' β' S n := by
  induction n with
  | zero => rfl
  | succ n ih =>
    simp only [tok, ih (fun i h => hk i (by omega)) (fun i h => hv i (by omega)) (fun i h => hg i (by omega))
      (fun i h => hβ i (by omega)), hk n (by omega), hv n (by omega), hg n (by omega), hβ n (by omega)]

/-! ## The triangular system by doubling -/

section Doubling

variable {I C : Type} [Fintype I] [DecidableEq I]

/-- Six doublings of the Neumann series: `X₀ + M X₀`, then with `M²`, `M⁴`, … `M³²`. -/
theorem doubling (M₀ M₁ M₂ M₃ M₄ M₅ : Matrix I I ℝ) (X₀ X₁ X₂ X₃ X₄ X₅ X₆ : Matrix I C ℝ)
    (hM₁ : M₁ = M₀ * M₀) (hM₂ : M₂ = M₁ * M₁) (hM₃ : M₃ = M₂ * M₂) (hM₄ : M₄ = M₃ * M₃) (hM₅ : M₅ = M₄ * M₄)
    (hX₁ : X₁ = X₀ + M₀ * X₀) (hX₂ : X₂ = X₁ + M₁ * X₁) (hX₃ : X₃ = X₂ + M₂ * X₂) (hX₄ : X₄ = X₃ + M₃ * X₃)
    (hX₅ : X₅ = X₄ + M₄ * X₄) (hX₆ : X₆ = X₅ + M₅ * X₅) (hnil : M₀ ^ 64 = 0) : X₆ - M₀ * X₆ = X₀ := by
  have step : ∀ (n : ℕ) (P Q : Matrix I I ℝ) (Y Z : Matrix I C ℝ), P = M₀ ^ n → Y - M₀ * Y = X₀ - P * X₀ → Z = Y + P * Y →
      Z - M₀ * Z = X₀ - P * P * X₀ := by
    intro n P Q Y Z hP hY hZ
    have hc : M₀ * P = P * M₀ := by rw [hP, ← pow_succ, ← pow_succ']
    have e1 : Z - M₀ * Z = (Y - M₀ * Y) + P * (Y - M₀ * Y) := by
      rw [hZ, Matrix.mul_add, Matrix.mul_sub, ← Matrix.mul_assoc, ← Matrix.mul_assoc, hc]; abel
    rw [e1, hY, Matrix.mul_sub, ← Matrix.mul_assoc]; abel
  have p1 : M₁ = M₀ ^ 2 := by rw [hM₁, pow_two]
  have p2 : M₂ = M₀ ^ 4 := by rw [hM₂, p1, ← pow_add]
  have p3 : M₃ = M₀ ^ 8 := by rw [hM₃, p2, ← pow_add]
  have p4 : M₄ = M₀ ^ 16 := by rw [hM₄, p3, ← pow_add]
  have p5 : M₅ = M₀ ^ 32 := by rw [hM₅, p4, ← pow_add]
  have s1 : X₁ - M₀ * X₁ = X₀ - M₁ * X₀ := by
    rw [hM₁]; exact step 1 M₀ M₀ X₀ X₁ (pow_one _).symm rfl hX₁
  have s2 : X₂ - M₀ * X₂ = X₀ - M₂ * X₀ := by rw [hM₂]; exact step 2 M₁ M₁ X₁ X₂ p1 s1 hX₂
  have s3 : X₃ - M₀ * X₃ = X₀ - M₃ * X₀ := by rw [hM₃]; exact step 4 M₂ M₂ X₂ X₃ p2 s2 hX₃
  have s4 : X₄ - M₀ * X₄ = X₀ - M₄ * X₀ := by rw [hM₄]; exact step 8 M₃ M₃ X₃ X₄ p3 s3 hX₄
  have s5 : X₅ - M₀ * X₅ = X₀ - M₅ * X₀ := by rw [hM₅]; exact step 16 M₄ M₄ X₄ X₅ p4 s4 hX₅
  have s6 := step 32 M₅ M₅ X₅ X₆ p5 s5 hX₆
  have p6 : M₅ * M₅ = 0 := by rw [p5, ← pow_add]; exact hnil
  rw [s6, p6, Matrix.zero_mul, sub_zero]

end Doubling

/-- A matrix whose entries vanish unless the row lies below the column inside one block of 64 is nilpotent. -/
theorem pow_64_eq_zero (M : Matrix (Fin 256) (Fin 256) ℝ)
    (h : ∀ i j : Fin 256, ¬(i.val / 64 = j.val / 64 ∧ j.val < i.val) → M i j = 0) : M ^ 64 = 0 := by
  have key : ∀ n : ℕ, ∀ i j : Fin 256, ¬(i.val / 64 = j.val / 64 ∧ j.val + n ≤ i.val) → (M ^ n) i j = 0 := by
    intro n
    induction n with
    | zero =>
      intro i j hij
      rw [pow_zero, Matrix.one_apply, if_neg]
      intro e; subst e; exact hij ⟨rfl, le_refl _⟩
    | succ n ih =>
      intro i j hij
      rw [pow_succ, Matrix.mul_apply]
      refine sum_eq_zero fun l _ => ?_
      by_cases h1 : i.val / 64 = l.val / 64 ∧ l.val + n ≤ i.val
      · rw [h l j (by omega), mul_zero]
      · rw [ih i l h1, zero_mul]
  ext i j
  rw [key 64 i j (by omega), Matrix.zero_apply]

end Cert.Delta

end
-- ==== Proof.HeadReal.lean ====
module

public import proofs.«01_k».proof.Proof.Head
public import proofs.«01_k».proof.Proof.Recurrence
public import Idealize.ShloMosaic.Lib.Pointwise

@[expose] public section

set_option maxRecDepth 16384

/-!
# One head over the reals

When the arrays hold reals, so does everything the head computes: each definition of `Head` here as a
real expression of its arguments.
-/

noncomputable section

namespace Cert.KernelIdeal.Head

open Idealize.ShloMosaic Idealize.ShloMosaic.Pointwise Idealize.SL.Sem
open Cert.KernelIdeal Cert.KernelIdeal.Gen Cert.Delta Finset

/-- The matrix `x` holds the reals `f`. -/
def Is {n m : ℕ} (x : (⟨2, ![n, m]⟩ : Shape).Idx → EReal) (f : Fin n → Fin m → ℝ) : Prop :=
  ∀ i j, x (ix2 i j) = ((f i j : ℝ) : EReal)

theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [sum_insert ha, sum_insert ha, EReal.coe_add, ih]

/-- The small constant under the roots, and the queries' scale. -/
def εr : ℝ := (Ideal.ofBits .f32 0x358637BD#32).toReal
def scl : ℝ := (Ideal.ofBits .f32 0x3DB504F3#32).toReal

theorem eps_eq : Ideal.ofBits .f32 0x358637BD#32 = ((εr : ℝ) : EReal) := by
  rw [εr, EReal.coe_toReal] <;> simp [Ideal.ofBits, Ideal.ieee, -EReal.coe_mul]
theorem eps_pos : 0 < εr := by
  have h : εr = ((8796093 : ℝ) * 2 ^ (-43 : ℤ)) := by
    simp [εr, Ideal.ofBits, Ideal.ieee, -EReal.coe_mul]
  rw [h]; positivity
theorem scl_eq : Ideal.ofBits .f32 0x3DB504F3#32 = ((scl : ℝ) : EReal) := by
  rw [scl, EReal.coe_toReal] <;> simp [Ideal.ofBits, Ideal.ieee, -EReal.coe_mul]
theorem c128_eq : Ideal.ofBits .f32 0x43000000#32 = ((128 : ℝ) : EReal) := by
  simp [Ideal.ofBits, Ideal.ieee, -EReal.coe_mul]; norm_num

theorem rsqrt_pos (r : ℝ) (h : 0 < r) : Ideal.rsqrt (r : EReal) = (((√r)⁻¹ : ℝ) : EReal) := by
  rw [Ideal.rsqrt_coe, if_neg (not_lt.mpr h.le), if_neg h.ne']

/-- A row's reciprocal length. -/
def rlen (f : Fin 128 → ℝ) : ℝ := (√((∑ d, f d * f d) + εr))⁻¹

theorem rsqrt_len (f : Fin 128 → ℝ) (c : EReal) (hc : c = ((∑ d, f d * f d : ℝ) : EReal)) :
    Ideal.rsqrt (c + Ideal.ofBits .f32 0x358637BD#32) = ((rlen f : ℝ) : EReal) := by
  rw [hc, eps_eq, ← EReal.coe_add, rsqrt_pos _ (add_pos_of_nonneg_of_pos (sum_nonneg fun d _ => mul_self_nonneg _) eps_pos), rlen]

theorem unitRows_is {x : FVec Ideal S256x128 .f32} {f : Fin 256 → Fin 128 → ℝ} (h : Is x f) :
    Is (unitRows x) fun i d => f i d * rlen (f i) := by
  intro i j
  pointwise [unitRows]
  rw [rsqrt_len (f i) _ (by rw [coe_sum]; exact sum_congr rfl fun d _ => by rw [h i d, ← EReal.coe_mul]), h i j, ← EReal.coe_mul]

theorem qn_is {x : FVec Ideal S256x128 .f32} {f : Fin 256 → Fin 128 → ℝ} (h : Is x f) :
    Is (qn x) fun i d => f i d * rlen (f i) * scl := by
  intro i j
  pointwise [qn]
  rw [unitRows_is h i j, scl_eq, ← EReal.coe_mul]

theorem byCol_is {x : FVec Ideal S256x128 .f32} {f : Fin 256 → Fin 128 → ℝ} {b : FVec Ideal S256x1 .f32} {β : Fin 256 → Fin 1 → ℝ}
    (h : Is x f) (hb : Is b β) : Is (byCol x b) fun i d => f i d * β i 0 := by
  intro i j
  pointwise [byCol]
  rw [h i j, hb i 0, ← EReal.coe_mul]

theorem exp_is {b : FVec Ideal S256x1 .f32} {β : Fin 256 → Fin 1 → ℝ} (hb : Is b β) : Is (exp b) fun i j => Real.exp (β i j) := by
  intro i j
  pointwise
  rw [hb i j, Ideal.exp_coe]

theorem sub_is {a b : FVec Ideal S256x1 .f32} {α β : Fin 256 → Fin 1 → ℝ} (ha : Is a α) (hb : Is b β) :
    Is (subf a b) fun i j => α i j - β i j := by
  intro i j
  pointwise
  rw [ha i j, hb i j, ← EReal.coe_sub]

theorem rowDots_is {x y : FVec Ideal S256x128 .f32} {f g : Fin 256 → Fin 128 → ℝ} (hx : Is x f) (hy : Is y g) :
    Is (rowDots x y) fun i j => ∑ d, f i d * g j d := by
  intro i j
  pointwise [rowDots]
  rw [coe_sum]
  exact sum_congr rfl fun d _ => by rw [hx i d, hy j d, ← EReal.coe_mul]

theorem sqMul_is {x y : FVec Ideal S256x256 .f32} {M X : Matrix (Fin 256) (Fin 256) ℝ} (hx : Is x M) (hy : Is y X) :
    Is (sqMul x y) (M * X) := by
  intro i j
  pointwise [sqMul]
  rw [Matrix.mul_apply, coe_sum]
  exact sum_congr rfl fun d _ => by rw [hx i d, hy d j, ← EReal.coe_mul]

theorem add_is {x y : FVec Ideal S256x256 .f32} {M X : Matrix (Fin 256) (Fin 256) ℝ} (hx : Is x M) (hy : Is y X) :
    Is (addf x y) (M + X) := by
  intro i j
  pointwise
  rw [Matrix.add_apply, hx i j, hy i j, ← EReal.coe_add]

/-- The doubled solution solves the triangular system. -/
theorem xSol_is {m x : FVec Ideal S256x256 .f32} {M X : Matrix (Fin 256) (Fin 256) ℝ} (hm : Is m M) (hx : Is x X)
    (hM : ∀ i j : Fin 256, ¬(i.val / 64 = j.val / 64 ∧ j.val < i.val) → M i j = 0) :
    ∃ Y : Matrix (Fin 256) (Fin 256) ℝ, Is (xSol m x) Y ∧ Y - M * Y = X := by
  have step : ∀ (p : FVec Ideal S256x256 .f32 × FVec Ideal S256x256 .f32) (A B : Matrix (Fin 256) (Fin 256) ℝ),
      Is p.1 A → Is p.2 B → Is (dbl p).1 (A * A) ∧ Is (dbl p).2 (B + A * B) :=
    fun p A B hA hB => ⟨sqMul_is hA hA, add_is hB (sqMul_is hA hB)⟩
  have s1 := step (m, x) _ _ hm hx
  have s2 := step _ _ _ s1.1 s1.2
  have s3 := step _ _ _ s2.1 s2.2
  have s4 := step _ _ _ s3.1 s3.2
  have s5 := step _ _ _ s4.1 s4.2
  have s6 := step _ _ _ s5.1 s5.2
  exact ⟨_, s6.2, doubling M _ _ _ _ _ X _ _ _ _ _ _ rfl rfl rfl rfl rfl rfl rfl rfl rfl rfl rfl (pow_64_eq_zero M hM)⟩

/-! ## The masks -/

theorem chunkOf_word : ∀ i : Fin 256,
    (Scalar.select
      (IntOp.andi
        (IntOp.cmpi .ne
          (IntOp.subi (BitVec.setWidth 32 (IntOp.cmpi .sgt (BitVec.ofNat 32 i.val) 0#32))
            (BitVec.setWidth 32 (IntOp.cmpi .slt (BitVec.ofNat 32 i.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) : BitVec 32) = BitVec.ofNat 32 (i.val / 64) := by
  decide +kernel

theorem chunk_rows (i j : Fin 256) : chunkOf rows (ix2 i j) = BitVec.ofNat 32 (i.val / 64) := by
  pointwise [chunkOf]
  exact chunkOf_word i
theorem chunk_cols (i j : Fin 256) : chunkOf cols (ix2 i j) = BitVec.ofNat 32 (j.val / 64) := by
  pointwise [chunkOf]
  exact chunkOf_word j

theorem cmp_eq_word : ∀ a b : Fin 4, IntOp.cmpi .eq (BitVec.ofNat 32 a.val) (BitVec.ofNat 32 b.val) = if a = b then 1#1 else 0#1 := by
  decide +kernel

theorem same_apply (i j : Fin 256) : same (ix2 i j) = if i.val / 64 = j.val / 64 then 1#1 else 0#1 := by
  have h := cmp_eq_word ⟨i.val / 64, by omega⟩ ⟨j.val / 64, by omega⟩
  simp only [Fin.mk.injEq] at h
  rw [← h, ← chunk_rows i j, ← chunk_cols i j]
  rfl

theorem toInt_small : ∀ i : Fin 1024, (BitVec.ofNat 32 i.val).toInt = (i.val : ℤ) := by decide +kernel

theorem sge_word (a b : Fin 256) : IntOp.cmpi .sge (BitVec.ofNat 32 a.val) (BitVec.ofNat 32 b.val) = if b.val ≤ a.val then 1#1 else 0#1 := by
  show BitVec.ofBool (decide ((BitVec.ofNat 32 b.val).toInt ≤ (BitVec.ofNat 32 a.val).toInt)) = _
  rw [toInt_small ⟨a.val, by omega⟩, toInt_small ⟨b.val, by omega⟩]
  by_cases h : b.val ≤ a.val <;> simp [h]
theorem sgt_word (a b : Fin 256) : IntOp.cmpi .sgt (BitVec.ofNat 32 a.val) (BitVec.ofNat 32 b.val) = if b.val < a.val then 1#1 else 0#1 := by
  show BitVec.ofBool (decide ((BitVec.ofNat 32 b.val).toInt < (BitVec.ofNat 32 a.val).toInt)) = _
  rw [toInt_small ⟨a.val, by omega⟩, toInt_small ⟨b.val, by omega⟩]
  by_cases h : b.val < a.val <;> simp [h]

theorem incl_apply (i j : Fin 256) : incl (ix2 i j) = if i.val / 64 = j.val / 64 ∧ j.val ≤ i.val then 1#1 else 0#1 := by
  have e : incl (ix2 i j) = IntOp.andi (same (ix2 i j)) (IntOp.cmpi .sge (BitVec.ofNat 32 i.val) (BitVec.ofNat 32 j.val)) := by
    pointwise [incl]
  rw [e, same_apply, sge_word]
  by_cases h1 : i.val / 64 = j.val / 64 <;> by_cases h2 : j.val ≤ i.val <;> simp [h1, h2, IntOp.andi]
theorem strict_apply (i j : Fin 256) : strict (ix2 i j) = if i.val / 64 = j.val / 64 ∧ j.val < i.val then 1#1 else 0#1 := by
  have e : strict (ix2 i j) = IntOp.andi (same (ix2 i j)) (IntOp.cmpi .sgt (BitVec.ofNat 32 i.val) (BitVec.ofNat 32 j.val)) := by
    pointwise [strict]
  rw [e, same_apply, sgt_word]
  by_cases h1 : i.val / 64 = j.val / 64 <;> by_cases h2 : j.val < i.val <;> simp [h1, h2, IntOp.andi]

/-! ## A chunk's matrices -/

/-- Same chunk and not later. -/
abbrev Le (i j : Fin 256) : Prop := i.val / 64 = j.val / 64 ∧ j.val ≤ i.val
abbrev Lt (i j : Fin 256) : Prop := i.val / 64 = j.val / 64 ∧ j.val < i.val

theorem select_incl (i j : Fin 256) (a b : EReal) : Scalar.select (incl (ix2 i j)) a b = if Le i j then a else b := by
  rw [incl_apply]
  by_cases h : Le i j
  · rw [if_pos h, if_pos h]; rfl
  · rw [if_neg h, if_neg h]; rfl
theorem select_strict (i j : Fin 256) (a b : EReal) : Scalar.select (strict (ix2 i j)) a b = if Lt i j then a else b := by
  rw [strict_apply]
  by_cases h : Lt i j
  · rw [if_pos h, if_pos h]; rfl
  · rw [if_neg h, if_neg h]; rfl

/-- The decay from token `j` to token `i`. -/
def dec (γ : Fin 256 → ℝ) (i j : Fin 256) : ℝ := if Le i j then Real.exp (γ i - γ j) else 0

theorem decay_is {gc : FVec Ideal S256x1 .f32} {gr : FVec Ideal S1x256 .f32} {γ : Fin 256 → ℝ}
    (hc : Is gc fun i _ => γ i) (hr : Is gr fun _ j => γ j) : Is (decay gc gr) (dec γ) := by
  intro i j
  pointwise [decay]
  rw [select_incl, select_incl, hc i 0, hr 0 j, dec]
  by_cases h : Le i j
  · rw [if_pos h, if_pos h, if_pos h, ← EReal.coe_sub, Ideal.exp_coe]
  · rw [if_neg h, if_neg h]; rfl

/-- Products of two families of rows. -/
def dots (f g : Fin 256 → Fin 128 → ℝ) (i j : Fin 256) : ℝ := ∑ d, f i d * g j d

/-- The rows of `f` at unit length; the queries so, scaled. -/
def unit (f : Fin 256 → Fin 128 → ℝ) (i : Fin 256) (d : Fin 128) : ℝ := f i d * rlen (f i)
def qunit (f : Fin 256 → Fin 128 → ℝ) (i : Fin 256) (d : Fin 128) : ℝ := f i d * rlen (f i) * scl

theorem attn_is {q k : FVec Ideal S256x128 .f32} {f g : Fin 256 → Fin 128 → ℝ} {gc : FVec Ideal S256x1 .f32} {gr : FVec Ideal S1x256 .f32}
    {γ : Fin 256 → ℝ} (hq : Is q f) (hk : Is k g) (hc : Is gc fun i _ => γ i) (hr : Is gr fun _ j => γ j) :
    Is (attn q k gc gr) fun i j => if Le i j then dots (qunit f) (unit g) i j * Real.exp (γ i - γ j) else 0 := by
  intro i j
  pointwise [attn]
  rw [select_incl, rowDots_is (qn_is hq) (unitRows_is hk) i j, decay_is hc hr i j, dec]
  by_cases h : Le i j
  · rw [if_pos h, if_pos h, if_pos h, ← EReal.coe_mul]; rfl
  · rw [if_neg h, if_neg h]; rfl

theorem lneg_is {k : FVec Ideal S256x128 .f32} {g : Fin 256 → Fin 128 → ℝ} {b gc : FVec Ideal S256x1 .f32} {gr : FVec Ideal S1x256 .f32}
    {β γ : Fin 256 → ℝ} (hk : Is k g) (hb : Is b fun i _ => β i) (hc : Is gc fun i _ => γ i) (hr : Is gr fun _ j => γ j) :
    Is (lneg k b gc gr) fun i j => if Lt i j then -(β i * dots (unit g) (unit g) i j * Real.exp (γ i - γ j)) else 0 := by
  intro i j
  pointwise [lneg]
  rw [select_strict, rowDots_is (byCol_is (unitRows_is hk) hb) (unitRows_is hk) i j, decay_is hc hr i j, dec]
  by_cases h : Lt i j
  · rw [if_pos h, if_pos h, if_pos (⟨h.1, h.2.le⟩ : Le i j), ← EReal.coe_mul, zero_sub, ← EReal.coe_neg, dots, mul_sum]
    congr 3
    exact sum_congr rfl fun d _ => by simp only [unit]; ring
  · rw [if_neg h, if_neg h, sub_zero]; rfl

theorem rhs_is {k v : FVec Ideal S256x128 .f32} {f g : Fin 256 → Fin 128 → ℝ} {b gc : FVec Ideal S256x1 .f32} {β γ : Fin 256 → ℝ}
    (hk : Is k f) (hv : Is v g) (hb : Is b fun i _ => β i) (hc : Is gc fun i _ => γ i) :
    Is (rhs k v b gc) fun i j => if h : j.val < 128 then g i ⟨j.val, h⟩ * β i
      else unit f i ⟨j.val - 128, by omega⟩ * β i * Real.exp (γ i) := by
  intro i j
  pointwise [rhs]
  by_cases h : j.val < 128
  · rw [dif_pos h, dif_pos h, byCol_is hv hb]
  · rw [dif_neg h, dif_neg h, byCol_is (byCol_is (unitRows_is hk) hb) (exp_is hc)]; rfl

end Cert.KernelIdeal.Head
-- ==== Proof.Chunk.lean ====
module

public import proofs.«01_k».proof.Proof.HeadReal

@[expose] public section

set_option maxRecDepth 16384

/-!
# A block of tokens is the recurrence

A head's values over a block of 256 tokens, chunk by chunk, against the recurrence token by token:
the state before each chunk is the recurrence's state at the chunk's first token, and a chunk's reads are
the queries' reads of the recurrence's states.
-/

noncomputable section

namespace Cert.KernelIdeal.Head

open Idealize.ShloMosaic Idealize.ShloMosaic.Pointwise Idealize.SL.Sem
open Cert.KernelIdeal Cert.KernelIdeal.Gen Cert.Delta Finset

/-- A sum over a block that only looks at the first `m` tokens of one chunk. -/
theorem sum_chunk (c : Fin 4) (m : ℕ) (hm : m ≤ 64) (H : Fin 256 → ℝ) (G : ℕ → ℝ)
    (h : ∀ x : Fin 256, x.val / 64 = c.val → x.val % 64 < m → H x = G (x.val % 64))
    (h0 : ∀ x : Fin 256, ¬(x.val / 64 = c.val ∧ x.val % 64 < m) → H x = 0) :
    ∑ x, H x = ∑ j ∈ range m, G j := by
  have e : ∑ x, H x = ∑ x ∈ univ.filter (fun x : Fin 256 => x.val / 64 = c.val ∧ x.val % 64 < m), H x :=
    (sum_filter_of_ne fun x _ hx => by by_contra hc; exact hx (h0 x hc)).symm
  rw [e]
  refine sum_bij' (fun x _ => x.val % 64) (fun j hj => ⟨64 * c.val + j, by have := mem_range.mp hj; omega⟩) ?_ ?_ ?_ ?_ ?_
  · intro x hx; exact mem_range.mpr (mem_filter.mp hx).2.2
  · intro j hj
    have := mem_range.mp hj
    exact mem_filter.mpr ⟨mem_univ _, by show (64 * c.val + j) / 64 = _; omega, by show (64 * c.val + j) % 64 < _; omega⟩
  · intro x hx; have := (mem_filter.mp hx).2; apply Fin.ext; show 64 * c.val + x.val % 64 = _; omega
  · intro j hj; have := mem_range.mp hj; show (64 * c.val + j) % 64 = j; omega
  · intro x hx; have := (mem_filter.mp hx).2; exact h x this.1 this.2

/-- The decay sums within a chunk, and a chunk's whole sum. -/
def csum (g : ℕ → ℝ) (n : ℕ) : ℝ := cum (fun j => g (64 * (n / 64) + j)) (n % 64 + 1)
def cend (g : ℕ → ℝ) (n : ℕ) : ℝ := cum (fun j => g (64 * (n / 64) + j)) 64

/-- Unit rows and scaled unit rows, token by token. -/
def un (k : ℕ → Fin 128 → ℝ) (n : ℕ) (d : Fin 128) : ℝ := k n d * rlen (k n)
def qs (q : ℕ → Fin 128 → ℝ) (n : ℕ) (d : Fin 128) : ℝ := q n d * rlen (q n) * scl

/-- A head's arrays hold the tokens' queries, keys, values, write strengths and decay sums. -/
structure Holds (h : Dat Ideal) (q k v : ℕ → Fin 128 → ℝ) (g β : ℕ → ℝ) : Prop where
  q : Is h.q fun i => q i.val
  k : Is h.k fun i => k i.val
  v : Is h.v fun i => v i.val
  b : Is h.b fun i _ => β i.val
  gc : Is h.gc fun i _ => csum g i.val
  ge : Is h.ge fun i _ => cend g i.val
  gr : Is h.gr fun _ j => csum g j.val

/-- A token of a chunk. -/
abbrev at64 (c : Fin 4) (n : Fin 64) : Fin 256 := ⟨64 * c.val + n.val, by omega⟩

section

variable {h : Dat Ideal} {q k v : ℕ → Fin 128 → ℝ} {g β : ℕ → ℝ} (H : Holds h q k v g β)

/-- The right hand sides, as reals. -/
def rhsR (k v : ℕ → Fin 128 → ℝ) (g β : ℕ → ℝ) (i j : Fin 256) : ℝ :=
  if h : j.val < 128 then v i.val ⟨j.val, h⟩ * β i.val else un k i.val ⟨j.val - 128, by omega⟩ * β i.val * Real.exp (csum g i.val)

include H in
theorem sol_is : ∃ Y : Fin 256 → Fin 256 → ℝ, Is h.sol Y ∧ ∀ i c, Y i c
      + ∑ x, (if Lt i x then β i.val * (∑ d, un k i.val d * un k x.val d) * Real.exp (csum g i.val - csum g x.val) else 0) * Y x c
      = rhsR k v g β i c := by
  obtain ⟨Y, hY, e⟩ := xSol_is (lneg_is H.k H.b H.gc H.gr) (rhs_is H.k H.v H.b H.gc) (fun i j hij => if_neg hij)
  refine ⟨Y, hY, fun i c => ?_⟩
  have e1 := congrFun (congrFun e i) c
  have e2 : Y i c - ∑ x, _ * Y x c = _ := e1
  rw [sub_eq_add_neg, ← sum_neg_distrib] at e2
  refine Eq.trans ?_ (show _ = rhsR k v g β i c from e2)
  refine congrArg (Y i c + ·) ?_
  refine sum_congr rfl fun x _ => ?_
  by_cases hx : Lt i x
  · beta_reduce; rw [if_pos hx, if_pos hx, neg_mul, neg_neg]; rfl
  · beta_reduce; rw [if_neg hx, if_neg hx, zero_mul, neg_zero]

variable {Y : Fin 256 → Fin 256 → ℝ} (hY : Is h.sol Y)

include hY in
theorem u_is : Is h.u fun i e => Y i ⟨e.val, by omega⟩ := by
  intro i j
  pointwise [Dat.u]
  exact hY _ _

include hY in
theorem w_is : Is h.w fun i e => Y i ⟨128 + e.val, by omega⟩ := by
  intro i j
  pointwise [Dat.w]
  exact hY _ _

include H in
theorem qd_is : Is h.qd fun i e => qs q i.val e * Real.exp (csum g i.val) := by
  intro i j
  pointwise [Dat.qd]
  exact byCol_is (qn_is H.q) (exp_is H.gc) i j

include H in
theorem kd_is : Is h.kd fun i e => un k i.val e * Real.exp (cend g i.val - csum g i.val) := by
  intro i j
  pointwise [Dat.kd]
  exact byCol_is (unitRows_is H.k) (exp_is (sub_is H.ge H.gc)) i j

variable (c : Fin 4) {st : FVec Ideal S128x128 .f32} {T : Fin 128 → Fin 128 → ℝ} (hT : Is st T)

include hY hT in
theorem wq_top (n : Fin 64) (e : Fin 128) : h.wq c st (ix2 ⟨n.val, by omega⟩ e)
    = ((∑ d : Fin 128, Y (at64 c n) ⟨128 + d.val, by omega⟩ * T d e : ℝ) : EReal) := by
  pointwise [Dat.wq]
  rw [coe_sum]
  refine sum_congr rfl fun d _ => ?_
  have h1 : h.w (ix2 (at64 c n) d) = _ := w_is hY (at64 c n) d
  exact (congrArg₂ (· * ·) h1 (hT d e)).trans (EReal.coe_mul _ _).symm

include H hT in
theorem wq_bot (n : Fin 64) (e : Fin 128) : h.wq c st (ix2 ⟨64 + n.val, by omega⟩ e)
    = ((∑ d : Fin 128, qs q (64 * c.val + n.val) d * Real.exp (csum g (64 * c.val + n.val)) * T d e : ℝ) : EReal) := by
  pointwise [Dat.wq]
  rw [coe_sum]
  refine sum_congr rfl fun d _ => ?_
  have h1 : h.qd (ix2 (at64 c n) d) = _ := qd_is H (at64 c n) d
  exact (congrArg₂ (· * ·) h1 (hT d e)).trans (EReal.coe_mul _ _).symm

/-- The values a chunk writes, as reals. -/
def vn (Y : Fin 256 → Fin 256 → ℝ) (c : Fin 4) (T : Fin 128 → Fin 128 → ℝ) (n : ℕ) (e : Fin 128) : ℝ :=
  if hn : n < 64 then
    Y (at64 c ⟨n, hn⟩) ⟨e.val, by omega⟩ - ∑ d : Fin 128, Y (at64 c ⟨n, hn⟩) ⟨128 + d.val, by omega⟩ * T d e
  else 0

include hY hT in
theorem vnew_is : Is (h.vnew c st) fun n e => vn Y c T n.val e := by
  intro n e
  pointwise [Dat.vnew]
  have h1 : h.u (ix2 (at64 c n) e) = _ := u_is hY (at64 c n) e
  rw [vn, dif_pos n.isLt, EReal.coe_sub, ← wq_top hY c hT n e, ← h1]

theorem place_is {x : FVec Ideal S64x128 .bf16} {V : ℕ → Fin 128 → ℝ} (hx : Is x fun n e => V n.val e) :
    Is (Dat.place c x) fun j e => if j.val / 64 = c.val then V (j.val % 64) e else 0 := by
  intro j e
  have key : ∀ (m : ℕ) (hm : m < 64), m = j.val % 64 → x (ix2 ⟨m, hm⟩ e) = ((V (j.val % 64) e : ℝ) : EReal) := by
    intro m hm he; rw [hx ⟨m, hm⟩ e]; rw [← he]
  have hj := j.isLt
  match c with
  | 0 =>
    pointwise [Dat.place]
    show _ = (((if j.val / 64 = 0 then V (j.val % 64) e else 0 : ℝ)) : EReal)
    by_cases hc : j.val / 64 = 0
    · rw [if_pos hc]
      split_ifs <;> first | (exfalso; omega) | exact key _ _ (by omega)
    · rw [if_neg hc]
      split_ifs <;> first | (exfalso; omega) | rfl
  | 1 =>
    pointwise [Dat.place]
    show _ = (((if j.val / 64 = 1 then V (j.val % 64) e else 0 : ℝ)) : EReal)
    by_cases hc : j.val / 64 = 1
    · rw [if_pos hc]
      split_ifs <;> first | (exfalso; omega) | exact key _ _ (by omega)
    · rw [if_neg hc]
      split_ifs <;> first | (exfalso; omega) | rfl
  | 2 =>
    pointwise [Dat.place]
    show _ = (((if j.val / 64 = 2 then V (j.val % 64) e else 0 : ℝ)) : EReal)
    by_cases hc : j.val / 64 = 2
    · rw [if_pos hc]
      split_ifs <;> first | (exfalso; omega) | exact key _ _ (by omega)
    · rw [if_neg hc]
      split_ifs <;> first | (exfalso; omega) | rfl
  | 3 =>
    pointwise [Dat.place]
    show _ = (((if j.val / 64 = 3 then V (j.val % 64) e else 0 : ℝ)) : EReal)
    by_cases hc : j.val / 64 = 3
    · rw [if_pos hc]
      split_ifs <;> first | (exfalso; omega) | exact key _ _ (by omega)
    · rw [if_neg hc]
      split_ifs <;> first | (exfalso; omega) | rfl

/-- The chunk's tokens. -/
abbrev sh {α : Type} (c : Fin 4) (f : ℕ → α) (n : ℕ) : α := f (64 * c.val + n)

theorem csum_at (n : ℕ) (hn : n < 64) : csum g (64 * c.val + n) = cum (sh c g) (n + 1) := by
  rw [csum, show (64 * c.val + n) / 64 = c.val by omega, show (64 * c.val + n) % 64 = n by omega]
theorem cend_at (n : ℕ) (hn : n < 64) : cend g (64 * c.val + n) = cum (sh c g) 64 := by
  rw [cend, show (64 * c.val + n) / 64 = c.val by omega]

/-- A chunk's written values solve the recurrence's triangular system. -/
theorem vn_solves (hsol : ∀ i c', Y i c'
      + ∑ x, (if Lt i x then β i.val * (∑ d, un k i.val d * un k x.val d) * Real.exp (csum g i.val - csum g x.val) else 0) * Y x c'
      = rhsR k v g β i c') :
    ∀ n < 64, ∀ e, vn Y c T n e
      + ∑ j ∈ range n, sh c β n * (∑ d, sh c (un k) n d * sh c (un k) j d) * Real.exp (cum (sh c g) (n + 1) - cum (sh c g) (j + 1)) * vn Y c T j e
      = sh c β n * sh c v n e - sh c β n * Real.exp (cum (sh c g) (n + 1)) * ∑ d, sh c (un k) n d * T d e := by
  intro n hn e
  have col : ∀ c' : Fin 256, Y (at64 c ⟨n, hn⟩) c'
      + ∑ j ∈ range n, sh c β n * (∑ d, sh c (un k) n d * sh c (un k) j d) * Real.exp (cum (sh c g) (n + 1) - cum (sh c g) (j + 1))
          * (if hj : j < 64 then Y (at64 c ⟨j, hj⟩) c' else 0) = rhsR k v g β (at64 c ⟨n, hn⟩) c' := by
    intro c'
    rw [← hsol (at64 c ⟨n, hn⟩) c']
    congr 1
    refine (sum_chunk c n (by omega) _ _ ?_ ?_).symm
    · intro x hx hm
      have hx2 : at64 c ⟨x.val % 64, by omega⟩ = x := Fin.ext (by show 64 * c.val + x.val % 64 = x.val; omega)
      rw [if_pos (⟨by show (64 * c.val + n) / 64 = _; omega, by show _ < 64 * c.val + n; omega⟩ : Lt _ x), dif_pos (by omega), hx2,
        csum_at c n hn, ← csum_at c (x.val % 64) (by omega), show 64 * c.val + x.val % 64 = x.val by omega]
      simp only [sh, show 64 * c.val + x.val % 64 = x.val by omega]
    · intro x hx
      rw [if_neg, zero_mul]
      rintro ⟨h1, h2⟩
      have h1' : (64 * c.val + n) / 64 = x.val / 64 := h1
      have h2' : x.val < 64 * c.val + n := h2
      exact hx ⟨by omega, by omega⟩
  have hu := col ⟨e.val, by omega⟩
  have hw : ∀ d : Fin 128, _ := fun d => col ⟨128 + d.val, by omega⟩
  rw [rhsR, dif_pos e.isLt] at hu
  have hw' : ∀ d : Fin 128, Y (at64 c ⟨n, hn⟩) ⟨128 + d.val, by omega⟩
      = un k (64 * c.val + n) d * β (64 * c.val + n) * Real.exp (cum (sh c g) (n + 1))
        - ∑ j ∈ range n, sh c β n * (∑ d, sh c (un k) n d * sh c (un k) j d) * Real.exp (cum (sh c g) (n + 1) - cum (sh c g) (j + 1))
          * (if hj : j < 64 then Y (at64 c ⟨j, hj⟩) ⟨128 + d.val, by omega⟩ else 0) := by
    intro d
    have h1 := hw d
    rw [rhsR, dif_neg (by show ¬ (128 + d.val < 128); omega)] at h1
    have e1 : (⟨128 + d.val - 128, by omega⟩ : Fin 128) = d := Fin.ext (by show 128 + d.val - 128 = d.val; omega)
    simp only [e1] at h1
    rw [csum_at c n hn] at h1
    linarith
  have e2 : ∀ j ∈ range n, sh c β n * (∑ d, sh c (un k) n d * sh c (un k) j d) * Real.exp (cum (sh c g) (n + 1) - cum (sh c g) (j + 1)) * vn Y c T j e
      = sh c β n * (∑ d, sh c (un k) n d * sh c (un k) j d) * Real.exp (cum (sh c g) (n + 1) - cum (sh c g) (j + 1))
          * (if hj : j < 64 then Y (at64 c ⟨j, hj⟩) ⟨e.val, by omega⟩ else 0)
        - ∑ d : Fin 128, sh c β n * (∑ d, sh c (un k) n d * sh c (un k) j d) * Real.exp (cum (sh c g) (n + 1) - cum (sh c g) (j + 1))
          * (if hj : j < 64 then Y (at64 c ⟨j, hj⟩) ⟨128 + d.val, by omega⟩ else 0) * T d e := by
    intro j hj
    have := mem_range.mp hj
    rw [vn, dif_pos (by omega), dif_pos (by omega), mul_sub]
    congr 1
    refine (mul_sum _ _ _).trans (sum_congr rfl fun d _ => ?_)
    rw [dif_pos (by omega)]; ring
  rw [sum_congr rfl e2, sum_sub_distrib, vn, dif_pos hn, sum_comm]
  have e3 : ∑ d : Fin 128, Y (at64 c ⟨n, hn⟩) ⟨128 + d.val, by omega⟩ * T d e
      = ∑ d : Fin 128, un k (64 * c.val + n) d * β (64 * c.val + n) * Real.exp (cum (sh c g) (n + 1)) * T d e
        - ∑ d : Fin 128, ∑ j ∈ range n, sh c β n * (∑ d, sh c (un k) n d * sh c (un k) j d) * Real.exp (cum (sh c g) (n + 1) - cum (sh c g) (j + 1))
          * (if hj : j < 64 then Y (at64 c ⟨j, hj⟩) ⟨128 + d.val, by omega⟩ else 0) * T d e := by
    rw [← sum_sub_distrib]
    refine sum_congr rfl fun d _ => ?_
    rw [hw' d, sub_mul, sum_mul]
  have e4 : ∑ d : Fin 128, un k (64 * c.val + n) d * β (64 * c.val + n) * Real.exp (cum (sh c g) (n + 1)) * T d e
      = sh c β n * Real.exp (cum (sh c g) (n + 1)) * ∑ d, sh c (un k) n d * T d e := by
    rw [mul_sum]; exact sum_congr rfl fun d _ => by simp only [sh]; ring
  rw [e3, e4]
  have hu' : v (64 * c.val + n) ⟨e.val, e.isLt⟩ * β (64 * c.val + n) = sh c β n * sh c v n e := by simp only [sh]; ring
  have hu2 := hu.trans hu'
  linarith

include H hT in
/-- One chunk: the state after it is the recurrence's after its tokens, its reads are the reads of the
    recurrence's states. -/
theorem chunk_is :
    Is (h.next c st) (tok (sh c (un k)) (sh c v) (sh c g) (sh c β) T 64)
      ∧ Is (h.read c st) fun n e => ∑ d, sh c (qs q) n.val d * tok (sh c (un k)) (sh c v) (sh c g) (sh c β) T (n.val + 1) d e := by
  obtain ⟨Y, hY, hsol⟩ := sol_is H
  have hV := vn_solves (T := T) c hsol
  constructor
  · intro d e
    pointwise [Dat.next]
    rw [tok_closed _ _ _ _ _ _ 64 hV 64 le_rfl d e, EReal.coe_add, mul_comm (Real.exp _) (T d e),
      EReal.coe_mul, ← Fin.sum_univ_eq_sum_range (fun j => Real.exp (cum (sh c g) 64 - cum (sh c g) (j + 1)) * sh c (un k) j d * vn Y c T j e), coe_sum]
    have hge : Ideal.exp (h.ge (ix2 (at64 c 0) 0)) = ((Real.exp (cum (sh c g) 64) : ℝ) : EReal) := by
      rw [H.ge, Ideal.exp_coe, ← cend_at (g := g) c 0 (by omega)]; rfl
    refine congrArg₂ (· + ·) (congrArg₂ (· * ·) (hT d e) hge) (sum_congr rfl fun n _ => ?_)
    have h1 : h.kd (ix2 (at64 c n) d) = _ := kd_is H (at64 c n) d
    refine (congrArg₂ (· * ·) h1 (vnew_is hY c hT n e)).trans ?_
    beta_reduce
    rw [← EReal.coe_mul, cend_at c n.val n.isLt, csum_at c n.val n.isLt]
    simp only [sh]
    ring_nf
  · intro n e
    pointwise [Dat.read]
    rw [read_closed _ _ _ _ _ _ 64 hV _ n.val n.isLt e, EReal.coe_add, ← csum_at c n.val n.isLt]
    refine congrArg₂ (· + ·) (wq_bot H c hT n e) ?_
    have e1 : ∀ x : Fin 256, attn h.q h.k h.gc h.gr (ix2 (at64 c n) x) * Dat.place c (h.vnew c st) (ix2 x e)
        = (((if Le (at64 c n) x then dots (qunit fun i => q i.val) (unit fun i => k i.val) (at64 c n) x * Real.exp (csum g (at64 c n).val - csum g x.val) else 0)
          * (if x.val / 64 = c.val then vn Y c T (x.val % 64) e else 0) : ℝ) : EReal) := by
      intro x
      rw [attn_is H.q H.k H.gc H.gr, place_is c (vnew_is hY c hT), ← EReal.coe_mul]
    refine (sum_congr rfl fun x _ => e1 x).trans ?_
    rw [← coe_sum]
    congr 1
    refine sum_chunk c (n.val + 1) (by omega) _ _ ?_ ?_
    · intro x hx hm
      rw [if_pos (⟨by show (64 * c.val + n.val) / 64 = _; omega, by show _ ≤ 64 * c.val + n.val; omega⟩ : Le _ x), if_pos hx,
        ← csum_at c (x.val % 64) (by omega)]
      simp only [sh, show 64 * c.val + x.val % 64 = x.val by omega]
      rfl
    · intro x hx
      by_cases h1 : Le (at64 c n) x
      · rw [if_neg (fun h2 => hx ⟨h2, by have := h1.2; have h3 : x.val ≤ 64 * c.val + n.val := this; omega⟩), mul_zero]
      · rw [if_neg h1, zero_mul]

/-- A rank-three array holds the reals `f` in its one slab. -/
def Is1 (x : S1x128x128.Idx → EReal) (f : Fin 128 → Fin 128 → ℝ) : Prop := ∀ d e, x (ix3 0 d e) = ((f d e : ℝ) : EReal)

variable {s0 : FVec Ideal S1x128x128 .f32} (hs : Is1 s0 T)

include H hs in
theorem stAt_is : ∀ c : Fin 4, Is (h.stAt s0 c) (tok (un k) v g β T (64 * c.val)) := by
  have step : ∀ (c : Fin 4) (st : FVec Ideal S128x128 .f32), Is st (tok (un k) v g β T (64 * c.val)) →
      Is (h.next c st) (tok (un k) v g β T (64 * c.val + 64)) := by
    intro c st hst
    rw [tok_add]
    exact (chunk_is H c hst).1
  have h0 : Is (h.stAt s0 0) (tok (un k) v g β T 0) := by
    intro d e
    show Dat.st0 s0 (ix2 d e) = _
    pointwise [Dat.st0]
    exact hs d e
  have h1 : Is (h.stAt s0 1) (tok (un k) v g β T 64) := step 0 _ h0
  have h2 : Is (h.stAt s0 2) (tok (un k) v g β T 128) := step 1 _ h1
  have h3 : Is (h.stAt s0 3) (tok (un k) v g β T 192) := step 2 _ h2
  intro c
  match c with
  | 0 => exact h0
  | 1 => exact h1
  | 2 => exact h2
  | 3 => exact h3

include H hs in
/-- The state left to the next block. -/
theorem stEnd_is : Is1 (h.stEnd s0) (tok (un k) v g β T 256) := by
  intro d e
  have h3 := (chunk_is H 3 (stAt_is H hs 3)).1 d e
  pointwise [Dat.stEnd]
  rw [h3, show (256 : ℕ) = 64 * (3 : Fin 4).val + 64 from rfl, tok_add]

include H hs in
/-- A chunk's reads. -/
theorem read_is (c : Fin 4) : Is (h.read c (h.stAt s0 c)) fun n e =>
    ∑ d, qs q (64 * c.val + n.val) d * tok (un k) v g β T (64 * c.val + n.val + 1) d e := by
  intro n e
  rw [(chunk_is H c (stAt_is H hs c)).2 n e]
  simp only [Nat.add_assoc, tok_add _ _ _ _ T (64 * c.val)]

end

end Cert.KernelIdeal.Head
-- ==== Proof.Block.lean ====
module

public import proofs.«01_k».proof.Proof.Chunk

@[expose] public section

set_option maxRecDepth 16384

/-!
# A block's convolutions, gates and gating over the reals

The values around the recurrence: the four-tap convolution with its halo, the write strengths and the
log decays with their sums within a chunk, and the normalised and gated reads, each as a real expression
of the reals the arrays hold.
-/

noncomputable section

namespace Cert.KernelIdeal.Head

open Idealize.ShloMosaic Idealize.ShloMosaic.Pointwise Idealize.SL.Sem
open Cert.KernelIdeal Cert.KernelIdeal.Gen Cert.Delta Finset

/-! ## Scalars -/

/-- The logistic function, the nonlinearity weighted by it, and the soft positive part. -/
def lgst (y : ℝ) : ℝ := 1 / (1 + Real.exp (-y))
def silu (y : ℝ) : ℝ := y * lgst y
def splus (y : ℝ) : ℝ := max y 0 + Real.log (1 + Real.exp (-|y|))

theorem one_add_exp_pos (y : ℝ) : 0 < 1 + Real.exp y := by have := Real.exp_pos y; linarith

theorem lgst_eq (y : ℝ) : Ideal.div 1 (1 + Ideal.exp (0 - (y : EReal))) = ((lgst y : ℝ) : EReal) := by
  rw [zero_sub, ← EReal.coe_neg, Ideal.exp_coe, ← EReal.coe_one, ← EReal.coe_add, Ideal.div_coe (one_add_exp_pos _).ne',
    ← EReal.coe_mul, one_mul, lgst]

theorem abs_eq (y : ℝ) : (FloatOps.absf (F := Ideal) (φ := .f32) (y : EReal) : EReal) = ((|y| : ℝ) : EReal) := by
  show max (y : EReal) (-(y : EReal)) = _
  rw [← EReal.coe_neg, abs, ← EReal.coe_strictMono.monotone.map_max]

theorem splus_eq (y : ℝ) :
    max (y : EReal) 0 + Ideal.log (1 + Ideal.exp (0 - (FloatOps.absf (F := Ideal) (φ := .f32) (y : EReal) : EReal))) = ((splus y : ℝ) : EReal) := by
  rw [abs_eq, zero_sub, ← EReal.coe_neg, Ideal.exp_coe, ← EReal.coe_one, ← EReal.coe_add, Ideal.log_coe,
    if_neg (not_le.mpr (one_add_exp_pos _)), ← EReal.coe_zero, ← EReal.coe_strictMono.monotone.map_max, ← EReal.coe_add, splus]

/-! ## The convolution -/

/-- The four taps over padded rows: row `n + 8` is token `n`'s. -/
def cvr (s : ℕ → Fin 1024 → ℝ) (w : Fin 4 → Fin 1024 → ℝ) (n : ℕ) (c : Fin 1024) : ℝ :=
  s (n + 8) c * w 3 c + s (n + 7) c * w 2 c + s (n + 6) c * w 1 c + s (n + 5) c * w 0 c

section Conv

variable {x : FVec Ideal S256x1024 .f32} {p : FVec Ideal S8x1024 .f32} {s : ℕ → Fin 1024 → ℝ}

theorem slt_word (a : Fin 256) (k : ℕ) (hk : k < 256) :
    IntOp.cmpi .slt (BitVec.ofNat 32 a.val) (BitVec.ofNat 32 k) = if a.val < k then 1#1 else 0#1 := by
  show BitVec.ofBool (decide ((BitVec.ofNat 32 a.val).toInt < (BitVec.ofNat 32 k).toInt)) = _
  rw [toInt_small ⟨a.val, by omega⟩, toInt_small ⟨k, by omega⟩]
  by_cases h : a.val < k <;> simp [h]

/-- The pick between the halo and the block, at a shift by `k` rows. -/
theorem shift_pick {i : Fin 256} (hx : Is x fun i => s (i.val + 8)) (hp : Is p fun i => s i.val) (k m : ℕ) (hm : m + k = i.val + 8) (hk : 0 < k) (hk' : k < 8) (j : Fin 1024)
    (a : Fin 8) (b c : Fin 256) (ha : i.val < k → a.val = i.val + 8 - k) (hb : k ≤ i.val → b.val = i.val - k) (hc : 8 ≤ i.val → c.val = i.val - k) :
    (if i.val < 8 then Scalar.select (if i.val < k then 1#1 else 0#1) (p (ix2 a j)) (x (ix2 b j)) else x (ix2 c j))
      = ((s m j : ℝ) : EReal) := by
  by_cases h1 : i.val < 8
  · rw [if_pos h1]
    by_cases h2 : i.val < k
    · rw [if_pos h2]
      refine (hp a j).trans ?_
      beta_reduce
      rw [show a.val = m by have := ha h2; omega]
    · rw [if_neg h2]
      refine (hx b j).trans ?_
      beta_reduce
      rw [show b.val + 8 = m by have := hb (by omega); omega]
  · rw [if_neg h1]
    refine (hx c j).trans ?_
    beta_reduce
    rw [show c.val + 8 = m by have := hc (by omega); omega]

theorem shifted1_is (hx : Is x fun i => s (i.val + 8)) (hp : Is p fun i => s i.val) : Is (shifted 1#32 x p) fun i => s (i.val + 7) := by
  intro i j
  have e := shift_pick (i := i) hx hp 1 (i.val + 7) (by omega) (by omega) (by omega) j ⟨(i.val + 8 - 1) % 8, by omega⟩ ⟨(i.val + 256 - 1) % 256, by omega⟩ ⟨(8 + (i.val - 8) + 256 - 1) % 256, by omega⟩
    (fun _ => by show (i.val + 8 - 1) % 8 = _; omega) (fun _ => by show (i.val + 256 - 1) % 256 = _; omega) (fun _ => by show (8 + (i.val - 8) + 256 - 1) % 256 = _; omega)
  rw [← slt_word i 1 (by omega)] at e
  refine Eq.trans ?_ e
  pointwise [shifted]
  rfl
theorem shifted2_is (hx : Is x fun i => s (i.val + 8)) (hp : Is p fun i => s i.val) : Is (shifted 2#32 x p) fun i => s (i.val + 6) := by
  intro i j
  have e := shift_pick (i := i) hx hp 2 (i.val + 6) (by omega) (by omega) (by omega) j ⟨(i.val + 8 - 2) % 8, by omega⟩ ⟨(i.val + 256 - 2) % 256, by omega⟩ ⟨(8 + (i.val - 8) + 256 - 2) % 256, by omega⟩
    (fun _ => by show (i.val + 8 - 2) % 8 = _; omega) (fun _ => by show (i.val + 256 - 2) % 256 = _; omega) (fun _ => by show (8 + (i.val - 8) + 256 - 2) % 256 = _; omega)
  rw [← slt_word i 2 (by omega)] at e
  refine Eq.trans ?_ e
  pointwise [shifted]
  rfl
theorem shifted3_is (hx : Is x fun i => s (i.val + 8)) (hp : Is p fun i => s i.val) : Is (shifted 3#32 x p) fun i => s (i.val + 5) := by
  intro i j
  have e := shift_pick (i := i) hx hp 3 (i.val + 5) (by omega) (by omega) (by omega) j ⟨(i.val + 8 - 3) % 8, by omega⟩ ⟨(i.val + 256 - 3) % 256, by omega⟩ ⟨(8 + (i.val - 8) + 256 - 3) % 256, by omega⟩
    (fun _ => by show (i.val + 8 - 3) % 8 = _; omega) (fun _ => by show (i.val + 256 - 3) % 256 = _; omega) (fun _ => by show (8 + (i.val - 8) + 256 - 3) % 256 = _; omega)
  rw [← slt_word i 3 (by omega)] at e
  refine Eq.trans ?_ e
  pointwise [shifted]
  rfl

/-- The taps hold the reals `w`. -/
def Taps (w : FVec Ideal S1x1x8x1024 .f32) (wr : Fin 4 → Fin 1024 → ℝ) : Prop :=
  ∀ (t : Fin 4) (c : Fin 1024), w (ix4 0 0 ⟨t.val, by omega⟩ c) = ((wr t c : ℝ) : EReal)

variable {w : FVec Ideal S1x1x8x1024 .f32} {wr : Fin 4 → Fin 1024 → ℝ}

theorem conv_is (hx : Is x fun i => s (i.val + 8)) (hp : Is p fun i => s i.val) (hw : Taps w wr) : Is (conv x p w) fun i => cvr s wr i.val := by
  intro i j
  have h3 : w (ix4 0 0 3 j) = _ := hw 3 j
  have h2 : w (ix4 0 0 2 j) = _ := hw 2 j
  have h1 : w (ix4 0 0 1 j) = _ := hw 1 j
  have h0 : w (ix4 0 0 0 j) = _ := hw 0 j
  pointwise [conv, taps]
  rw [hx i j, shifted1_is hx hp i j, shifted2_is hx hp i j, shifted3_is hx hp i j, h3, h2, h1, h0,
    ← EReal.coe_mul, ← EReal.coe_mul, ← EReal.coe_mul, ← EReal.coe_mul, ← EReal.coe_add, ← EReal.coe_add, ← EReal.coe_add]
  rfl

theorem convOut_is {x : FVec Ideal S256x1024 .bf16} (hx : Is x fun i => s (i.val + 8)) (hp : Is p fun i => s i.val) (hw : Taps w wr) :
    Is (convOut x p w) fun i c => silu (cvr s wr i.val c) := by
  intro i j
  pointwise [convOut]
  rw [conv_is (x := extf .f32 x bitsLt_bf16_f32) hx hp hw i j, lgst_eq, ← EReal.coe_mul]
  rfl

theorem halo_is {x : FVec Ideal S256x1024 .bf16} (hx : Is x fun i => s (i.val + 8)) : Is (halo x) fun i => s (256 + i.val) := by
  intro i j
  have e : x (ix2 ⟨248 + i.val, by omega⟩ j) = _ := hx _ j
  pointwise [halo]
  refine e.trans ?_
  show ((s (248 + i.val + 8) j : ℝ) : EReal) = _
  rw [show 248 + i.val + 8 = 256 + i.val by omega]

end Conv

/-! ## The gates -/

section Gates

variable {gt : FVec Ideal S256x128 .f32} {dtrow arow : FVec Ideal S1x1x128 .f32} {γ : ℕ → Fin 128 → ℝ} (hgt : Is gt fun i => γ i.val)

include hgt in
theorem betaAll_is : Is (betaAll gt) fun i c => lgst (γ i.val c) := by
  intro i j
  pointwise [betaAll]
  rw [hgt i j, lgst_eq]

/-- A token's log decay. -/
def lgr (a d x : ℝ) : ℝ := -a * splus (x + d)

include hgt in
theorem logDecay_col {a d : ℝ} (j : Fin 128) (ha : arow (ix3 0 0 j) = ((a : ℝ) : EReal)) (hd : dtrow (ix3 0 0 j) = ((d : ℝ) : EReal)) (i : Fin 256) :
    logDecay gt dtrow arow (ix2 i j) = ((lgr a d (γ i.val j) : ℝ) : EReal) := by
  pointwise [logDecay, negA]
  rw [ha, hd, hgt i j, ← EReal.coe_add, splus_eq, zero_sub, ← EReal.coe_neg, ← EReal.coe_mul, lgr]

theorem maskSum_col {m : IVec S256x256 1} {x : FVec Ideal S256x128 .f32} {f : Fin 256 → ℝ} (j : Fin 128)
    (hx : ∀ i, x (ix2 i j) = ((f i : ℝ) : EReal)) {P : Fin 256 → Fin 256 → Prop} [∀ i k, Decidable (P i k)]
    (hm : ∀ i k, m (ix2 i k) = if P i k then 1#1 else 0#1) (i : Fin 256) :
    maskSum (maskMat m) x (ix2 i j) = ((∑ k, (if P i k then f k else 0) : ℝ) : EReal) := by
  have e0 : ∀ k, maskMat (F := Ideal) m (ix2 i k) = (((if P i k then 1 else 0 : ℝ)) : EReal) := by
    intro k
    pointwise [maskMat]
    rw [hm i k]
    by_cases h : P i k
    · rw [if_pos h, if_pos h]; exact EReal.coe_one.symm
    · rw [if_neg h, if_neg h]; exact EReal.coe_zero.symm
  have e1 : ∀ k, x (ix2 k j) - x (ix2 k j) = 0 := by
    intro k; rw [hx k, ← EReal.coe_sub, sub_self, EReal.coe_zero]
  pointwise [maskSum, rest, hi]
  simp only [e1, sub_zero, mul_zero, sum_const_zero, add_zero]
  rw [coe_sum]
  refine sum_congr rfl fun k _ => ?_
  rw [e0 k, hx k, ← EReal.coe_mul]
  by_cases h : P i k
  · rw [if_pos h, if_pos h, one_mul]
  · rw [if_neg h, if_neg h, zero_mul]

include hgt in
theorem gcAll_col {a d : ℝ} (j : Fin 128) (ha : arow (ix3 0 0 j) = ((a : ℝ) : EReal)) (hd : dtrow (ix3 0 0 j) = ((d : ℝ) : EReal)) (i : Fin 256) :
    gcAll gt dtrow arow (ix2 i j) = ((csum (fun n => lgr a d (γ n j)) i.val : ℝ) : EReal) := by
  rw [gcAll, maskSum_col (P := Le) j (logDecay_col hgt j ha hd) incl_apply i, csum, cum]
  congr 1
  refine sum_chunk ⟨i.val / 64, by omega⟩ (i.val % 64 + 1) (by omega) _ _ ?_ ?_
  · intro x hx hm
    have hx' : x.val / 64 = i.val / 64 := hx
    rw [if_pos ⟨by omega, by omega⟩, show 64 * (i.val / 64) + x.val % 64 = x.val by omega]
  · intro x hx
    exact if_neg fun h => hx ⟨h.1.symm, by have := h.1; have := h.2; omega⟩

include hgt in
theorem gendAll_col {a d : ℝ} (j : Fin 128) (ha : arow (ix3 0 0 j) = ((a : ℝ) : EReal)) (hd : dtrow (ix3 0 0 j) = ((d : ℝ) : EReal)) (i : Fin 256) :
    gendAll gt dtrow arow (ix2 i j) = ((cend (fun n => lgr a d (γ n j)) i.val : ℝ) : EReal) := by
  rw [gendAll, maskSum_col (P := fun i k => i.val / 64 = k.val / 64) j (logDecay_col hgt j ha hd) same_apply i, cend, cum]
  congr 1
  refine sum_chunk ⟨i.val / 64, by omega⟩ 64 (by omega) _ _ ?_ ?_
  · intro x hx hm
    have hx' : x.val / 64 = i.val / 64 := hx
    rw [if_pos (by omega), show 64 * (i.val / 64) + x.val % 64 = x.val by omega]
  · intro x hx
    exact if_neg fun h => hx ⟨h.symm, by omega⟩

/-- The columns of a head's gates. -/
abbrev colB (r : Fin 8) : Fin 128 := ⟨r.val, by omega⟩
abbrev colG (r : Fin 8) : Fin 128 := ⟨8 + r.val, by omega⟩

include hgt in
/-- A head's arrays, from its blocks. -/
theorem dat_holds (r : Fin 8) {q k v : FVec Ideal S256x128 .f32} {qr kr vr : ℕ → Fin 128 → ℝ} (hq : Is q fun i => qr i.val) (hk : Is k fun i => kr i.val)
    (hv : Is v fun i => vr i.val) {a d : ℝ} (ha : arow (ix3 0 0 (colG r)) = ((a : ℝ) : EReal)) (hd : dtrow (ix3 0 0 (colG r)) = ((d : ℝ) : EReal)) :
    Holds (datOf r q k v gt dtrow arow) qr kr vr (fun n => lgr a d (γ n (colG r))) (fun n => lgst (γ n (colB r))) where
  q := hq
  k := hk
  v := hv
  b := by
    intro i j
    have e := betaAll_is hgt i (colB r)
    pointwise [datOf]
    exact e
  gc := by
    intro i j
    have e := gcAll_col hgt (colG r) ha hd i
    pointwise [datOf]
    exact e
  ge := by
    intro i j
    have e := gendAll_col hgt (colG r) ha hd i
    pointwise [datOf]
    exact e
  gr := by
    intro i j
    have e := gcAll_col hgt (colG r) ha hd j
    pointwise [datOf]
    exact e

end Gates

/-! ## The gated reads -/

/-- A read normalised, scaled and gated. -/
def gate (o nw : Fin 128 → ℝ) (z : ℝ) (e : Fin 128) : ℝ := o e * (√((∑ d, o d * o d) / 128 + εr))⁻¹ * nw e * silu z

theorem rsqrt_mean (f : Fin 128 → ℝ) (c : EReal) (hc : c = ((∑ d, f d * f d : ℝ) : EReal)) :
    Ideal.rsqrt (Ideal.div c (Ideal.ofBits .f32 0x43000000#32) + Ideal.ofBits .f32 0x358637BD#32) = (((√((∑ d, f d * f d) / 128 + εr))⁻¹ : ℝ) : EReal) := by
  rw [hc, eps_eq, c128_eq, Ideal.div_coe (by norm_num), ← EReal.coe_mul, ← EReal.coe_add, mul_one_div,
    rsqrt_pos _ (add_pos_of_nonneg_of_pos (div_nonneg (sum_nonneg fun d _ => mul_self_nonneg _) (by norm_num)) eps_pos)]

theorem gated_is {o : FVec Ideal S64x128 .f32} {nw : FVec Ideal S1x128 .f32} {z : FVec Ideal S64x128 .bf16} {f h : Fin 64 → Fin 128 → ℝ} {g : Fin 128 → ℝ}
    (ho : Is o f) (hn : Is nw fun _ => g) (hz : Is z h) : Is (gated o nw z) fun n e => gate (f n) g (h n e) e := by
  intro n e
  pointwise [gated]
  rw [ho n e, hn 0 e, hz n e, lgst_eq, ← EReal.coe_mul,
    rsqrt_mean (f n) _ (by rw [coe_sum]; exact sum_congr rfl fun d _ => by rw [ho n d, ← EReal.coe_mul]),
    ← EReal.coe_mul, ← EReal.coe_mul, ← EReal.coe_mul]
  rfl

end Cert.KernelIdeal.Head
-- ==== Proof.Cases.lean ====
module

public import proofs.«01_k».proof.Proof.Pieces
public import proofs.«01_k».proof.Proof.Block
public import Idealize.ShloMosaic.Lib.Pipeline.ValueKit

@[expose] public section

set_option maxRecDepth 16384

/-!
# What a grid point leaves, at the reals

A block's inputs as arrays of reals, and the entries of what the body leaves in the output block, in the
three convolved blocks' buffers and in the states, in each case of the body's one test.
-/

noncomputable section

namespace Cert.KernelIdeal.Head

open Idealize.ShloMosaic Idealize.ShloMosaic.TcCoe Idealize.ShloMosaic.Pointwise Idealize.SL Idealize.SL.Sem
open Cert.KernelIdeal Cert.KernelIdeal.Gen Cert.Delta

/-- A head's column. -/
abbrev col (r : Fin 8) (d : Fin 128) : Fin 1024 := ⟨128 * r.val + d.val, by omega⟩

/-! ## The stores read back -/

section Canon

variable {F : FTy → Type} [FloatOps F]

theorem canon_body (x : FVec F S256x1024 .bf16) (p : FVec F S8x1024 .f32) (w : FVec F S1x1x8x1024 .f32)
    (tl : List (View.Piece (Elt F) S264x1024 .f32)) (n : Fin 256) (j : Fin 1024) (y : S264x1024.Idx)
    (h0 : (y 0).val = 8 + n.val) (h1 : (y 1).val = j.val) : View.canon (scr x p w tl) y = convOut x p w (ix2 n j) := by
  have e : y = rBody.emb (ix2 n j) := by
    funext a
    apply Fin.ext
    match a with
    | ⟨0, _⟩ => show (y 0).val = 8 + 1 * n.val; omega
    | ⟨1, _⟩ => show (y 1).val = 0 + 1 * j.val; omega
  unfold scr
  rw [View.canon_cons_of_not_mem _ _ (by
    rw [Rect.mem_set_unit]
    intro h
    have h2 : (y 0).val < 0 + 8 := (h 0).2
    omega), e]
  exact View.canon_cons_emb rBody _ _ _

theorem canon_halo (x : FVec F S256x1024 .bf16) (p : FVec F S8x1024 .f32) (w : FVec F S1x1x8x1024 .f32)
    (tl : List (View.Piece (Elt F) S264x1024 .f32)) (n : Fin 8) (j : Fin 1024) (y : S264x1024.Idx)
    (h0 : (y 0).val = n.val) (h1 : (y 1).val = j.val) : View.canon (scr x p w tl) y = halo x (ix2 n j) := by
  have e : y = rHalo.emb (ix2 n j) := by
    funext a
    apply Fin.ext
    match a with
    | ⟨0, _⟩ => show (y 0).val = 0 + 1 * n.val; omega
    | ⟨1, _⟩ => show (y 1).val = 0 + 1 * j.val; omega
  rw [e]
  exact View.canon_cons_emb rHalo _ _ _

namespace Ins

variable (I : Ins F)

theorem canon_outs (ci : Fin 4) (r : Fin 8) (n : Fin 64) (e : Fin 128) :
    View.canon I.outs (ix2 (at64 ci n) (col r e)) = I.out ci r (ix2 n e) := by
  have hall : ∀ p ∈ I.outs, ∃ ci r, p = I.po ci r := by
    intro p hp
    simp only [outs, List.mem_cons, List.not_mem_nil, or_false] at hp
    repeat' first | exact ⟨_, _, hp⟩ | rcases hp with hp | hp
  have hmem : ∀ ci r, I.po ci r ∈ I.outs := by
    intro ci r
    fin_cases ci <;> fin_cases r <;> simp [outs]
  refine (View.canon_apply_of_pieces (fun y => I.out ⟨(y 0).val / 64, by have : (y 0).val < 256 := (y 0).isLt; omega⟩
    ⟨(y 1).val / 128, by have : (y 1).val < 1024 := (y 1).isLt; omega⟩
    (ix2 ⟨(y 0).val % 64, by omega⟩ ⟨(y 1).val % 128, by omega⟩)) I.outs ?_ _ ?_).trans ?_
  · intro p hp x
    obtain ⟨ci', r', rfl⟩ := hall p hp
    have hx0 : (x 0).val < 64 := (x 0).isLt
    have hx1 : (x 1).val < 128 := (x 1).isLt
    have e0 : ((rOut ci' r').emb x 0).val = 64 * ci'.val + 1 * (x 0).val := rfl
    have e1 : ((rOut ci' r').emb x 1).val = 128 * r'.val + 1 * (x 1).val := rfl
    have a0 : (⟨((rOut ci' r').emb x 0).val / 64, by omega⟩ : Fin 4) = ci' := Fin.ext (by show _ / 64 = _; omega)
    have a1 : (⟨((rOut ci' r').emb x 1).val / 128, by omega⟩ : Fin 8) = r' := Fin.ext (by show _ / 128 = _; omega)
    have a2 : (ix2 ⟨((rOut ci' r').emb x 0).val % 64, by omega⟩ ⟨((rOut ci' r').emb x 1).val % 128, by omega⟩ : S64x128.Idx) = x := by
      funext a
      apply Fin.ext
      match a with
      | ⟨0, _⟩ => show _ % 64 = _; rw [e0]; show _ = (x 0).val; omega
      | ⟨1, _⟩ => show _ % 128 = _; rw [e1]; show _ = (x 1).val; omega
    exact (congr (congrArg₂ I.out a0 a1) a2).symm
  · refine ⟨_, hmem ci r, ?_⟩
    show _ ∈ (rOut ci r).set
    rw [Rect.mem_set_unit]
    intro a
    match a with
    | ⟨0, _⟩ => show 64 * ci.val ≤ 64 * ci.val + n.val ∧ 64 * ci.val + n.val < 64 * ci.val + 64; omega
    | ⟨1, _⟩ => show 128 * r.val ≤ 128 * r.val + e.val ∧ 128 * r.val + e.val < 128 * r.val + 128; omega
  · have a0 : (⟨(64 * ci.val + n.val) / 64, by omega⟩ : Fin 4) = ci := Fin.ext (by show _ / 64 = _; omega)
    have a1 : (⟨(128 * r.val + e.val) / 128, by omega⟩ : Fin 8) = r := Fin.ext (by show _ / 128 = _; omega)
    have a2 : (⟨(64 * ci.val + n.val) % 64, by omega⟩ : Fin 64) = n := Fin.ext (by show _ % 64 = _; omega)
    have a3 : (⟨(128 * r.val + e.val) % 128, by omega⟩ : Fin 128) = e := Fin.ext (by show _ % 128 = _; omega)
    show I.out ⟨(64 * ci.val + n.val) / 64, _⟩ ⟨(128 * r.val + e.val) / 128, _⟩ (ix2 ⟨(64 * ci.val + n.val) % 64, _⟩ ⟨(128 * r.val + e.val) % 128, _⟩) = _
    rw [a0, a1, a2, a3]

theorem canon_ps (r' r : Fin 8) (d e : Fin 128) (tl : List (View.Piece (Elt F) S8x128x128 .f32)) :
    View.canon (I.ps r' :: tl) (ix3 r d e) = if r = r' then (I.dat r).stEnd (I.st r) (ix3 0 d e) else View.canon tl (ix3 r d e) := by
  by_cases h : r = r'
  · subst h
    rw [if_pos rfl]
    have e : (ix3 r d e : S8x128x128.Idx) = (rSt r).emb (ix3 0 d e) := by
      funext a
      apply Fin.ext
      match a with
      | ⟨0, _⟩ => show r.val = r.val + 1 * 0; omega
      | ⟨1, _⟩ => show d.val = 0 + 1 * d.val; omega
      | ⟨2, _⟩ => show e.val = 0 + 1 * e.val; omega
    rw [e]
    exact View.canon_cons_emb (rSt r) _ _ _
  · rw [if_neg h]
    refine View.canon_cons_of_not_mem _ _ ?_
    show _ ∉ (rSt r').set
    rw [Rect.mem_set_unit]
    intro h2
    have h3 : r'.val ≤ r.val ∧ r.val < r'.val + 1 := h2 0
    exact h (Fin.ext (by omega))

theorem canon_sts (r : Fin 8) (d e : Fin 128) (tl : List (View.Piece (Elt F) S8x128x128 .f32)) :
    View.canon (I.sts tl) (ix3 r d e) = (I.dat r).stEnd (I.st r) (ix3 0 d e) := by
  unfold sts
  simp only [canon_ps]
  have h : r = 7 ∨ r = 6 ∨ r = 5 ∨ r = 4 ∨ r = 3 ∨ r = 2 ∨ r = 1 ∨ r = 0 := by revert r; decide
  split_ifs <;> first | rfl | (exfalso; simp_all)

end Ins

end Canon

/-! ## A block's reals -/

/-- A block's numbers: the padded rows of the three convolved inputs, the taps, the weighting input, the gates,
    the heads' decay rates and offsets, and the output norm's weights. -/
structure Data where
  s : Fin 3 → ℕ → Fin 1024 → ℝ
  w : Fin 3 → Fin 4 → Fin 1024 → ℝ
  z : ℕ → Fin 1024 → ℝ
  γ : ℕ → Fin 128 → ℝ
  a : Fin 8 → ℝ
  d : Fin 8 → ℝ
  nw : Fin 128 → ℝ

namespace Data

variable (D : Data)

/-- A head's convolved inputs, log decays and write strengths, token by token. -/
def cv (j : Fin 3) (r : Fin 8) (n : ℕ) (d : Fin 128) : ℝ := silu (cvr (D.s j) (D.w j) n (col r d))
def g (r : Fin 8) (n : ℕ) : ℝ := lgr (D.a r) (D.d r) (D.γ n (colG r))
def β (r : Fin 8) (n : ℕ) : ℝ := lgst (D.γ n (colB r))

/-- A head's state after a number of tokens, a token's read of it, and the output. -/
def st (r : Fin 8) (T : Fin 128 → Fin 128 → ℝ) (n : ℕ) : Fin 128 → Fin 128 → ℝ :=
  tok (un (D.cv 1 r)) (D.cv 2 r) (D.g r) (D.β r) T n
def rd (r : Fin 8) (T : Fin 128 → Fin 128 → ℝ) (n : ℕ) (e : Fin 128) : ℝ := ∑ d, qs (D.cv 0 r) n d * D.st r T (n + 1) d e
def out (r : Fin 8) (T : Fin 128 → Fin 128 → ℝ) (n : ℕ) (e : Fin 128) : ℝ := gate (D.rd r T n) D.nw (D.z n (col r e)) e

end Data

/-- The body's reads hold a block's numbers. -/
structure Ins.Of (I : Ins Ideal) (D : Data) (T : Fin 8 → Fin 128 → Fin 128 → ℝ) : Prop where
  q : ∀ r, Is (I.q r) fun n d => D.cv 0 r n.val d
  k : ∀ r, Is (I.k r) fun n d => D.cv 1 r n.val d
  v : ∀ r, Is (I.v r) fun n d => D.cv 2 r n.val d
  z : ∀ ci r, Is (I.z ci r) fun n e => D.z (64 * ci.val + n.val) (col r e)
  gt : Is I.gt fun n j => D.γ n.val j
  arow : ∀ r, I.arow (ix3 0 0 (colG r)) = ((D.a r : ℝ) : EReal)
  dtrow : ∀ r, I.dtrow (ix3 0 0 (colG r)) = ((D.d r : ℝ) : EReal)
  nw : Is I.nw fun _ => D.nw
  st : ∀ r, Is1 (I.st r) (T r)

namespace Ins.Of

variable {I : Ins Ideal} {D : Data} {T : Fin 8 → Fin 128 → Fin 128 → ℝ} (h : I.Of D T)

include h

theorem holds (r : Fin 8) : Holds (I.dat r) (D.cv 0 r) (D.cv 1 r) (D.cv 2 r) (D.g r) (D.β r) :=
  dat_holds h.gt r (h.q r) (h.k r) (h.v r) (h.arow r) (h.dtrow r)

theorem out_is (ci : Fin 4) (r : Fin 8) : Is (I.out ci r) fun n e => D.out r (T r) (64 * ci.val + n.val) e :=
  gated_is (read_is (h.holds r) (h.st r) ci) h.nw (h.z ci r)

theorem st_is (r : Fin 8) : Is1 ((I.dat r).stEnd (I.st r)) (D.st r (T r) 256) := stEnd_is (h.holds r) (h.st r)

end Ins.Of

/-- A point's nine input blocks hold a block's numbers. -/
structure Blk (x0 x1 x2 x3 : Vec Ideal S256x1024 .bf16) (x4 : Vec Ideal S256x128 .f32) (x5 : Vec Ideal S3x1x8x1024 .f32)
    (x6 x7 : Vec Ideal S1x1x128 .f32) (x8 : Vec Ideal S1x128 .f32) (D : Data) : Prop where
  q : Is x0 fun n c => D.s 0 (n.val + 8) c
  k : Is x1 fun n c => D.s 1 (n.val + 8) c
  v : Is x2 fun n c => D.s 2 (n.val + 8) c
  z : Is x3 fun n c => D.z n.val c
  gt : Is x4 fun n j => D.γ n.val j
  w : ∀ (j : Fin 3) (t : Fin 4) (c : Fin 1024), x5 (ix4 j 0 ⟨t.val, by omega⟩ c) = ((D.w j t c : ℝ) : EReal)
  arow : ∀ r, x6 (ix3 0 0 (colG r)) = ((D.a r : ℝ) : EReal)
  dtrow : ∀ r, x7 (ix3 0 0 (colG r)) = ((D.d r : ℝ) : EReal)
  nw : Is x8 fun _ => D.nw

section Case

variable (c : Dev nD) (i : grid0.Coords)
  (arg3 : Memref sig .tc .vmem S256x1024 .bf16) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x128 .f32) (harg7 : arg7.IsWhole)
  (arg8 : Memref sig .tc .vmem S3x1x8x1024 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S1x128 .f32) (harg11 : arg11.IsWhole)
  (arg12 : Memref sig .tc .vmem S256x1024 .bf16) (harg12 : arg12.IsWhole)
  (arg13 : Memref sig .tc .vmem S264x1024 .f32) (harg13 : arg13.IsWhole)
  (arg14 : Memref sig .tc .vmem S264x1024 .f32) (harg14 : arg14.IsWhole)
  (arg15 : Memref sig .tc .vmem S264x1024 .f32) (harg15 : arg15.IsWhole)
  (arg16 : Memref sig .tc .vmem S8x128x128 .f32) (harg16 : arg16.IsWhole)
  (x0 : Vec Ideal S256x1024 .bf16) (x1 : Vec Ideal S256x1024 .bf16) (x2 : Vec Ideal S256x1024 .bf16) (x3 : Vec Ideal S256x1024 .bf16) (x4 : Vec Ideal S256x128 .f32) (x5 : Vec Ideal S3x1x8x1024 .f32) (x6 : Vec Ideal S1x1x128 .f32) (x7 : Vec Ideal S1x1x128 .f32) (x8 : Vec Ideal S1x128 .f32)
  (xs0 : Vec Ideal S264x1024 .f32) (xs1 : Vec Ideal S264x1024 .f32) (xs2 : Vec Ideal S264x1024 .f32) (xs3 : Vec Ideal S8x128x128 .f32)

theorem read_X (M : Memref sig .tc .vmem S256x1024 .bf16) (hM : M.IsWhole) (x : Vec Ideal S256x1024 .bf16) :
    M.view.readAt (Elt Ideal) rX.toLoadRect (hM.unread x) = x := by
  rw [View.readAt_eq_ld, hM.read_unread]
  exact View.ld_unit_lit _ x (by decide)

theorem read_taps {D : Data} (hw : ∀ (j : Fin 3) (t : Fin 4) (c : Fin 1024), x5 (ix4 j 0 ⟨t.val, by omega⟩ c) = ((D.w j t c : ℝ) : EReal)) (j : Fin 3) :
    Taps (arg8.view.readAt (Elt Ideal) (rTap j).toLoadRect (harg8.unread x5)) (D.w j) := by
  intro t c
  rw [View.readAt_eq_ld, harg8.read_unread, ← hw j t c]
  refine View.ld_unit_apply_of x5 _ _ _ _ _ fun a => ?_
  match a with
  | ⟨0, _⟩ => show j.val = j.val + 0; omega
  | ⟨1, _⟩ => rfl
  | ⟨2, _⟩ => show t.val = 0 + t.val; omega
  | ⟨3, _⟩ => show c.val = 0 + c.val; omega

theorem readCov_scr (M : Memref sig .tc .vmem S264x1024 .f32) {x : Vec Ideal S256x1024 .bf16} {p : FVec Ideal S8x1024 .f32} {w : FVec Ideal S1x1x8x1024 .f32}
    {s : ℕ → Fin 1024 → ℝ} {wr : Fin 4 → Fin 1024 → ℝ} (hx : Is x fun n c => s (n.val + 8) c) (hp : Is p fun n c => s n.val c) (hw : Taps w wr)
    (tl : List (View.Piece (Elt Ideal) S264x1024 .f32)) (r : Fin 8) :
    Is (View.readCov (Val := Elt Ideal) M.view (scr (F := Ideal) x p w tl) (rScr r).toLoadRect) fun n d => silu (cvr s wr n.val (col r d)) := by
  intro n d
  have e := convOut_is hx hp hw n (col r d)
  rw [View.readCov_eq_canon']
  beta_reduce
  refine Eq.trans ?_ e
  refine canon_body (F := Ideal) x p w tl n (col r d) _ ?_ ?_
  · show 8 + 1 * n.val = _; omega
  · show 128 * r.val + 1 * d.val = 128 * r.val + d.val; omega

variable {D : Data} {T : Fin 8 → Fin 128 → Fin 128 → ℝ}

theorem ins_of (hb : Blk x0 x1 x2 x3 x4 x5 x6 x7 x8 D) {p0 p1 p2 : FVec Ideal S8x1024 .f32}
    (h0 : Is p0 fun n c => D.s 0 n.val c) (h1 : Is p1 fun n c => D.s 1 n.val c) (h2 : Is p2 fun n c => D.s 2 n.val c)
    (t0 t1 t2 : List (View.Piece (Elt Ideal) S264x1024 .f32)) {st : Fin 8 → FVec Ideal S1x128x128 .f32} (hs : ∀ r, Is1 (st r) (T r)) :
    (ins arg6 harg6 arg7 harg7 arg9 harg9 arg10 harg10 arg11 harg11 arg13 arg14 arg15 x3 x4 x6 x7 x8
      (scr0 arg3 harg3 arg8 harg8 x0 x5 p0 t0) (scr1 arg4 harg4 arg8 harg8 x1 x5 p1 t1) (scr2 arg5 harg5 arg8 harg8 x2 x5 p2 t2) st).Of D T where
  q r := by
    unfold scr0
    rw [read_X]
    exact readCov_scr arg13 hb.q h0 (read_taps arg8 harg8 x5 hb.w 0) t0 r
  k r := by
    unfold scr1
    rw [read_X]
    exact readCov_scr arg14 hb.k h1 (read_taps arg8 harg8 x5 hb.w 1) t1 r
  v r := by
    unfold scr2
    rw [read_X]
    exact readCov_scr arg15 hb.v h2 (read_taps arg8 harg8 x5 hb.w 2) t2 r
  z ci r := by
    intro n e
    refine Eq.trans ?_ (hb.z (at64 ci n) (col r e))
    show arg6.view.readAt (Elt Ideal) (rOut ci r).toLoadRect (harg6.unread x3) (ix2 n e) = _
    rw [View.readAt_eq_ld, harg6.read_unread]
    exact View.ld_unit_apply_of x3 _ _ _ _ _ fun a => match a with
      | ⟨0, _⟩ => rfl
      | ⟨1, _⟩ => rfl
  gt := by
    have e : arg7.view.readAt (Elt Ideal) (Rect.unit ![0, 0] S256x128.size inb_S256x128_S256x128_0_0).toLoadRect (harg7.unread x4) = x4 := by
      rw [View.readAt_eq_ld, harg7.read_unread]
      exact View.ld_unit_lit _ x4 (by decide)
    show Is (arg7.view.readAt (Elt Ideal) (Rect.unit ![0, 0] S256x128.size inb_S256x128_S256x128_0_0).toLoadRect (harg7.unread x4)) _
    rw [e]
    exact hb.gt
  arow r := by
    have e : arg9.view.readAt (Elt Ideal) (Rect.unit ![0, 0, 0] S1x1x128.size inb_S1x1x128_S1x1x128_0_0_0).toLoadRect (harg9.unread x6) = x6 := by
      rw [View.readAt_eq_ld, harg9.read_unread]
      exact View.ld_unit_lit _ x6 (by decide)
    exact (congrFun e _).trans (hb.arow r)
  dtrow r := by
    have e : arg10.view.readAt (Elt Ideal) (Rect.unit ![0, 0, 0] S1x1x128.size inb_S1x1x128_S1x1x128_0_0_0).toLoadRect (harg10.unread x7) = x7 := by
      rw [View.readAt_eq_ld, harg10.read_unread]
      exact View.ld_unit_lit _ x7 (by decide)
    exact (congrFun e _).trans (hb.dtrow r)
  nw := by
    have e : arg11.view.readAt (Elt Ideal) (Rect.unit ![0, 0] S1x128.size inb_S1x128_S1x128_0_0).toLoadRect (harg11.unread x8) = x8 := by
      rw [View.readAt_eq_ld, harg11.read_unread]
      exact View.ld_unit_lit _ x8 (by decide)
    show Is (arg11.view.readAt (Elt Ideal) (Rect.unit ![0, 0] S1x128.size inb_S1x128_S1x128_0_0).toLoadRect (harg11.unread x8)) _
    rw [e]
    exact hb.nw
  st := hs

theorem canon_halo_is {x : Vec Ideal S256x1024 .bf16} {s : ℕ → Fin 1024 → ℝ} (hx : Is x fun n c => s (n.val + 8) c) (p : FVec Ideal S8x1024 .f32)
    (w : FVec Ideal S1x1x8x1024 .f32) (tl : List (View.Piece (Elt Ideal) S264x1024 .f32)) (n : Fin 8) (c : Fin 1024) :
    View.canon (scr (F := Ideal) x p w tl) (ix2 (⟨n.val, by omega⟩ : Fin 264) c) = ((s (256 + n.val) c : ℝ) : EReal) := by
  have e : halo (F := Ideal) x (ix2 n c) = ((s (256 + n.val) c : ℝ) : EReal) := halo_is hx n c
  refine Eq.trans ?_ e
  refine canon_halo (F := Ideal) x p w tl n c _ ?_ ?_
  · rfl
  · rfl

/-! ### Later blocks -/

section B

variable (hc0 : ¬cond0_0 i)

/-- What the buffers held: the rows before the block's, and the states. -/
structure Prev (xs0 xs1 xs2 : Vec Ideal S264x1024 .f32) (xs3 : Vec Ideal S8x128x128 .f32) (s : Fin 3 → ℕ → Fin 1024 → ℝ)
    (T : Fin 8 → Fin 128 → Fin 128 → ℝ) : Prop where
  q : ∀ (n : Fin 8) (c : Fin 1024), xs0 (ix2 (⟨n.val, by omega⟩ : Fin 264) c) = ((s 0 n.val c : ℝ) : EReal)
  k : ∀ (n : Fin 8) (c : Fin 1024), xs1 (ix2 (⟨n.val, by omega⟩ : Fin 264) c) = ((s 1 n.val c : ℝ) : EReal)
  v : ∀ (n : Fin 8) (c : Fin 1024), xs2 (ix2 (⟨n.val, by omega⟩ : Fin 264) c) = ((s 2 n.val c : ℝ) : EReal)
  st : ∀ (r : Fin 8) (d e : Fin 128), xs3 (ix3 r d e) = ((T r d e : ℝ) : EReal)

theorem read_halo (M : Memref sig .tc .vmem S264x1024 .f32) (hM : M.IsWhole) (x : Vec Ideal S264x1024 .f32) {s : ℕ → Fin 1024 → ℝ}
    (h : ∀ (n : Fin 8) (c : Fin 1024), x (ix2 (⟨n.val, by omega⟩ : Fin 264) c) = ((s n.val c : ℝ) : EReal)) :
    Is (M.view.readAt (Elt Ideal) rHalo.toLoadRect (hM.unread x)) fun n c => s n.val c := by
  intro n c
  rw [View.readAt_eq_ld, hM.read_unread]
  refine Eq.trans ?_ (h n c)
  exact View.ld_unit_apply_of x _ _ _ _ _ fun a => match a with
    | ⟨0, _⟩ => (Nat.zero_add _).symm
    | ⟨1, _⟩ => (Nat.zero_add _).symm

theorem insB_of (hb : Blk x0 x1 x2 x3 x4 x5 x6 x7 x8 D) (hp : Prev xs0 xs1 xs2 xs3 D.s T) :
    (insB arg3 harg3 arg4 harg4 arg5 harg5 arg6 harg6 arg7 harg7 arg8 harg8 arg9 harg9 arg10 harg10 arg11 harg11 arg13 harg13 arg14 harg14 arg15 harg15 arg16 harg16 x0 x1 x2 x3 x4 x5 x6 x7 x8 xs0 xs1 xs2 xs3).Of D T :=
  ins_of arg3 harg3 arg4 harg4 arg5 harg5 arg6 harg6 arg7 harg7 arg8 harg8 arg9 harg9 arg10 harg10 arg11 harg11 arg13 arg14 arg15 x0 x1 x2 x3 x4 x5 x6 x7 x8 hb
    (read_halo arg13 harg13 xs0 hp.q) (read_halo arg14 harg14 xs1 hp.k) (read_halo arg15 harg15 xs2 hp.v) [] [] [] fun r d e => by
      rw [View.readAt_eq_ld, harg16.read_unread]
      refine Eq.trans ?_ (hp.st r d e)
      exact View.ld_unit_apply_of xs3 _ _ _ _ _ fun a => match a with
        | ⟨0, _⟩ => rfl
        | ⟨1, _⟩ => (Nat.zero_add _).symm
        | ⟨2, _⟩ => (Nat.zero_add _).symm

theorem outB_is (hb : Blk x0 x1 x2 x3 x4 x5 x6 x7 x8 D) (hp : Prev xs0 xs1 xs2 xs3 D.s T) (ci : Fin 4) (r : Fin 8) (n : Fin 64) (e : Fin 128) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 (ix2 (at64 ci n) (col r e)) = ((D.out r (T r) (64 * ci.val + n.val) e : ℝ) : EReal) := by
  unfold out0_B_9
  rw [View.read_writes_junk_apply_eq_canon, outs_B, Ins.canon_outs]
  exact (insB_of arg3 harg3 arg4 harg4 arg5 harg5 arg6 harg6 arg7 harg7 arg8 harg8 arg9 harg9 arg10 harg10 arg11 harg11 arg13 harg13 arg14 harg14 arg15 harg15 arg16 harg16 x0 x1 x2 x3 x4 x5 x6 x7 x8 xs0 xs1 xs2 xs3 hb hp).out_is ci r n e

theorem prevB_is (hb : Blk x0 x1 x2 x3 x4 x5 x6 x7 x8 D) (hp : Prev xs0 xs1 xs2 xs3 D.s T) :
    Prev (sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3) (sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3) (sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3) (sout0_B_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3) (fun j n => D.s j (256 + n)) (fun r => D.st r (T r) 256) where
  q n c := by
    unfold sout0_B_0
    rw [View.read_writes_junk_apply_eq_canon, scr0_B, q0B, scr0, read_X]
    exact canon_halo_is hb.q _ _ _ n c
  k n c := by
    unfold sout0_B_1
    rw [View.read_writes_junk_apply_eq_canon, scr1_B, q1B, scr1, read_X]
    exact canon_halo_is hb.k _ _ _ n c
  v n c := by
    unfold sout0_B_2
    rw [View.read_writes_junk_apply_eq_canon, scr2_B, q2B, scr2, read_X]
    exact canon_halo_is hb.v _ _ _ n c
  st r d e := by
    unfold sout0_B_3
    rw [View.read_writes_junk_apply_eq_canon, sts_B, Ins.canon_sts]
    exact (insB_of arg3 harg3 arg4 harg4 arg5 harg5 arg6 harg6 arg7 harg7 arg8 harg8 arg9 harg9 arg10 harg10 arg11 harg11 arg13 harg13 arg14 harg14 arg15 harg15 arg16 harg16 x0 x1 x2 x3 x4 x5 x6 x7 x8 xs0 xs1 xs2 xs3 hb hp).st_is r d e

end B

/-! ### First blocks -/

section A

variable (hc0 : cond0_0 i)

theorem insA_of (hb : Blk x0 x1 x2 x3 x4 x5 x6 x7 x8 D) (hz : ∀ j, ∀ n < 8, ∀ c, D.s j n c = 0) (hT : ∀ r d e, T r d e = 0) :
    (insA arg3 harg3 arg4 harg4 arg5 harg5 arg6 harg6 arg7 harg7 arg8 harg8 arg9 harg9 arg10 harg10 arg11 harg11 arg13 arg14 arg15 arg16 x0 x1 x2 x3 x4 x5 x6 x7 x8).Of D T := by
  have hh : ∀ (M : Memref sig .tc .vmem S264x1024 .f32) (p : FVec Ideal S8x1024 .f32) (j : Fin 3), (∀ n c, p (ix2 n c) = 0) →
      Is (View.readCov (Val := Elt Ideal) M.view (hal p) rHalo.toLoadRect) fun n c => D.s j n.val c := by
    intro M p j hp n c
    rw [View.readCov_eq_canon']
    beta_reduce
    refine Eq.trans (b := p (ix2 n c)) ?_ ((hp n c).trans ?_)
    · exact View.canon_cons_emb (Val := Elt Ideal) (e := .f32) rHalo p [] (ix2 n c)
    rw [hz j n.val n.isLt c]
    rfl
  refine ins_of arg3 harg3 arg4 harg4 arg5 harg5 arg6 harg6 arg7 harg7 arg8 harg8 arg9 harg9 arg10 harg10 arg11 harg11 arg13 arg14 arg15 x0 x1 x2 x3 x4 x5 x6 x7 x8 hb
    (hh arg13 k0_pay8 0 ?_) (hh arg14 k0_pay9 1 ?_) (hh arg15 k0_pay10 2 ?_) (hal k0_pay8) (hal k0_pay9) (hal k0_pay10) fun r d e => ?_
  · intro n c; pointwise [k0_pay8, k0_pay7]
  · intro n c; pointwise [k0_pay9, k0_pay7]
  · intro n c; pointwise [k0_pay10, k0_pay7]
  · have e0 : k0_pay11 (F := Ideal) (ix3 r d e) = 0 := by pointwise [k0_pay11]
    rw [View.readCov_eq_canon', hT]
    refine Eq.trans ?_ (e0.trans EReal.coe_zero.symm)
    show View.canon clr _ = _
    rw [View.canon_cons_unit_lit _ _ _ (by decide)]
    refine congrArg _ (funext fun a => Fin.ext ?_)
    match a with
    | ⟨0, _⟩ => show r.val + 1 * 0 = r.val; omega
    | ⟨1, _⟩ => show 0 + 1 * d.val = d.val; omega
    | ⟨2, _⟩ => show 0 + 1 * e.val = e.val; omega

theorem outA_is (hb : Blk x0 x1 x2 x3 x4 x5 x6 x7 x8 D) (hz : ∀ j, ∀ n < 8, ∀ c, D.s j n c = 0) (hT : ∀ r d e, T r d e = 0) (ci : Fin 4) (r : Fin 8) (n : Fin 64) (e : Fin 128) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 (at64 ci n) (col r e)) = ((D.out r (T r) (64 * ci.val + n.val) e : ℝ) : EReal) := by
  unfold out0_A_9
  rw [View.read_writes_junk_apply_eq_canon, outs_A, Ins.canon_outs]
  exact (insA_of arg3 harg3 arg4 harg4 arg5 harg5 arg6 harg6 arg7 harg7 arg8 harg8 arg9 harg9 arg10 harg10 arg11 harg11 arg13 arg14 arg15 arg16 x0 x1 x2 x3 x4 x5 x6 x7 x8 hb hz hT).out_is ci r n e

theorem prevA_is (hb : Blk x0 x1 x2 x3 x4 x5 x6 x7 x8 D) (hz : ∀ j, ∀ n < 8, ∀ c, D.s j n c = 0) (hT : ∀ r d e, T r d e = 0) :
    Prev (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (sout0_A_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (fun j n => D.s j (256 + n)) (fun r => D.st r (T r) 256) where
  q n c := by
    unfold sout0_A_0
    rw [View.read_writes_junk_apply_eq_canon, scr0_A, q0A, scr0, read_X]
    exact canon_halo_is hb.q _ _ _ n c
  k n c := by
    unfold sout0_A_1
    rw [View.read_writes_junk_apply_eq_canon, scr1_A, q1A, scr1, read_X]
    exact canon_halo_is hb.k _ _ _ n c
  v n c := by
    unfold sout0_A_2
    rw [View.read_writes_junk_apply_eq_canon, scr2_A, q2A, scr2, read_X]
    exact canon_halo_is hb.v _ _ _ n c
  st r d e := by
    unfold sout0_A_3
    rw [View.read_writes_junk_apply_eq_canon, sts_A, Ins.canon_sts]
    exact (insA_of arg3 harg3 arg4 harg4 arg5 harg5 arg6 harg6 arg7 harg7 arg8 harg8 arg9 harg9 arg10 harg10 arg11 harg11 arg13 arg14 arg15 arg16 x0 x1 x2 x3 x4 x5 x6 x7 x8 hb hz hT).st_is r d e

end A

end Case

end Cert.KernelIdeal.Head
-- ==== Proof.Point.lean ====
module

public import proofs.«01_k».proof.Proof.Gen.KernelIdeal.Value
public import proofs.«01_k».proof.Proof.Cases
public import Idealize.ShloMosaic.Lib.StableHlo.RunClose
public import Idealize.ShloMosaic.Lib.Routing.OpsOrder

@[expose] public section

set_option maxRecDepth 16384

/-!
# The arguments as reals, and a grid point's input blocks
-/

noncomputable section

namespace Cert.KernelIdeal.Head

open Idealize.ShloMosaic Idealize.ShloMosaic.TcCoe Idealize.ShloMosaic.Pointwise Idealize.SL Idealize.SL.Sem
open Cert.KernelIdeal Cert.KernelIdeal.Gen Cert.Delta

/-- The arguments' numbers: the projections, the gates, the taps, the decay rates' logarithms, the offsets and the
    output norm's weights. -/
structure Nums where
  P : ℕ → ℕ → ℝ
  G : ℕ → ℕ → ℝ
  W : Fin 4 → ℕ → ℝ
  A : Fin 8 → ℝ
  E : Fin 8 → ℝ
  N : Fin 128 → ℝ

/-- The arguments hold them. -/
structure Nums.Of (X : Nums) (a0 : FVec Ideal S32768x4608 .bf16) (a1 : FVec Ideal S32768x128 .f32) (a2 : FVec Ideal S4x3072 .f32)
    (a3 a4 : FVec Ideal S8 .f32) (a5 : FVec Ideal S128 .f32) : Prop where
  p : Is a0 fun i j => X.P i.val j.val
  g : Is a1 fun i j => X.G i.val j.val
  w : Is a2 fun t j => X.W t j.val
  a : ∀ r, a3 (ix1 r) = ((X.A r : ℝ) : EReal)
  e : ∀ r, a4 (ix1 r) = ((X.E r : ℝ) : EReal)
  n : ∀ j, a5 (ix1 j) = ((X.N j : ℝ) : EReal)

/-- A sequence's numbers: eight rows of zeros, then the sequence's rows. -/
def Nums.seq (X : Nums) (b : ℕ) : Data where
  s j m c := if m < 8 then 0 else X.P (4096 * b + (m - 8)) (1024 * j.val + c.val)
  w j t c := X.W t (1024 * j.val + c.val)
  z n c := X.P (4096 * b + n) (3072 + c.val)
  γ n j := X.G (4096 * b + n) j.val
  a r := Real.exp (X.A r)
  d := X.E
  nw := X.N

/-- An entry of the output. -/
def Nums.out (X : Nums) (b n : ℕ) (r : Fin 8) (e : Fin 128) : ℝ := (X.seq b).out r (fun _ _ => 0) n e

namespace Data

variable (D : Data)

/-- The numbers from a token on. -/
def from' (k : ℕ) : Data where
  s j m := D.s j (k + m)
  w := D.w
  z n := D.z (k + n)
  γ n := D.γ (k + n)
  a := D.a
  d := D.d
  nw := D.nw

theorem from_cv (k : ℕ) (j : Fin 3) (r : Fin 8) : (D.from' k).cv j r = fun n => D.cv j r (k + n) := rfl
theorem from_g (k : ℕ) (r : Fin 8) : (D.from' k).g r = fun n => D.g r (k + n) := rfl
theorem from_β (k : ℕ) (r : Fin 8) : (D.from' k).β r = fun n => D.β r (k + n) := rfl

theorem from_st (k : ℕ) (r : Fin 8) (T : Fin 128 → Fin 128 → ℝ) (n : ℕ) : (D.from' k).st r (D.st r T k) n = D.st r T (k + n) := by
  unfold st
  rw [tok_add]
  rfl

theorem from_rd (k : ℕ) (r : Fin 8) (T : Fin 128 → Fin 128 → ℝ) (n : ℕ) : (D.from' k).rd r (D.st r T k) n = D.rd r T (k + n) := by
  funext e
  unfold rd
  rw [from_st]
  rfl

theorem from_out (k : ℕ) (r : Fin 8) (T : Fin 128 → Fin 128 → ℝ) (n : ℕ) (e : Fin 128) : (D.from' k).out r (D.st r T k) n e = D.out r T (k + n) e := by
  unfold out
  rw [from_rd]
  rfl

end Data

/-! ## The input blocks -/

section Blocks

variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 1 := (by decide +kernel : ∀ t : Fin grid0.N, _)
theorem idx2 : ∀ t : Fin cfg0.N, win0_2.index t (0 : Fin 2) = t.val ∧ win0_2.index t (1 : Fin 2) = 2 := (by decide +kernel : ∀ t : Fin grid0.N, _)
theorem idx3 : ∀ t : Fin cfg0.N, win0_3.index t (0 : Fin 2) = t.val ∧ win0_3.index t (1 : Fin 2) = 3 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, ∀ a : Fin 4, win0_5.index t a = 0 := (by decide +kernel : ∀ t : Fin grid0.N, _)
theorem idx6 : ∀ t : Fin cfg0.N, ∀ a : Fin 3, win0_6.index t a = 0 := (by decide +kernel : ∀ t : Fin grid0.N, _)
theorem idx7 : ∀ t : Fin cfg0.N, ∀ a : Fin 3, win0_7.index t a = 0 := (by decide +kernel : ∀ t : Fin grid0.N, _)
theorem idx8 : ∀ t : Fin cfg0.N, ∀ a : Fin 2, win0_8.index t a = 0 := (by decide +kernel : ∀ t : Fin grid0.N, _)

theorem row_lt (t : Fin cfg0.N) (n : Fin 256) : 256 * t.val + n.val < 32768 := by
  have := lt_of_lt_of_eq t.isLt (show cfg0.N = 128 from N_0)
  omega

theorem X0_apply (t : Fin cfg0.N) (n : Fin 256) (j : Fin 1024) :
    X0_0 m c t (ix2 n j) = m ((c : Thread nD τ).loc main_arg0) (ix2 ⟨256 * t.val + n.val, row_lt t n⟩ ⟨j.val, by omega⟩) := by
  unfold X0_0 Pipeline.Window.fill
  rw [dif_pos (moved0_0 t _)]
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 256 + 1 * n.val = 256 * t.val + n.val; rw [e0]; omega
  | ⟨1, _⟩ => show win0_0.index t (1 : Fin 2) * 1024 + 1 * j.val = j.val; rw [e1]; omega

theorem X1_apply (t : Fin cfg0.N) (n : Fin 256) (j : Fin 1024) :
    X0_1 m c t (ix2 n j) = m ((c : Thread nD τ).loc main_arg0) (ix2 ⟨256 * t.val + n.val, row_lt t n⟩ ⟨1024 + j.val, by omega⟩) := by
  unfold X0_1 Pipeline.Window.fill
  rw [dif_pos (moved0_1 t _)]
  unfold iblk
  rw [View.read_apply]
  show V m c main_arg0 _ = _
  rw [V_main_arg0]
  obtain ⟨e0, e1⟩ := idx1 t
  refine congrArg (m ((c : Thread nD τ).loc main_arg0)) (funext fun a => Fin.ext ?_)
  match a with
  | ⟨0, _⟩ => show win0_1.index t (0 : Fin 2) * 256 + 1 * n.val = 256 * t.val + n.val; rw [e0]; omega
  | ⟨1, _⟩ => show win0_1.index t (1 : Fin 2) * 1024 + 1 * j.val = 1024 + j.val; rw [e1]; omega

theorem X2_apply (t : Fin cfg0.N) (n : Fin 256) (j : Fin 1024) :
    X0_2 m c t (ix2 n j) = m ((c : Thread nD τ).loc main_arg0) (ix2 ⟨256 * t.val + n.val, row_lt t n⟩ ⟨2048 + j.val, by omega⟩) := by
  unfold X0_2 Pipeline.Window.fill
  rw [dif_pos (moved0_2 t _)]
  unfold iblk
  rw [View.read_apply]
  show V m c main_arg0 _ = _
  rw [V_main_arg0]
  obtain ⟨e0, e1⟩ := idx2 t
  refine congrArg (m ((c : Thread nD τ).loc main_arg0)) (funext fun a => Fin.ext ?_)
  match a with
  | ⟨0, _⟩ => show win0_2.index t (0 : Fin 2) * 256 + 1 * n.val = 256 * t.val + n.val; rw [e0]; omega
  | ⟨1, _⟩ => show win0_2.index t (1 : Fin 2) * 1024 + 1 * j.val = 2048 + j.val; rw [e1]; omega

theorem X3_apply (t : Fin cfg0.N) (n : Fin 256) (j : Fin 1024) :
    X0_3 m c t (ix2 n j) = m ((c : Thread nD τ).loc main_arg0) (ix2 ⟨256 * t.val + n.val, row_lt t n⟩ ⟨3072 + j.val, by omega⟩) := by
  unfold X0_3 Pipeline.Window.fill
  rw [dif_pos (moved0_3 t _)]
  unfold iblk
  rw [View.read_apply]
  show V m c main_arg0 _ = _
  rw [V_main_arg0]
  obtain ⟨e0, e1⟩ := idx3 t
  refine congrArg (m ((c : Thread nD τ).loc main_arg0)) (funext fun a => Fin.ext ?_)
  match a with
  | ⟨0, _⟩ => show win0_3.index t (0 : Fin 2) * 256 + 1 * n.val = 256 * t.val + n.val; rw [e0]; omega
  | ⟨1, _⟩ => show win0_3.index t (1 : Fin 2) * 1024 + 1 * j.val = 3072 + j.val; rw [e1]; omega

theorem blk4_apply (t : Fin cfg0.N) (n : Fin 256) (j : Fin 128) :
    iblk m c 4 t (ix2 n j) = m ((c : Thread nD τ).loc main_arg1) (ix2 ⟨256 * t.val + n.val, row_lt t n⟩ j) := by
  unfold iblk
  rw [View.read_apply]
  show V m c main_arg1 _ = _
  rw [V_main_arg1]
  obtain ⟨e0, e1⟩ := idx4 t
  refine congrArg (m ((c : Thread nD τ).loc main_arg1)) (funext fun a => Fin.ext ?_)
  match a with
  | ⟨0, _⟩ => show win0_4.index t (0 : Fin 2) * 256 + 1 * n.val = 256 * t.val + n.val; rw [e0]; omega
  | ⟨1, _⟩ => show win0_4.index t (1 : Fin 2) * 128 + 1 * j.val = j.val; rw [e1]; omega

theorem blk5_eq (t : Fin cfg0.N) (y : S3x1x8x1024.Idx) : iblk m c 5 t y = V m c main_v15 y := by
  unfold iblk
  rw [View.read_apply]
  show V m c main_v15 _ = _
  have e := idx5 t
  refine congrArg (V m c main_v15) (funext fun a => Fin.ext ?_)
  match a with
  | ⟨0, _⟩ => show win0_5.index t (0 : Fin 4) * 3 + 1 * (y 0).val = (y 0).val; rw [e 0]; omega
  | ⟨1, _⟩ => show win0_5.index t (1 : Fin 4) * 1 + 1 * (y 1).val = (y 1).val; rw [e 1]; omega
  | ⟨2, _⟩ => show win0_5.index t (2 : Fin 4) * 8 + 1 * (y 2).val = (y 2).val; rw [e 2]; omega
  | ⟨3, _⟩ => show win0_5.index t (3 : Fin 4) * 1024 + 1 * (y 3).val = (y 3).val; rw [e 3]; omega

theorem blk6_eq (t : Fin cfg0.N) (y : S1x1x128.Idx) : iblk m c 6 t y = V m c main_v6 y := by
  unfold iblk
  rw [View.read_apply]
  show V m c main_v6 _ = _
  have e := idx6 t
  refine congrArg (V m c main_v6) (funext fun a => Fin.ext ?_)
  match a with
  | ⟨0, _⟩ => show win0_6.index t (0 : Fin 3) * 1 + 1 * (y 0).val = (y 0).val; rw [e 0]; omega
  | ⟨1, _⟩ => show win0_6.index t (1 : Fin 3) * 1 + 1 * (y 1).val = (y 1).val; rw [e 1]; omega
  | ⟨2, _⟩ => show win0_6.index t (2 : Fin 3) * 128 + 1 * (y 2).val = (y 2).val; rw [e 2]; omega

theorem blk7_eq (t : Fin cfg0.N) (y : S1x1x128.Idx) : iblk m c 7 t y = V m c main_v12 y := by
  unfold iblk
  rw [View.read_apply]
  show V m c main_v12 _ = _
  have e := idx7 t
  refine congrArg (V m c main_v12) (funext fun a => Fin.ext ?_)
  match a with
  | ⟨0, _⟩ => show win0_7.index t (0 : Fin 3) * 1 + 1 * (y 0).val = (y 0).val; rw [e 0]; omega
  | ⟨1, _⟩ => show win0_7.index t (1 : Fin 3) * 1 + 1 * (y 1).val = (y 1).val; rw [e 1]; omega
  | ⟨2, _⟩ => show win0_7.index t (2 : Fin 3) * 128 + 1 * (y 2).val = (y 2).val; rw [e 2]; omega

theorem blk8_eq (t : Fin cfg0.N) (y : S1x128.Idx) : iblk m c 8 t y = V m c main_v16 y := by
  unfold iblk
  rw [View.read_apply]
  show V m c main_v16 _ = _
  have e := idx8 t
  refine congrArg (V m c main_v16) (funext fun a => Fin.ext ?_)
  match a with
  | ⟨0, _⟩ => show win0_8.index t (0 : Fin 2) * 1 + 1 * (y 0).val = (y 0).val; rw [e 0]; omega
  | ⟨1, _⟩ => show win0_8.index t (1 : Fin 2) * 128 + 1 * (y 1).val = (y 1).val; rw [e 1]; omega

/-- The heads' row: eight numbers written at the lanes from eight on. -/
def headRow (f : FVec Ideal S8 .f32) : FVec Ideal S1x1x128 .f32 :=
  Host.scatter scatter_S1x1x128_S2_S1x8_01_1_12_0 (fun _ b => b) (broadcastInDim S1x1x128 ![] bcast_S_S1x1x128 (constant S_ .f32 0x00000000#32))
    (concatenate S2 0 [⟨S1, broadcastInDim S1 ![] bcast_S_S1 (constantI S_ 32 0#32)⟩, ⟨S1, broadcastInDim S1 ![] bcast_S_S1 (constantI S_ 32 8#32)⟩] concatenates_S1_S1_S2_d0)
    (shapeCast S1x8 f shapeCasts_S8_S1x8)

theorem fold_pick {α : Type} (f : Fin 8 → α) (x : α) (r : Fin 8) : (List.finRange 8).foldl (fun a n => if n = r then f n else a) x = f r := by
  fin_cases r <;> rfl

theorem lands : ∀ n : Fin 8, scatter_S1x1x128_S2_S1x8_01_1_12_0.resultIdx? (S1x8.rowMajor.symm n)
    (concatenate S2 0 [⟨S1, broadcastInDim S1 ![] bcast_S_S1 (constantI S_ 32 0#32)⟩, ⟨S1, broadcastInDim S1 ![] bcast_S_S1 (constantI S_ 32 8#32)⟩] concatenates_S1_S1_S2_d0)
      = some (ix3 0 0 (colG n)) := by decide +kernel
theorem lane_val : ∀ n : Fin 8, (S1x8.rowMajor.symm n (0 : Fin 2)).val = 0 ∧ (S1x8.rowMajor.symm n (1 : Fin 2)).val = n.val := by decide +kernel
theorem lane_of (n : Fin 8) : (S1x8.rowMajor.symm n : S1x8.Idx) = ix2 (0 : Fin 1) n := by
  funext a
  match a with
  | ⟨0, _⟩ => exact Fin.ext (lane_val n).1
  | ⟨1, _⟩ => exact Fin.ext (lane_val n).2

theorem headRow_apply (f : FVec Ideal S8 .f32) (r : Fin 8) : headRow f (ix3 0 0 (colG r)) = f (ix1 r) := by
  unfold headRow
  rw [← Routing.scatterIn_finRange, Routing.scatterIn_at]
  have h : ∀ n : Fin 8, (scatter_S1x1x128_S2_S1x8_01_1_12_0.resultIdx? (S1x8.rowMajor.symm n)
    (concatenate S2 0 [⟨S1, broadcastInDim S1 ![] bcast_S_S1 (constantI S_ 32 0#32)⟩, ⟨S1, broadcastInDim S1 ![] bcast_S_S1 (constantI S_ 32 8#32)⟩] concatenates_S1_S1_S2_d0)
      = some (ix3 0 0 (colG r))) ↔ n = r := by
    intro n
    rw [lands n]
    constructor
    · intro e
      have e2 : colG n = colG r := congrFun (Option.some.inj e) 2
      have e3 : 8 + n.val = 8 + r.val := congrArg Fin.val e2
      exact Fin.ext (by omega)
    · rintro rfl; rfl
  have h2 : ∀ n : Fin 8, shapeCast S1x8 f shapeCasts_S8_S1x8 (S1x8.rowMajor.symm n) = f (ix1 n) := by
    intro n
    rw [lane_of n]
    pointwise []
  let x0 : EReal := broadcastInDim S1x1x128 ![] bcast_S_S1x1x128 (constant (F := Ideal) S_ .f32 0x00000000#32) (ix3 0 0 (colG r))
  refine Eq.trans (b := (List.finRange 8).foldl (fun (a : EReal) n => if n = r then f (ix1 n) else a) x0) ?_ (fold_pick (α := EReal) (fun n => f (ix1 n)) x0 r)
  refine congrArg (fun st : EReal → Fin 8 → EReal => List.foldl st x0 (List.finRange 8)) (funext fun a => funext fun n => ?_)
  by_cases hn : n = r
  · exact (if_pos ((h n).mpr hn)).trans ((h2 n).trans (if_pos hn).symm)
  · exact (if_neg (fun e => hn ((h n).mp e))).trans (if_neg hn).symm

theorem v6_eq : V m c main_v6 = headRow (Host.exp (F := Ideal) (φ := .f32) (m ((c : Thread nD τ).loc main_arg3))) := by
  show StableHlo.after _ _ _ = _
  simp only [hostOps0, hostOps0_1, hostOps0_2, List.flatten_cons, List.flatten_nil, List.append_nil, List.cons_append, List.nil_append]
  after_results_simp_entrywise
  rfl

theorem v12_eq : V m c main_v12 = headRow (m ((c : Thread nD τ).loc main_arg4)) := by
  show StableHlo.after _ _ _ = _
  simp only [hostOps0, hostOps0_1, hostOps0_2, List.flatten_cons, List.flatten_nil, List.append_nil, List.cons_append, List.nil_append]
  after_results_simp_entrywise
  rfl

theorem v16_eq : V m c main_v16 = shapeCast S1x128 (m ((c : Thread nD τ).loc main_arg5)) shapeCasts_S128_S1x128 := by
  show StableHlo.after _ _ _ = _
  simp only [hostOps0, hostOps0_1, hostOps0_2, List.flatten_cons, List.flatten_nil, List.append_nil, List.cons_append, List.nil_append]
  after_results_simp_entrywise
  rfl

theorem v15_eq : V m c main_v15 = pad (s := S3x1x4x1024) S3x1x8x1024 ![0, 0, 0, 0] ![0, 0, 4, 0] ![0, 0, 0, 0]
    (transpose S3x1x4x1024 [1, 2, 0, 3] (shapeCast S4x3x1x1024 (m ((c : Thread nD τ).loc main_arg2)) shapeCasts_S4x3072_S4x3x1x1024) transposes_S4x3x1x1024_S3x1x4x1024_1_2_0_3)
    (sitofp (F := Ideal) .f32 (constantI S_ 32 0#32)) pads_S3x1x4x1024_S3x1x8x1024_000_000_040_000 h_S_ := by
  show StableHlo.after _ _ _ = _
  simp only [hostOps0, hostOps0_1, hostOps0_2, List.flatten_cons, List.flatten_nil, List.append_nil, List.cons_append, List.nil_append]
  after_results_simp_entrywise
  rfl

theorem v15_apply (j : Fin 3) (t : Fin 4) (k : Fin 1024) : V m c main_v15 (ix4 j 0 ⟨t.val, by omega⟩ k)
    = m ((c : Thread nD τ).loc main_arg2) (ix2 t ⟨1024 * j.val + k.val, by omega⟩) := by
  rw [v15_eq]
  pointwise []
  exact congrArg (fun i => m ((c : Thread nD τ).loc main_arg2) (ix2 t i)) (Fin.ext (by show j.val * 1024 + k.val = 1024 * j.val + k.val; omega))

theorem v16_apply (k : Fin 128) : V m c main_v16 (ix2 0 k) = m ((c : Thread nD τ).loc main_arg5) (ix1 k) := by
  rw [v16_eq]
  pointwise []

variable {X : Nums} (hX : X.Of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))

/-- The numbers a grid point reads. -/
def ptData (X : Nums) (n : ℕ) : Data := (X.seq (n / 16)).from' (256 * (n % 16))

theorem row_eq (n k : ℕ) : 4096 * (n / 16) + (256 * (n % 16) + k) = 256 * n + k := by omega

include hX in
/-- The blocks at a grid point hold its numbers. -/
theorem blk_at (t : Fin cfg0.N) : Blk (X0_0 m c t) (X0_1 m c t) (X0_2 m c t) (X0_3 m c t) (iblk m c 4 t) (iblk m c 5 t) (iblk m c 6 t) (iblk m c 7 t) (iblk m c 8 t)
    (ptData X t.val) where
  q n k := by
    rw [X0_apply, hX.p]
    show _ = ((if 256 * (t.val % 16) + (n.val + 8) < 8 then 0 else X.P (4096 * (t.val / 16) + (256 * (t.val % 16) + (n.val + 8) - 8)) (1024 * 0 + k.val) : ℝ) : EReal)
    rw [if_neg (by omega), show 4096 * (t.val / 16) + (256 * (t.val % 16) + (n.val + 8) - 8) = 256 * t.val + n.val by omega, show 1024 * 0 + k.val = k.val by omega]
  k n k := by
    rw [X1_apply, hX.p]
    show _ = ((if 256 * (t.val % 16) + (n.val + 8) < 8 then 0 else X.P (4096 * (t.val / 16) + (256 * (t.val % 16) + (n.val + 8) - 8)) (1024 * 1 + k.val) : ℝ) : EReal)
    rw [if_neg (by omega), show 4096 * (t.val / 16) + (256 * (t.val % 16) + (n.val + 8) - 8) = 256 * t.val + n.val by omega]
  v n k := by
    rw [X2_apply, hX.p]
    show _ = ((if 256 * (t.val % 16) + (n.val + 8) < 8 then 0 else X.P (4096 * (t.val / 16) + (256 * (t.val % 16) + (n.val + 8) - 8)) (1024 * 2 + k.val) : ℝ) : EReal)
    rw [if_neg (by omega), show 4096 * (t.val / 16) + (256 * (t.val % 16) + (n.val + 8) - 8) = 256 * t.val + n.val by omega]
  z n k := by
    rw [X3_apply, hX.p]
    show _ = ((X.P (4096 * (t.val / 16) + (256 * (t.val % 16) + n.val)) (3072 + k.val) : ℝ) : EReal)
    rw [row_eq]
  gt n k := by
    rw [blk4_apply, hX.g]
    show _ = ((X.G (4096 * (t.val / 16) + (256 * (t.val % 16) + n.val)) k.val : ℝ) : EReal)
    rw [row_eq]
  w j u k := by
    rw [blk5_eq, v15_apply, hX.w]
    rfl
  arow r := by
    rw [blk6_eq, v6_eq, headRow_apply]
    show Ideal.exp (m ((c : Thread nD τ).loc main_arg3) (ix1 r)) = _
    rw [hX.a, Ideal.exp_coe]
    rfl
  dtrow r := by
    rw [blk7_eq, v12_eq, headRow_apply]
    exact hX.e r
  nw i k := by
    have hi : i = 0 := Subsingleton.elim _ _
    subst hi
    rw [blk8_eq, v16_apply]
    exact hX.n k

end Blocks

end Cert.KernelIdeal.Head
-- ==== Proof.Left.lean ====
module

public import proofs.«01_k».proof.Proof.Point

@[expose] public section

set_option maxRecDepth 16384

/-!
# What the kernel leaves

A sequence takes sixteen grid points.  After each of them the scratch buffers hold the last eight rows of the stream and the
states, so the next point starts where it stopped, and each point's block of the output holds the rule's outputs.
-/

noncomputable section

namespace Cert.KernelIdeal.Head

open Idealize.ShloMosaic Idealize.ShloMosaic.TcCoe Idealize.ShloMosaic.Pointwise Idealize.SL Idealize.SL.Sem
open Cert.KernelIdeal Cert.KernelIdeal.Gen Cert.KernelIdeal.Value Cert.Delta

variable (m : (ℓ : Loc nD τ sig) → Buf (Elt Ideal) ℓ) (c : Dev nD)
variable {X : Nums} (hX : X.Of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))

/-- The states a grid point starts from. -/
def ptState (X : Nums) (n : ℕ) (r : Fin 8) : Fin 128 → Fin 128 → ℝ := (X.seq (n / 16)).st r (fun _ _ => 0) (256 * (n % 16))

theorem ptState_zero (X : Nums) {n : ℕ} (h : n % 16 = 0) (r : Fin 8) (d e : Fin 128) : ptState X n r d e = 0 := by
  unfold ptState
  rw [h]
  rfl

theorem pt_rows_zero (X : Nums) {n : ℕ} (h : n % 16 = 0) (j : Fin 3) : ∀ i < 8, ∀ k, (ptData X n).s j i k = 0 := by
  intro i hi k
  show (if 256 * (n % 16) + i < 8 then (0 : ℝ) else _) = 0
  rw [if_pos (by omega)]

theorem pt_rows (X : Nums) (n : ℕ) : (fun j k => (ptData X n).s j (256 + k)) = fun j k => (X.seq (n / 16)).s j (256 * (n % 16 + 1) + k) := by
  funext j k
  show (X.seq (n / 16)).s j (256 * (n % 16) + (256 + k)) = _
  rw [show 256 * (n % 16) + (256 + k) = 256 * (n % 16 + 1) + k by omega]

theorem pt_states (X : Nums) (n : ℕ) : (fun r => (ptData X n).st r (ptState X n r) 256) = fun r => (X.seq (n / 16)).st r (fun _ _ => 0) (256 * (n % 16 + 1)) := by
  funext r
  exact ((X.seq (n / 16)).from_st (256 * (n % 16)) r (fun _ _ => 0) 256)

include hX in
theorem kept_first (t : Fin cfg0.N) (h0 : t.val % 16 = 0) : Prev (outsAt0 m c t.val t.isLt).2.1 (outsAt0 m c t.val t.isLt).2.2.1 (outsAt0 m c t.val t.isLt).2.2.2.1 (outsAt0 m c t.val t.isLt).2.2.2.2
    (fun j k => (ptData X t.val).s j (256 + k)) (fun r => (ptData X t.val).st r (ptState X t.val r) 256) := by
  have h := prevA_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (X0_0 m c t) (X0_1 m c t) (X0_2 m c t) (X0_3 m c t) (iblk m c 4 t) (iblk m c 5 t) (iblk m c 6 t) (iblk m c 7 t) (iblk m c 8 t) ((hcond0_0 t).mpr h0) (blk_at m c hX t) (pt_rows_zero X h0) (ptState_zero X h0)
  rw [outsAt0_A m c t h0]
  dsimp only
  exact h

include hX in
theorem kept_next (t : Fin cfg0.N) (h0 : ¬t.val % 16 = 0)
    (hp : Prev (outsAt0 m c (t.val - 1) (by omega)).2.1 (outsAt0 m c (t.val - 1) (by omega)).2.2.1 (outsAt0 m c (t.val - 1) (by omega)).2.2.2.1 (outsAt0 m c (t.val - 1) (by omega)).2.2.2.2 (ptData X t.val).s (ptState X t.val)) :
    Prev (outsAt0 m c t.val t.isLt).2.1 (outsAt0 m c t.val t.isLt).2.2.1 (outsAt0 m c t.val t.isLt).2.2.2.1 (outsAt0 m c t.val t.isLt).2.2.2.2 (fun j k => (ptData X t.val).s j (256 + k)) (fun r => (ptData X t.val).st r (ptState X t.val r) 256) := by
  have h := prevB_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (X0_0 m c t) (X0_1 m c t) (X0_2 m c t) (X0_3 m c t) (iblk m c 4 t) (iblk m c 5 t) (iblk m c 6 t) (iblk m c 7 t) (iblk m c 8 t) (outsAt0 m c (t.val - 1) (by omega)).2.1 (outsAt0 m c (t.val - 1) (by omega)).2.2.1 (outsAt0 m c (t.val - 1) (by omega)).2.2.2.1 (outsAt0 m c (t.val - 1) (by omega)).2.2.2.2 (fun h => h0 ((hcond0_0 t).mp h)) (blk_at m c hX t) hp
  rw [outsAt0_B m c t h0]
  dsimp only
  exact h

/-- What a point leaves is what the next one of its sequence starts from. -/
theorem next_rows (X : Nums) (n : ℕ) (h : ¬(n + 1) % 16 = 0) :
    (fun j k => (X.seq (n / 16)).s j (256 * (n % 16 + 1) + k)) = (ptData X (n + 1)).s := by
  unfold ptData
  rw [show (n + 1) / 16 = n / 16 by omega, show (n + 1) % 16 = n % 16 + 1 by omega]
  rfl

theorem next_states (X : Nums) (n : ℕ) (h : ¬(n + 1) % 16 = 0) :
    (fun r => (X.seq (n / 16)).st r (fun _ _ => 0) (256 * (n % 16 + 1))) = ptState X (n + 1) := by
  funext r
  unfold ptState
  rw [show (n + 1) / 16 = n / 16 by omega, show (n + 1) % 16 = n % 16 + 1 by omega]

include hX in
/-- After a point the buffers hold what the next one starts from. -/
theorem kept : ∀ (n : ℕ) (hn : n < cfg0.N), Prev (outsAt0 m c n hn).2.1 (outsAt0 m c n hn).2.2.1 (outsAt0 m c n hn).2.2.2.1 (outsAt0 m c n hn).2.2.2.2
    (fun j k => (X.seq (n / 16)).s j (256 * (n % 16 + 1) + k)) (fun r => (X.seq (n / 16)).st r (fun _ _ => 0) (256 * (n % 16 + 1))) := by
  intro n
  induction n with
  | zero =>
    intro hn
    rw [← pt_rows, ← pt_states]
    exact kept_first m c hX ⟨0, hn⟩ rfl
  | succ n ih =>
    intro hn
    rw [← pt_rows, ← pt_states]
    by_cases h0 : (n + 1) % 16 = 0
    · exact kept_first m c hX ⟨n + 1, hn⟩ h0
    · have hp := ih (Nat.lt_of_succ_lt hn)
      rw [next_rows X n h0, next_states X n h0] at hp
      exact kept_next m c hX ⟨n + 1, hn⟩ h0 hp

theorem at64_split (k : Fin 256) : k = at64 ⟨k.val / 64, by omega⟩ ⟨k.val % 64, by omega⟩ := Fin.ext (by show k.val = 64 * (k.val / 64) + k.val % 64; omega)

theorem pt_out (X : Nums) (n k : ℕ) (r : Fin 8) (e : Fin 128) : (ptData X n).out r (ptState X n r) k e = X.out (n / 16) (256 * (n % 16) + k) r e :=
  (X.seq (n / 16)).from_out (256 * (n % 16)) r (fun _ _ => 0) k e

include hX in
theorem left_chunk (t : Fin cfg0.N) (ci : Fin 4) (n : Fin 64) (r : Fin 8) (e : Fin 128) :
    (outsAt0 m c t.val t.isLt).1 (ix2 (at64 ci n) (col r e)) = (((ptData X t.val).out r (ptState X t.val r) (64 * ci.val + n.val) e : ℝ) : EReal) := by
  by_cases h0 : t.val % 16 = 0
  · have h := outA_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (X0_0 m c t) (X0_1 m c t) (X0_2 m c t) (X0_3 m c t) (iblk m c 4 t) (iblk m c 5 t) (iblk m c 6 t) (iblk m c 7 t) (iblk m c 8 t) ((hcond0_0 t).mpr h0) (blk_at m c hX t) (pt_rows_zero X h0) (ptState_zero X h0) ci r n e
    rw [outsAt0_A m c t h0]
    dsimp only
    exact h
  · have hp := kept m c hX (t.val - 1) (by omega)
    have e1 : t.val - 1 + 1 = t.val := by omega
    have h1 : ¬(t.val - 1 + 1) % 16 = 0 := by rw [e1]; exact h0
    rw [next_rows X _ h1, next_states X _ h1, e1] at hp
    have h := outB_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (X0_0 m c t) (X0_1 m c t) (X0_2 m c t) (X0_3 m c t) (iblk m c 4 t) (iblk m c 5 t) (iblk m c 6 t) (iblk m c 7 t) (iblk m c 8 t) (outsAt0 m c (t.val - 1) (by omega)).2.1 (outsAt0 m c (t.val - 1) (by omega)).2.2.1 (outsAt0 m c (t.val - 1) (by omega)).2.2.2.1 (outsAt0 m c (t.val - 1) (by omega)).2.2.2.2 (fun h => h0 ((hcond0_0 t).mp h)) (blk_at m c hX t) hp ci r n e
    rw [outsAt0_B m c t h0]
    dsimp only
    exact h

include hX in
/-- A point's block of the output. -/
theorem left (t : Fin cfg0.N) (k : Fin 256) (r : Fin 8) (e : Fin 128) :
    (outsAt0 m c t.val t.isLt).1 (ix2 k (col r e)) = ((X.out (t.val / 16) (256 * (t.val % 16) + k.val) r e : ℝ) : EReal) := by
  rw [← pt_out, at64_split k]
  exact left_chunk m c hX t _ _ r e

include hX in
/-- The kernel's output, entry by entry. -/
theorem kernel_is (b : Fin 8) (n : Fin 4096) (r : Fin 8) (e : Fin 128) :
    G9 m c (ix2 (⟨4096 * b.val + n.val, by omega⟩ : Fin 32768) (col r e)) = ((X.out b.val n.val r e : ℝ) : EReal) := by
  have hq : pt9Of (ix2 (⟨4096 * b.val + n.val, by omega⟩ : Fin 32768) (col r e)) = 16 * b.val + n.val / 256 := by
    show 1 * ((4096 * b.val + n.val) / 256 - 0) + 1 * ((128 * r.val + e.val) / 1024 - 0) = _
    omega
  have hN : cfg0.N = 128 := N_0
  have hlt : pt9Of (ix2 (⟨4096 * b.val + n.val, by omega⟩ : Fin 32768) (col r e)) < cfg0.N := by rw [hq, hN]; omega
  unfold G9
  rw [dif_pos hlt, ← outsAt0_sweep m c _ hlt]
  have h := left m c hX ⟨_, hlt⟩ ⟨n.val % 256, by omega⟩ r e
  have el : loc9Of (ix2 (⟨4096 * b.val + n.val, by omega⟩ : Fin 32768) (col r e)) = ix2 (⟨n.val % 256, by omega⟩ : Fin 256) (col r e) := by
    funext a
    match a with
    | ⟨0, _⟩ => exact Fin.ext (show (4096 * b.val + n.val) % 256 = n.val % 256 by omega)
    | ⟨1, _⟩ => exact Fin.ext (show (128 * r.val + e.val) % 1024 = 128 * r.val + e.val by omega)
  rw [el]
  refine Eq.trans h ?_
  show ((X.out (pt9Of _ / 16) (256 * (pt9Of _ % 16) + n.val % 256) r e : ℝ) : EReal) = _
  rw [hq, show (16 * b.val + n.val / 256) / 16 = b.val by omega, show 256 * ((16 * b.val + n.val / 256) % 16) + n.val % 256 = n.val by omega]

end Cert.KernelIdeal.Head

end
end
-- ==== Proof.RefEntry.lean ====
module

public import proofs.«01_k».proof.Proof.Gen.ReferenceIdeal.Run
public import proofs.«01_k».proof.Proof.Gen.ReferenceIdeal
public import Idealize.ShloMosaic.Lib.StableHlo.RunLoop
public import Idealize.ShloMosaic.Lib.StableHlo.RunRead
public import Idealize.ShloMosaic.Lib.Pointwise

@[expose] public section

set_option maxRecDepth 16384

/-!
# What the reference's recurrence starts from, as terms of the arguments
-/

noncomputable section

namespace Cert.ReferenceIdeal.Head

open Idealize.ShloMosaic Idealize.ShloMosaic.TcCoe Idealize.ShloMosaic.StableHlo Idealize.ShloMosaic.Pointwise
open Cert.ReferenceIdeal Cert.ReferenceIdeal.Gen Cert.ReferenceIdeal.Value

/-- The projections' first columns by sequence, three rows of zeros in front of each. -/
def padded (a0 : FVec Ideal S32768x4608 .bf16) : FVec Ideal S8x4099x3072 .f32 :=
  pad S8x4099x3072 ![0, 3, 0] ![0, 0, 0] ![0, 0, 0]
    (shapeCast S8x4096x3072 (extractStridedSlice S32768x3072 ![0, 0] (extf (F := Ideal) .f32 a0 bitsLt_bf16_f32) slices_S32768x4608_S32768x3072_0_0) shapeCasts_S32768x3072_S8x4096x3072)
    (sitofp (F := Ideal) .f32 (constantI S_ 32 0#32)) pads_S8x4096x3072_S8x4099x3072_000_300_000 h_S_

def tap (w : FVec Ideal S1x3072 .f32) : FVec Ideal S8x4096x3072 .f32 :=
  broadcastInDim S8x4096x3072 ![0, 1, 2] bcast_S1x1x3072_S8x4096x3072_0_1_2 (broadcastInDim S1x1x3072 ![2] bcast_S3072_S1x1x3072_2 (shapeCast S3072 w shapeCasts_S1x3072_S3072))

/-- The causal convolution. -/
def conv (p : FVec Ideal S8x4099x3072 .f32) (a2 : FVec Ideal S4x3072 .f32) : FVec Ideal S8x4096x3072 .f32 :=
  addf (F := Ideal) (addf (F := Ideal) (addf (F := Ideal)
    (mulf (F := Ideal) (extractStridedSlice S8x4096x3072 ![0, 0, 0] p slices_S8x4099x3072_S8x4096x3072_0_0_0) (tap (extractStridedSlice S1x3072 ![0, 0] a2 slices_S4x3072_S1x3072_0_0)))
    (mulf (F := Ideal) (extractStridedSlice S8x4096x3072 ![0, 1, 0] p slices_S8x4099x3072_S8x4096x3072_0_1_0) (tap (extractStridedSlice S1x3072 ![1, 0] a2 slices_S4x3072_S1x3072_1_0))))
    (mulf (F := Ideal) (extractStridedSlice S8x4096x3072 ![0, 2, 0] p slices_S8x4099x3072_S8x4096x3072_0_2_0) (tap (extractStridedSlice S1x3072 ![2, 0] a2 slices_S4x3072_S1x3072_2_0))))
    (mulf (F := Ideal) (extractStridedSlice S8x4096x3072 ![0, 3, 0] p slices_S8x4099x3072_S8x4096x3072_0_3_0) (tap (extractStridedSlice S1x3072 ![3, 0] a2 slices_S4x3072_S1x3072_3_0)))

/-- An activation: the argument by its logistic function. -/
def act (x : FVec Ideal S8x4096x3072 .f32) : FVec Ideal S8x4096x3072 .f32 :=
  mulf (F := Ideal) x (Host.divf (F := Ideal) (broadcastInDim S8x4096x3072 ![] bcast_S_S8x4096x3072 (constant S_ .f32 0x3F800000#32))
    (addf (F := Ideal) (broadcastInDim S8x4096x3072 ![] bcast_S_S8x4096x3072 (constant S_ .f32 0x3F800000#32)) (Host.exp (F := Ideal) (Host.negf (F := Ideal) x))))

def five (y : FVec Ideal S8x4096x3072 .f32) : FVec Ideal S8x4096x3x8x128 .f32 := shapeCast S8x4096x3x8x128 y shapeCasts_S8x4096x3072_S8x4096x3x8x128
def part0 (y : FVec Ideal S8x4096x3x8x128 .f32) : FVec Ideal S8x4096x8x128 .f32 :=
  shapeCast S8x4096x8x128 (extractStridedSlice S8x4096x1x8x128 ![0, 0, 0, 0, 0] y slices_S8x4096x3x8x128_S8x4096x1x8x128_0_0_0_0_0) shapeCasts_S8x4096x1x8x128_S8x4096x8x128
def part1 (y : FVec Ideal S8x4096x3x8x128 .f32) : FVec Ideal S8x4096x8x128 .f32 :=
  shapeCast S8x4096x8x128 (extractStridedSlice S8x4096x1x8x128 ![0, 0, 1, 0, 0] y slices_S8x4096x3x8x128_S8x4096x1x8x128_0_0_1_0_0) shapeCasts_S8x4096x1x8x128_S8x4096x8x128
def part2 (y : FVec Ideal S8x4096x3x8x128 .f32) : FVec Ideal S8x4096x8x128 .f32 :=
  shapeCast S8x4096x8x128 (extractStridedSlice S8x4096x1x8x128 ![0, 0, 2, 0, 0] y slices_S8x4096x3x8x128_S8x4096x1x8x128_0_0_2_0_0) shapeCasts_S8x4096x1x8x128_S8x4096x8x128

/-- A row over its length. -/
def unit (x : FVec Ideal S8x4096x8x128 .f32) : FVec Ideal S8x4096x8x128 .f32 :=
  mulf (F := Ideal) x (broadcastInDim S8x4096x8x128 ![0, 1, 2, 3] bcast_S8x4096x8x1_S8x4096x8x128_0_1_2_3 (Host.rsqrt (F := Ideal) (addf (F := Ideal)
    (broadcastInDim S8x4096x8x1 ![0, 1, 2] bcast_S8x4096x8_S8x4096x8x1_0_1_2 (Host.reduceAdd (F := Ideal) (mulf (F := Ideal) x x) (constant S_ .f32 0x00000000#32) reducesTo_S8x4096x8x128_S8x4096x8_d3 h_S_))
    (broadcastInDim S8x4096x8x1 ![] bcast_S_S8x4096x8x1 (constant S_ .f32 0x358637BD#32)))))

def scaled (x : FVec Ideal S8x4096x8x128 .f32) : FVec Ideal S8x4096x8x128 .f32 :=
  mulf (F := Ideal) x (broadcastInDim S8x4096x8x128 ![] bcast_S_S8x4096x8x128 (constant S_ .f32 0x3DB504F3#32))

def gts (a1 : FVec Ideal S32768x128 .f32) : FVec Ideal S8x4096x128 .f32 := shapeCast S8x4096x128 a1 shapeCasts_S32768x128_S8x4096x128

/-- The logistic function of the first gates. -/
def betas (g : FVec Ideal S8x4096x128 .f32) : FVec Ideal S8x4096x8 .f32 :=
  Host.divf (F := Ideal) (broadcastInDim S8x4096x8 ![] bcast_S_S8x4096x8 (constant S_ .f32 0x3F800000#32))
    (addf (F := Ideal) (broadcastInDim S8x4096x8 ![] bcast_S_S8x4096x8 (constant S_ .f32 0x3F800000#32))
      (Host.exp (F := Ideal) (Host.negf (F := Ideal) (extractStridedSlice S8x4096x8 ![0, 0, 0] g slices_S8x4096x128_S8x4096x8_0_0_0))))

def shifted (g : FVec Ideal S8x4096x128 .f32) (a4 : FVec Ideal S8 .f32) : FVec Ideal S8x4096x8 .f32 :=
  addf (F := Ideal) (extractStridedSlice S8x4096x8 ![0, 0, 8] g slices_S8x4096x128_S8x4096x8_0_0_8)
    (broadcastInDim S8x4096x8 ![0, 1, 2] bcast_S1x1x8_S8x4096x8_0_1_2 (broadcastInDim S1x1x8 ![2] bcast_S8_S1x1x8_2 a4))

def nil8 : FVec Ideal S8x4096x8 .f32 := broadcastInDim S8x4096x8 ![] bcast_S_S8x4096x8 (constant S_ .f32 0x00000000#32)

/-- The logarithm of one plus the exponential. -/
def softplus (x : FVec Ideal S8x4096x8 .f32) : FVec Ideal S8x4096x8 .f32 :=
  select (cmpf (F := Ideal) .une (subf (F := Ideal) x nil8) (subf (F := Ideal) x nil8)) (addf (F := Ideal) x nil8)
    (addf (F := Ideal) (maximumf (F := Ideal) x nil8) (Host.log1p (F := Ideal) (Host.exp (F := Ideal) (Host.negf (F := Ideal) (Host.absf (F := Ideal) (subf (F := Ideal) x nil8))))))

/-- The decays. -/
def decays (a : FVec Ideal S8 .f32) (y : FVec Ideal S8x4096x8 .f32) : FVec Ideal S8x4096x8 .f32 :=
  Host.exp (F := Ideal) (mulf (F := Ideal) (broadcastInDim S8x4096x8 ![0, 1, 2] bcast_S1x1x8_S8x4096x8_0_1_2 (broadcastInDim S1x1x8 ![2] bcast_S8_S1x1x8_2 a)) y)

def byToken (x : FVec Ideal S8x4096x8x128 .f32) : FVec Ideal S4096x8x8x128 .f32 := transpose S4096x8x8x128 [1, 0, 2, 3] x transposes_S8x4096x8x128_S4096x8x8x128_1_0_2_3
def byToken3 (x : FVec Ideal S8x4096x8 .f32) : FVec Ideal S4096x8x8 .f32 := transpose S4096x8x8 [1, 0, 2] x transposes_S8x4096x8_S4096x8x8_1_0_2

section Segments

variable (V : Valuation τ sig (Elt Ideal))

theorem seg0_v2 : after hostOps0 V (Proc.devRef .tc main_v2) = shapeCast S8x4096x3072 (extractStridedSlice S32768x3072 ![0, 0] (extf (F := Ideal) .f32 (V (Proc.devRef .tc main_arg0)) bitsLt_bf16_f32) slices_S32768x4608_S32768x3072_0_0) shapeCasts_S32768x3072_S8x4096x3072 := by
  after_reads_simp
  rfl
theorem seg0_v3 : after hostOps0 V (Proc.devRef .tc main_v3) = gts (V (Proc.devRef .tc main_arg1)) := by
  after_reads_simp
  rfl
theorem seg0_c : after hostOps0 V (Proc.devRef .tc main_c) = constantI S_ 32 0#32 := by
  after_reads_simp
theorem seg1_v4 : after hostOps0_1 V (Proc.devRef .tc main_v4) = pad S8x4099x3072 ![0, 3, 0] ![0, 0, 0] ![0, 0, 0] (V (Proc.devRef .tc main_v2)) (sitofp (F := Ideal) .f32 (V (Proc.devRef .tc main_c))) pads_S8x4096x3072_S8x4099x3072_000_300_000 h_S_ := by
  after_reads_simp
  rfl
theorem seg2_v31 : after hostOps0_2 V (Proc.devRef .tc main_v31) = conv (V (Proc.devRef .tc main_v4)) (V (Proc.devRef .tc main_arg2)) := by
  after_reads_simp
  rfl
theorem seg3_v32 : after hostOps0_3 V (Proc.devRef .tc main_v32) = act (V (Proc.devRef .tc main_v31)) := by
  after_reads_simp
  rfl
theorem seg4_v45 : after hostOps0_4 V (Proc.devRef .tc main_v45) = scaled (unit (part0 (five (V (Proc.devRef .tc main_v32))))) := by
  after_reads_simp
  rfl
theorem seg4_v55 : after hostOps0_4 V (Proc.devRef .tc main_v55) = unit (part1 (five (V (Proc.devRef .tc main_v32)))) := by
  after_reads_simp
  rfl
theorem seg4_v57 : after hostOps0_4 V (Proc.devRef .tc main_v57) = part2 (five (V (Proc.devRef .tc main_v32))) := by
  after_reads_simp
  rfl
theorem seg4_v64 : after hostOps0_4 V (Proc.devRef .tc main_v64) = betas (V (Proc.devRef .tc main_v3)) := by
  after_reads_simp
  rfl
theorem seg4_v66 : after hostOps0_4 V (Proc.devRef .tc main_v66) = Host.negf (F := Ideal) (φ := .f32) (Host.exp (F := Ideal) (φ := .f32) (V (Proc.devRef .tc main_arg3))) := by
  after_reads_simp
theorem seg4_v70 : after hostOps0_4 V (Proc.devRef .tc main_v70) = shifted (V (Proc.devRef .tc main_v3)) (V (Proc.devRef .tc main_arg4)) := by
  after_reads_simp
  rfl
theorem seg5_v71 : after hostOps0_5 V (Proc.devRef .tc main_v71) = softplus (V (Proc.devRef .tc main_v70)) := by
  after_reads_simp
  rfl
theorem seg6_0 : after hostOps0_6 V (Proc.devRef .tc main_v83_0) = byToken (V (Proc.devRef .tc main_v45)) := by
  after_reads_simp
  rfl
theorem seg6_1 : after hostOps0_6 V (Proc.devRef .tc main_v83_1) = byToken (V (Proc.devRef .tc main_v55)) := by
  after_reads_simp
  rfl
theorem seg6_2 : after hostOps0_6 V (Proc.devRef .tc main_v83_2) = byToken (V (Proc.devRef .tc main_v57)) := by
  after_reads_simp
  rfl
theorem seg6_3 : after hostOps0_6 V (Proc.devRef .tc main_v83_3) = byToken3 (decays (V (Proc.devRef .tc main_v66)) (V (Proc.devRef .tc main_v71))) := by
  after_reads_simp
  rfl
theorem seg6_4 : after hostOps0_6 V (Proc.devRef .tc main_v83_4) = byToken3 ((V (Proc.devRef .tc main_v64))) := by
  after_reads_simp
  rfl
theorem seg6_6 : after hostOps0_6 V (Proc.devRef .tc main_v83_6) = broadcastInDim S8x8x128x128 ![] bcast_S_S8x8x128x128 (constant (F := Ideal) S_ .f32 0x00000000#32) := by
  after_reads_simp
  rfl

end Segments

theorem k0_arg2 (V : Valuation τ sig (Elt Ideal)) : after hostOps0 V (Proc.devRef .tc main_arg2) = V (Proc.devRef .tc main_arg2) :=
  after_of_writes_sub hostOps0 _ hostOps0_writes (by decide +kernel)
theorem k1_arg2 (V : Valuation τ sig (Elt Ideal)) : after hostOps0_1 V (Proc.devRef .tc main_arg2) = V (Proc.devRef .tc main_arg2) :=
  after_of_writes_sub hostOps0_1 _ hostOps0_1_writes (by decide +kernel)
theorem k1_v3 (V : Valuation τ sig (Elt Ideal)) : after hostOps0_1 V (Proc.devRef .tc main_v3) = V (Proc.devRef .tc main_v3) :=
  after_of_writes_sub hostOps0_1 _ hostOps0_1_writes (by decide +kernel)
theorem k2_v3 (V : Valuation τ sig (Elt Ideal)) : after hostOps0_2 V (Proc.devRef .tc main_v3) = V (Proc.devRef .tc main_v3) :=
  after_of_writes_sub hostOps0_2 _ hostOps0_2_writes (by decide +kernel)
theorem k3_v3 (V : Valuation τ sig (Elt Ideal)) : after hostOps0_3 V (Proc.devRef .tc main_v3) = V (Proc.devRef .tc main_v3) :=
  after_of_writes_sub hostOps0_3 _ hostOps0_3_writes (by decide +kernel)
theorem k0_arg3 (V : Valuation τ sig (Elt Ideal)) : after hostOps0 V (Proc.devRef .tc main_arg3) = V (Proc.devRef .tc main_arg3) :=
  after_of_writes_sub hostOps0 _ hostOps0_writes (by decide +kernel)
theorem k1_arg3 (V : Valuation τ sig (Elt Ideal)) : after hostOps0_1 V (Proc.devRef .tc main_arg3) = V (Proc.devRef .tc main_arg3) :=
  after_of_writes_sub hostOps0_1 _ hostOps0_1_writes (by decide +kernel)
theorem k2_arg3 (V : Valuation τ sig (Elt Ideal)) : after hostOps0_2 V (Proc.devRef .tc main_arg3) = V (Proc.devRef .tc main_arg3) :=
  after_of_writes_sub hostOps0_2 _ hostOps0_2_writes (by decide +kernel)
theorem k3_arg3 (V : Valuation τ sig (Elt Ideal)) : after hostOps0_3 V (Proc.devRef .tc main_arg3) = V (Proc.devRef .tc main_arg3) :=
  after_of_writes_sub hostOps0_3 _ hostOps0_3_writes (by decide +kernel)
theorem k0_arg4 (V : Valuation τ sig (Elt Ideal)) : after hostOps0 V (Proc.devRef .tc main_arg4) = V (Proc.devRef .tc main_arg4) :=
  after_of_writes_sub hostOps0 _ hostOps0_writes (by decide +kernel)
theorem k1_arg4 (V : Valuation τ sig (Elt Ideal)) : after hostOps0_1 V (Proc.devRef .tc main_arg4) = V (Proc.devRef .tc main_arg4) :=
  after_of_writes_sub hostOps0_1 _ hostOps0_1_writes (by decide +kernel)
theorem k2_arg4 (V : Valuation τ sig (Elt Ideal)) : after hostOps0_2 V (Proc.devRef .tc main_arg4) = V (Proc.devRef .tc main_arg4) :=
  after_of_writes_sub hostOps0_2 _ hostOps0_2_writes (by decide +kernel)
theorem k3_arg4 (V : Valuation τ sig (Elt Ideal)) : after hostOps0_3 V (Proc.devRef .tc main_arg4) = V (Proc.devRef .tc main_arg4) :=
  after_of_writes_sub hostOps0_3 _ hostOps0_3_writes (by decide +kernel)
theorem k5_v66 (V : Valuation τ sig (Elt Ideal)) : after hostOps0_5 V (Proc.devRef .tc main_v66) = V (Proc.devRef .tc main_v66) :=
  after_of_writes_sub hostOps0_5 _ hostOps0_5_writes (by decide +kernel)
theorem k5_v45 (V : Valuation τ sig (Elt Ideal)) : after hostOps0_5 V (Proc.devRef .tc main_v45) = V (Proc.devRef .tc main_v45) :=
  after_of_writes_sub hostOps0_5 _ hostOps0_5_writes (by decide +kernel)
theorem k5_v55 (V : Valuation τ sig (Elt Ideal)) : after hostOps0_5 V (Proc.devRef .tc main_v55) = V (Proc.devRef .tc main_v55) :=
  after_of_writes_sub hostOps0_5 _ hostOps0_5_writes (by decide +kernel)
theorem k5_v57 (V : Valuation τ sig (Elt Ideal)) : after hostOps0_5 V (Proc.devRef .tc main_v57) = V (Proc.devRef .tc main_v57) :=
  after_of_writes_sub hostOps0_5 _ hostOps0_5_writes (by decide +kernel)
theorem k5_v64 (V : Valuation τ sig (Elt Ideal)) : after hostOps0_5 V (Proc.devRef .tc main_v64) = V (Proc.devRef .tc main_v64) :=
  after_of_writes_sub hostOps0_5 _ hostOps0_5_writes (by decide +kernel)

variable (m : (ℓ : Loc nD τ sig) → Buf (Elt Ideal) ℓ) (c : Dev nD)

def qkv : FVec Ideal S8x4096x3x8x128 .f32 := five (act (conv (padded (m ((c : Thread nD τ).loc main_arg0))) (m ((c : Thread nD τ).loc main_arg2))))

theorem entry2 : entryContents preI m c (Proc.devRef .tc main_v83_2) = byToken (part2 (qkv m c)) := by
  unfold entryContents preI
  rw [afterL_cons, afterL_cons, afterL_cons, afterL_cons, afterL_cons, afterL_cons, afterL_cons, afterL_nil]
  rw [seg6_2, k5_v57, seg4_v57, seg3_v32, seg2_v31, seg1_v4, seg0_v2, seg0_c, k1_arg2, k0_arg2]
  rfl
theorem entry1 : entryContents preI m c (Proc.devRef .tc main_v83_1) = byToken (unit (part1 (qkv m c))) := by
  unfold entryContents preI
  rw [afterL_cons, afterL_cons, afterL_cons, afterL_cons, afterL_cons, afterL_cons, afterL_cons, afterL_nil]
  rw [seg6_1, k5_v55, seg4_v55, seg3_v32, seg2_v31, seg1_v4, seg0_v2, seg0_c, k1_arg2, k0_arg2]
  rfl
theorem entry0 : entryContents preI m c (Proc.devRef .tc main_v83_0) = byToken (scaled (unit (part0 (qkv m c)))) := by
  unfold entryContents preI
  rw [afterL_cons, afterL_cons, afterL_cons, afterL_cons, afterL_cons, afterL_cons, afterL_cons, afterL_nil]
  rw [seg6_0, k5_v45, seg4_v45, seg3_v32, seg2_v31, seg1_v4, seg0_v2, seg0_c, k1_arg2, k0_arg2]
  rfl
theorem entry4 : entryContents preI m c (Proc.devRef .tc main_v83_4) = byToken3 (betas (gts (m ((c : Thread nD τ).loc main_arg1)))) := by
  unfold entryContents preI
  rw [afterL_cons, afterL_cons, afterL_cons, afterL_cons, afterL_cons, afterL_cons, afterL_cons, afterL_nil]
  rw [seg6_4, k5_v64, seg4_v64, k3_v3, k2_v3, k1_v3, seg0_v3]
theorem entry3 : entryContents preI m c (Proc.devRef .tc main_v83_3) = byToken3 (decays (Host.negf (F := Ideal) (φ := .f32) (Host.exp (F := Ideal) (φ := .f32) (m ((c : Thread nD τ).loc main_arg3)))) (softplus (shifted (gts (m ((c : Thread nD τ).loc main_arg1))) (m ((c : Thread nD τ).loc main_arg4))))) := by
  unfold entryContents preI
  rw [afterL_cons, afterL_cons, afterL_cons, afterL_cons, afterL_cons, afterL_cons, afterL_cons, afterL_nil]
  rw [seg6_3, k5_v66, seg4_v66, seg5_v71, seg4_v70, k3_arg3, k2_arg3, k1_arg3, k0_arg3, k3_v3, k2_v3, k1_v3, seg0_v3, k3_arg4, k2_arg4, k1_arg4, k0_arg4]
theorem entry6 : entryContents preI m c (Proc.devRef .tc main_v83_6) = broadcastInDim S8x8x128x128 ![] bcast_S_S8x8x128x128 (constant (F := Ideal) S_ .f32 0x00000000#32) := by
  unfold entryContents preI
  rw [afterL_cons, afterL_cons, afterL_cons, afterL_cons, afterL_cons, afterL_cons, afterL_cons, afterL_nil]
  rw [seg6_6]
theorem entry5 : entryContents preI m c (Proc.devRef .tc main_v83_5) = fun _ => (0#32 : BitVec 32) := ctr_entry m c

end Cert.ReferenceIdeal.Head

end
end
-- ==== Proof.RefReal.lean ====
module

public import proofs.«01_k».proof.Proof.RefEntry
public import proofs.«01_k».proof.Proof.Point

@[expose] public section

set_option maxRecDepth 16384

/-!
# The reference's terms in reals
-/

noncomputable section

namespace Cert.ReferenceIdeal.Head

open Idealize.ShloMosaic Idealize.ShloMosaic.TcCoe Idealize.ShloMosaic.StableHlo Idealize.ShloMosaic.Pointwise
open Cert.ReferenceIdeal Cert.ReferenceIdeal.Gen Cert.ReferenceIdeal.Value
open Cert.KernelIdeal.Head (Nums Data silu lgst splus cvr col colB colG Is un qs rlen scl lgr gate coe_sum)

theorem padded_is {X : Nums} {a0 : FVec Ideal S32768x4608 .bf16} (h : Is a0 fun i j => X.P i.val j.val) (b : Fin 8) (i : Fin 4099) (k : Fin 3072) :
    padded a0 (ix3 b i k) = ((if i.val < 3 then 0 else X.P (4096 * b.val + (i.val - 3)) k.val : ℝ) : EReal) := by
  pointwise [padded]
  by_cases h3 : i.val < 3
  · rw [dif_neg (by omega), if_pos h3]
    show (((0#32 : BitVec 32).toInt : ℝ) : EReal) = _
    norm_num
  · rw [dif_pos (by have := i.isLt; omega), if_neg h3, h]
    show ((X.P (b.val * 4096 + (i.val - 3)) k.val : ℝ) : EReal) = ((X.P (4096 * b.val + (i.val - 3)) k.val : ℝ) : EReal)
    rw [Nat.mul_comm]

theorem conv_at (p : FVec Ideal S8x4099x3072 .f32) (a2 : FVec Ideal S4x3072 .f32) (b : Fin 8) (n : Fin 4096) (k : Fin 3072) :
    conv p a2 (ix3 b n k) = p (ix3 b ⟨n.val, by omega⟩ k) * a2 (ix2 0 k) + p (ix3 b ⟨1 + n.val, by omega⟩ k) * a2 (ix2 1 k)
      + p (ix3 b ⟨2 + n.val, by omega⟩ k) * a2 (ix2 2 k) + p (ix3 b ⟨3 + n.val, by omega⟩ k) * a2 (ix2 3 k) := by
  pointwise [conv, tap]

theorem lgst_neg (y : ℝ) : Ideal.div 1 (1 + Ideal.exp (-(y : EReal))) = ((lgst y : ℝ) : EReal) := by
  rw [← zero_sub]
  exact Cert.KernelIdeal.Head.lgst_eq y

theorem act_at (x : FVec Ideal S8x4096x3072 .f32) (b : Fin 8) (n : Fin 4096) (k : Fin 3072) {y : ℝ} (h : x (ix3 b n k) = ((y : ℝ) : EReal)) :
    act x (ix3 b n k) = ((silu y : ℝ) : EReal) := by
  pointwise [act]
  rw [h, lgst_neg, ← EReal.coe_mul]
  rfl

theorem part0_at (x : FVec Ideal S8x4096x3072 .f32) (b : Fin 8) (n : Fin 4096) (r : Fin 8) (d : Fin 128) :
    part0 (five x) (ix4 b n r d) = x (ix3 b n ⟨1024 * 0 + (col r d).val, by have := (col r d).isLt; omega⟩) := by
  pointwise [part0, five]
  exact congrArg (fun i => x (ix3 b n i)) (Fin.ext (by show r.val * 128 + d.val = 128 * r.val + d.val; omega))
theorem part1_at (x : FVec Ideal S8x4096x3072 .f32) (b : Fin 8) (n : Fin 4096) (r : Fin 8) (d : Fin 128) :
    part1 (five x) (ix4 b n r d) = x (ix3 b n ⟨1024 * 1 + (col r d).val, by have := (col r d).isLt; omega⟩) := by
  pointwise [part1, five]
  exact congrArg (fun i => x (ix3 b n i)) (Fin.ext (by show 1024 + r.val * 128 + d.val = 1024 * 1 + (128 * r.val + d.val); omega))
theorem part2_at (x : FVec Ideal S8x4096x3072 .f32) (b : Fin 8) (n : Fin 4096) (r : Fin 8) (d : Fin 128) :
    part2 (five x) (ix4 b n r d) = x (ix3 b n ⟨1024 * 2 + (col r d).val, by have := (col r d).isLt; omega⟩) := by
  pointwise [part2, five]
  exact congrArg (fun i => x (ix3 b n i)) (Fin.ext (by show 2048 + r.val * 128 + d.val = 1024 * 2 + (128 * r.val + d.val); omega))

/-- The convolved, activated streams. -/
theorem stream_is {X : Nums} {a0 : FVec Ideal S32768x4608 .bf16} {a2 : FVec Ideal S4x3072 .f32} (h : Is a0 fun i j => X.P i.val j.val)
    (hw : Is a2 fun t j => X.W t j.val) (b : Fin 8) (n : Fin 4096) (j : Fin 3) (r : Fin 8) (d : Fin 128) :
    act (conv (padded a0) a2) (ix3 b n ⟨1024 * j.val + (col r d).val, by have := (col r d).isLt; omega⟩) = (((X.seq b.val).cv j r n.val d : ℝ) : EReal) := by
  refine act_at _ b n _ ?_
  rw [conv_at, padded_is h, padded_is h, padded_is h, padded_is h, hw, hw, hw, hw]
  simp only [← EReal.coe_mul, ← EReal.coe_add]
  refine congrArg (fun y : ℝ => (y : EReal)) ?_
  show _ = (if n.val + 8 < 8 then 0 else X.P (4096 * b.val + (n.val + 8 - 8)) (1024 * j.val + (col r d).val)) * X.W 3 (1024 * j.val + (col r d).val)
    + (if n.val + 7 < 8 then 0 else X.P (4096 * b.val + (n.val + 7 - 8)) (1024 * j.val + (col r d).val)) * X.W 2 (1024 * j.val + (col r d).val)
    + (if n.val + 6 < 8 then 0 else X.P (4096 * b.val + (n.val + 6 - 8)) (1024 * j.val + (col r d).val)) * X.W 1 (1024 * j.val + (col r d).val)
    + (if n.val + 5 < 8 then 0 else X.P (4096 * b.val + (n.val + 5 - 8)) (1024 * j.val + (col r d).val)) * X.W 0 (1024 * j.val + (col r d).val)
  have e : ∀ t < 4, ∀ q : ℕ, (if t + n.val < 3 then (0 : ℝ) else X.P (4096 * b.val + (t + n.val - 3)) q)
      = if n.val + (5 + t) < 8 then 0 else X.P (4096 * b.val + (n.val + (5 + t) - 8)) q := by
    intro t ht q
    by_cases hc : t + n.val < 3
    · rw [if_pos hc, if_pos (by omega)]
    · rw [if_neg hc, if_neg (by omega), show t + n.val - 3 = n.val + (5 + t) - 8 by omega]
  have e0 := e 0 (by omega) (1024 * j.val + (col r d).val)
  rw [Nat.zero_add] at e0
  rw [e0, e 1 (by omega), e 2 (by omega), e 3 (by omega)]
  ring

theorem unit_at (x : FVec Ideal S8x4096x8x128 .f32) (b : Fin 8) (n : Fin 4096) (r : Fin 8) {f : Fin 128 → ℝ} (h : ∀ d, x (ix4 b n r d) = ((f d : ℝ) : EReal)) (d : Fin 128) :
    unit x (ix4 b n r d) = ((f d * rlen f : ℝ) : EReal) := by
  pointwise [unit]
  rw [Cert.KernelIdeal.Head.rsqrt_len f _ (by rw [coe_sum]; exact Finset.sum_congr rfl fun d _ => by rw [h d, ← EReal.coe_mul]), h d, ← EReal.coe_mul]
theorem scaled_at (x : FVec Ideal S8x4096x8x128 .f32) (b : Fin 8) (n : Fin 4096) (r : Fin 8) (d : Fin 128) {y : ℝ} (h : x (ix4 b n r d) = ((y : ℝ) : EReal)) :
    scaled x (ix4 b n r d) = ((y * scl : ℝ) : EReal) := by
  pointwise [scaled]
  rw [h, Cert.KernelIdeal.Head.scl_eq, ← EReal.coe_mul]

theorem betas_at {X : Nums} {g : FVec Ideal S32768x128 .f32} (h : Is g fun i j => X.G i.val j.val) (b : Fin 8) (n : Fin 4096) (r : Fin 8) :
    betas (gts g) (ix3 b n r) = (((X.seq b.val).β r n.val : ℝ) : EReal) := by
  pointwise [betas, gts]
  rw [h, lgst_neg]
  show ((lgst (X.G (b.val * 4096 + n.val) r.val) : ℝ) : EReal) = ((lgst (X.G (4096 * b.val + n.val) r.val) : ℝ) : EReal)
  rw [Nat.mul_comm]
theorem shifted_at {X : Nums} {g : FVec Ideal S32768x128 .f32} {a4 : FVec Ideal S8 .f32} (h : Is g fun i j => X.G i.val j.val)
    (ha : ∀ r, a4 (ix1 r) = ((X.E r : ℝ) : EReal)) (b : Fin 8) (n : Fin 4096) (r : Fin 8) :
    shifted (gts g) a4 (ix3 b n r) = ((X.G (4096 * b.val + n.val) (8 + r.val) + X.E r : ℝ) : EReal) := by
  pointwise [shifted, gts]
  rw [h, ha, ← EReal.coe_add]
  show ((X.G (b.val * 4096 + n.val) (8 + r.val) + X.E r : ℝ) : EReal) = ((X.G (4096 * b.val + n.val) (8 + r.val) + X.E r : ℝ) : EReal)
  rw [Nat.mul_comm]
theorem softplus_at (y : FVec Ideal S8x4096x8 .f32) (b : Fin 8) (n : Fin 4096) (r : Fin 8) {v : ℝ} (h : y (ix3 b n r) = ((v : ℝ) : EReal)) :
    softplus y (ix3 b n r) = ((splus v : ℝ) : EReal) := by
  pointwise [softplus, nil8]
  rw [if_neg (fun hne => hne rfl), h, ← zero_sub (FloatOps.absf (F := Ideal) (φ := .f32) (v : EReal) : EReal)]
  exact Cert.KernelIdeal.Head.splus_eq v
theorem decays_at {X : Nums} {a3 : FVec Ideal S8 .f32} (h : ∀ r, a3 (ix1 r) = ((X.A r : ℝ) : EReal)) (y : FVec Ideal S8x4096x8 .f32) (b : Fin 8) (n : Fin 4096) (r : Fin 8)
    {v : ℝ} (hy : y (ix3 b n r) = ((v : ℝ) : EReal)) :
    decays (Host.negf (F := Ideal) (φ := .f32) (Host.exp (F := Ideal) (φ := .f32) a3)) y (ix3 b n r) = ((Real.exp (-Real.exp (X.A r) * v) : ℝ) : EReal) := by
  pointwise [decays]
  rw [h, hy, Ideal.exp_coe, ← EReal.coe_neg, ← EReal.coe_mul, Ideal.exp_coe]
theorem byToken_at (y : FVec Ideal S8x4096x8x128 .f32) (b : Fin 8) (n : Fin 4096) (r : Fin 8) (d : Fin 128) :
    byToken y (ix4 n b r d) = y (ix4 b n r d) := by
  pointwise [byToken]
theorem byToken3_at (y : FVec Ideal S8x4096x8 .f32) (b : Fin 8) (n : Fin 4096) (r : Fin 8) :
    byToken3 y (ix3 n b r) = y (ix3 b n r) := by
  pointwise [byToken3]

/-- What the carried buffers hold after a number of tokens. -/
structure At (X : Nums) (V : Valuation τ sig (Elt Ideal)) (K : ℕ) : Prop where
  q : ∀ (n : Fin 4096) (b r : Fin 8) (d : Fin 128), V (Proc.devRef .tc main_v83_0) (ix4 n b r d) = ((qs ((X.seq b.val).cv 0 r) n.val d : ℝ) : EReal)
  k : ∀ (n : Fin 4096) (b r : Fin 8) (d : Fin 128), V (Proc.devRef .tc main_v83_1) (ix4 n b r d) = ((un ((X.seq b.val).cv 1 r) n.val d : ℝ) : EReal)
  v : ∀ (n : Fin 4096) (b r : Fin 8) (d : Fin 128), V (Proc.devRef .tc main_v83_2) (ix4 n b r d) = (((X.seq b.val).cv 2 r n.val d : ℝ) : EReal)
  al : ∀ (n : Fin 4096) (b r : Fin 8), V (Proc.devRef .tc main_v83_3) (ix3 n b r) = ((Real.exp ((X.seq b.val).g r n.val) : ℝ) : EReal)
  be : ∀ (n : Fin 4096) (b r : Fin 8), V (Proc.devRef .tc main_v83_4) (ix3 n b r) = (((X.seq b.val).β r n.val : ℝ) : EReal)
  ctr : V (Proc.devRef .tc main_v83_5) = fun _ => BitVec.ofNat 32 K
  st : ∀ (b r : Fin 8) (d e : Fin 128), V (Proc.devRef .tc main_v83_6) (ix4 b r d e) = (((X.seq b.val).st r (fun _ _ => 0) K d e : ℝ) : EReal)
  out : ∀ (n : Fin 4096), n.val < K → ∀ (b r : Fin 8) (e : Fin 128), V (Proc.devRef .tc main_v83_7) (ix4 n b r e) = (((X.seq b.val).rd r (fun _ _ => 0) n.val e : ℝ) : EReal)

variable (m : (ℓ : Loc nD τ sig) → Buf (Elt Ideal) ℓ) (c : Dev nD)
variable {X : Nums} (hX : X.Of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))

include hX in
/-- Before the first token. -/
theorem at_start : At X (entryContents preI m c) 0 where
  q n b r d := by
    rw [entry0]
    refine (byToken_at _ b n r d).trans (scaled_at _ b n r d (unit_at _ b n r (f := (X.seq b.val).cv 0 r n.val) (fun d => ?_) d))
    exact (part0_at _ b n r d).trans (stream_is hX.p hX.w b n 0 r d)
  k n b r d := by
    rw [entry1]
    refine (byToken_at _ b n r d).trans (unit_at _ b n r (f := (X.seq b.val).cv 1 r n.val) (fun d => ?_) d)
    exact (part1_at _ b n r d).trans (stream_is hX.p hX.w b n 1 r d)
  v n b r d := by
    rw [entry2]
    exact (byToken_at _ b n r d).trans ((part2_at _ b n r d).trans (stream_is hX.p hX.w b n 2 r d))
  al n b r := by
    rw [entry3]
    exact (byToken3_at _ b n r).trans (decays_at hX.a _ b n r (softplus_at _ b n r (shifted_at hX.g hX.e b n r)))
  be n b r := by
    rw [entry4]
    exact (byToken3_at _ b n r).trans (betas_at hX.g b n r)
  ctr := entry5 m c
  st b r d e := by
    rw [entry6]
    pointwise []
    rfl
  out n h := absurd h (Nat.not_lt_zero _)

end Cert.ReferenceIdeal.Head

end
end
-- ==== Proof.RefLoop.lean ====
module

public import proofs.«01_k».proof.Proof.RefReal
public import Idealize.ShloMosaic.Lib.WordCmp

@[expose] public section

set_option maxRecDepth 16384

/-!
# The reference's recurrence and output in reals
-/

noncomputable section

namespace Cert.ReferenceIdeal.Head

open Idealize.ShloMosaic Idealize.ShloMosaic.TcCoe Idealize.ShloMosaic.StableHlo Idealize.ShloMosaic.Pointwise
open Idealize.ShloMosaic.WordCmp
open Cert.ReferenceIdeal Cert.ReferenceIdeal.Gen Cert.ReferenceIdeal.Value
open Cert.KernelIdeal.Head (Nums Data silu lgst splus cvr col colB colG Is un qs rlen scl lgr gate coe_sum)

/-! ## A token's rows -/

theorem start4 (ctr : (⟨S_, .i32⟩ : BufTy).Contents (Elt Ideal)) (K : ℕ) (hK : K < 4096) (hc : ctr = fun _ => BitVec.ofNat 32 K) :
    ∀ a : Fin 4, (((![ctr, constantI S_ 32 0#32, constantI S_ 32 0#32, constantI S_ 32 0#32] : Fin 4 → (⟨S_, .i32⟩ : BufTy).Contents (Elt Ideal))) a (Shape.Idx.first h_S_)).toInt
      = ((![K, 0, 0, 0] : Fin 4 → ℕ) a : ℤ) := by
  intro a
  match a with
  | ⟨0, _⟩ => show (ctr (Shape.Idx.first h_S_)).toInt = (K : ℤ); rw [hc]; exact toInt_ofNat_of_lt (by omega)
  | ⟨1, _⟩ => rfl
  | ⟨2, _⟩ => rfl
  | ⟨3, _⟩ => rfl
theorem start3 (ctr : (⟨S_, .i32⟩ : BufTy).Contents (Elt Ideal)) (K : ℕ) (hK : K < 4096) (hc : ctr = fun _ => BitVec.ofNat 32 K) :
    ∀ a : Fin 3, (((![ctr, constantI S_ 32 0#32, constantI S_ 32 0#32] : Fin 3 → (⟨S_, .i32⟩ : BufTy).Contents (Elt Ideal))) a (Shape.Idx.first h_S_)).toInt
      = ((![K, 0, 0] : Fin 3 → ℕ) a : ℤ) := by
  intro a
  match a with
  | ⟨0, _⟩ => show (ctr (Shape.Idx.first h_S_)).toInt = (K : ℤ); rw [hc]; exact toInt_ofNat_of_lt (by omega)
  | ⟨1, _⟩ => rfl
  | ⟨2, _⟩ => rfl

theorem fits4 (K : ℕ) (hK : K < 4096) : S4096x8x8x128.Slices ![K, 0, 0, 0] S1x8x8x128 := ⟨rfl, fun a => by
  match a with
  | ⟨0, _⟩ => show K + 1 ≤ 4096; omega
  | ⟨1, _⟩ => show 0 + 8 ≤ 8; omega
  | ⟨2, _⟩ => show 0 + 8 ≤ 8; omega
  | ⟨3, _⟩ => show 0 + 128 ≤ 128; omega⟩
theorem fits3 (K : ℕ) (hK : K < 4096) : S4096x8x8.Slices ![K, 0, 0] S1x8x8 := ⟨rfl, fun a => by
  match a with
  | ⟨0, _⟩ => show K + 1 ≤ 4096; omega
  | ⟨1, _⟩ => show 0 + 8 ≤ 8; omega
  | ⟨2, _⟩ => show 0 + 8 ≤ 8; omega⟩

def row4 (x : FVec Ideal S4096x8x8x128 .f32) (ctr : (⟨S_, .i32⟩ : BufTy).Contents (Elt Ideal)) : FVec Ideal S8x8x128 .f32 :=
  shapeCast S8x8x128 (Host.dynamicSlice S1x8x8x128 x (fun k => (((![ctr, constantI S_ 32 0#32, constantI S_ 32 0#32, constantI S_ 32 0#32] : Fin 4 → (⟨S_, .i32⟩ : BufTy).Contents (Elt Ideal))) k (Shape.Idx.first h_S_)).toInt) sliceFits_S4096x8x8x128_S1x8x8x128) shapeCasts_S1x8x8x128_S8x8x128
def row3 (x : FVec Ideal S4096x8x8 .f32) (ctr : (⟨S_, .i32⟩ : BufTy).Contents (Elt Ideal)) : FVec Ideal S8x8 .f32 :=
  shapeCast S8x8 (Host.dynamicSlice S1x8x8 x (fun k => (((![ctr, constantI S_ 32 0#32, constantI S_ 32 0#32] : Fin 3 → (⟨S_, .i32⟩ : BufTy).Contents (Elt Ideal))) k (Shape.Idx.first h_S_)).toInt) sliceFits_S4096x8x8_S1x8x8) shapeCasts_S1x8x8_S8x8

theorem row4_at (x : FVec Ideal S4096x8x8x128 .f32) (ctr : (⟨S_, .i32⟩ : BufTy).Contents (Elt Ideal)) (K : ℕ) (hK : K < 4096) (hc : ctr = fun _ => BitVec.ofNat 32 K)
    (b r : Fin 8) (d : Fin 128) : row4 x ctr (ix3 b r d) = x (ix4 ⟨K, hK⟩ b r d) := by
  unfold row4
  rw [dynamicSlice_eq_extract S1x8x8x128 x _ _ ![K, 0, 0, 0] (fits4 K hK) (start4 ctr K hK hc)]
  pointwise []
theorem row3_at (x : FVec Ideal S4096x8x8 .f32) (ctr : (⟨S_, .i32⟩ : BufTy).Contents (Elt Ideal)) (K : ℕ) (hK : K < 4096) (hc : ctr = fun _ => BitVec.ofNat 32 K)
    (b r : Fin 8) : row3 x ctr (ix2 b r) = x (ix3 ⟨K, hK⟩ b r) := by
  unfold row3
  rw [dynamicSlice_eq_extract S1x8x8 x _ _ ![K, 0, 0] (fits3 K hK) (start3 ctr K hK hc)]
  pointwise []

theorem put_at (x : FVec Ideal S4096x8x8x128 .f32) (u : FVec Ideal S1x8x8x128 .f32) (ctr : (⟨S_, .i32⟩ : BufTy).Contents (Elt Ideal)) (K : ℕ) (hK : K < 4096) (hc : ctr = fun _ => BitVec.ofNat 32 K)
    (n : Fin 4096) (b r : Fin 8) (e : Fin 128) :
    Host.dynamicUpdateSlice x u (fun k => (((![ctr, constantI S_ 32 0#32, constantI S_ 32 0#32, constantI S_ 32 0#32] : Fin 4 → (⟨S_, .i32⟩ : BufTy).Contents (Elt Ideal))) k (Shape.Idx.first h_S_)).toInt) updateFits_S4096x8x8x128_S1x8x8x128 (ix4 n b r e)
      = if n.val = K then u (ix4 0 b r e) else x (ix4 n b r e) := by
  rw [dynamicUpdateSlice_eq_update x u _ _ ![K, 0, 0, 0] (fits4 K hK) (start4 ctr K hK hc)]
  unfold updateSlice
  by_cases h : n.val = K
  · rw [if_pos h, dif_pos]
    · refine congrArg u (funext fun a => Fin.ext ?_)
      match a with
      | ⟨0, _⟩ => show n.val - K = 0; omega
      | ⟨1, _⟩ => rfl
      | ⟨2, _⟩ => rfl
      | ⟨3, _⟩ => rfl
    · intro a
      match a with
      | ⟨0, _⟩ => show K ≤ n.val ∧ n.val < K + 1; omega
      | ⟨1, _⟩ => exact ⟨Nat.zero_le _, (Nat.zero_add 8).symm ▸ b.isLt⟩
      | ⟨2, _⟩ => exact ⟨Nat.zero_le _, (Nat.zero_add 8).symm ▸ r.isLt⟩
      | ⟨3, _⟩ => exact ⟨Nat.zero_le _, (Nat.zero_add 128).symm ▸ e.isLt⟩
  · rw [if_neg h, dif_neg]
    intro hin
    have h0 : K ≤ n.val ∧ n.val < K + 1 := hin 0
    omega

/-! ## A token's step -/

def decayed (s : FVec Ideal S8x8x128x128 .f32) (a : FVec Ideal S8x8 .f32) : FVec Ideal S8x8x128x128 .f32 :=
  mulf (F := Ideal) s (broadcastInDim S8x8x128x128 ![0, 1, 2, 3] bcast_S8x8x1x1_S8x8x128x128_0_1_2_3 (broadcastInDim S8x8x1x1 ![0, 1] bcast_S8x8_S8x8x1x1_0_1 a))

def readOf (k : FVec Ideal S8x8x128 .f32) (s : FVec Ideal S8x8x128x128 .f32) : FVec Ideal S8x8x128 .f32 :=
  Host.dotGeneral (F := Ideal) dot_S8x8x128_S8x8x128x128_S8x8x128_2_2_n_3_01_01 none k s

def written (s : FVec Ideal S8x8x128x128 .f32) (k v : FVec Ideal S8x8x128 .f32) (b : FVec Ideal S8x8 .f32) : FVec Ideal S8x8x128x128 .f32 :=
  addf (F := Ideal) s (mulf (F := Ideal) (broadcastInDim S8x8x128x128 ![0, 1, 2, 3] bcast_S8x8x128x1_S8x8x128x128_0_1_2_3 (broadcastInDim S8x8x128x1 ![0, 1, 2] bcast_S8x8x128_S8x8x128x1_0_1_2 k))
    (broadcastInDim S8x8x128x128 ![0, 1, 2, 3] bcast_S8x8x1x128_S8x8x128x128_0_1_2_3 (broadcastInDim S8x8x1x128 ![0, 1, 3] bcast_S8x8x128_S8x8x1x128_0_1_3
      (mulf (F := Ideal) (subf (F := Ideal) v (readOf k s)) (broadcastInDim S8x8x128 ![0, 1, 2] bcast_S8x8x1_S8x8x128_0_1_2 (broadcastInDim S8x8x1 ![0, 1] bcast_S8x8_S8x8x1_0_1 b))))))

theorem readOf_at (k : FVec Ideal S8x8x128 .f32) (s : FVec Ideal S8x8x128x128 .f32) (b r : Fin 8) (e : Fin 128) :
    readOf k s (ix3 b r e) = ∑ d : Fin 128, k (ix3 b r d) * s (ix4 b r d e) := by
  pointwise [readOf]
theorem decayed_at (s : FVec Ideal S8x8x128x128 .f32) (a : FVec Ideal S8x8 .f32) (b r : Fin 8) (d e : Fin 128) :
    decayed s a (ix4 b r d e) = s (ix4 b r d e) * a (ix2 b r) := by
  pointwise [decayed]
theorem written_at (s : FVec Ideal S8x8x128x128 .f32) (k v : FVec Ideal S8x8x128 .f32) (β : FVec Ideal S8x8 .f32) (b r : Fin 8) (d e : Fin 128) :
    written s k v β (ix4 b r d e) = s (ix4 b r d e) + k (ix3 b r d) * ((v (ix3 b r e) - readOf k s (ix3 b r e)) * β (ix2 b r)) := by
  pointwise [written]

theorem new_eq (V : Valuation τ sig (Elt Ideal)) : step_main_v83_6 V
    = written (decayed (V (Proc.devRef .tc main_v83_6)) (row3 (V (Proc.devRef .tc main_v83_3)) (V (Proc.devRef .tc main_v83_5))))
        (row4 (V (Proc.devRef .tc main_v83_1)) (V (Proc.devRef .tc main_v83_5))) (row4 (V (Proc.devRef .tc main_v83_2)) (V (Proc.devRef .tc main_v83_5)))
        (row3 (V (Proc.devRef .tc main_v83_4)) (V (Proc.devRef .tc main_v83_5))) := by
  unfold step_main_v83_6 res_main_while0b_v123 res_main_while0b_v112 res_main_while0b_v106
  rfl

theorem outs_eq (V : Valuation τ sig (Elt Ideal)) : step_main_v83_7 V
    = Host.dynamicUpdateSlice (V (Proc.devRef .tc main_v83_7)) (broadcastInDim S1x8x8x128 ![1, 2, 3] bcast_S8x8x128_S1x8x8x128_1_2_3
        (readOf (row4 (V (Proc.devRef .tc main_v83_0)) (V (Proc.devRef .tc main_v83_5))) (step_main_v83_6 V)))
        (fun k => (((![V (Proc.devRef .tc main_v83_5), constantI S_ 32 0#32, constantI S_ 32 0#32, constantI S_ 32 0#32] : Fin 4 → (⟨S_, .i32⟩ : BufTy).Contents (Elt Ideal))) k (Shape.Idx.first h_S_)).toInt) updateFits_S4096x8x8x128_S1x8x8x128 := by
  unfold step_main_v83_7 step_main_v83_6
  rfl

theorem new_is {X : Nums} {V : Valuation τ sig (Elt Ideal)} {K : ℕ} (h : At X V K) (hK : K < 4096) (b r : Fin 8) (d e : Fin 128) :
    step_main_v83_6 V (ix4 b r d e) = (((X.seq b.val).st r (fun _ _ => 0) (K + 1) d e : ℝ) : EReal) := by
  have hs : ∀ d' : Fin 128, decayed (V (Proc.devRef .tc main_v83_6)) (row3 (V (Proc.devRef .tc main_v83_3)) (V (Proc.devRef .tc main_v83_5))) (ix4 b r d' e)
      = (((X.seq b.val).st r (fun _ _ => 0) K d' e * Real.exp ((X.seq b.val).g r K) : ℝ) : EReal) := by
    intro d'
    rw [decayed_at, row3_at _ _ K hK h.ctr, h.st, h.al, ← EReal.coe_mul]
  have hk : ∀ d' : Fin 128, row4 (V (Proc.devRef .tc main_v83_1)) (V (Proc.devRef .tc main_v83_5)) (ix3 b r d') = ((un ((X.seq b.val).cv 1 r) K d' : ℝ) : EReal) := by
    intro d'
    rw [row4_at _ _ K hK h.ctr, h.k]
  rw [new_eq, written_at, hs, hk, row4_at _ _ K hK h.ctr, h.v, row3_at _ _ K hK h.ctr, h.be, readOf_at]
  rw [Finset.sum_congr rfl fun d' _ => by rw [hk d', hs d', ← EReal.coe_mul], ← coe_sum, ← EReal.coe_sub, ← EReal.coe_mul, ← EReal.coe_mul, ← EReal.coe_add]
  rfl

theorem at_step {X : Nums} {V : Valuation τ sig (Elt Ideal)} {K : ℕ} (h : At X V K) (hK : K < 4096) : At X (STEP V) (K + 1) where
  q := by rw [STEP_main_v83_0]; exact h.q
  k := by rw [STEP_main_v83_1]; exact h.k
  v := by rw [STEP_main_v83_2]; exact h.v
  al := by rw [STEP_main_v83_3]; exact h.al
  be := by rw [STEP_main_v83_4]; exact h.be
  ctr := by
    rw [STEP_main_v83_5]
    unfold step_main_v83_5
    rw [h.ctr]
    exact funext fun _ => addi_ofNat K 1
  st b r d e := by
    rw [STEP_main_v83_6]
    exact new_is h hK b r d e
  out n hn b r e := by
    rw [STEP_main_v83_7, outs_eq]
    refine Eq.trans (put_at _ _ _ K hK h.ctr n b r e) ?_
    by_cases hnK : n.val = K
    · rw [if_pos hnK]
      have e1 : broadcastInDim S1x8x8x128 ![1, 2, 3] bcast_S8x8x128_S1x8x8x128_1_2_3
          (readOf (row4 (V (Proc.devRef .tc main_v83_0)) (V (Proc.devRef .tc main_v83_5))) (step_main_v83_6 V)) (ix4 0 b r e)
          = readOf (row4 (V (Proc.devRef .tc main_v83_0)) (V (Proc.devRef .tc main_v83_5))) (step_main_v83_6 V) (ix3 b r e) := by pointwise []
      rw [e1, readOf_at, Finset.sum_congr rfl fun d' _ => by rw [row4_at _ _ K hK h.ctr, h.q, new_is h hK, ← EReal.coe_mul], ← coe_sum, hnK]
      rfl
    · rw [if_neg hnK]
      exact h.out n (by omega) b r e

variable (m : (ℓ : Loc nD τ sig) → Buf (Elt Ideal) ℓ) (c : Dev nD)
variable {X : Nums} (hX : X.Of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))

include hX in
theorem at_all : ∀ K ≤ 4096, At X (STEP^[K] (entryContents preI m c)) K
  | 0, _ => at_start m c hX
  | K + 1, hK => by
    rw [Function.iterate_succ_apply']
    exact at_step (at_all K (by omega)) (by omega)

/-! ## The output -/

theorem head_of (r : Fin 8) (e : Fin 128) (h : (128 * r.val + e.val) / 128 < 8) : (⟨(128 * r.val + e.val) / 128, h⟩ : Fin 8) = r := Fin.ext (by show (128 * r.val + e.val) / 128 = r.val; omega)
theorem lane_in (r : Fin 8) (e : Fin 128) (h : (128 * r.val + e.val) % 128 < 128) : (⟨(128 * r.val + e.val) % 128, h⟩ : Fin 128) = e := Fin.ext (by show (128 * r.val + e.val) % 128 = e.val; omega)

theorem norm_gate (o : Fin 128 → EReal) (f : Fin 128 → ℝ) (ho : ∀ e, o e = ((f e : ℝ) : EReal)) (w z : EReal) (nw : Fin 128 → ℝ) (y : ℝ) (e : Fin 128)
    (hw : w = ((nw e : ℝ) : EReal)) (hz : z = ((y : ℝ) : EReal)) :
    o e * Ideal.rsqrt (Ideal.div (∑ x, o x * o x) (Ideal.ofBits .f32 0x43000000#32) + Ideal.ofBits .f32 0x358637BD#32) * w
      * (z * Ideal.div 1 (1 + Ideal.exp (-z))) = ((gate f nw y e : ℝ) : EReal) := by
  rw [hw, hz, lgst_neg, ← EReal.coe_mul,
    Cert.KernelIdeal.Head.rsqrt_mean f _ (by rw [coe_sum]; exact Finset.sum_congr rfl fun d _ => by rw [ho d, ← EReal.coe_mul]),
    ho e, ← EReal.coe_mul, ← EReal.coe_mul, ← EReal.coe_mul]
  rfl

theorem out_at {X : Nums} {V : Valuation τ sig (Elt Ideal)} (h : At X V 4096)
    (hp : Is (V (Proc.devRef .tc main_arg0) : FVec Ideal S32768x4608 .bf16) fun i j => X.P i.val j.val)
    (hn : ∀ j, (V (Proc.devRef .tc main_arg5) : FVec Ideal S128 .f32) (ix1 j) = ((X.N j : ℝ) : EReal))
    (b : Fin 8) (n : Fin 4096) (r : Fin 8) (e : Fin 128) :
    out_main_v104 V (ix2 (⟨4096 * b.val + n.val, by omega⟩ : Fin 32768) (col r e)) = ((X.out b.val n.val r e : ℝ) : EReal) := by
  pointwise [out_main_v104]
  have hr : (128 * r.val + e.val) / 128 < 8 := by omega
  have he : (128 * r.val + e.val) % 128 < 128 := by omega
  refine Eq.trans (norm_gate (fun x => V (Proc.devRef .tc main_v83_7) (ix4 n b (⟨(128 * r.val + e.val) / 128, hr⟩ : Fin 8) x))
    ((X.seq b.val).rd ⟨(128 * r.val + e.val) / 128, hr⟩ (fun _ _ => 0) n.val) (fun x => h.out n n.isLt b _ x) _ _ X.N
    (X.P (b.val * 4096 + n.val) (3072 + ((128 * r.val + e.val) / 128 * 128 + (128 * r.val + e.val) % 128))) ⟨(128 * r.val + e.val) % 128, he⟩ (hn _) (hp _ _)) ?_
  rw [head_of, lane_in, Nat.mul_comm b.val, show (128 * r.val + e.val) / 128 * 128 + (128 * r.val + e.val) % 128 = 128 * r.val + e.val by omega]
  rfl

include hX in
/-- The reference's output, entry by entry. -/
theorem reference_is (b : Fin 8) (n : Fin 4096) (r : Fin 8) (e : Fin 128) :
    out_main_v104 (STEP^[4096] (entryContents preI m c)) (ix2 (⟨4096 * b.val + n.val, by omega⟩ : Fin 32768) (col r e)) = ((X.out b.val n.val r e : ℝ) : EReal) :=
  out_at (at_all m c hX 4096 le_rfl) (by rw [iter_main_arg0 m c 4096]; exact hX.p) (by rw [iter_main_arg5 m c 4096]; exact hX.n) b n r e

end Cert.ReferenceIdeal.Head

end
end
-- ==== Proof.Finite.lean ====
module

public import proofs.«01_k».proof.Proof.Point
public import proofs.«01_k».proof.Proof.Gen.Pre_finite_args
public import proofs.«01_k».proof.Defs

@[expose] public section

set_option maxRecDepth 16384

/-!
# The precondition, read

Every element of an argument has an absolute value below infinity, so it is a real number; the six tables of these numbers
are `Nums`.
-/

noncomputable section

namespace Cert.KernelIdeal.Head

open Idealize.ShloMosaic Idealize.ShloMosaic.TcCoe Idealize.ShloMosaic.Pointwise Idealize.SL Idealize.SL.Sem

theorem and_one (a b : BitVec 1) : IntOp.andi a b = 1#1 ↔ a = 1#1 ∧ b = 1#1 := by revert a b; decide

/-- A chain of ands that ends in one began in one and met only ones. -/
theorem and_chain {α : Type} (x : α → BitVec 1) : ∀ (l : List α) (a : BitVec 1), l.foldl (fun r i => IntOp.andi r (x i)) a = 1#1 → a = 1#1 ∧ ∀ i ∈ l, x i = 1#1
  | [], a, h => ⟨h, fun i hi => absurd hi (List.not_mem_nil)⟩
  | i :: l, a, h => by
    obtain ⟨h1, h2⟩ := and_chain x l _ h
    obtain ⟨h3, h4⟩ := (and_one _ _).mp h1
    refine ⟨h3, fun k hk => ?_⟩
    rcases List.mem_cons.mp hk with rfl | hk
    · exact h4
    · exact h2 k hk

/-- The and over a whole array. -/
theorem and_whole {s t u : Shape} {axes : List (Fin s.rank)} (ht : t.rank = 0) (x : s.Idx → BitVec 1) (init : u.Idx → BitVec 1) (h : s.ReducesTo axes t) (hu : 0 < u.numel)
    (j : t.Idx) (h1 : Host.reduce IntOp.andi x init h hu j = 1#1) (i : s.Idx) : x i = 1#1 := by
  rw [Host.reduce_eq_foldl] at h1
  refine (and_chain x _ _ h1).2 i (List.mem_filter.mpr ⟨List.mem_map.mpr ⟨s.rowMajor i, List.mem_finRange _, Equiv.symm_apply_apply _ _⟩, decide_eq_true ?_⟩)
  funext b
  exact absurd b.isLt (by omega)

/-- An absolute value below infinity. -/
theorem real_of_lt (x : EReal) (h : max x (-x) < ⊤) : x = ((x.toReal : ℝ) : EReal) := by
  refine (EReal.coe_toReal ?_ ?_).symm
  · rintro rfl
    exact absurd h (by simp)
  · rintro rfl
    exact absurd h (by simp)

theorem inf_eq : (FloatOps.ofBits (F := Ideal) .f32 0x7F800000#32 : EReal) = ⊤ := by
  show Ideal.ofBits .f32 0x7F800000#32 = ⊤
  simp [Ideal.ofBits, Ideal.ieee]

theorem elem (x : Ideal .f32) (h : FloatOps.cmpf (F := Ideal) .olt (FloatOps.absf x) (FloatOps.ofBits .f32 0x7F800000#32) = 1#1) :
    (x : EReal) = (((x : EReal).toReal : ℝ) : EReal) := by
  rw [inf_eq] at h
  refine real_of_lt x ?_
  by_contra hn
  have : FloatOps.cmpf (F := Ideal) (φ := .f32) .olt (FloatOps.absf x) (⊤ : EReal) = BitVec.ofBool (decide (max (x : EReal) (-(x : EReal)) < ⊤)) := rfl
  rw [this, decide_eq_false hn] at h
  exact absurd h (by decide)

theorem fin_args (a0 : FVec Ideal S32768x4608 .bf16) (a1 : FVec Ideal S32768x128 .f32) (a2 : FVec Ideal S4x3072 .f32) (a3 a4 : FVec Ideal S8 .f32) (a5 : FVec Ideal S128 .f32)
    (h : Cert.Pre_finite_args.fn (F := Ideal) a0 a1 a2 a3 a4 a5 = fun _ => 1#1) :
    (∀ i, a0 i = (((a0 i : EReal).toReal : ℝ) : EReal)) ∧ (∀ i, a1 i = (((a1 i : EReal).toReal : ℝ) : EReal)) ∧ (∀ i, a2 i = (((a2 i : EReal).toReal : ℝ) : EReal))
      ∧ (∀ i, a3 i = (((a3 i : EReal).toReal : ℝ) : EReal)) ∧ (∀ i, a4 i = (((a4 i : EReal).toReal : ℝ) : EReal)) ∧ (∀ i, a5 i = (((a5 i : EReal).toReal : ℝ) : EReal)) := by
  have h0 := congrFun h (ix0 : Cert.Pre_finite_args.S_.Idx)
  simp only [Cert.Pre_finite_args.fn, Cert.Pre_finite_args.fn_part1, andi, and_one] at h0
  obtain ⟨⟨⟨⟨⟨h0, h1⟩, h2⟩, h3⟩, h4⟩, h5⟩ := h0
  exact ⟨fun i => elem _ (and_whole rfl _ _ _ _ _ h0 i), fun i => elem _ (and_whole rfl _ _ _ _ _ h1 i), fun i => elem _ (and_whole rfl _ _ _ _ _ h2 i),
    fun i => elem _ (and_whole rfl _ _ _ _ _ h3 i), fun i => elem _ (and_whole rfl _ _ _ _ _ h4 i), fun i => elem _ (and_whole rfl _ _ _ _ _ h5 i)⟩

/-- The numbers of six arrays. -/
def numsOf (a0 : FVec Ideal S32768x4608 .bf16) (a1 : FVec Ideal S32768x128 .f32) (a2 : FVec Ideal S4x3072 .f32) (a3 a4 : FVec Ideal S8 .f32) (a5 : FVec Ideal S128 .f32) : Nums where
  P i j := if h : i < 32768 ∧ j < 4608 then (a0 (ix2 ⟨i, h.1⟩ ⟨j, h.2⟩) : EReal).toReal else 0
  G i j := if h : i < 32768 ∧ j < 128 then (a1 (ix2 ⟨i, h.1⟩ ⟨j, h.2⟩) : EReal).toReal else 0
  W t j := if h : j < 3072 then (a2 (ix2 t ⟨j, h⟩) : EReal).toReal else 0
  A r := (a3 (ix1 r) : EReal).toReal
  E r := (a4 (ix1 r) : EReal).toReal
  N j := (a5 (ix1 j) : EReal).toReal

theorem nums_of (a0 : FVec Ideal S32768x4608 .bf16) (a1 : FVec Ideal S32768x128 .f32) (a2 : FVec Ideal S4x3072 .f32) (a3 a4 : FVec Ideal S8 .f32) (a5 : FVec Ideal S128 .f32)
    (h : Cert.Pre_finite_args.fn (F := Ideal) a0 a1 a2 a3 a4 a5 = fun _ => 1#1) : (numsOf a0 a1 a2 a3 a4 a5).Of a0 a1 a2 a3 a4 a5 := by
  obtain ⟨h0, h1, h2, h3, h4, h5⟩ := fin_args a0 a1 a2 a3 a4 a5 h
  refine ⟨fun i j => ?_, fun i j => ?_, fun t j => ?_, fun r => h3 _, fun r => h4 _, fun j => h5 _⟩
  · show a0 (ix2 i j) = ((dite _ _ _ : ℝ) : EReal)
    rw [dif_pos ⟨i.isLt, j.isLt⟩]
    exact h0 _
  · show a1 (ix2 i j) = ((dite _ _ _ : ℝ) : EReal)
    rw [dif_pos ⟨i.isLt, j.isLt⟩]
    exact h1 _
  · show a2 (ix2 t j) = ((dite _ _ _ : ℝ) : EReal)
    rw [dif_pos j.isLt]
    exact h2 _

end Cert.KernelIdeal.Head

end
end
-- ==== Proof.Equal.lean ====
module

public import proofs.«01_k».proof.Proof.Left
public import proofs.«01_k».proof.Proof.RefLoop
public import proofs.«01_k».proof.Proof.Finite

@[expose] public section

set_option maxRecDepth 16384

/-!
# Kernel and reference leave the same array
-/

noncomputable section

namespace Cert.KernelIdeal.Head

open Idealize.ShloMosaic Idealize.ShloMosaic.TcCoe Idealize.ShloMosaic.Pointwise Idealize.SL Idealize.SL.Sem

/-- An index of the output is a sequence, a token, a head and a lane. -/
theorem out_index (i : S32768x1024.Idx) : ∃ (b : Fin 8) (n : Fin 4096) (r : Fin 8) (e : Fin 128),
    i = ix2 (⟨4096 * b.val + n.val, by omega⟩ : Fin 32768) (col r e) := by
  have h0 : (i 0).val < 32768 := (i 0).isLt
  have h1 : (i 1).val < 1024 := (i 1).isLt
  refine ⟨⟨(i 0).val / 4096, by omega⟩, ⟨(i 0).val % 4096, by omega⟩, ⟨(i 1).val / 128, by omega⟩, ⟨(i 1).val % 128, by omega⟩, ?_⟩
  funext a
  refine Fin.ext ?_
  fin_cases a
  · show (i 0).val = 4096 * ((i 0).val / 4096) + (i 0).val % 4096
    omega
  · show (i 1).val = 128 * ((i 1).val / 128) + (i 1).val % 128
    omega

/-- Memories that agree on the arguments: the two programs leave the same array. -/
theorem arrays_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_args.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.out_main_v104 (Cert.ReferenceIdeal.Value.STEP^[4096] (StableHlo.entryContents Cert.ReferenceIdeal.Value.preI m' c)) : S32768x1024.Idx → EReal)
      = Cert.KernelIdeal.Value.G9 (F := Ideal) m c := by
  obtain ⟨X, hX⟩ : ∃ X : Nums, X.Of (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := ⟨_, nums_of _ _ _ _ _ _ hpre⟩
  have hX' := hX
  rw [← g0, ← g1, ← g2, ← g3, ← g4, ← g5] at hX'
  funext i
  obtain ⟨b, n, r, e, rfl⟩ := out_index i
  exact (Cert.ReferenceIdeal.Head.reference_is m' c hX' b n r e).trans (kernel_is m c hX b n r e).symm

end Cert.KernelIdeal.Head

end
end
-- ==== Proof.Down.lean ====
module

public import proofs.«01_k».proof.Defs
public import proofs.«01_k».proof.Proof.Gen.Kernel3Ideal.Value
public import proofs.«01_k».proof.Proof.Gen.Reference3Ideal.Run
public import Idealize.ShloMosaic.Lib.StableHlo.RunClose
public import Idealize.ShloMosaic.Lib.Routing.OpsOrder
public import Idealize.ShloMosaic.Lib.Pointwise
public import Idealize.ShloMosaic.Lib.Pipeline.ValueKit.Basic

@[expose] public section

set_option maxRecDepth 16384

/-!
# The down projection with its residual and the last norm
-/

noncomputable section

namespace Cert.Down

open Idealize.ShloMosaic Idealize.ShloMosaic.TcCoe Idealize.ShloMosaic.StableHlo Idealize.ShloMosaic.Pointwise Idealize.SL.Sem

/-- An entry of a row over the root of the row's mean square, weighted. -/
def normed (y : Fin 1024 → EReal) (w : EReal) (j : Fin 1024) : EReal :=
  y j * Ideal.rsqrt (Ideal.div (∑ k, y k * y k) (Ideal.ofBits .f32 0x44800000#32) + Ideal.ofBits .f32 0x358637BD#32) * w

namespace K

open Cert.Kernel3Ideal Cert.Kernel3Ideal.Gen Cert.Kernel3Ideal.Value

theorem pay (v0 : FVec Ideal S512x1024 .f32) (v1 : FVec Ideal S512x2816 .bf16) (v2 : FVec Ideal S2816x1024 .bf16) (v16 : FVec Ideal S1x1024 .f32)
    (n : Fin 512) (j : Fin 1024) :
    k0_pay1 (F := Ideal) v0 v1 v2 v16 (ix2 n j) = normed (fun j => v0 (ix2 n j) + ∑ k : Fin 2816, v1 (ix2 n k) * v2 (ix2 k j)) (v16 (ix2 0 j)) j := by
  pointwise [k0_pay1, normed]

theorem ld_x0 (x : FVec Ideal S512x1024 .f32) : View.ld (Val := Elt Ideal) (e' := .f32) x r0_0 = x := by
  exact View.ld_unit_lit (Val := Elt Ideal) (S := S512x1024) (e := .f32) _ x (by decide)
theorem ld_x1 (x : FVec Ideal S512x2816 .bf16) : View.ld (Val := Elt Ideal) (e' := .bf16) x r0_1 = x := by
  exact View.ld_unit_lit (Val := Elt Ideal) (S := S512x2816) (e := .bf16) _ x (by decide)
theorem ld_x2 (x : FVec Ideal S2816x1024 .bf16) : View.ld (Val := Elt Ideal) (e' := .bf16) x r0_2 = x := by
  exact View.ld_unit_lit (Val := Elt Ideal) (S := S2816x1024) (e := .bf16) _ x (by decide)
theorem ld_x3 (x : FVec Ideal S1x1024 .f32) : View.ld (Val := Elt Ideal) (e' := .f32) x r0_3 = x := by
  exact View.ld_unit_lit (Val := Elt Ideal) (S := S1x1024) (e := .f32) _ x (by decide)

/-- A block of the output from its blocks of the inputs. -/
theorem out_at (x0 : FVec Ideal S512x1024 .f32) (x1 : FVec Ideal S512x2816 .bf16) (x2 : FVec Ideal S2816x1024 .bf16) (x3 : FVec Ideal S1x1024 .f32)
    (n : Fin 512) (j : Fin 1024) :
    out0_4 (F := Ideal) x0 x1 x2 x3 (ix2 n j) = normed (fun j => x0 (ix2 n j) + ∑ k : Fin 2816, x1 (ix2 n k) * x2 (ix2 k j)) (x3 (ix2 0 j)) j := by
  unfold out0_4
  have e : (ix2 n j : S512x1024.Idx) = r0_0.emb (ix2 n j) := funext fun a => Fin.ext (by match a with
    | ⟨0, _⟩ => show n.val = 0 + 1 * n.val; omega
    | ⟨1, _⟩ => show j.val = 0 + 1 * j.val; omega)
  rw [e]
  refine (View.canon_cons_emb r0_0 _ _ _).trans ?_
  exact (congrFun (congr (congr (congr (congrArg (k0_pay1 (F := Ideal)) (ld_x0 x0)) (ld_x1 x1)) (ld_x2 x2)) (ld_x3 x3)) (ix2 n j)).trans (pay x0 x1 x2 x3 n j)

section Blocks

variable (m : (ℓ : Loc nD τ sig) → Buf (Elt Ideal) ℓ) (c : Dev nD)

theorem row_lt (t : Fin cfg0.N) (n : Fin 512) : 512 * t.val + n.val < 32768 := by
  have := lt_of_lt_of_eq t.isLt (show cfg0.N = 64 from N_0)
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, ∀ a : Fin 2, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem blk0 (t : Fin cfg0.N) (n : Fin 512) (j : Fin 1024) :
    iblk m c 0 t (ix2 n j) = m ((c : Thread nD τ).loc main_arg0) (ix2 ⟨512 * t.val + n.val, row_lt t n⟩ j) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * n.val = 512 * t.val + n.val; rw [e0]; omega
  | ⟨1, _⟩ => show win0_0.index t (1 : Fin 2) * 1024 + 1 * j.val = j.val; rw [e1]; omega

theorem blk1 (t : Fin cfg0.N) (n : Fin 512) (j : Fin 2816) :
    iblk m c 1 t (ix2 n j) = m ((c : Thread nD τ).loc main_arg1) (ix2 ⟨512 * t.val + n.val, row_lt t n⟩ j) := by
  unfold iblk
  rw [View.read_apply]
  show V m c main_arg1 _ = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 512 + 1 * n.val = 512 * t.val + n.val; rw [e0]; omega
  | ⟨1, _⟩ => show win0_1.index t (1 : Fin 2) * 2816 + 1 * j.val = j.val; rw [e1]; omega

theorem V_v0 : V m c main_v0 = truncf (F := Ideal) .bf16 (m ((c : Thread nD τ).loc main_arg2)) bitsLt_bf16_f32 := by
  unfold V
  after_reads_simp
theorem V_v1 : V m c main_v1 = shapeCast S1x1024 (m ((c : Thread nD τ).loc main_arg3)) shapeCasts_S1024_S1x1024 := by
  unfold V
  after_reads_simp
  rfl

theorem blk2 (t : Fin cfg0.N) (k : Fin 2816) (j : Fin 1024) : iblk m c 2 t (ix2 k j) = m ((c : Thread nD τ).loc main_arg2) (ix2 k j) := by
  unfold iblk
  rw [View.read_apply]
  show V m c main_v0 _ = _
  rw [V_v0]
  have e := idx2 t
  refine congrArg (m ((c : Thread nD τ).loc main_arg2)) (funext fun a => Fin.ext ?_)
  match a with
  | ⟨0, _⟩ => show win0_2.index t (0 : Fin 2) * 2816 + 1 * k.val = k.val; rw [e 0]; omega
  | ⟨1, _⟩ => show win0_2.index t (1 : Fin 2) * 1024 + 1 * j.val = j.val; rw [e 1]; omega

theorem blk3 (t : Fin cfg0.N) (j : Fin 1024) : iblk m c 3 t (ix2 0 j) = m ((c : Thread nD τ).loc main_arg3) (ix1 j) := by
  unfold iblk
  rw [View.read_apply]
  show V m c main_v1 _ = _
  rw [V_v1]
  have e := idx3 t
  have ej : ((cfg0.win 3).blk t).view.emb (ix2 (0 : Fin 1) j) = (ix2 (0 : Fin 1) j : S1x1024.Idx) := funext fun a => Fin.ext (by match a with
    | ⟨0, _⟩ => show win0_3.index t (0 : Fin 2) * 1 + 1 * 0 = 0; rw [e 0]
    | ⟨1, _⟩ => show win0_3.index t (1 : Fin 2) * 1024 + 1 * j.val = j.val; rw [e 1]; omega)
  refine Eq.trans (congrArg _ ej) ?_
  pointwise

/-- A row of the sum before the norm. -/
def summed (a0 : FVec Ideal S32768x1024 .f32) (a1 : FVec Ideal S32768x2816 .bf16) (a2 : FVec Ideal S2816x1024 .f32) (i : Fin 32768) (j : Fin 1024) : EReal :=
  a0 (ix2 i j) + ∑ k : Fin 2816, a1 (ix2 i k) * a2 (ix2 k j)

/-- The kernel's output, entry by entry. -/
theorem kernel_is (i : Fin 32768) (j : Fin 1024) :
    (dats m 0 c).arrAt 4 cfg0.N (ix2 i j)
      = normed (summed (m ((c : Thread nD τ).loc main_arg0)) (m ((c : Thread nD τ).loc main_arg1)) (m ((c : Thread nD τ).loc main_arg2)) i) (m ((c : Thread nD τ).loc main_arg3) (ix1 j)) j := by
  have ht : i.val / 512 < cfg0.N := by rw [show cfg0.N = 64 from N_0]; omega
  obtain ⟨e0, e1⟩ := idx4 ⟨i.val / 512, ht⟩
  have h := congrFun (blocks4 m c ⟨i.val / 512, ht⟩ (flush0_4 _)) (ix2 (⟨i.val % 512, by omega⟩ : Fin 512) j)
  rw [View.read_apply, flushed4] at h
  have ei : ((cfg0.win 4).blk ⟨i.val / 512, ht⟩).view.emb (ix2 (⟨i.val % 512, by omega⟩ : Fin 512) j) = (ix2 i j : S32768x1024.Idx) := funext fun a => Fin.ext (by match a with
    | ⟨0, _⟩ => show win0_4.index ⟨i.val / 512, ht⟩ (0 : Fin 2) * 512 + 1 * (i.val % 512) = i.val; rw [e0]; show i.val / 512 * 512 + 1 * (i.val % 512) = i.val; omega
    | ⟨1, _⟩ => show win0_4.index ⟨i.val / 512, ht⟩ (1 : Fin 2) * 1024 + 1 * j.val = j.val; rw [e1]; omega)
  rw [ei] at h
  refine h.trans ((out_at _ _ _ _ _ j).trans ?_)
  have er : (⟨512 * (i.val / 512) + i.val % 512, by omega⟩ : Fin 32768) = i := Fin.ext (by show 512 * (i.val / 512) + i.val % 512 = i.val; omega)
  simp only [blk0, blk1, blk2, blk3, er]
  rfl

end Blocks

end K

namespace R

open Cert.Reference3Ideal Cert.Reference3Ideal.Gen Cert.Reference3Ideal.Value

def sums (a0 : FVec Ideal S32768x1024 .f32) (a1 : FVec Ideal S32768x2816 .bf16) (a2 : FVec Ideal S2816x1024 .f32) : FVec Ideal S32768x1024 .f32 :=
  addf (F := Ideal) a0 (Host.dotGeneral (F := Ideal) dot_S32768x2816_S2816x1024_S32768x1024_1_0_0_1_n_n none (extf (F := Ideal) .f32 a1 bitsLt_bf16_f32) a2)

def norms (y : FVec Ideal S32768x1024 .f32) (a3 : FVec Ideal S1024 .f32) : FVec Ideal S32768x1024 .f32 :=
  mulf (F := Ideal) (mulf (F := Ideal) y (broadcastInDim S32768x1024 ![0, 1] bcast_S32768x1_S32768x1024_0_1 (Host.rsqrt (F := Ideal) (addf (F := Ideal) (Host.divf (F := Ideal)
    (broadcastInDim S32768x1 ![0] bcast_S32768_S32768x1_0 (Host.reduceAdd (F := Ideal) (mulf (F := Ideal) y y) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 a3))

theorem sums_at (a0 : FVec Ideal S32768x1024 .f32) (a1 : FVec Ideal S32768x2816 .bf16) (a2 : FVec Ideal S2816x1024 .f32) (i : Fin 32768) (j : Fin 1024) :
    sums a0 a1 a2 (ix2 i j) = K.summed a0 a1 a2 i j := by
  pointwise [sums, K.summed]

theorem norms_at (y : FVec Ideal S32768x1024 .f32) (a3 : FVec Ideal S1024 .f32) (i : Fin 32768) (j : Fin 1024) :
    norms y a3 (ix2 i j) = normed (fun j => y (ix2 i j)) (a3 (ix1 j)) j := by
  pointwise [norms, normed]

end R

/-- Both programs, from arguments that agree, end with the same output. -/
theorem same (m : (ℓ : Loc Cert.Kernel3Ideal.nD Cert.Kernel3Ideal.τ Cert.Kernel3Ideal.sig) → Buf (Elt Ideal) ℓ) (c : Dev Cert.Kernel3Ideal.nD)
    {a0 : FVec Ideal Cert.Reference3Ideal.S32768x1024 .f32} {a1 : FVec Ideal Cert.Reference3Ideal.S32768x2816 .bf16} {a2 : FVec Ideal Cert.Reference3Ideal.S2816x1024 .f32} {a3 : FVec Ideal Cert.Reference3Ideal.S1024 .f32}
    (h0 : a0 = m ((c.tc : Thread Cert.Kernel3Ideal.nD Cert.Kernel3Ideal.τ).loc Cert.Kernel3Ideal.main_arg0))
    (h1 : a1 = m ((c.tc : Thread Cert.Kernel3Ideal.nD Cert.Kernel3Ideal.τ).loc Cert.Kernel3Ideal.main_arg1))
    (h2 : a2 = m ((c.tc : Thread Cert.Kernel3Ideal.nD Cert.Kernel3Ideal.τ).loc Cert.Kernel3Ideal.main_arg2))
    (h3 : a3 = m ((c.tc : Thread Cert.Kernel3Ideal.nD Cert.Kernel3Ideal.τ).loc Cert.Kernel3Ideal.main_arg3)) :
    R.norms (R.sums a0 a1 a2) a3 = (Cert.Kernel3Ideal.Gen.dats m 0 c).arrAt 4 Cert.Kernel3Ideal.cfg0.N := by
  subst h0 h1 h2 h3
  funext x
  obtain ⟨i, j, rfl⟩ : ∃ (i : Fin 32768) (j : Fin 1024), x = ix2 i j := ⟨x 0, x 1, funext fun a => by match a with
    | ⟨0, _⟩ => rfl
    | ⟨1, _⟩ => rfl⟩
  refine (R.norms_at _ _ i j).trans (Eq.trans ?_ (K.kernel_is m c i j).symm)
  simp only [R.sums_at]

theorem algebraic : Cert.algebraic_Kernel3Ideal_Reference3Ideal (hKernel3Ideal := Cert.Kernel3Ideal.Gen.facts) (hReference3Ideal := Cert.Reference3Ideal.Gen.facts) :=
  fun m ρ m' ρ' _ hag => ⟨fun c => (Cert.Kernel3Ideal.Gen.dats m 0 c).arrAt 4 Cert.Kernel3Ideal.cfg0.N, Cert.Kernel3Ideal.Value.run_blocks (F := Ideal) m ρ,
    (θ_run _ _ _).mono (fun r h c => ⟨(h c).1.trans (same m c (hag c).1 (hag c).2.1 (hag c).2.2.1 (hag c).2.2.2), (h c).2⟩)
      (Cert.Reference3Ideal.Value.run (F := Ideal) m' ρ')⟩

end Cert.Down

end
end
-- ==== Proof.Project.lean ====
module

public import proofs.«01_k».proof.Proof.Down
public import proofs.«01_k».proof.Proof.Gen.Kernel4Ideal.Value
public import proofs.«01_k».proof.Proof.Gen.Reference4Ideal.Run

@[expose] public section

set_option maxRecDepth 16384

/-!
# The input projections after an rms norm
-/

noncomputable section

namespace Cert.Project

open Idealize.ShloMosaic Idealize.ShloMosaic.TcCoe Idealize.ShloMosaic.StableHlo Idealize.ShloMosaic.Pointwise Idealize.SL.Sem
open Cert.Down (normed)

/-- An entry of the product of a normed row with a column of the weights. -/
def proj (y w v : Fin 1024 → EReal) : EReal := ∑ k, normed y (w k) k * v k

namespace K

open Cert.Kernel4Ideal Cert.Kernel4Ideal.Gen Cert.Kernel4Ideal.Value

theorem pay3 (v0 : FVec Ideal S256x1024 .f32) (v1 : FVec Ideal S1x1024 .f32) (w : FVec Ideal S1024x128 .bf16) (n : Fin 256) (j : Fin 128) :
    k0_pay3 (F := Ideal) v0 v1 w (ix2 n j) = proj (fun k => v0 (ix2 n k)) (fun k => v1 (ix2 0 k)) fun k => w (ix2 k j) := by
  pointwise [k0_pay3, k0_pay2, proj, normed]
theorem pay4 (v0 : FVec Ideal S256x1024 .f32) (v1 : FVec Ideal S1x1024 .f32) (w : FVec Ideal S1024x512 .bf16) (n : Fin 256) (j : Fin 512) :
    k0_pay4 (F := Ideal) v0 v1 w (ix2 n j) = proj (fun k => v0 (ix2 n k)) (fun k => v1 (ix2 0 k)) fun k => w (ix2 k j) := by
  pointwise [k0_pay4, k0_pay2, proj, normed]
theorem pay5 (v0 : FVec Ideal S256x1024 .f32) (v1 : FVec Ideal S1x1024 .f32) (w : FVec Ideal S1024x512 .bf16) (n : Fin 256) (j : Fin 512) :
    k0_pay5 (F := Ideal) v0 v1 w (ix2 n j) = proj (fun k => v0 (ix2 n k)) (fun k => v1 (ix2 0 k)) fun k => w (ix2 k j) := by
  pointwise [k0_pay5, k0_pay2, proj, normed]
theorem pay6 (v0 : FVec Ideal S256x1024 .f32) (v1 : FVec Ideal S1x1024 .f32) (w : FVec Ideal S1024x512 .bf16) (n : Fin 256) (j : Fin 512) :
    k0_pay6 (F := Ideal) v0 v1 w (ix2 n j) = proj (fun k => v0 (ix2 n k)) (fun k => v1 (ix2 0 k)) fun k => w (ix2 k j) := by
  pointwise [k0_pay6, k0_pay2, proj, normed]
theorem pay7 (v0 : FVec Ideal S256x1024 .f32) (v1 : FVec Ideal S1x1024 .f32) (w : FVec Ideal S1024x512 .bf16) (n : Fin 256) (j : Fin 512) :
    k0_pay7 (F := Ideal) (k0_pay2 v0 v1) w (ix2 n j) = proj (fun k => v0 (ix2 n k)) (fun k => v1 (ix2 0 k)) fun k => w (ix2 k j) := by
  pointwise [k0_pay7, k0_pay2, proj, normed]
theorem pay8 (v0 : FVec Ideal S256x1024 .f32) (v1 : FVec Ideal S1x1024 .f32) (w : FVec Ideal S1024x512 .bf16) (n : Fin 256) (j : Fin 512) :
    k0_pay8 (F := Ideal) (k0_pay2 v0 v1) w (ix2 n j) = proj (fun k => v0 (ix2 n k)) (fun k => v1 (ix2 0 k)) fun k => w (ix2 k j) := by
  pointwise [k0_pay8, k0_pay2, proj, normed]
theorem pay9 (v0 : FVec Ideal S256x1024 .f32) (v1 : FVec Ideal S1x1024 .f32) (w : FVec Ideal S1024x512 .bf16) (n : Fin 256) (j : Fin 512) :
    k0_pay9 (F := Ideal) (k0_pay2 v0 v1) w (ix2 n j) = proj (fun k => v0 (ix2 n k)) (fun k => v1 (ix2 0 k)) fun k => w (ix2 k j) := by
  pointwise [k0_pay9, k0_pay2, proj, normed]
theorem pay10 (v0 : FVec Ideal S256x1024 .f32) (v1 : FVec Ideal S1x1024 .f32) (w : FVec Ideal S1024x512 .bf16) (n : Fin 256) (j : Fin 512) :
    k0_pay10 (F := Ideal) (k0_pay2 v0 v1) w (ix2 n j) = proj (fun k => v0 (ix2 n k)) (fun k => v1 (ix2 0 k)) fun k => w (ix2 k j) := by
  pointwise [k0_pay10, k0_pay2, proj, normed]
theorem pay11 (v0 : FVec Ideal S256x1024 .f32) (v1 : FVec Ideal S1x1024 .f32) (w : FVec Ideal S1024x512 .bf16) (n : Fin 256) (j : Fin 512) :
    k0_pay11 (F := Ideal) (k0_pay2 v0 v1) w (ix2 n j) = proj (fun k => v0 (ix2 n k)) (fun k => v1 (ix2 0 k)) fun k => w (ix2 k j) := by
  pointwise [k0_pay11, k0_pay2, proj, normed]
theorem pay12 (v0 : FVec Ideal S256x1024 .f32) (v1 : FVec Ideal S1x1024 .f32) (w : FVec Ideal S1024x512 .bf16) (n : Fin 256) (j : Fin 512) :
    k0_pay12 (F := Ideal) (k0_pay2 v0 v1) w (ix2 n j) = proj (fun k => v0 (ix2 n k)) (fun k => v1 (ix2 0 k)) fun k => w (ix2 k j) := by
  pointwise [k0_pay12, k0_pay2, proj, normed]
theorem pay14 (v0 : FVec Ideal S256x1024 .f32) (v1 : FVec Ideal S1x1024 .f32) (w : FVec Ideal S1024x128 .bf16) (n : Fin 256) (j : Fin 128) :
    k0_pay14 (F := Ideal) v0 v1 w (ix2 n j) = proj (fun k => v0 (ix2 n k)) (fun k => v1 (ix2 0 k)) fun k => w (ix2 k j) := by
  pointwise [k0_pay14, k0_pay13, proj, normed]
theorem pay15 (v0 : FVec Ideal S256x1024 .f32) (v1 : FVec Ideal S1x1024 .f32) (w : FVec Ideal S1024x512 .bf16) (n : Fin 256) (j : Fin 512) :
    k0_pay15 (F := Ideal) v0 v1 w (ix2 n j) = proj (fun k => v0 (ix2 n k)) (fun k => v1 (ix2 0 k)) fun k => w (ix2 k j) := by
  pointwise [k0_pay15, k0_pay13, proj, normed]
theorem pay16 (v0 : FVec Ideal S256x1024 .f32) (v1 : FVec Ideal S1x1024 .f32) (w : FVec Ideal S1024x512 .bf16) (n : Fin 256) (j : Fin 512) :
    k0_pay16 (F := Ideal) v0 v1 w (ix2 n j) = proj (fun k => v0 (ix2 n k)) (fun k => v1 (ix2 0 k)) fun k => w (ix2 k j) := by
  pointwise [k0_pay16, k0_pay13, proj, normed]
theorem pay17 (v0 : FVec Ideal S256x1024 .f32) (v1 : FVec Ideal S1x1024 .f32) (w : FVec Ideal S1024x512 .bf16) (n : Fin 256) (j : Fin 512) :
    k0_pay18 (F := Ideal) (k0_pay17 (F := Ideal) v0 v1 w) (ix2 n j) = proj (fun k => v0 (ix2 n k)) (fun k => v1 (ix2 0 k)) fun k => w (ix2 k j) := by
  pointwise [k0_pay18, k0_pay17, k0_pay13, proj, normed]
theorem pay19 (v0 : FVec Ideal S256x1024 .f32) (v1 : FVec Ideal S1x1024 .f32) (w : FVec Ideal S1024x512 .bf16) (n : Fin 256) (j : Fin 512) :
    k0_pay19 (F := Ideal) (k0_pay13 v0 v1) w (ix2 n j) = proj (fun k => v0 (ix2 n k)) (fun k => v1 (ix2 0 k)) fun k => w (ix2 k j) := by
  pointwise [k0_pay19, k0_pay13, proj, normed]
theorem pay20 (v0 : FVec Ideal S256x1024 .f32) (v1 : FVec Ideal S1x1024 .f32) (w : FVec Ideal S1024x512 .bf16) (n : Fin 256) (j : Fin 512) :
    k0_pay20 (F := Ideal) (k0_pay13 v0 v1) w (ix2 n j) = proj (fun k => v0 (ix2 n k)) (fun k => v1 (ix2 0 k)) fun k => w (ix2 k j) := by
  pointwise [k0_pay20, k0_pay13, proj, normed]
theorem pay21 (v0 : FVec Ideal S256x1024 .f32) (v1 : FVec Ideal S1x1024 .f32) (w : FVec Ideal S1024x512 .bf16) (n : Fin 256) (j : Fin 512) :
    k0_pay21 (F := Ideal) (k0_pay13 v0 v1) w (ix2 n j) = proj (fun k => v0 (ix2 n k)) (fun k => v1 (ix2 0 k)) fun k => w (ix2 k j) := by
  pointwise [k0_pay21, k0_pay13, proj, normed]
theorem pay22 (v0 : FVec Ideal S256x1024 .f32) (v1 : FVec Ideal S1x1024 .f32) (w : FVec Ideal S1024x512 .bf16) (n : Fin 256) (j : Fin 512) :
    k0_pay22 (F := Ideal) (k0_pay13 v0 v1) w (ix2 n j) = proj (fun k => v0 (ix2 n k)) (fun k => v1 (ix2 0 k)) fun k => w (ix2 k j) := by
  pointwise [k0_pay22, k0_pay13, proj, normed]
theorem pay23 (v0 : FVec Ideal S256x1024 .f32) (v1 : FVec Ideal S1x1024 .f32) (w : FVec Ideal S1024x512 .bf16) (n : Fin 256) (j : Fin 512) :
    k0_pay23 (F := Ideal) (k0_pay13 v0 v1) w (ix2 n j) = proj (fun k => v0 (ix2 n k)) (fun k => v1 (ix2 0 k)) fun k => w (ix2 k j) := by
  pointwise [k0_pay23, k0_pay13, proj, normed]
theorem pay24 (v0 : FVec Ideal S256x1024 .f32) (v1 : FVec Ideal S1x1024 .f32) (w : FVec Ideal S1024x512 .bf16) (n : Fin 256) (j : Fin 512) :
    k0_pay1 (F := Ideal) (k0_pay24 (F := Ideal) (k0_pay13 v0 v1) w) (ix2 n j) = proj (fun k => v0 (ix2 n k)) (fun k => v1 (ix2 0 k)) fun k => w (ix2 k j) := by
  pointwise [k0_pay1, k0_pay24, k0_pay13, proj, normed]

/-- The first output's block from the blocks of the inputs. -/
def out4 (x0 : FVec Ideal S512x1024 .f32) (x1 : FVec Ideal S1x1024 .f32) (w : FVec Ideal S1024x4608 .bf16) (y : S512x4608.Idx) : EReal :=
  proj (fun k => x0 (ix2 (y 0) k)) (fun k => x1 (ix2 0 k)) fun k => w (ix2 k (y 1))

theorem out4_of {W} (x0 : FVec Ideal S512x1024 .f32) (x1 : FVec Ideal S1x1024 .f32) (w : FVec Ideal S1024x4608 .bf16) (y : S512x4608.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out4 x0 x1 w y := by
  unfold out4
  simp only [h0, h1, h2]

set_option maxHeartbeats 4000000 in
theorem out4_at (x0 : FVec Ideal S512x1024 .f32) (x1 : FVec Ideal S1x1024 .f32) (x2 : FVec Ideal S1024x4608 .bf16) (x3 : FVec Ideal S1024x128 .bf16)
    (y : S512x4608.Idx) : out0_4 (F := Ideal) x0 x1 x2 x3 y = out4 x0 x1 x2 y := by
  unfold out0_4 k0_pay25 k0_pay26
  refine View.canon_apply_of_pieces (Val := Elt Ideal) (fun y => out4 x0 x1 x2 y) _ ?_ y (cover0_4 _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl
  all_goals
    intro x
    obtain ⟨n, j, rfl⟩ : ∃ (n : Fin 256) (j : Fin 512), x = ix2 n j := ⟨x 0, x 1, funext fun a => by match a with
      | ⟨0, _⟩ => rfl
      | ⟨1, _⟩ => rfl⟩
    first
    | refine (pay4 _ _ _ n j).trans ?_
    | refine (pay5 _ _ _ n j).trans ?_
    | refine (pay6 _ _ _ n j).trans ?_
    | refine (pay7 _ _ _ n j).trans ?_
    | refine (pay8 _ _ _ n j).trans ?_
    | refine (pay9 _ _ _ n j).trans ?_
    | refine (pay10 _ _ _ n j).trans ?_
    | refine (pay11 _ _ _ n j).trans ?_
    | refine (pay12 _ _ _ n j).trans ?_
    | refine (pay15 _ _ _ n j).trans ?_
    | refine (pay16 _ _ _ n j).trans ?_
    | refine (pay17 _ _ _ n j).trans ?_
    | refine (pay19 _ _ _ n j).trans ?_
    | refine (pay20 _ _ _ n j).trans ?_
    | refine (pay21 _ _ _ n j).trans ?_
    | refine (pay22 _ _ _ n j).trans ?_
    | refine (pay23 _ _ _ n j).trans ?_
    | refine (pay24 _ _ _ n j).trans ?_
    refine out4_of x0 x1 x2 _ _ _ (fun k j => _) n j (fun k => congrArg x0 (funext fun a => Fin.ext ?_)) (fun k => congrArg x1 (funext fun a => Fin.ext ?_))
      (fun k => congrArg x2 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

/-- The second output's block from the blocks of the inputs. -/
def out5 (x0 : FVec Ideal S512x1024 .f32) (x1 : FVec Ideal S1x1024 .f32) (w : FVec Ideal S1024x128 .bf16) (y : S512x128.Idx) : EReal :=
  proj (fun k => x0 (ix2 (y 0) k)) (fun k => x1 (ix2 0 k)) fun k => w (ix2 k (y 1))

theorem out5_of {W} (x0 : FVec Ideal S512x1024 .f32) (x1 : FVec Ideal S1x1024 .f32) (w : FVec Ideal S1024x128 .bf16) (y : S512x128.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out5 x0 x1 w y := by
  unfold out5
  simp only [h0, h1, h2]

set_option maxHeartbeats 4000000 in
theorem out5_at (x0 : FVec Ideal S512x1024 .f32) (x1 : FVec Ideal S1x1024 .f32) (x2 : FVec Ideal S1024x4608 .bf16) (x3 : FVec Ideal S1024x128 .bf16)
    (y : S512x128.Idx) : out0_5 (F := Ideal) x0 x1 x2 x3 y = out5 x0 x1 x3 y := by
  unfold out0_5
  refine View.canon_apply_of_pieces (Val := Elt Ideal) (fun y => out5 x0 x1 x3 y) _ ?_ y (cover0_5 _ _ y)
  intro p hp
  simp only [List.mem_cons, List.not_mem_nil, or_false] at hp
  rcases hp with rfl | rfl
  all_goals
    intro x
    obtain ⟨n, j, rfl⟩ : ∃ (n : Fin 256) (j : Fin 128), x = ix2 n j := ⟨x 0, x 1, funext fun a => by match a with
      | ⟨0, _⟩ => rfl
      | ⟨1, _⟩ => rfl⟩
    first
    | refine (pay3 _ _ _ n j).trans ?_
    | refine (pay14 _ _ _ n j).trans ?_
    refine out5_of x0 x1 x3 _ _ _ (fun k j => _) n j (fun k => congrArg x0 (funext fun a => Fin.ext ?_)) (fun k => congrArg x1 (funext fun a => Fin.ext ?_))
      (fun k => congrArg x3 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

section Blocks

variable (m : (ℓ : Loc nD τ sig) → Buf (Elt Ideal) ℓ) (c : Dev nD)

theorem row_lt (t : Fin cfg0.N) (n : Fin 512) : 512 * t.val + n.val < 32768 := by
  have := lt_of_lt_of_eq t.isLt (show cfg0.N = 64 from N_0)
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, ∀ a : Fin 2, win0_1.index t a = 0 := (by decide +kernel : ∀ t : Fin grid0.N, _)
theorem idx2 : ∀ t : Fin cfg0.N, ∀ a : Fin 2, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem blk0 (t : Fin cfg0.N) (n : Fin 512) (j : Fin 1024) :
    iblk m c 0 t (ix2 n j) = m ((c : Thread nD τ).loc main_arg0) (ix2 ⟨512 * t.val + n.val, row_lt t n⟩ j) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * n.val = 512 * t.val + n.val; rw [e0]; omega
  | ⟨1, _⟩ => show win0_0.index t (1 : Fin 2) * 1024 + 1 * j.val = j.val; rw [e1]; omega

theorem V_v0 : V m c main_v0 = shapeCast S1x1024 (m ((c : Thread nD τ).loc main_arg1)) shapeCasts_S1024_S1x1024 := by
  unfold V
  after_reads_simp
  rfl

theorem blk1 (t : Fin cfg0.N) (j : Fin 1024) : iblk m c 1 t (ix2 0 j) = m ((c : Thread nD τ).loc main_arg1) (ix1 j) := by
  unfold iblk
  rw [View.read_apply]
  show V m c main_v0 _ = _
  rw [V_v0]
  have e := idx1 t
  have ej : ((cfg0.win 1).blk t).view.emb (ix2 (0 : Fin 1) j) = (ix2 (0 : Fin 1) j : S1x1024.Idx) := funext fun a => Fin.ext (by match a with
    | ⟨0, _⟩ => show win0_1.index t (0 : Fin 2) * 1 + 1 * 0 = 0; rw [e 0]
    | ⟨1, _⟩ => show win0_1.index t (1 : Fin 2) * 1024 + 1 * j.val = j.val; rw [e 1]; omega)
  refine Eq.trans (congrArg _ ej) ?_
  pointwise

theorem blk2 (t : Fin cfg0.N) (k : Fin 1024) (j : Fin 4608) : iblk m c 2 t (ix2 k j) = m ((c : Thread nD τ).loc main_arg2) (ix2 k j) := by
  unfold iblk
  rw [View.read_apply]
  show V m c main_arg2 _ = _
  rw [V_main_arg2]
  have e := idx2 t
  refine congrArg (m ((c : Thread nD τ).loc main_arg2)) (funext fun a => Fin.ext ?_)
  match a with
  | ⟨0, _⟩ => show win0_2.index t (0 : Fin 2) * 1024 + 1 * k.val = k.val; rw [e 0]; omega
  | ⟨1, _⟩ => show win0_2.index t (1 : Fin 2) * 4608 + 1 * j.val = j.val; rw [e 1]; omega

theorem blk3 (t : Fin cfg0.N) (k : Fin 1024) (j : Fin 128) : iblk m c 3 t (ix2 k j) = m ((c : Thread nD τ).loc main_arg3) (ix2 k j) := by
  unfold iblk
  rw [View.read_apply]
  show V m c main_arg3 _ = _
  rw [V_main_arg3]
  have e := idx3 t
  refine congrArg (m ((c : Thread nD τ).loc main_arg3)) (funext fun a => Fin.ext ?_)
  match a with
  | ⟨0, _⟩ => show win0_3.index t (0 : Fin 2) * 1024 + 1 * k.val = k.val; rw [e 0]; omega
  | ⟨1, _⟩ => show win0_3.index t (1 : Fin 2) * 128 + 1 * j.val = j.val; rw [e 1]; omega

theorem kernel_is4 (i : Fin 32768) (j : Fin 4608) :
    (dats m 0 c).arrAt 4 cfg0.N (ix2 i j)
      = proj (fun k => m ((c : Thread nD τ).loc main_arg0) (ix2 i k)) (fun k => m ((c : Thread nD τ).loc main_arg1) (ix1 k)) (fun k => m ((c : Thread nD τ).loc main_arg2) (ix2 k j)) := by
  have ht : i.val / 512 < cfg0.N := by rw [show cfg0.N = 64 from N_0]; omega
  obtain ⟨e0, e1⟩ := idx4 ⟨i.val / 512, ht⟩
  have h := congrFun (blocks4 m c ⟨i.val / 512, ht⟩ (flush0_4 _)) (ix2 (⟨i.val % 512, by omega⟩ : Fin 512) j)
  rw [View.read_apply, flushed4] at h
  have ei : ((cfg0.win 4).blk ⟨i.val / 512, ht⟩).view.emb (ix2 (⟨i.val % 512, by omega⟩ : Fin 512) j) = (ix2 i j : S32768x4608.Idx) := funext fun a => Fin.ext (by match a with
    | ⟨0, _⟩ => show win0_4.index ⟨i.val / 512, ht⟩ (0 : Fin 2) * 512 + 1 * (i.val % 512) = i.val; rw [e0]; show i.val / 512 * 512 + 1 * (i.val % 512) = i.val; omega
    | ⟨1, _⟩ => show win0_4.index ⟨i.val / 512, ht⟩ (1 : Fin 2) * 4608 + 1 * j.val = j.val; rw [e1]; omega)
  rw [ei] at h
  refine h.trans ((out4_at _ _ _ _ _).trans ?_)
  have er : (⟨512 * (i.val / 512) + i.val % 512, by omega⟩ : Fin 32768) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 2 ⟨i.val / 512, ht⟩ (ix2 k j)) = _
  simp only [blk0, blk1, blk2, er]

theorem kernel_is5 (i : Fin 32768) (j : Fin 128) :
    (dats m 0 c).arrAt 5 cfg0.N (ix2 i j)
      = proj (fun k => m ((c : Thread nD τ).loc main_arg0) (ix2 i k)) (fun k => m ((c : Thread nD τ).loc main_arg1) (ix1 k)) (fun k => m ((c : Thread nD τ).loc main_arg3) (ix2 k j)) := by
  have ht : i.val / 512 < cfg0.N := by rw [show cfg0.N = 64 from N_0]; omega
  obtain ⟨e0, e1⟩ := idx5 ⟨i.val / 512, ht⟩
  have h := congrFun (blocks5 m c ⟨i.val / 512, ht⟩ (flush0_5 _)) (ix2 (⟨i.val % 512, by omega⟩ : Fin 512) j)
  rw [View.read_apply, flushed5] at h
  have ei : ((cfg0.win 5).blk ⟨i.val / 512, ht⟩).view.emb (ix2 (⟨i.val % 512, by omega⟩ : Fin 512) j) = (ix2 i j : S32768x128.Idx) := funext fun a => Fin.ext (by match a with
    | ⟨0, _⟩ => show win0_5.index ⟨i.val / 512, ht⟩ (0 : Fin 2) * 512 + 1 * (i.val % 512) = i.val; rw [e0]; show i.val / 512 * 512 + 1 * (i.val % 512) = i.val; omega
    | ⟨1, _⟩ => show win0_5.index ⟨i.val / 512, ht⟩ (1 : Fin 2) * 128 + 1 * j.val = j.val; rw [e1]; omega)
  rw [ei] at h
  refine h.trans ((out5_at _ _ _ _ _).trans ?_)
  have er : (⟨512 * (i.val / 512) + i.val % 512, by omega⟩ : Fin 32768) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 3 ⟨i.val / 512, ht⟩ (ix2 k j)) = _
  simp only [blk0, blk1, blk3, er]

end Blocks

end K

namespace R

open Cert.Reference4Ideal Cert.Reference4Ideal.Gen Cert.Reference4Ideal.Value

def norms (y : FVec Ideal S32768x1024 .f32) (a3 : FVec Ideal S1024 .f32) : FVec Ideal S32768x1024 .f32 :=
  mulf (F := Ideal) (mulf (F := Ideal) y (broadcastInDim S32768x1024 ![0, 1] bcast_S32768x1_S32768x1024_0_1 (Host.rsqrt (F := Ideal) (addf (F := Ideal) (Host.divf (F := Ideal)
    (broadcastInDim S32768x1 ![0] bcast_S32768_S32768x1_0 (Host.reduceAdd (F := Ideal) (mulf (F := Ideal) y y) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 a3))

def wide (a0 : FVec Ideal S32768x1024 .f32) (a1 : FVec Ideal S1024 .f32) (a2 : FVec Ideal S1024x4608 .bf16) : FVec Ideal S32768x4608 .bf16 :=
  truncf (F := Ideal) .bf16 (Host.dotGeneral (F := Ideal) dot_S32768x1024_S1024x4608_S32768x4608_1_0_0_1_n_n none (norms a0 a1) (extf (F := Ideal) .f32 a2 bitsLt_bf16_f32)) bitsLt_bf16_f32

def side (a0 : FVec Ideal S32768x1024 .f32) (a1 : FVec Ideal S1024 .f32) (a3 : FVec Ideal S1024x128 .bf16) : FVec Ideal S32768x128 .f32 :=
  Host.dotGeneral (F := Ideal) dot_S32768x1024_S1024x128_S32768x128_1_0_0_1_n_n none (norms a0 a1) (extf (F := Ideal) .f32 a3 bitsLt_bf16_f32)

theorem norms_at (y : FVec Ideal S32768x1024 .f32) (a3 : FVec Ideal S1024 .f32) (i : Fin 32768) (j : Fin 1024) :
    norms y a3 (ix2 i j) = normed (fun j => y (ix2 i j)) (a3 (ix1 j)) j := by
  pointwise [norms, normed]

theorem wide_at (a0 : FVec Ideal S32768x1024 .f32) (a1 : FVec Ideal S1024 .f32) (a2 : FVec Ideal S1024x4608 .bf16) (i : Fin 32768) (j : Fin 4608) :
    wide a0 a1 a2 (ix2 i j) = proj (fun k => a0 (ix2 i k)) (fun k => a1 (ix1 k)) (fun k => a2 (ix2 k j)) := by
  refine Eq.trans (b := ∑ k : Fin 1024, norms a0 a1 (ix2 i k) * a2 (ix2 k j)) ?_ ?_
  · pointwise [wide]
  · simp only [norms_at, proj]

theorem side_at (a0 : FVec Ideal S32768x1024 .f32) (a1 : FVec Ideal S1024 .f32) (a3 : FVec Ideal S1024x128 .bf16) (i : Fin 32768) (j : Fin 128) :
    side a0 a1 a3 (ix2 i j) = proj (fun k => a0 (ix2 i k)) (fun k => a1 (ix1 k)) (fun k => a3 (ix2 k j)) := by
  refine Eq.trans (b := ∑ k : Fin 1024, norms a0 a1 (ix2 i k) * a3 (ix2 k j)) ?_ ?_
  · pointwise [side]
  · simp only [norms_at, proj]

end R

theorem wide_same (m : (ℓ : Loc Cert.Kernel4Ideal.nD Cert.Kernel4Ideal.τ Cert.Kernel4Ideal.sig) → Buf (Elt Ideal) ℓ) (c : Dev Cert.Kernel4Ideal.nD)
    {a0 : FVec Ideal Cert.Reference4Ideal.S32768x1024 .f32} {a1 : FVec Ideal Cert.Reference4Ideal.S1024 .f32} {a2 : FVec Ideal Cert.Reference4Ideal.S1024x4608 .bf16}
    (h0 : a0 = m ((c.tc : Thread Cert.Kernel4Ideal.nD Cert.Kernel4Ideal.τ).loc Cert.Kernel4Ideal.main_arg0))
    (h1 : a1 = m ((c.tc : Thread Cert.Kernel4Ideal.nD Cert.Kernel4Ideal.τ).loc Cert.Kernel4Ideal.main_arg1))
    (h2 : a2 = m ((c.tc : Thread Cert.Kernel4Ideal.nD Cert.Kernel4Ideal.τ).loc Cert.Kernel4Ideal.main_arg2)) :
    R.wide a0 a1 a2 = (Cert.Kernel4Ideal.Gen.dats m 0 c).arrAt 4 Cert.Kernel4Ideal.cfg0.N := by
  subst h0 h1 h2
  funext x
  obtain ⟨i, j, rfl⟩ : ∃ (i : Fin 32768) (j : Fin 4608), x = ix2 i j := ⟨x 0, x 1, funext fun a => by match a with
    | ⟨0, _⟩ => rfl
    | ⟨1, _⟩ => rfl⟩
  exact (R.wide_at _ _ _ i j).trans (K.kernel_is4 m c i j).symm

theorem side_same (m : (ℓ : Loc Cert.Kernel4Ideal.nD Cert.Kernel4Ideal.τ Cert.Kernel4Ideal.sig) → Buf (Elt Ideal) ℓ) (c : Dev Cert.Kernel4Ideal.nD)
    {a0 : FVec Ideal Cert.Reference4Ideal.S32768x1024 .f32} {a1 : FVec Ideal Cert.Reference4Ideal.S1024 .f32} {a3 : FVec Ideal Cert.Reference4Ideal.S1024x128 .bf16}
    (h0 : a0 = m ((c.tc : Thread Cert.Kernel4Ideal.nD Cert.Kernel4Ideal.τ).loc Cert.Kernel4Ideal.main_arg0))
    (h1 : a1 = m ((c.tc : Thread Cert.Kernel4Ideal.nD Cert.Kernel4Ideal.τ).loc Cert.Kernel4Ideal.main_arg1))
    (h3 : a3 = m ((c.tc : Thread Cert.Kernel4Ideal.nD Cert.Kernel4Ideal.τ).loc Cert.Kernel4Ideal.main_arg3)) :
    R.side a0 a1 a3 = (Cert.Kernel4Ideal.Gen.dats m 0 c).arrAt 5 Cert.Kernel4Ideal.cfg0.N := by
  subst h0 h1 h3
  funext x
  obtain ⟨i, j, rfl⟩ : ∃ (i : Fin 32768) (j : Fin 128), x = ix2 i j := ⟨x 0, x 1, funext fun a => by match a with
    | ⟨0, _⟩ => rfl
    | ⟨1, _⟩ => rfl⟩
  exact (R.side_at _ _ _ i j).trans (K.kernel_is5 m c i j).symm

/-- Both programs, from arguments that agree, end with the same two outputs. -/
theorem algebraic : Cert.algebraic_Kernel4Ideal_Reference4Ideal (hKernel4Ideal := Cert.Kernel4Ideal.Gen.facts) (hReference4Ideal := Cert.Reference4Ideal.Gen.facts) :=
  fun m ρ m' ρ' _ hag => ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks (F := Ideal) m ρ,
    (θ_run _ _ _).mono (fun r h c => ⟨(h c).1.trans (wide_same m c (hag c).1 (hag c).2.1 (hag c).2.2.1), (h c).2.1.trans (side_same m c (hag c).1 (hag c).2.1 (hag c).2.2.2), (h c).2.2⟩)
      (Cert.Reference4Ideal.Value.run (F := Ideal) m' ρ')⟩

end Cert.Project

end
end
-- ==== Proof.MixRun.lean ====
module

public import proofs.«01_k».proof.Proof.Gen.Kernel2Ideal.Frame
public import proofs.«01_k».proof.Proof.Gen.Kernel2Ideal.Skeleton
public import Idealize.ShloMosaic.Lib.Claim

/-!
One point of the grid of `mix_ffn_up`: the body's run from the contents of its input blocks and of the carried
scratch buffer, and what its stores leave.
-/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The pieces the body stores into its two output blocks and into the scratch buffer, last first, with the body's
    triple: from the inputs' contents and the scratch buffer's contents `xs` it ends with these pieces written. -/
noncomputable def mixRun (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S512x1024 .f32) (harg9 : arg9.IsWhole) (arg10 : Memref sig .tc .vmem S512x2816 .bf16) (harg10 : arg10.IsWhole) (arg11 : Memref sig .tc .vmem S8x2816 .f32) (harg11 : arg11.IsWhole)
    (x0 : Vec F S512x1024 .f32) (x1 : Vec F S512x1024 .bf16) (x2 : Vec F S512x512 .bf16) (x3 : Vec F S1536x1024 .bf16) (x4 : Vec F S1x1024 .f32) (x5 : Vec F S1024x5632 .bf16) (x6 : Vec F S8x2816 .f32) (x7 : Vec F S1x2816 .f32) (xs : Vec F S8x2816 .f32) :
    Σ' (L8 : List (View.Piece (Elt F) S512x1024 .f32)), Σ' (L9 : List (View.Piece (Elt F) S512x2816 .bf16)), { LS : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0_mix_ffn_up i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mix_ffn_up_eq_skeleton]; unfold cc0_mix_ffn_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS

end Cert.Kernel2Ideal.Gen

end

end
-- ==== Proof.MixBody.lean ====
module

public import proofs.«01_k».proof.Proof.MixRun

/-!
What the body of `mix_ffn_up` stores, tile by tile: 256 rows by 256 hidden columns. The stores, as the run lists
them, are these values by unfolding.
-/

@[expose] public section

set_option maxRecDepth 16384

noncomputable section

namespace Cert.Kernel2Ideal.Gen

open Idealize.ShloMosaic Idealize.ShloMosaic.TcCoe Idealize.ShloMosaic.Tactic Idealize.SL Idealize.SL.Sem

variable {F : FTy → Type} [FloatOps F]

/-- The bit that says the point is the first of its sequence. -/
abbrev firstBit (i : grid0.Coords) : BitVec 1 := mixRun.sl.v10 i

theorem in_rows (h : Fin 2) : ∀ a, (![256 * h.val, 0] : Fin 2 → Nat) a + S256x1024.size a ≤ S512x1024.size a := by
  revert h; decide
theorem in_rowsB (h : Fin 2) : ∀ a, (![256 * h.val, 0] : Fin 2 → Nat) a + S256x512.size a ≤ S512x512.size a := by
  revert h; decide
theorem in_gate (j : Fin 11) : ∀ a, (![0, 256 * j.val] : Fin 2 → Nat) a + S1024x256.size a ≤ S1024x5632.size a := by
  revert j; decide
theorem in_val (j : Fin 11) : ∀ a, (![0, 2816 + 256 * j.val] : Fin 2 → Nat) a + S1024x256.size a ≤ S1024x5632.size a := by
  revert j; decide
theorem in_tap (i : Fin 3) (j : Fin 11) : ∀ a, (![i.val, 256 * j.val] : Fin 2 → Nat) a + S1x256.size a ≤ S8x2816.size a := by
  revert i j; decide
theorem in_bias (j : Fin 11) : ∀ a, (![0, 256 * j.val] : Fin 2 → Nat) a + S1x256.size a ≤ S1x2816.size a := by
  revert j; decide
theorem in_carry (j : Fin 11) : ∀ a, (![0, 256 * j.val] : Fin 2 → Nat) a + S8x256.size a ≤ S8x2816.size a := by
  revert j; decide
theorem in_act (h : Fin 2) (j : Fin 11) : ∀ a, (![256 * h.val, 256 * j.val] : Fin 2 → Nat) a + S256x256.size a ≤ S512x2816.size a := by
  revert h j; decide

/-- The half of the rows of a block, a tile's columns of the two halves of the up projection, of a tap and of the
    bias, a tile of the carried rows and of the output. -/
abbrev rRows (h : Fin 2) : Rect S512x1024 := Rect.unit ![256 * h.val, 0] S256x1024.size (in_rows h)
abbrev rRowsB (h : Fin 2) : Rect S512x512 := Rect.unit ![256 * h.val, 0] S256x512.size (in_rowsB h)
abbrev rGate (j : Fin 11) : Rect S1024x5632 := Rect.unit ![0, 256 * j.val] S1024x256.size (in_gate j)
abbrev rVal (j : Fin 11) : Rect S1024x5632 := Rect.unit ![0, 2816 + 256 * j.val] S1024x256.size (in_val j)
abbrev rTap (i : Fin 3) (j : Fin 11) : Rect S8x2816 := Rect.unit ![i.val, 256 * j.val] S1x256.size (in_tap i j)
abbrev rBias (j : Fin 11) : Rect S1x2816 := Rect.unit ![0, 256 * j.val] S1x256.size (in_bias j)
abbrev rCarry (j : Fin 11) : Rect S8x2816 := Rect.unit ![0, 256 * j.val] S8x256.size (in_carry j)
abbrev rAct (h : Fin 2) (j : Fin 11) : Rect S512x2816 := Rect.unit ![256 * h.val, 256 * j.val] S256x256.size (in_act h j)

/-- A tile moved down by `k` rows, its first eight rows taking the rows before the tile from `pv`. -/
def movedTop (k : BitVec 32) (g : FVec F S256x256 .f32) (pv : FVec F S8x256 .f32) : FVec F S8x256 .f32 :=
  select (cmpi .slt (iota .tc S8x256 32 [0] iota_S8x256_d0_w32) (broadcast S8x256 k)) (dynamicRotate 0 k none pv rotates_S8x256_d0)
    (extractStridedSlice S8x256 ![0, 0] (dynamicRotate 0 k none g rotates_S256x256_d0) slices_S256x256_o0_0_S8x256)
def movedRest (k : BitVec 32) (g : FVec F S256x256 .f32) : FVec F S248x256 .f32 :=
  extractStridedSlice S248x256 ![8, 0] (dynamicRotate 0 k none g rotates_S256x256_d0) slices_S256x256_o8_0_S248x256
def moved (k : BitVec 32) (g : FVec F S256x256 .f32) (pv : FVec F S8x256 .f32) : FVec F S256x256 .f32 :=
  concatenate S256x256 0 [⟨S8x256, movedTop k g pv⟩, ⟨S248x256, movedRest k g⟩] concatenates_S8x256_S248x256_S256x256_d0

/-- A tile of the output: the gate's convolution with silu, times the value. -/
def tile (g v : FVec F S256x256 .f32) (pv : FVec F S8x256 .f32) (c : Fin 3 → FVec F S1x256 .f32) (cb : FVec F S1x256 .f32) : FVec F S256x256 .bf16 :=
  k0_pay12 g v (mulf (moved 2#32 g pv) (broadcastTo S256x256 (shapeCast S1x256 (c 0) shapeCasts_S1x256_S1x256) broadcasts_S1x256_S256x256))
    (movedTop 1#32 g pv) (movedRest 1#32 g) (c 1) (c 2) cb

/-- The last eight rows of a tile. -/
def lastRows (g : FVec F S256x256 .f32) : FVec F S8x256 .f32 :=
  shapeCast S8x256 (extractStridedSlice S8x256 ![248, 0] g slices_S256x256_o248_0_S8x256) shapeCasts_S8x256_S8x256

/-- What the body reads of its input blocks. -/
structure Ins (F : FTy → Type) where
  x : Fin 2 → FVec F S256x1024 .f32
  a : Fin 2 → FVec F S256x1024 .bf16
  b : Fin 2 → FVec F S256x512 .bf16
  woA : FVec F S1024x1024 .bf16
  woB : FVec F S512x1024 .bf16
  nw : FVec F S1x1024 .f32
  wg : Fin 11 → FVec F S1024x256 .bf16
  wv : Fin 11 → FVec F S1024x256 .bf16
  tap : Fin 3 → Fin 11 → FVec F S1x256 .f32
  cb : Fin 11 → FVec F S1x256 .f32

namespace Ins

variable (I : Ins F)

/-- Half of the rows of the residual, its norm, and a tile of its two projections. -/
def res (h : Fin 2) : FVec F S256x1024 .f32 := k0_pay1 (I.x h) (I.a h) I.woA (I.b h) I.woB
def normed (h : Fin 2) : FVec F S256x1024 .bf16 := k0_pay3 (k0_pay2 (I.x h) (I.a h) I.woA (I.b h) I.woB) I.nw
def gate (h : Fin 2) (j : Fin 11) : FVec F S256x256 .f32 := k0_pay22 (I.normed h) (I.wg j)
def val (h : Fin 2) (j : Fin 11) : FVec F S256x256 .f32 := k0_pay22 (I.normed h) (I.wv j)

/-- The stores into the residual's block. -/
def resS : List (View.Piece (Elt F) S512x1024 .f32) := [⟨rRows 1, I.res 1⟩, ⟨rRows 0, I.res 0⟩]

/-- The stores into the carried rows. -/
def pc (h : Fin 2) (j : Fin 11) : View.Piece (Elt F) S8x2816 .f32 := ⟨rCarry j, lastRows (I.gate h j)⟩
def carry0 : (n : ℕ) → n ≤ 11 → List (View.Piece (Elt F) S8x2816 .f32)
  | 0, _ => []
  | n + 1, h => I.pc 0 ⟨n, h⟩ :: carry0 n (Nat.le_of_succ_le h)
def carry1 : (n : ℕ) → n ≤ 11 → List (View.Piece (Elt F) S8x2816 .f32)
  | 0, _ => I.carry0 11 (le_refl 11)
  | n + 1, h => I.pc 1 ⟨n, h⟩ :: carry1 n (Nat.le_of_succ_le h)

/-- The stores into the output, from the rows before each tile. -/
def pa (pv : Fin 2 → Fin 11 → FVec F S8x256 .f32) (h : Fin 2) (j : Fin 11) : View.Piece (Elt F) S512x2816 .bf16 :=
  ⟨rAct h j, tile (I.gate h j) (I.val h j) (pv h j) (fun i => I.tap i j) (I.cb j)⟩
def actS (pv : Fin 2 → Fin 11 → FVec F S8x256 .f32) : List (View.Piece (Elt F) S512x2816 .bf16) :=
  [I.pa pv 1 10, I.pa pv 1 9, I.pa pv 1 8, I.pa pv 1 7, I.pa pv 1 6, I.pa pv 1 5, I.pa pv 1 4, I.pa pv 1 3, I.pa pv 1 2, I.pa pv 1 1, I.pa pv 1 0, I.pa pv 0 10, I.pa pv 0 9, I.pa pv 0 8, I.pa pv 0 7, I.pa pv 0 6, I.pa pv 0 5, I.pa pv 0 4, I.pa pv 0 3, I.pa pv 0 2, I.pa pv 0 1, I.pa pv 0 0]

/-- The rows before each tile: of the first half what was carried, or zero; of the second the last rows of the first. -/
def before (b : BitVec 1) (xs : Fin 11 → FVec F S8x256 .f32) (h : Fin 2) (j : Fin 11) : FVec F S8x256 .f32 :=
  match h with
  | 0 => k0_pay6 b (xs j)
  | 1 => lastRows (I.gate 0 j)

theorem carry_disjoint (j j' : Fin 11) (h : j ≠ j') : Disjoint (rCarry j').set (rCarry j).toLoadRect.set := by
  have h' : j.val ≠ j'.val := fun e => h (Fin.ext e)
  rw [show (rCarry j).toLoadRect.set = (rCarry j).set from rfl]
  refine Rect.unit_disjoint (1 : Fin 2) ?_
  show 256 * j'.val + 256 ≤ 256 * j.val ∨ 256 * j.val + 256 ≤ 256 * j'.val
  omega

theorem read_carry0 (m : Memref sig .tc .vmem S8x2816 .f32) (j : Fin 11) (n : ℕ) (h : n ≤ 11) (hj : j.val < n) :
    @Eq (FVec F S8x256 .f32) (m.view.readCov (I.carry0 n h) (rCarry j).toLoadRect) (lastRows (I.gate 0 j)) := by
  induction n with
  | zero => exact absurd hj (Nat.not_lt_zero _)
  | succ n ih =>
    rw [carry0]
    by_cases e : j = ⟨n, h⟩
    · rw [e]
      exact View.readCov_cons_toLoadRect m.view _ _ _
    · have d : Disjoint (I.pc 0 ⟨n, h⟩).1.set (rCarry j).toLoadRect.set := carry_disjoint j ⟨n, h⟩ e
      refine (View.readCov_cons_of_disjoint (Val := Elt F) m.view (I.pc 0 ⟨n, h⟩) _ _ d).trans (ih _ ?_)
      have : j.val ≠ n := fun e' => e (Fin.ext e')
      omega

theorem read_carry1 (m : Memref sig .tc .vmem S8x2816 .f32) (j : Fin 11) (n : ℕ) (h : n ≤ 11) (hj : n ≤ j.val) :
    @Eq (FVec F S8x256 .f32) (m.view.readCov (I.carry1 n h) (rCarry j).toLoadRect) (lastRows (I.gate 0 j)) := by
  induction n with
  | zero => rw [carry1]; exact I.read_carry0 m j 11 (le_refl 11) j.isLt
  | succ n ih =>
    rw [carry1]
    have e : j ≠ ⟨n, h⟩ := fun e => by
      have e' : j.val = n := congrArg Fin.val e
      omega
    have d : Disjoint (I.pc 1 ⟨n, h⟩).1.set (rCarry j).toLoadRect.set := carry_disjoint j ⟨n, h⟩ e
    exact (View.readCov_cons_of_disjoint (Val := Elt F) m.view (I.pc 1 ⟨n, h⟩) _ _ d).trans (ih _ (by omega))

end Ins

variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S1536x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S8x2816 .f32) (harg7 : arg7.IsWhole)
  (arg8 : Memref sig .tc .vmem S1x2816 .f32) (harg8 : arg8.IsWhole)
  (arg9 : Memref sig .tc .vmem S512x1024 .f32) (harg9 : arg9.IsWhole)
  (arg10 : Memref sig .tc .vmem S512x2816 .bf16) (harg10 : arg10.IsWhole)
  (arg11 : Memref sig .tc .vmem S8x2816 .f32) (harg11 : arg11.IsWhole)
  (x0 : Vec F S512x1024 .f32) (x1 : Vec F S512x1024 .bf16) (x2 : Vec F S512x512 .bf16) (x3 : Vec F S1536x1024 .bf16) (x4 : Vec F S1x1024 .f32) (x5 : Vec F S1024x5632 .bf16) (x6 : Vec F S8x2816 .f32) (x7 : Vec F S1x2816 .f32) (xs : Vec F S8x2816 .f32)

/-- The body's reads of its input blocks. -/
def insOf : Ins F where
  x h := arg1.view.readAt (Elt F) (rRows h).toLoadRect (harg1.unread x0)
  a h := arg2.view.readAt (Elt F) (rRows h).toLoadRect (harg2.unread x1)
  b h := arg3.view.readAt (Elt F) (rRowsB h).toLoadRect (harg3.unread x2)
  woA := arg4.view.readAt (Elt F) (Rect.unit (s := S1536x1024) ![0, 0] S1024x1024.size inb_S1536x1024_S1024x1024_0_0).toLoadRect (harg4.unread x3)
  woB := arg4.view.readAt (Elt F) (Rect.unit (s := S1536x1024) ![1024, 0] S512x1024.size inb_S1536x1024_S512x1024_1024_0).toLoadRect (harg4.unread x3)
  nw := arg5.view.readAt (Elt F) (Rect.unit ![0, 0] S1x1024.size inb_S1x1024_S1x1024_0_0).toLoadRect (harg5.unread x4)
  wg j := arg6.view.readAt (Elt F) (rGate j).toLoadRect (harg6.unread x5)
  wv j := arg6.view.readAt (Elt F) (rVal j).toLoadRect (harg6.unread x5)
  tap i j := arg7.view.readAt (Elt F) (rTap i j).toLoadRect (harg7.unread x6)
  cb j := arg8.view.readAt (Elt F) (rBias j).toLoadRect (harg8.unread x7)

/-- The rows before each tile, as the body reads them. -/
def readBefore (I : Ins F) (h : Fin 2) (j : Fin 11) : FVec F S8x256 .f32 :=
  match h with
  | 0 => k0_pay6 (firstBit i) (arg11.view.readAt (Elt F) (rCarry j).toLoadRect (harg11.unread xs))
  | 1 => arg11.view.readCov (I.carry1 j.val j.isLt.le) (rCarry j).toLoadRect

theorem readBefore_eq (I : Ins F) : readBefore i arg11 harg11 xs I
    = I.before (firstBit i) (fun j => arg11.view.readAt (Elt F) (rCarry j).toLoadRect (harg11.unread xs)) := by
  funext h j
  match h with
  | 0 => rfl
  | 1 => exact I.read_carry1 arg11 j j.val _ (le_refl _)

theorem run_res : (mixRun c i arg1 harg1 arg2 harg2 arg3 harg3 arg4 harg4 arg5 harg5 arg6 harg6 arg7 harg7 arg8 harg8 arg9 harg9 arg10 harg10 arg11 harg11 x0 x1 x2 x3 x4 x5 x6 x7 xs).1 = (insOf arg1 harg1 arg2 harg2 arg3 harg3 arg4 harg4 arg5 harg5 arg6 harg6 arg7 harg7 arg8 harg8 x0 x1 x2 x3 x4 x5 x6 x7).resS := by
  sl_kernel_rfl

theorem run_act : (mixRun c i arg1 harg1 arg2 harg2 arg3 harg3 arg4 harg4 arg5 harg5 arg6 harg6 arg7 harg7 arg8 harg8 arg9 harg9 arg10 harg10 arg11 harg11 x0 x1 x2 x3 x4 x5 x6 x7 xs).2.1 = (insOf arg1 harg1 arg2 harg2 arg3 harg3 arg4 harg4 arg5 harg5 arg6 harg6 arg7 harg7 arg8 harg8 x0 x1 x2 x3 x4 x5 x6 x7).actS (readBefore i arg11 harg11 xs (insOf arg1 harg1 arg2 harg2 arg3 harg3 arg4 harg4 arg5 harg5 arg6 harg6 arg7 harg7 arg8 harg8 x0 x1 x2 x3 x4 x5 x6 x7)) := by
  sl_kernel_rfl

theorem run_carry : (mixRun c i arg1 harg1 arg2 harg2 arg3 harg3 arg4 harg4 arg5 harg5 arg6 harg6 arg7 harg7 arg8 harg8 arg9 harg9 arg10 harg10 arg11 harg11 x0 x1 x2 x3 x4 x5 x6 x7 xs).2.2.1 = (insOf arg1 harg1 arg2 harg2 arg3 harg3 arg4 harg4 arg5 harg5 arg6 harg6 arg7 harg7 arg8 harg8 x0 x1 x2 x3 x4 x5 x6 x7).carry1 11 (le_refl 11) := by
  sl_kernel_rfl

end Cert.Kernel2Ideal.Gen

end

end
-- ==== Proof.MixFrame.lean ====
module

public import proofs.«01_k».proof.Proof.MixBody
public import Idealize.ShloMosaic.Lib.UnfoldOut

/-!
The grid of `mix_ffn_up` point by point: what the two output blocks and the carried rows hold after each point, the
body's obligation, the run and the frame. What is carried out of a point is a function of that point's inputs alone,
and the first point of a sequence reads zeros in its place.
-/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reads of its input blocks, as boxes of the blocks. -/
def insLd (x0 : Vec F S512x1024 .f32) (x1 : Vec F S512x1024 .bf16) (x2 : Vec F S512x512 .bf16) (x3 : Vec F S1536x1024 .bf16) (x4 : Vec F S1x1024 .f32) (x5 : Vec F S1024x5632 .bf16) (x6 : Vec F S8x2816 .f32) (x7 : Vec F S1x2816 .f32) : Ins F where
  x h := View.ld x0 (rRows h)
  a h := View.ld x1 (rRows h)
  b h := View.ld x2 (rRowsB h)
  woA := View.ld x3 (Rect.unit (s := S1536x1024) ![0, 0] S1024x1024.size inb_S1536x1024_S1024x1024_0_0)
  woB := View.ld x3 (Rect.unit (s := S1536x1024) ![1024, 0] S512x1024.size inb_S1536x1024_S512x1024_1024_0)
  nw := View.ld x4 (Rect.unit ![0, 0] S1x1024.size inb_S1x1024_S1x1024_0_0)
  wg j := View.ld x5 (rGate j)
  wv j := View.ld x5 (rVal j)
  tap i j := View.ld x6 (rTap i j)
  cb j := View.ld x7 (rBias j)

theorem insOf_eq (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S512x1024 .f32) (harg9 : arg9.IsWhole) (arg10 : Memref sig .tc .vmem S512x2816 .bf16) (harg10 : arg10.IsWhole) (arg11 : Memref sig .tc .vmem S8x2816 .f32) (harg11 : arg11.IsWhole) (x0 : Vec F S512x1024 .f32) (x1 : Vec F S512x1024 .bf16) (x2 : Vec F S512x512 .bf16) (x3 : Vec F S1536x1024 .bf16) (x4 : Vec F S1x1024 .f32) (x5 : Vec F S1024x5632 .bf16) (x6 : Vec F S8x2816 .f32) (x7 : Vec F S1x2816 .f32) :
    insOf arg1 harg1 arg2 harg2 arg3 harg3 arg4 harg4 arg5 harg5 arg6 harg6 arg7 harg7 arg8 harg8 x0 x1 x2 x3 x4 x5 x6 x7 = insLd x0 x1 x2 x3 x4 x5 x6 x7 := by
  unfold insOf insLd
  simp only [View.readAt_eq_ld, harg1.read_unread, harg2.read_unread, harg3.read_unread, harg4.read_unread, harg5.read_unread, harg6.read_unread, harg7.read_unread, harg8.read_unread]

/-! ## Every store covers its block -/

theorem cover_res (I : Ins F) (y : S512x1024.Idx) : ∃ p ∈ I.resS, y ∈ p.1.set :=
  View.cover_of_tiledL I.resS S256x1024.size (by sl_kernel_rfl) y

theorem cover_act (I : Ins F) (pv : Fin 2 → Fin 11 → FVec F S8x256 .f32) (y : S512x2816.Idx) : ∃ p ∈ I.actS pv, y ∈ p.1.set :=
  View.cover_of_tiledL (I.actS pv) S256x256.size (by sl_kernel_rfl) y

theorem mem_carry1 (I : Ins F) (j : Fin 11) (n : ℕ) (h : n ≤ 11) (hj : j.val < n) : I.pc 1 j ∈ I.carry1 n h := by
  induction n with
  | zero => exact absurd hj (Nat.not_lt_zero _)
  | succ n ih =>
    rw [Ins.carry1]
    by_cases e : j = ⟨n, h⟩
    · rw [e]; exact List.mem_cons_self
    · have : j.val ≠ n := fun e' => e (Fin.ext e')
      exact List.mem_cons_of_mem _ (ih _ (by omega))

theorem cover_carry (I : Ins F) (y : S8x2816.Idx) : ∃ p ∈ I.carry1 11 (le_refl 11), y ∈ p.1.set := by
  have h0 : (y 0).val < 8 := (y 0).isLt
  have h1 : (y 1).val < 2816 := (y 1).isLt
  refine ⟨_, mem_carry1 I ⟨(y 1).val / 256, by omega⟩ 11 (le_refl 11) (by show (y 1).val / 256 < 11; omega), ?_⟩
  show y ∈ (rCarry _).set
  rw [Rect.mem_set_unit]
  intro a
  match a with
  | ⟨0, _⟩ => show 0 ≤ (y 0).val ∧ (y 0).val < 0 + 8; omega
  | ⟨1, _⟩ => show 256 * ((y 1).val / 256) ≤ (y 1).val ∧ (y 1).val < 256 * ((y 1).val / 256) + 256; omega

/-! ## What each point leaves -/

variable (m : (ℓ : Loc nD τ sig) → Buf (Elt F) ℓ) (ρ : Dev nD → PrngReg)

/-- The reads at a point. -/
def insAt (c : Dev nD) (t : Fin cfg0.N) : Ins F := insLd (iblk m c 0 t) (iblk m c 1 t) (iblk m c 2 t) (iblk m c 3 t) (iblk m c 4 t) (iblk m c 5 t) (iblk m c 6 t) (iblk m c 7 t)

/-- The residual's block and the carried rows after a point. -/
def resAt (c : Dev nD) (t : Fin cfg0.N) : Vec F S512x1024 .f32 := View.canon (insAt m c t).resS
def carryAt (c : Dev nD) (t : Fin cfg0.N) : Vec F S8x2816 .f32 := View.canon ((insAt m c t).carry1 11 (le_refl 11))

/-- The output's block after a point that finds `xs` in the carried rows. -/
def actFrom (c : Dev nD) (t : Fin cfg0.N) (xs : Vec F S8x2816 .f32) : Vec F S512x2816 .bf16 :=
  View.canon ((insAt m c t).actS ((insAt m c t).before (firstBit (grid0.coords t)) fun j => View.ld xs (rCarry j)))

/-- The point before. -/
def prevPt (t : Fin cfg0.N) : Fin cfg0.N := ⟨t.val - 1, lt_of_le_of_lt (Nat.sub_le _ _) t.isLt⟩

/-- The output's block after a point. -/
def actAt (c : Dev nD) (t : Fin cfg0.N) : Vec F S512x2816 .bf16 := actFrom m c t (carryAt m c (prevPt t))

theorem firstBit_eq (t : Fin cfg0.N) : firstBit (grid0.coords t) = if t.val % 8 = 0 then 1#1 else 0#1 := by
  revert t; decide +kernel

/-- The first point of a sequence does not read what is carried. -/
theorem actFrom_first (c : Dev nD) (t : Fin cfg0.N) (h : t.val % 8 = 0) (xs xs' : Vec F S8x2816 .f32) : actFrom m c t xs = actFrom m c t xs' := by
  unfold actFrom
  rw [firstBit_eq, if_pos h]
  congr 2

/-! ## The invariant -/

abbrev ms0_0 (t : Fin cfg0.N) : Memref sig .tc .vmem S512x1024 .f32 := win0_0.stage (cfg0.slots t 0)
abbrev ms0_1 (t : Fin cfg0.N) : Memref sig .tc .vmem S512x1024 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S1536x1024 .bf16 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S1024x5632 .bf16 := win0_5.stage (cfg0.slots t 5)
abbrev ms0_6 (t : Fin cfg0.N) : Memref sig .tc .vmem S8x2816 .f32 := win0_6.stage (cfg0.slots t 6)
abbrev ms0_7 (t : Fin cfg0.N) : Memref sig .tc .vmem S1x2816 .f32 := win0_7.stage (cfg0.slots t 7)
abbrev ms0_8 (t : Fin cfg0.N) : Memref sig .tc .vmem S512x1024 .f32 := win0_8.stage (cfg0.slots t 8)
abbrev ms0_9 (t : Fin cfg0.N) : Memref sig .tc .vmem S512x2816 .bf16 := win0_9.stage (cfg0.slots t 9)
/-- The carried rows' buffer. -/
abbrev scM0_0 : Memref sig .tc .vmem S8x2816 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- Before the first point the buffer holds anything; afterwards what the point before left. -/
def PhiS (c : Dev nD) : (n : ℕ) → n ≤ cfg0.N → sProp 𝕄
  | 0, _ => Pipeline.ΦA spec0 c
  | n + 1, hn => iprop(owns (c : Thread nD τ) scM0_0 fullShare (carryAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (carryAt m c ⟨n, hn⟩) ∗ (∃ r, prngReg c r)) := rfl

theorem PhiS_pos (c : Dev nD) (n : ℕ) (h : n ≤ cfg0.N) (hz : n ≠ 0) :
    PhiS m c n h = iprop(owns (c : Thread nD τ) scM0_0 fullShare (carryAt m c ⟨n - 1, by omega⟩) ∗ (∃ r, prngReg c r)) := by
  cases n with
  | zero => exact absurd rfl hz
  | succ n => rfl

/-- The proof data: each input's buffer at its block after the body, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resAt m c t
    | ⟨9, _⟩ => actAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = resAt m c t := by dsimp only [dats]
theorem after0_9 (c : Dev nD) (t : Fin cfg0.N) : (dats m 0 c).after 9 t = actAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- One point's triple: on whole buffers holding the point's input blocks and `xs` in the carried rows. -/
theorem sound_point (c : Dev nD) (t : Fin cfg0.N) (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S1536x1024 .bf16) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S8x2816 .f32) (harg7 : arg7.IsWhole) (arg8 : Memref sig .tc .vmem S1x2816 .f32) (harg8 : arg8.IsWhole) (arg9 : Memref sig .tc .vmem S512x1024 .f32) (harg9 : arg9.IsWhole) (arg10 : Memref sig .tc .vmem S512x2816 .bf16) (harg10 : arg10.IsWhole) (arg11 : Memref sig .tc .vmem S8x2816 .f32) (harg11 : arg11.IsWhole) (xs : Vec F S8x2816 .f32) (E : Set ℕ) (K : PUnit → sProp 𝕄) :
    iprop(owns (c : Thread nD τ) arg1 fullShare (iblk m c 0 t) ∗ owns (c : Thread nD τ) arg2 fullShare (iblk m c 1 t) ∗ owns (c : Thread nD τ) arg3 fullShare (iblk m c 2 t) ∗ owns (c : Thread nD τ) arg4 fullShare (iblk m c 3 t) ∗ owns (c : Thread nD τ) arg5 fullShare (iblk m c 4 t) ∗ owns (c : Thread nD τ) arg6 fullShare (iblk m c 5 t) ∗ owns (c : Thread nD τ) arg7 fullShare (iblk m c 6 t) ∗ owns (c : Thread nD τ) arg8 fullShare (iblk m c 7 t) ∗ (∃ d, owns (c : Thread nD τ) arg9 fullShare d) ∗ (∃ d, owns (c : Thread nD τ) arg10 fullShare d) ∗ owns (c : Thread nD τ) arg11 fullShare xs
        ∗ (iprop(owns (c : Thread nD τ) arg1 fullShare (iblk m c 0 t) ∗ owns (c : Thread nD τ) arg2 fullShare (iblk m c 1 t) ∗ owns (c : Thread nD τ) arg3 fullShare (iblk m c 2 t) ∗ owns (c : Thread nD τ) arg4 fullShare (iblk m c 3 t) ∗ owns (c : Thread nD τ) arg5 fullShare (iblk m c 4 t) ∗ owns (c : Thread nD τ) arg6 fullShare (iblk m c 5 t) ∗ owns (c : Thread nD τ) arg7 fullShare (iblk m c 6 t) ∗ owns (c : Thread nD τ) arg8 fullShare (iblk m c 7 t) ∗ owns (c : Thread nD τ) arg9 fullShare (resAt m c t) ∗ owns (c : Thread nD τ) arg10 fullShare (actFrom m c t xs) ∗ owns (c : Thread nD τ) arg11 fullShare (carryAt m c t)) -∗ K ⟨⟩))
      ⊢ wp frame (wpE (defs₀ (F := F)) Variants.none c none) E (cc0_mix_ffn_up (grid0.coords t) arg1 harg1 arg2 harg2 arg3 harg3 arg4 harg4 arg5 harg5 arg6 harg6 arg7 harg7 arg8 harg8 arg9 harg9 arg10 harg10 arg11 harg11) K := by
  have hI := insOf_eq arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t)
  have hres := run_res c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs
  have hact := run_act c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs
  have hcar := run_carry c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs
  rw [hI] at hres hact hcar
  rw [readBefore_eq] at hact
  simp only [View.readAt_eq_ld, harg11.read_unread] at hact
  have r8 : ∀ f, arg9.view.read (Elt F) (arg9.view.writes (Elt F) f (mixRun c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs).1) = resAt m c t := fun f => by
    rw [hres]; exact View.read_writes_eq_canon _ _ _ (cover_res _)
  have r9 : ∀ f, arg10.view.read (Elt F) (arg10.view.writes (Elt F) f (mixRun c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs).2.1) = actFrom m c t xs := fun f => by
    rw [hact]; exact View.read_writes_eq_canon _ _ _ (cover_act _ _)
  have rs : ∀ f, arg11.view.read (Elt F) (arg11.view.writes (Elt F) f (mixRun c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs).2.2.1) = carryAt m c t := fun f => by
    rw [hcar]; exact View.read_writes_eq_canon _ _ _ (cover_carry _)
  iintro ⟨H0, H1, H2, H3, H4, H5, H6, H7, H8, H9, HS, Hk⟩
  iapply ((mixRun c (grid0.coords t) arg1 harg1 arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) xs).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, ⟨%e8, H8⟩, ⟨%e9, H9⟩, ⟨%es, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact r8 _
  isplitl [H9]
  · unfold owns; iexists _; isplitr
    swap; · iexact H9
    ipureintro; exact r9 _
  unfold owns; iexists _; isplitr
  swap; · iexact HS
  ipureintro; exact rs _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [show actAt m c t = actFrom m c t ds from actFrom_first m c t (by rw [hz]) _ _]
    iapply (sound_point m c t _ _ _ _ _ _ _ _ _ _ _ _ _ _ _ _ _ _ _ _ _ _ ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_point m c t _ _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]; · iexists _; iexact HS
  iexact Hg

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every final state has every array of the pipeline at what the points leave. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Gen

end

end
-- ==== Proof.MixTile.lean ====
module

public import proofs.«01_k».proof.Proof.MixFrame
public import Idealize.ShloMosaic.Lib.Pointwise

@[expose] public section

set_option maxRecDepth 16384

/-!
# A tile of `mix_ffn_up`, entry by entry
-/

noncomputable section

namespace Cert.Mix

open Idealize.ShloMosaic Idealize.ShloMosaic.TcCoe Idealize.ShloMosaic.Pointwise Idealize.SL.Sem
open Cert.Kernel2Ideal Cert.Kernel2Ideal.Gen

/-- An entry of a row over the root of the row's mean square, weighted. -/
def rowNorm (y : Fin 1024 → EReal) (w : EReal) (j : Fin 1024) : EReal :=
  y j * Ideal.rsqrt (Ideal.div (∑ k, y k * y k) (Ideal.ofBits .f32 0x44800000#32) + Ideal.ofBits .f32 0x358637BD#32) * w

/-- What the gate's convolution becomes: silu, times the value. -/
def gated (cv v : EReal) : EReal := cv * Ideal.div 1 (1 + Ideal.exp (0 - cv)) * v

theorem res_at (x : FVec Ideal S256x1024 .f32) (a : FVec Ideal S256x1024 .bf16) (wa : FVec Ideal S1024x1024 .bf16) (b : FVec Ideal S256x512 .bf16) (wb : FVec Ideal S512x1024 .bf16)
    (n : Fin 256) (j : Fin 1024) :
    k0_pay1 (F := Ideal) x a wa b wb (ix2 n j) = x (ix2 n j) + ∑ k : Fin 1024, a (ix2 n k) * wa (ix2 k j) + ∑ k : Fin 512, b (ix2 n k) * wb (ix2 k j) := by
  pointwise [k0_pay1]

theorem normed_at (x : FVec Ideal S256x1024 .f32) (a : FVec Ideal S256x1024 .bf16) (wa : FVec Ideal S1024x1024 .bf16) (b : FVec Ideal S256x512 .bf16) (wb : FVec Ideal S512x1024 .bf16)
    (w : FVec Ideal S1x1024 .f32) (n : Fin 256) (j : Fin 1024) :
    k0_pay3 (F := Ideal) (k0_pay2 (F := Ideal) x a wa b wb) w (ix2 n j) = rowNorm (fun j => k0_pay1 (F := Ideal) x a wa b wb (ix2 n j)) (w (ix2 0 j)) j := by
  pointwise [k0_pay3, k0_pay2, rowNorm]

theorem proj_at (v : FVec Ideal S256x1024 .bf16) (w : FVec Ideal S1024x256 .bf16) (n : Fin 256) (j : Fin 256) :
    k0_pay22 (F := Ideal) v w (ix2 n j) = ∑ k : Fin 1024, v (ix2 n k) * w (ix2 k j) := by
  pointwise [k0_pay22]

theorem lastRows_at (g : FVec Ideal S256x256 .f32) (n : Fin 8) (j : Fin 256) : lastRows (F := Ideal) g (ix2 n j) = g (ix2 ⟨248 + n.val, by omega⟩ j) := by
  pointwise [lastRows]

section Moved

variable {g : FVec Ideal S256x256 .f32} {p : FVec Ideal S8x256 .f32} {s : ℕ → Fin 256 → EReal}

theorem slt_small (a : Fin 256) (k : ℕ) (hk : k < 256) :
    IntOp.cmpi .slt (BitVec.ofNat 32 a.val) (BitVec.ofNat 32 k) = if a.val < k then 1#1 else 0#1 := by
  have ha := a.isLt
  have ea : (BitVec.ofNat 32 a.val).toInt = (a.val : ℤ) := by
    rw [BitVec.toInt_eq_toNat_cond, BitVec.toNat_ofNat]; split <;> omega
  have ek : (BitVec.ofNat 32 k).toInt = (k : ℤ) := by
    rw [BitVec.toInt_eq_toNat_cond, BitVec.toNat_ofNat]; split <;> omega
  show BitVec.ofBool (decide ((BitVec.ofNat 32 a.val).toInt < (BitVec.ofNat 32 k).toInt)) = _
  rw [ea, ek]
  by_cases h : a.val < k <;> simp [h]

/-- The pick between the rows before and the tile, at a move by `k` rows. -/
theorem moved_pick {i : Fin 256} (hg : ∀ i j, g (ix2 i j) = s (i.val + 8) j) (hp : ∀ i j, p (ix2 i j) = s i.val j) (k m : ℕ) (hm : m + k = i.val + 8) (hk : 0 < k) (hk' : k < 8) (j : Fin 256)
    (a : Fin 8) (b c : Fin 256) (ha : i.val < k → a.val = i.val + 8 - k) (hb : k ≤ i.val → b.val = i.val - k) (hc : 8 ≤ i.val → c.val = i.val - k) :
    (if i.val < 8 then Scalar.select (if i.val < k then 1#1 else 0#1) (p (ix2 a j)) (g (ix2 b j)) else g (ix2 c j)) = s m j := by
  by_cases h1 : i.val < 8
  · rw [if_pos h1]
    by_cases h2 : i.val < k
    · rw [if_pos h2]
      exact (hp a j).trans (congrArg (s · j) (by have := ha h2; omega))
    · rw [if_neg h2]
      exact (hg b j).trans (congrArg (s · j) (by have := hb (by omega); omega))
  · rw [if_neg h1]
    exact (hg c j).trans (congrArg (s · j) (by have := hc (by omega); omega))

theorem moved1_at (hg : ∀ i j, g (ix2 i j) = s (i.val + 8) j) (hp : ∀ i j, p (ix2 i j) = s i.val j) (i j : Fin 256) : moved (F := Ideal) 1#32 g p (ix2 i j) = s (i.val + 7) j := by
  have e := moved_pick (i := i) hg hp 1 (i.val + 7) (by omega) (by omega) (by omega) j ⟨(i.val + 8 - 1) % 8, by omega⟩ ⟨(i.val + 256 - 1) % 256, by omega⟩ ⟨(8 + (i.val - 8) + 256 - 1) % 256, by omega⟩
    (fun _ => by show (i.val + 8 - 1) % 8 = _; omega) (fun _ => by show (i.val + 256 - 1) % 256 = _; omega) (fun _ => by show (8 + (i.val - 8) + 256 - 1) % 256 = _; omega)
  rw [← slt_small i 1 (by omega)] at e
  refine Eq.trans ?_ e
  pointwise [moved, movedTop, movedRest]
  rfl
theorem moved2_at (hg : ∀ i j, g (ix2 i j) = s (i.val + 8) j) (hp : ∀ i j, p (ix2 i j) = s i.val j) (i j : Fin 256) : moved (F := Ideal) 2#32 g p (ix2 i j) = s (i.val + 6) j := by
  have e := moved_pick (i := i) hg hp 2 (i.val + 6) (by omega) (by omega) (by omega) j ⟨(i.val + 8 - 2) % 8, by omega⟩ ⟨(i.val + 256 - 2) % 256, by omega⟩ ⟨(8 + (i.val - 8) + 256 - 2) % 256, by omega⟩
    (fun _ => by show (i.val + 8 - 2) % 8 = _; omega) (fun _ => by show (i.val + 256 - 2) % 256 = _; omega) (fun _ => by show (8 + (i.val - 8) + 256 - 2) % 256 = _; omega)
  rw [← slt_small i 2 (by omega)] at e
  refine Eq.trans ?_ e
  pointwise [moved, movedTop, movedRest]
  rfl

end Moved

/-- The last steps of a tile, with the two moved tiles given. -/
theorem tile_tail (g v m2 m1 : FVec Ideal S256x256 .f32) (c : Fin 3 → FVec Ideal S1x256 .f32) (cb : FVec Ideal S1x256 .f32) (top : FVec Ideal S8x256 .f32) (rest : FVec Ideal S248x256 .f32)
    (h : concatenate S256x256 0 [⟨S8x256, top⟩, ⟨S248x256, rest⟩] concatenates_S8x256_S248x256_S256x256_d0 = m1) (n j : Fin 256) :
    k0_pay12 (F := Ideal) g v (mulf (F := Ideal) m2 (broadcastTo S256x256 (shapeCast S1x256 (c 0) shapeCasts_S1x256_S1x256) broadcasts_S1x256_S256x256)) top rest (c 1) (c 2) cb (ix2 n j)
      = gated (m2 (ix2 n j) * c 0 (ix2 0 j) + m1 (ix2 n j) * c 1 (ix2 0 j) + g (ix2 n j) * c 2 (ix2 0 j) + cb (ix2 0 j)) (v (ix2 n j)) := by
  unfold k0_pay12
  rw [h]
  pointwise [gated]

theorem tile_at {g v : FVec Ideal S256x256 .f32} {p : FVec Ideal S8x256 .f32} {s : ℕ → Fin 256 → EReal} (c : Fin 3 → FVec Ideal S1x256 .f32) (cb : FVec Ideal S1x256 .f32)
    (hg : ∀ i j, g (ix2 i j) = s (i.val + 8) j) (hp : ∀ i j, p (ix2 i j) = s i.val j) (n j : Fin 256) :
    tile (F := Ideal) g v p c cb (ix2 n j)
      = gated (s (n.val + 6) j * c 0 (ix2 0 j) + s (n.val + 7) j * c 1 (ix2 0 j) + s (n.val + 8) j * c 2 (ix2 0 j) + cb (ix2 0 j)) (v (ix2 n j)) := by
  unfold tile
  rw [tile_tail g v (moved (F := Ideal) 2#32 g p) (moved (F := Ideal) 1#32 g p) c cb _ _ rfl n j, moved2_at hg hp, moved1_at hg hp, hg]

end Cert.Mix

end
end
-- ==== Proof.MixPoint.lean ====
module

public import proofs.«01_k».proof.Proof.MixTile
public import Idealize.ShloMosaic.Lib.StableHlo.RunClose
public import Idealize.ShloMosaic.Lib.Routing.OpsOrder
public import Idealize.ShloMosaic.Lib.Pipeline.ValueKit.Basic

@[expose] public section

set_option maxRecDepth 16384

/-!
# What `mix_ffn_up` computes, and what its body reads at a grid point
-/

noncomputable section

namespace Cert.Mix

open Idealize.ShloMosaic Idealize.ShloMosaic.TcCoe Idealize.ShloMosaic.StableHlo Idealize.ShloMosaic.Pointwise Idealize.SL.Sem
open Cert.Kernel2Ideal Cert.Kernel2Ideal.Gen

/-- The arguments. -/
structure Args where
  x : FVec Ideal S32768x1024 .f32
  a : FVec Ideal S32768x1024 .bf16
  b : FVec Ideal S32768x512 .bf16
  wo : FVec Ideal S1536x1024 .f32
  nw : FVec Ideal S1024 .f32
  wu : FVec Ideal S1024x5632 .f32
  cw : FVec Ideal S3x2816 .f32
  cb : FVec Ideal S2816 .f32

namespace Args

variable (A : Args)

/-- The residual's new value, its norm, the gate before its convolution and the value. -/
def x1 (i : Fin 32768) (j : Fin 1024) : EReal :=
  A.x (ix2 i j) + ∑ k : Fin 1024, A.a (ix2 i k) * A.wo (ix2 ⟨k.val, by omega⟩ j) + ∑ k : Fin 512, A.b (ix2 i k) * A.wo (ix2 ⟨1024 + k.val, by omega⟩ j)
def xn (i : Fin 32768) (j : Fin 1024) : EReal := rowNorm (A.x1 i) (A.nw (ix1 j)) j
def g (i : Fin 32768) (j : Fin 2816) : EReal := ∑ k : Fin 1024, A.xn i k * A.wu (ix2 k ⟨j.val, by omega⟩)
def v (i : Fin 32768) (j : Fin 2816) : EReal := ∑ k : Fin 1024, A.xn i k * A.wu (ix2 k ⟨2816 + j.val, by omega⟩)

/-- The gate `k` rows back: zero before a sequence's first row. -/
def back (k : ℕ) (i : Fin 32768) (j : Fin 2816) : EReal := if i.val % 4096 < k then 0 else A.g ⟨i.val - k, by omega⟩ j

/-- The output. -/
def y (i : Fin 32768) (j : Fin 2816) : EReal :=
  gated (A.back 2 i j * A.cw (ix2 0 j) + A.back 1 i j * A.cw (ix2 1 j) + A.back 0 i j * A.cw (ix2 2 j) + A.cb (ix1 j)) (A.v i j)

end Args

variable (m : (ℓ : Loc nD τ sig) → Buf (Elt Ideal) ℓ) (c : Dev nD)

/-- The arguments in memory. -/
def args : Args where
  x := m ((c : Thread nD τ).loc main_arg0)
  a := m ((c : Thread nD τ).loc main_arg1)
  b := m ((c : Thread nD τ).loc main_arg2)
  wo := m ((c : Thread nD τ).loc main_arg3)
  nw := m ((c : Thread nD τ).loc main_arg4)
  wu := m ((c : Thread nD τ).loc main_arg5)
  cw := m ((c : Thread nD τ).loc main_arg6)
  cb := m ((c : Thread nD τ).loc main_arg7)

/-! ## The arrays the host lays out -/

theorem V_v0 : V m c main_v0 = truncf (F := Ideal) .bf16 (m ((c : Thread nD τ).loc main_arg3)) bitsLt_bf16_f32 := by
  show StableHlo.after _ _ _ = _
  simp only [hostOps0, hostOps0_1, hostOps0_2, List.flatten_cons, List.flatten_nil, List.append_nil, List.cons_append, List.nil_append]
  after_results_simp_entrywise
theorem V_v1 : V m c main_v1 = truncf (F := Ideal) .bf16 (m ((c : Thread nD τ).loc main_arg5)) bitsLt_bf16_f32 := by
  show StableHlo.after _ _ _ = _
  simp only [hostOps0, hostOps0_1, hostOps0_2, List.flatten_cons, List.flatten_nil, List.append_nil, List.cons_append, List.nil_append]
  after_results_simp_entrywise
theorem V_v2 : V m c main_v2 = shapeCast S1x1024 (m ((c : Thread nD τ).loc main_arg4)) shapeCasts_S1024_S1x1024 := by
  show StableHlo.after _ _ _ = _
  simp only [hostOps0, hostOps0_1, hostOps0_2, List.flatten_cons, List.flatten_nil, List.append_nil, List.cons_append, List.nil_append]
  after_results_simp_entrywise
  rfl
theorem V_v3 : V m c main_v3 = pad (s := S3x2816) S8x2816 ![0, 0] ![5, 0] ![0, 0] (m ((c : Thread nD τ).loc main_arg6))
    (sitofp (F := Ideal) .f32 (constantI S_ 32 0#32)) pads_S3x2816_S8x2816_050_000 h_S_ := by
  show StableHlo.after _ _ _ = _
  simp only [hostOps0, hostOps0_1, hostOps0_2, List.flatten_cons, List.flatten_nil, List.append_nil, List.cons_append, List.nil_append]
  after_results_simp_entrywise
  rfl
theorem V_v4 : V m c main_v4 = shapeCast S1x2816 (m ((c : Thread nD τ).loc main_arg7)) shapeCasts_S2816_S1x2816 := by
  show StableHlo.after _ _ _ = _
  simp only [hostOps0, hostOps0_1, hostOps0_2, List.flatten_cons, List.flatten_nil, List.append_nil, List.cons_append, List.nil_append]
  after_results_simp_entrywise
  rfl

theorem v2_at (j : Fin 1024) : V m c main_v2 (ix2 0 j) = (args m c).nw (ix1 j) := by
  rw [V_v2]
  pointwise [args]
theorem v3_at (i : Fin 3) (j : Fin 2816) : V m c main_v3 (ix2 ⟨i.val, by omega⟩ j) = (args m c).cw (ix2 i j) := by
  rw [V_v3]
  pointwise [args]
theorem v4_at (j : Fin 2816) : V m c main_v4 (ix2 0 j) = (args m c).cb (ix1 j) := by
  rw [V_v4]
  pointwise [args]

/-! ## What the body reads -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, ∀ a : Fin 2, win0_4.index t a = 0 := (by decide +kernel : ∀ t : Fin grid0.N, _)
theorem idx5 : ∀ t : Fin cfg0.N, ∀ a : Fin 2, win0_5.index t a = 0 := (by decide +kernel : ∀ t : Fin grid0.N, _)
theorem idx6 : ∀ t : Fin cfg0.N, ∀ a : Fin 2, win0_6.index t a = 0 := (by decide +kernel : ∀ t : Fin grid0.N, _)
theorem idx7 : ∀ t : Fin cfg0.N, ∀ a : Fin 2, win0_7.index t a = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem pt_lt (t : Fin cfg0.N) : t.val < 64 := lt_of_lt_of_eq t.isLt (show cfg0.N = 64 from N_0)

/-- The array's row that a tile's row is; the hidden column that a tile's column is. -/
def row (t : Fin cfg0.N) (h : Fin 2) (n : Fin 256) : Fin 32768 := ⟨512 * t.val + (256 * h.val + n.val), by have := pt_lt t; omega⟩
def hid (j : Fin 11) (e : Fin 256) : Fin 2816 := ⟨256 * j.val + e.val, by omega⟩

variable (t : Fin cfg0.N)

theorem x_at (h : Fin 2) (n : Fin 256) (k : Fin 1024) : (insAt m c t).x h (ix2 n k) = (args m c).x (ix2 (row t h n) k) := by
  show iblk m c 0 t ((rRows h).idx (ix2 n k)) = _
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * (256 * h.val + 1 * n.val) = 512 * t.val + (256 * h.val + n.val); rw [e0]; omega
  | ⟨1, _⟩ => show win0_0.index t (1 : Fin 2) * 1024 + 1 * (0 + 1 * k.val) = k.val; rw [e1]; omega

theorem a_at (h : Fin 2) (n : Fin 256) (k : Fin 1024) : (insAt m c t).a h (ix2 n k) = (args m c).a (ix2 (row t h n) k) := by
  show iblk m c 1 t ((rRows h).idx (ix2 n k)) = _
  unfold iblk
  rw [View.read_apply]
  show V m c main_arg1 _ = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 512 + 1 * (256 * h.val + 1 * n.val) = 512 * t.val + (256 * h.val + n.val); rw [e0]; omega
  | ⟨1, _⟩ => show win0_1.index t (1 : Fin 2) * 1024 + 1 * (0 + 1 * k.val) = k.val; rw [e1]; omega

theorem b_at (h : Fin 2) (n : Fin 256) (k : Fin 512) : (insAt m c t).b h (ix2 n k) = (args m c).b (ix2 (row t h n) k) := by
  show iblk m c 2 t ((rRowsB h).idx (ix2 n k)) = _
  unfold iblk
  rw [View.read_apply]
  show V m c main_arg2 _ = _
  rw [V_main_arg2]
  obtain ⟨e0, e1⟩ := idx2 t
  refine congrArg (m ((c : Thread nD τ).loc main_arg2)) (funext fun a => Fin.ext ?_)
  match a with
  | ⟨0, _⟩ => show win0_2.index t (0 : Fin 2) * 512 + 1 * (256 * h.val + 1 * n.val) = 512 * t.val + (256 * h.val + n.val); rw [e0]; omega
  | ⟨1, _⟩ => show win0_2.index t (1 : Fin 2) * 512 + 1 * (0 + 1 * k.val) = k.val; rw [e1]; omega

theorem woA_at (k j : Fin 1024) : (insAt m c t).woA (ix2 k j) = (args m c).wo (ix2 ⟨k.val, by omega⟩ j) := by
  show iblk m c 3 t ((Rect.unit (s := S1536x1024) ![0, 0] S1024x1024.size inb_S1536x1024_S1024x1024_0_0).idx (ix2 k j)) = _
  unfold iblk
  rw [View.read_apply]
  show V m c main_v0 _ = _
  rw [V_v0]
  have e := idx3 t
  refine congrArg (m ((c : Thread nD τ).loc main_arg3)) (funext fun a => Fin.ext ?_)
  match a with
  | ⟨0, _⟩ => show win0_3.index t (0 : Fin 2) * 1536 + 1 * (0 + 1 * k.val) = k.val; rw [e 0]; omega
  | ⟨1, _⟩ => show win0_3.index t (1 : Fin 2) * 1024 + 1 * (0 + 1 * j.val) = j.val; rw [e 1]; omega

theorem woB_at (k : Fin 512) (j : Fin 1024) : (insAt m c t).woB (ix2 k j) = (args m c).wo (ix2 ⟨1024 + k.val, by omega⟩ j) := by
  show iblk m c 3 t ((Rect.unit (s := S1536x1024) ![1024, 0] S512x1024.size inb_S1536x1024_S512x1024_1024_0).idx (ix2 k j)) = _
  unfold iblk
  rw [View.read_apply]
  show V m c main_v0 _ = _
  rw [V_v0]
  have e := idx3 t
  refine congrArg (m ((c : Thread nD τ).loc main_arg3)) (funext fun a => Fin.ext ?_)
  match a with
  | ⟨0, _⟩ => show win0_3.index t (0 : Fin 2) * 1536 + 1 * (1024 + 1 * k.val) = 1024 + k.val; rw [e 0]; omega
  | ⟨1, _⟩ => show win0_3.index t (1 : Fin 2) * 1024 + 1 * (0 + 1 * j.val) = j.val; rw [e 1]; omega

theorem nw_at (j : Fin 1024) : (insAt m c t).nw (ix2 0 j) = (args m c).nw (ix1 j) := by
  show iblk m c 4 t ((Rect.unit (s := S1x1024) ![0, 0] S1x1024.size inb_S1x1024_S1x1024_0_0).idx (ix2 0 j)) = _
  unfold iblk
  rw [View.read_apply]
  show V m c main_v2 _ = _
  have e := idx4 t
  refine Eq.trans (congrArg (V m c main_v2) (funext fun a => Fin.ext ?_)) (v2_at m c j)
  match a with
  | ⟨0, _⟩ => show win0_4.index t (0 : Fin 2) * 1 + 1 * (0 + 1 * 0) = 0; rw [e 0]
  | ⟨1, _⟩ => show win0_4.index t (1 : Fin 2) * 1024 + 1 * (0 + 1 * j.val) = j.val; rw [e 1]; omega

theorem wg_at (j : Fin 11) (k : Fin 1024) (e : Fin 256) : (insAt m c t).wg j (ix2 k e) = (args m c).wu (ix2 k ⟨(hid j e).val, by have := (hid j e).isLt; omega⟩) := by
  show iblk m c 5 t ((rGate j).idx (ix2 k e)) = _
  unfold iblk
  rw [View.read_apply]
  show V m c main_v1 _ = _
  rw [V_v1]
  have h := idx5 t
  refine congrArg (m ((c : Thread nD τ).loc main_arg5)) (funext fun a => Fin.ext ?_)
  match a with
  | ⟨0, _⟩ => show win0_5.index t (0 : Fin 2) * 1024 + 1 * (0 + 1 * k.val) = k.val; rw [h 0]; omega
  | ⟨1, _⟩ => show win0_5.index t (1 : Fin 2) * 5632 + 1 * (256 * j.val + 1 * e.val) = 256 * j.val + e.val; rw [h 1]; omega

theorem wv_at (j : Fin 11) (k : Fin 1024) (e : Fin 256) : (insAt m c t).wv j (ix2 k e) = (args m c).wu (ix2 k ⟨2816 + (hid j e).val, by have := (hid j e).isLt; omega⟩) := by
  show iblk m c 5 t ((rVal j).idx (ix2 k e)) = _
  unfold iblk
  rw [View.read_apply]
  show V m c main_v1 _ = _
  rw [V_v1]
  have h := idx5 t
  refine congrArg (m ((c : Thread nD τ).loc main_arg5)) (funext fun a => Fin.ext ?_)
  match a with
  | ⟨0, _⟩ => show win0_5.index t (0 : Fin 2) * 1024 + 1 * (0 + 1 * k.val) = k.val; rw [h 0]; omega
  | ⟨1, _⟩ => show win0_5.index t (1 : Fin 2) * 5632 + 1 * (2816 + 256 * j.val + 1 * e.val) = 2816 + (256 * j.val + e.val); rw [h 1]; omega

theorem tap_at (i : Fin 3) (j : Fin 11) (e : Fin 256) : (insAt m c t).tap i j (ix2 0 e) = (args m c).cw (ix2 i (hid j e)) := by
  show iblk m c 6 t ((rTap i j).idx (ix2 0 e)) = _
  unfold iblk
  rw [View.read_apply]
  show V m c main_v3 _ = _
  have h := idx6 t
  refine Eq.trans (congrArg (V m c main_v3) (funext fun a => Fin.ext ?_)) (v3_at m c i (hid j e))
  match a with
  | ⟨0, _⟩ => show win0_6.index t (0 : Fin 2) * 8 + 1 * (i.val + 1 * 0) = i.val; rw [h 0]; omega
  | ⟨1, _⟩ => show win0_6.index t (1 : Fin 2) * 2816 + 1 * (256 * j.val + 1 * e.val) = 256 * j.val + e.val; rw [h 1]; omega

theorem cb_at (j : Fin 11) (e : Fin 256) : (insAt m c t).cb j (ix2 0 e) = (args m c).cb (ix1 (hid j e)) := by
  show iblk m c 7 t ((rBias j).idx (ix2 0 e)) = _
  unfold iblk
  rw [View.read_apply]
  show V m c main_v4 _ = _
  have h := idx7 t
  refine Eq.trans (congrArg (V m c main_v4) (funext fun a => Fin.ext ?_)) (v4_at m c (hid j e))
  match a with
  | ⟨0, _⟩ => show win0_7.index t (0 : Fin 2) * 1 + 1 * (0 + 1 * 0) = 0; rw [h 0]
  | ⟨1, _⟩ => show win0_7.index t (1 : Fin 2) * 2816 + 1 * (256 * j.val + 1 * e.val) = 256 * j.val + e.val; rw [h 1]; omega

/-! ## A tile's gate and value -/

theorem res_is (h : Fin 2) (n : Fin 256) (j : Fin 1024) : (insAt m c t).res h (ix2 n j) = (args m c).x1 (row t h n) j := by
  unfold Ins.res
  rw [res_at, Args.x1]
  simp only [x_at, a_at, b_at, woA_at, woB_at]

theorem normed_is (h : Fin 2) (n : Fin 256) (j : Fin 1024) : (insAt m c t).normed h (ix2 n j) = (args m c).xn (row t h n) j := by
  unfold Ins.normed
  rw [normed_at, Args.xn, nw_at]
  exact congrArg (fun y => rowNorm y _ j) (funext fun j => res_is m c t h n j)

theorem gate_is (h : Fin 2) (j : Fin 11) (n e : Fin 256) : (insAt m c t).gate h j (ix2 n e) = (args m c).g (row t h n) (hid j e) := by
  unfold Ins.gate
  rw [proj_at, Args.g]
  simp only [normed_is, wg_at]

theorem val_is (h : Fin 2) (j : Fin 11) (n e : Fin 256) : (insAt m c t).val h j (ix2 n e) = (args m c).v (row t h n) (hid j e) := by
  unfold Ins.val
  rw [proj_at, Args.v]
  simp only [normed_is, wv_at]

end Cert.Mix

end
end
-- ==== Proof.MixOut.lean ====
module

public import proofs.«01_k».proof.Proof.MixPoint

@[expose] public section

set_option maxRecDepth 16384

/-!
# The two arrays `mix_ffn_up` leaves
-/

noncomputable section

namespace Cert.Mix

open Idealize.ShloMosaic Idealize.ShloMosaic.TcCoe Idealize.ShloMosaic.StableHlo Idealize.ShloMosaic.Pointwise Idealize.SL.Sem
open Cert.Kernel2Ideal Cert.Kernel2Ideal.Gen

/-! ## A block from its stores -/

section Canon

variable {F : FTy → Type} [FloatOps F] (I : Ins F)

theorem canon_carry (j : Fin 11) (x : S8x256.Idx) (n : ℕ) (h : n ≤ 11) (hj : j.val < n) :
    View.canon (I.carry1 n h) ((rCarry j).emb x) = lastRows (I.gate 1 j) x := by
  induction n with
  | zero => exact absurd hj (Nat.not_lt_zero _)
  | succ n ih =>
    rw [Ins.carry1]
    by_cases e : j = ⟨n, h⟩
    · rw [e]
      exact View.canon_cons_emb (rCarry ⟨n, h⟩) _ _ _
    · have hne : j.val ≠ n := fun e' => e (Fin.ext e')
      refine (View.canon_cons_of_not_mem _ _ ?_).trans (ih _ (by omega))
      show _ ∉ (rCarry ⟨n, h⟩).set
      rw [Rect.mem_set_unit]
      intro h2
      have h3 : 256 * n ≤ 256 * j.val + 1 * (x 1).val ∧ 256 * j.val + 1 * (x 1).val < 256 * n + 256 := h2 1
      have h4 : (x 1).val < 256 := (x 1).isLt
      omega

theorem canon_res (h : Fin 2) (n : Fin 256) (j : Fin 1024) :
    View.canon I.resS (ix2 ⟨256 * h.val + n.val, by omega⟩ j) = I.res h (ix2 n j) := by
  have e : (ix2 ⟨256 * h.val + n.val, by omega⟩ j : S512x1024.Idx) = (rRows h).emb (ix2 n j) := funext fun a => Fin.ext (by match a with
    | ⟨0, _⟩ => show 256 * h.val + n.val = 256 * h.val + 1 * n.val; omega
    | ⟨1, _⟩ => show j.val = 0 + 1 * j.val; omega)
  rw [e]
  match h with
  | 1 => exact View.canon_cons_emb (rRows 1) _ _ _
  | 0 =>
    refine (View.canon_cons_of_not_mem _ _ ?_).trans (View.canon_cons_emb (rRows 0) _ _ _)
    show _ ∉ (rRows 1).set
    rw [Rect.mem_set_unit]
    intro h2
    have h3 : 256 * 1 ≤ 256 * 0 + 1 * n.val ∧ _ := h2 0
    have := n.isLt
    omega

theorem canon_act (pv : Fin 2 → Fin 11 → FVec F S8x256 .f32) (h : Fin 2) (j : Fin 11) (n e : Fin 256) :
    View.canon (I.actS pv) (ix2 ⟨256 * h.val + n.val, by omega⟩ (hid j e)) = (I.pa pv h j).2 (ix2 n e) := by
  have hall : ∀ p ∈ I.actS pv, ∃ h j, p = I.pa pv h j := by
    intro p hp
    simp only [Ins.actS, List.mem_cons, List.not_mem_nil, or_false] at hp
    repeat' first | exact ⟨_, _, hp⟩ | rcases hp with hp | hp
  have hmem : ∀ h j, I.pa pv h j ∈ I.actS pv := by
    intro h j
    fin_cases h <;> fin_cases j <;> simp [Ins.actS]
  refine (View.canon_apply_of_pieces (fun y => (I.pa pv ⟨(y 0).val / 256, by have : (y 0).val < 512 := (y 0).isLt; omega⟩
    ⟨(y 1).val / 256, by have : (y 1).val < 2816 := (y 1).isLt; omega⟩).2
    (ix2 ⟨(y 0).val % 256, by omega⟩ ⟨(y 1).val % 256, by omega⟩)) (I.actS pv) ?_ _ ?_).trans ?_
  · intro p hp x
    obtain ⟨h', j', rfl⟩ := hall p hp
    have hx0 : (x 0).val < 256 := (x 0).isLt
    have hx1 : (x 1).val < 256 := (x 1).isLt
    have e0 : ((rAct h' j').emb x 0).val = 256 * h'.val + 1 * (x 0).val := rfl
    have e1 : ((rAct h' j').emb x 1).val = 256 * j'.val + 1 * (x 1).val := rfl
    have a0 : (⟨((rAct h' j').emb x 0).val / 256, by omega⟩ : Fin 2) = h' := Fin.ext (by show _ / 256 = _; omega)
    have a1 : (⟨((rAct h' j').emb x 1).val / 256, by omega⟩ : Fin 11) = j' := Fin.ext (by show _ / 256 = _; omega)
    have a2 : (ix2 ⟨((rAct h' j').emb x 0).val % 256, by omega⟩ ⟨((rAct h' j').emb x 1).val % 256, by omega⟩ : S256x256.Idx) = x := by
      funext a
      apply Fin.ext
      match a with
      | ⟨0, _⟩ => show _ % 256 = _; rw [e0]; show _ = (x 0).val; omega
      | ⟨1, _⟩ => show _ % 256 = _; rw [e1]; show _ = (x 1).val; omega
    exact (congr (congrArg₂ (fun h j => tile (I.gate h j) (I.val h j) (pv h j) (fun i => I.tap i j) (I.cb j)) a0 a1) a2).symm
  · refine ⟨_, hmem h j, ?_⟩
    show _ ∈ (rAct h j).set
    rw [Rect.mem_set_unit]
    intro a
    match a with
    | ⟨0, _⟩ => show 256 * h.val ≤ 256 * h.val + n.val ∧ 256 * h.val + n.val < 256 * h.val + 256; omega
    | ⟨1, _⟩ => show 256 * j.val ≤ 256 * j.val + e.val ∧ 256 * j.val + e.val < 256 * j.val + 256; omega
  · have a0 : (⟨(256 * h.val + n.val) / 256, by omega⟩ : Fin 2) = h := Fin.ext (by show _ / 256 = _; omega)
    have a1 : (⟨(256 * j.val + e.val) / 256, by omega⟩ : Fin 11) = j := Fin.ext (by show _ / 256 = _; omega)
    have a2 : (⟨(256 * h.val + n.val) % 256, by omega⟩ : Fin 256) = n := Fin.ext (by show _ % 256 = _; omega)
    have a3 : (⟨(256 * j.val + e.val) % 256, by omega⟩ : Fin 256) = e := Fin.ext (by show _ % 256 = _; omega)
    show (fun h j => tile (I.gate h j) (I.val h j) (pv h j) (fun i => I.tap i j) (I.cb j)) ⟨(256 * h.val + n.val) / 256, _⟩ ⟨(256 * j.val + e.val) / 256, _⟩
      (ix2 ⟨(256 * h.val + n.val) % 256, _⟩ ⟨(256 * j.val + e.val) % 256, _⟩) = _
    rw [a0, a1, a2, a3]
    rfl

end Canon

variable (m : (ℓ : Loc nD τ sig) → Buf (Elt Ideal) ℓ) (c : Dev nD)

/-- The gate's rows of a tile after the eight before it: zeros before a sequence. -/
def rowsOf (A : Args) (r : ℕ) (j : Fin 11) (n : ℕ) (e : Fin 256) : EReal :=
  if r % 4096 + n < 8 then 0 else if h : r + n - 8 < 32768 then A.g ⟨r + n - 8, h⟩ (hid j e) else 0

theorem rowsOf_zero (A : Args) (r : ℕ) (j : Fin 11) (n : ℕ) (e : Fin 256) (h : r % 4096 + n < 8) : rowsOf A r j n e = 0 := if_pos h

theorem rowsOf_eq (A : Args) (r : ℕ) (j : Fin 11) (n : ℕ) (e : Fin 256) (i : Fin 32768) (h : ¬ r % 4096 + n < 8) (hi : i.val + 8 = r + n) :
    rowsOf A r j n e = A.g i (hid j e) := by
  have hl := i.isLt
  rw [rowsOf, if_neg h, dif_pos (by omega)]
  exact congrArg (fun i => A.g i (hid j e)) (Fin.ext (by show r + n - 8 = i.val; omega))

variable (t : Fin cfg0.N)

theorem gate_rows (h : Fin 2) (j : Fin 11) (n e : Fin 256) :
    (insAt m c t).gate h j (ix2 n e) = rowsOf (args m c) (512 * t.val + 256 * h.val) j (n.val + 8) e :=
  (gate_is m c t h j n e).trans (rowsOf_eq _ _ _ _ _ _ (by omega) (by show 512 * t.val + (256 * h.val + n.val) + 8 = _; omega)).symm

theorem carry_is (j : Fin 11) (n : Fin 8) (e : Fin 256) :
    View.ld (Val := Elt Ideal) (e' := .f32) (carryAt m c t) (rCarry j) (ix2 n e) = (args m c).g (row t 1 ⟨248 + n.val, by omega⟩) (hid j e) := by
  refine (canon_carry (insAt m c t) j (ix2 n e) 11 (le_refl 11) j.isLt).trans ?_
  rw [lastRows_at]
  exact gate_is m c t 1 j _ e

theorem before_rows (h : Fin 2) (j : Fin 11) (n : Fin 8) (e : Fin 256) :
    (insAt m c t).before (firstBit (grid0.coords t)) (fun j => View.ld (Val := Elt Ideal) (e' := .f32) (carryAt m c (prevPt t)) (rCarry j)) h j (ix2 n e)
      = rowsOf (args m c) (512 * t.val + 256 * h.val) j n.val e := by
  match h with
  | 1 =>
    show lastRows ((insAt m c t).gate 0 j) (ix2 n e) = _
    rw [lastRows_at, gate_is]
    exact (rowsOf_eq _ _ _ _ _ _ (by show ¬ (512 * t.val + 256 * 1) % 4096 + n.val < 8; omega)
      (by show 512 * t.val + (256 * 0 + (248 + n.val)) + 8 = 512 * t.val + 256 * 1 + n.val; omega)).symm
  | 0 =>
    show k0_pay6 (F := Ideal) (firstBit (grid0.coords t)) (View.ld (Val := Elt Ideal) (e' := .f32) (carryAt m c (prevPt t)) (rCarry j)) (ix2 n e) = _
    rw [firstBit_eq]
    by_cases hz : t.val % 8 = 0
    · rw [if_pos hz, rowsOf_zero _ _ _ _ _ (by show (512 * t.val + 256 * 0) % 4096 + n.val < 8; omega)]
      show Ideal.ofBits .f32 0x00000000#32 = 0
      pointwise
    · rw [if_neg hz]
      refine (show k0_pay6 (F := Ideal) 0#1 (View.ld (Val := Elt Ideal) (e' := .f32) (carryAt m c (prevPt t)) (rCarry j)) (ix2 n e)
        = View.ld (Val := Elt Ideal) (e' := .f32) (carryAt m c (prevPt t)) (rCarry j) (ix2 n e) from rfl).trans ?_
      rw [carry_is]
      exact (rowsOf_eq _ _ _ _ _ _ (by show ¬ (512 * t.val + 256 * 0) % 4096 + n.val < 8; omega)
        (by show 512 * (t.val - 1) + (256 * 1 + (248 + n.val)) + 8 = 512 * t.val + 256 * 0 + n.val; omega)).symm

theorem rowsOf_back (h : Fin 2) (j : Fin 11) (n e : Fin 256) (k : ℕ) (hk : k ≤ 8) (l : ℕ) (hl : l + k = n.val + 8) :
    rowsOf (args m c) (512 * t.val + 256 * h.val) j l e = (args m c).back k (row t h n) (hid j e) := by
  have hr : (row t h n).val = 512 * t.val + (256 * h.val + n.val) := rfl
  unfold Args.back
  by_cases hz : (row t h n).val % 4096 < k
  · rw [if_pos hz]
    exact rowsOf_zero _ _ _ _ _ (by omega)
  · rw [if_neg hz]
    exact rowsOf_eq _ _ _ _ _ _ (by omega) (by show (row t h n).val - k + 8 = _; omega)

theorem act_is (h : Fin 2) (j : Fin 11) (n e : Fin 256) :
    actAt m c t (ix2 ⟨256 * h.val + n.val, by omega⟩ (hid j e)) = (args m c).y (row t h n) (hid j e) := by
  refine (canon_act (insAt m c t) _ h j n e).trans ?_
  refine (tile_at (fun i => (insAt m c t).tap i j) ((insAt m c t).cb j) (gate_rows m c t h j) (before_rows m c t h j) n e).trans ?_
  rw [rowsOf_back m c t h j n e 2 (by omega) (n.val + 6) (by omega), rowsOf_back m c t h j n e 1 (by omega) (n.val + 7) (by omega),
    rowsOf_back m c t h j n e 0 (by omega) (n.val + 8) (by omega), val_is, tap_at, tap_at, tap_at, cb_at]
  rfl

theorem resBlock_is (h : Fin 2) (n : Fin 256) (j : Fin 1024) : resAt m c t (ix2 ⟨256 * h.val + n.val, by omega⟩ j) = (args m c).x1 (row t h n) j :=
  (canon_res (insAt m c t) h n j).trans (res_is m c t h n j)

/-! ## The arrays -/

theorem flushed8 : (dats m 0 c).flushed 8 t = (cfg0.win 8).cut (grid0.coords t) (resAt m c t) := by
  show (cfg0.win 8).cut (grid0.coords t) ((dats m 0 c).after 8 t) = _
  rw [after0_8]
theorem flushed9 : (dats m 0 c).flushed 9 t = (cfg0.win 9).cut (grid0.coords t) (actAt m c t) := by
  show (cfg0.win 9).cut (grid0.coords t) ((dats m 0 c).after 9 t) = _
  rw [after0_9]

theorem index8_inj : ∀ t t' : Fin cfg0.N, win0_8.index t = win0_8.index t' → t = t' :=
  fun t t' h => Fin.ext ((idx8 t).1.symm.trans ((congrFun h (0 : Fin 2)).trans (idx8 t').1))
theorem index9_inj : ∀ t t' : Fin cfg0.N, win0_9.index t = win0_9.index t' → t = t' :=
  fun t t' h => Fin.ext ((idx9 t).1.symm.trans ((congrFun h (0 : Fin 2)).trans (idx9 t').1))

theorem read8 : ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (index8_inj t t' h)) cfg0.N t t.isLt (flush0_8 t)
theorem read9 : ((cfg0.win 9).blk t).view.read (Elt Ideal) ((dats m 0 c).arrAt 9 cfg0.N) = (dats m 0 c).flushed 9 t :=
  (dats m 0 c).read_blk_arrAt_eq_flushed 9 (fun t t' _ _ hne => (cfg0.win 9).disjoint_blk fun h => hne (index9_inj t t' h)) cfg0.N t t.isLt (flush0_9 t)

theorem array8_row (h : Fin 2) (n : Fin 256) (j : Fin 1024) : (dats m 0 c).arrAt 8 cfg0.N (ix2 (row t h n) j) = (args m c).x1 (row t h n) j := by
  obtain ⟨e0, e1⟩ := idx8 t
  have hh := congrFun (read8 m c t) (ix2 (⟨256 * h.val + n.val, by omega⟩ : Fin 512) j)
  rw [View.read_apply, flushed8] at hh
  have ei : ((cfg0.win 8).blk t).view.emb (ix2 (⟨256 * h.val + n.val, by omega⟩ : Fin 512) j) = (ix2 (row t h n) j : S32768x1024.Idx) := funext fun a => Fin.ext (by match a with
    | ⟨0, _⟩ => show win0_8.index t (0 : Fin 2) * 512 + 1 * (256 * h.val + n.val) = 512 * t.val + (256 * h.val + n.val); rw [e0]; omega
    | ⟨1, _⟩ => show win0_8.index t (1 : Fin 2) * 1024 + 1 * j.val = j.val; rw [e1]; omega)
  rw [ei] at hh
  exact hh.trans (resBlock_is m c t h n j)

theorem array9_row (h : Fin 2) (j : Fin 11) (n e : Fin 256) : (dats m 0 c).arrAt 9 cfg0.N (ix2 (row t h n) (hid j e)) = (args m c).y (row t h n) (hid j e) := by
  obtain ⟨e0, e1⟩ := idx9 t
  have hh := congrFun (read9 m c t) (ix2 (⟨256 * h.val + n.val, by omega⟩ : Fin 512) (hid j e))
  rw [View.read_apply, flushed9] at hh
  have ei : ((cfg0.win 9).blk t).view.emb (ix2 (⟨256 * h.val + n.val, by omega⟩ : Fin 512) (hid j e)) = (ix2 (row t h n) (hid j e) : S32768x2816.Idx) := funext fun a => Fin.ext (by match a with
    | ⟨0, _⟩ => show win0_9.index t (0 : Fin 2) * 512 + 1 * (256 * h.val + n.val) = 512 * t.val + (256 * h.val + n.val); rw [e0]; omega
    | ⟨1, _⟩ => show win0_9.index t (1 : Fin 2) * 2816 + 1 * (hid j e).val = (hid j e).val; rw [e1]; omega)
  rw [ei] at hh
  exact hh.trans (act_is m c t h j n e)

theorem row_of (i : Fin 32768) : ∃ (t : Fin cfg0.N) (h : Fin 2) (n : Fin 256), i = row t h n :=
  ⟨⟨i.val / 512, by rw [show cfg0.N = 64 from N_0]; omega⟩, ⟨i.val % 512 / 256, by omega⟩, ⟨i.val % 256, by omega⟩,
    Fin.ext (by show i.val = 512 * (i.val / 512) + (256 * (i.val % 512 / 256) + i.val % 256); omega)⟩
theorem hid_of (j : Fin 2816) : ∃ (k : Fin 11) (e : Fin 256), j = hid k e :=
  ⟨⟨j.val / 256, by omega⟩, ⟨j.val % 256, by omega⟩, Fin.ext (by show j.val = 256 * (j.val / 256) + j.val % 256; omega)⟩

theorem array8 (i : Fin 32768) (j : Fin 1024) : (dats m 0 c).arrAt 8 cfg0.N (ix2 i j) = (args m c).x1 i j := by
  obtain ⟨t, h, n, rfl⟩ := row_of i
  exact array8_row m c t h n j
theorem array9 (i : Fin 32768) (j : Fin 2816) : (dats m 0 c).arrAt 9 cfg0.N (ix2 i j) = (args m c).y i j := by
  obtain ⟨t, h, n, rfl⟩ := row_of i
  obtain ⟨k, e, rfl⟩ := hid_of j
  exact array9_row m c t h k n e

end Cert.Mix

end
end
-- ==== Proof.MixRef.lean ====
module

public import proofs.«01_k».proof.Proof.MixPoint
public import proofs.«01_k».proof.Proof.Gen.Reference2Ideal.Run

@[expose] public section

set_option maxRecDepth 16384

/-!
# The reference of `mix_ffn_up`, entry by entry
-/

noncomputable section

namespace Cert.Mix.R

open Idealize.ShloMosaic Idealize.ShloMosaic.TcCoe Idealize.ShloMosaic.StableHlo Idealize.ShloMosaic.Pointwise Idealize.SL.Sem
open Cert.Reference2Ideal Cert.Reference2Ideal.Gen Cert.Reference2Ideal.Value

def joined (a : FVec Ideal S32768x1024 .bf16) (b : FVec Ideal S32768x512 .bf16) : FVec Ideal S32768x1536 .f32 :=
  concatenate S32768x1536 1 [⟨S32768x1024, (extf (F := Ideal) .f32 a bitsLt_bf16_f32)⟩, ⟨S32768x512, (extf (F := Ideal) .f32 b bitsLt_bf16_f32)⟩] concatenates_S32768x1024_S32768x512_S32768x1536_d1

def sums (x : FVec Ideal S32768x1024 .f32) (ab : FVec Ideal S32768x1536 .f32) (wo : FVec Ideal S1536x1024 .f32) : FVec Ideal S32768x1024 .f32 :=
  addf (F := Ideal) x (Host.dotGeneral (F := Ideal) dot_S32768x1536_S1536x1024_S32768x1024_1_0_0_1_n_n none ab wo)

def norms (y : FVec Ideal S32768x1024 .f32) (nw : FVec Ideal S1024 .f32) : FVec Ideal S32768x1024 .f32 :=
  mulf (F := Ideal) (mulf (F := Ideal) y (broadcastInDim S32768x1024 ![0, 1] bcast_S32768x1_S32768x1024_0_1 (Host.rsqrt (F := Ideal) (addf (F := Ideal) (Host.divf (F := Ideal)
    (broadcastInDim S32768x1 ![0] bcast_S32768_S32768x1_0 (Host.reduceAdd (F := Ideal) (mulf (F := Ideal) y y) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 nw))

def up (n : FVec Ideal S32768x1024 .f32) (wu : FVec Ideal S1024x5632 .f32) : FVec Ideal S32768x5632 .f32 :=
  Host.dotGeneral (F := Ideal) dot_S32768x1024_S1024x5632_S32768x5632_1_0_0_1_n_n none n wu

def padded (u : FVec Ideal S32768x5632 .f32) : FVec Ideal S8x4098x2816 .f32 :=
  pad S8x4098x2816 ![0, 2, 0] ![0, 0, 0] ![0, 0, 0] (shapeCast S8x4096x2816 (extractStridedSlice S32768x2816 ![0, 0] u slices_S32768x5632_S32768x2816_0_0) shapeCasts_S32768x2816_S8x4096x2816)
    (sitofp (F := Ideal) .f32 (constantI S_ 32 0#32)) pads_S8x4096x2816_S8x4098x2816_000_200_000 h_S_

def conv (p : FVec Ideal S8x4098x2816 .f32) (cw : FVec Ideal S3x2816 .f32) (cb : FVec Ideal S2816 .f32) : FVec Ideal S8x4096x2816 .f32 :=
  addf (F := Ideal) (addf (F := Ideal) (addf (F := Ideal)
    (mulf (F := Ideal) (extractStridedSlice S8x4096x2816 ![0, 0, 0] p slices_S8x4098x2816_S8x4096x2816_0_0_0) (broadcastInDim S8x4096x2816 ![0, 1, 2] bcast_S1x1x2816_S8x4096x2816_0_1_2 (broadcastInDim S1x1x2816 ![2] bcast_S2816_S1x1x2816_2 (shapeCast S2816 (extractStridedSlice S1x2816 ![0, 0] cw slices_S3x2816_S1x2816_0_0) shapeCasts_S1x2816_S2816))))
    (mulf (F := Ideal) (extractStridedSlice S8x4096x2816 ![0, 1, 0] p slices_S8x4098x2816_S8x4096x2816_0_1_0) (broadcastInDim S8x4096x2816 ![0, 1, 2] bcast_S1x1x2816_S8x4096x2816_0_1_2 (broadcastInDim S1x1x2816 ![2] bcast_S2816_S1x1x2816_2 (shapeCast S2816 (extractStridedSlice S1x2816 ![1, 0] cw slices_S3x2816_S1x2816_1_0) shapeCasts_S1x2816_S2816)))))
    (mulf (F := Ideal) (extractStridedSlice S8x4096x2816 ![0, 2, 0] p slices_S8x4098x2816_S8x4096x2816_0_2_0) (broadcastInDim S8x4096x2816 ![0, 1, 2] bcast_S1x1x2816_S8x4096x2816_0_1_2 (broadcastInDim S1x1x2816 ![2] bcast_S2816_S1x1x2816_2 (shapeCast S2816 (extractStridedSlice S1x2816 ![2, 0] cw slices_S3x2816_S1x2816_2_0) shapeCasts_S1x2816_S2816)))))
    (broadcastInDim S8x4096x2816 ![0, 1, 2] bcast_S1x1x2816_S8x4096x2816_0_1_2 (broadcastInDim S1x1x2816 ![2] bcast_S2816_S1x1x2816_2 cb))

def out (q : FVec Ideal S8x4096x2816 .f32) (u : FVec Ideal S32768x5632 .f32) : FVec Ideal S32768x2816 .bf16 :=
  truncf (F := Ideal) .bf16 (mulf (F := Ideal) (shapeCast S32768x2816 (mulf (F := Ideal) q
    (Host.divf (F := Ideal) (broadcastInDim S8x4096x2816 ![] bcast_S_S8x4096x2816 (constant S_ .f32 0x3F800000#32))
      (addf (F := Ideal) (broadcastInDim S8x4096x2816 ![] bcast_S_S8x4096x2816 (constant S_ .f32 0x3F800000#32)) (Host.exp (F := Ideal) (Host.negf (F := Ideal) q)))))
    shapeCasts_S8x4096x2816_S32768x2816) (extractStridedSlice S32768x2816 ![0, 2816] u slices_S32768x5632_S32768x2816_0_2816)) bitsLt_bf16_f32

theorem joined_at (a : FVec Ideal S32768x1024 .bf16) (b : FVec Ideal S32768x512 .bf16) (i : Fin 32768) (k : Fin 1536) :
    joined a b (ix2 i k) = if h : k.val < 1024 then a (ix2 i ⟨k.val, h⟩) else b (ix2 i ⟨k.val - 1024, by omega⟩) := by
  by_cases h : k.val < 1024
  · rw [dif_pos h]
    pointwise [joined]
    simp only [h, if_true]
    first | rfl | (refine congrArg (fun k => a (ix2 i k)) (Fin.ext ?_); show k.val % 1024 = k.val; omega)
  · rw [dif_neg h]
    pointwise [joined]
    simp only [h, if_false]
    first | rfl | (refine congrArg (fun k => b (ix2 i k)) (Fin.ext ?_); show (k.val - 1024) % 512 = k.val - 1024; omega)

theorem sums_at (x : FVec Ideal S32768x1024 .f32) (ab : FVec Ideal S32768x1536 .f32) (wo : FVec Ideal S1536x1024 .f32) (i : Fin 32768) (j : Fin 1024) :
    sums x ab wo (ix2 i j) = x (ix2 i j) + ∑ k : Fin 1536, ab (ix2 i k) * wo (ix2 k j) := by
  pointwise [sums]

theorem norms_at (y : FVec Ideal S32768x1024 .f32) (nw : FVec Ideal S1024 .f32) (i : Fin 32768) (j : Fin 1024) :
    norms y nw (ix2 i j) = rowNorm (fun j => y (ix2 i j)) (nw (ix1 j)) j := by
  pointwise [norms, rowNorm]

theorem up_at (n : FVec Ideal S32768x1024 .f32) (wu : FVec Ideal S1024x5632 .f32) (i : Fin 32768) (j : Fin 5632) :
    up n wu (ix2 i j) = ∑ k : Fin 1024, n (ix2 i k) * wu (ix2 k j) := by
  pointwise [up]

theorem padded_at (u : FVec Ideal S32768x5632 .f32) (b : Fin 8) (i : Fin 4098) (k : Fin 2816) :
    padded u (ix3 b i k) = if h : i.val < 2 then 0 else u (ix2 ⟨4096 * b.val + (i.val - 2), by omega⟩ ⟨k.val, by omega⟩) := by
  pointwise [padded]
  by_cases h2 : i.val < 2
  · rw [dif_neg (by omega), dif_pos h2]
    show (((0#32 : BitVec 32).toInt : ℝ) : EReal) = _
    norm_num
  · rw [dif_pos (by have := i.isLt; omega), dif_neg h2]
    exact congrArg (fun r => u (ix2 r ⟨k.val, by omega⟩)) (Fin.ext (by show b.val * 4096 + (i.val - 2) = 4096 * b.val + (i.val - 2); omega))

theorem conv_at (p : FVec Ideal S8x4098x2816 .f32) (cw : FVec Ideal S3x2816 .f32) (cb : FVec Ideal S2816 .f32) (b : Fin 8) (n : Fin 4096) (k : Fin 2816) :
    conv p cw cb (ix3 b n k) = p (ix3 b ⟨n.val, by omega⟩ k) * cw (ix2 0 k) + p (ix3 b ⟨1 + n.val, by omega⟩ k) * cw (ix2 1 k)
      + p (ix3 b ⟨2 + n.val, by omega⟩ k) * cw (ix2 2 k) + cb (ix1 k) := by
  pointwise [conv]

theorem out_at (q : FVec Ideal S8x4096x2816 .f32) (u : FVec Ideal S32768x5632 .f32) (i : Fin 32768) (j : Fin 2816) :
    out q u (ix2 i j) = gated (q (ix3 ⟨i.val / 4096, by omega⟩ ⟨i.val % 4096, by omega⟩ j)) (u (ix2 i ⟨2816 + j.val, by omega⟩)) := by
  unfold gated
  rw [zero_sub]
  pointwise [out]

end Cert.Mix.R

end
end
-- ==== Proof.Mix.lean ====
module

public import proofs.«01_k».proof.Defs
public import proofs.«01_k».proof.Proof.MixOut
public import proofs.«01_k».proof.Proof.MixRef
public import proofs.«01_k».proof.Proof.MixFrameBits

@[expose] public section

set_option maxRecDepth 16384

/-!
# `mix_ffn_up` leaves what its reference computes
-/

noncomputable section

namespace Cert.Mix

open Idealize.ShloMosaic Idealize.ShloMosaic.TcCoe Idealize.ShloMosaic.StableHlo Idealize.ShloMosaic.Pointwise Idealize.SL.Sem

section Reference

open R

variable (A : Args)

theorem ref_x1 (i : Fin 32768) (j : Fin 1024) : sums A.x (joined A.a A.b) A.wo (ix2 i j) = A.x1 i j := by
  rw [sums_at, Args.x1, add_assoc]
  refine congrArg (A.x (ix2 i j) + ·) ?_
  refine (Fin.sum_univ_add (a := 1024) (b := 512) (fun k : Fin 1536 => joined A.a A.b (ix2 i k) * A.wo (ix2 k j))).trans ?_
  refine congrArg₂ (· + ·) (Finset.sum_congr rfl fun k _ => ?_) (Finset.sum_congr rfl fun k _ => ?_)
  · rw [joined_at, dif_pos (show (Fin.castAdd 512 k).val < 1024 from k.isLt)]
    rfl
  · rw [joined_at, dif_neg (show ¬ (Fin.natAdd 1024 k).val < 1024 by show ¬ 1024 + k.val < 1024; omega)]
    exact congrArg₂ (· * ·) (congrArg (fun k => A.b (ix2 i k)) (Fin.ext (by show 1024 + k.val - 1024 = k.val; omega))) rfl

theorem ref_xn (i : Fin 32768) (j : Fin 1024) : norms (sums A.x (joined A.a A.b) A.wo) A.nw (ix2 i j) = A.xn i j := by
  rw [norms_at, Args.xn]
  exact congrArg (fun y => rowNorm y _ j) (funext fun j => ref_x1 A i j)

theorem ref_up (i : Fin 32768) (j : Fin 5632) : up (norms (sums A.x (joined A.a A.b) A.wo) A.nw) A.wu (ix2 i j) = ∑ k : Fin 1024, A.xn i k * A.wu (ix2 k j) := by
  rw [up_at]
  simp only [ref_xn]

theorem ref_back (i : Fin 32768) (j : Fin 2816) (k : ℕ) (hk : k ≤ 2) (l : Fin 4098) (hl : l.val + k = i.val % 4096 + 2) :
    padded (up (norms (sums A.x (joined A.a A.b) A.wo) A.nw) A.wu) (ix3 ⟨i.val / 4096, by omega⟩ l j) = A.back k i j := by
  rw [padded_at, Args.back]
  by_cases h : i.val % 4096 < k
  · rw [dif_pos (by omega), if_pos h]
  · rw [dif_neg (by omega), if_neg h, ref_up, Args.g]
    have e : (⟨4096 * (i.val / 4096) + (l.val - 2), by omega⟩ : Fin 32768) = ⟨i.val - k, by omega⟩ := Fin.ext (by show 4096 * (i.val / 4096) + (l.val - 2) = i.val - k; omega)
    rw [← e]

theorem ref_y (i : Fin 32768) (j : Fin 2816) :
    out (conv (padded (up (norms (sums A.x (joined A.a A.b) A.wo) A.nw) A.wu)) A.cw A.cb) (up (norms (sums A.x (joined A.a A.b) A.wo) A.nw) A.wu) (ix2 i j) = A.y i j := by
  rw [out_at, conv_at, ref_up, ref_back A i j 2 (le_refl 2) ⟨i.val % 4096, by omega⟩ rfl, ref_back A i j 1 (by omega) ⟨1 + i.val % 4096, by omega⟩ (by show 1 + i.val % 4096 + 1 = _; omega),
    ref_back A i j 0 (by omega) ⟨2 + i.val % 4096, by omega⟩ (by show 2 + i.val % 4096 + 0 = _; omega)]
  rfl

end Reference

section Kernel

open Cert.Kernel2Ideal Cert.Kernel2Ideal.Gen

variable (m : (ℓ : Loc nD τ sig) → Buf (Elt Ideal) ℓ)

theorem run_kernel (ρ : Dev nD → PrngReg) : θ_run defs (onTc (τ := τ) (main (F := Ideal))) ⟨m, fun _ => 0, ρ⟩ (fun r => ∀ c : Dev nD,
      r.2.mem ((c.tc : Thread nD τ).loc main_v5_0) = (dats m 0 c).arrAt 8 cfg0.N
      ∧ r.2.mem ((c.tc : Thread nD τ).loc main_v5_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 8, (h.1 c).1 9, h.2 c⟩)
    (θ_run_and (run_main m ρ) (frame_of m ρ (dats m) (A_eq m) (run_main m ρ)))

end Kernel

section Same

open R

variable (m : (ℓ : Loc Cert.Kernel2Ideal.nD Cert.Kernel2Ideal.τ Cert.Kernel2Ideal.sig) → Buf (Elt Ideal) ℓ) (c : Dev Cert.Kernel2Ideal.nD)

theorem same_res : sums (args m c).x (joined (args m c).a (args m c).b) (args m c).wo = (Cert.Kernel2Ideal.Gen.dats m 0 c).arrAt 8 Cert.Kernel2Ideal.cfg0.N := by
  funext x
  obtain ⟨i, j, rfl⟩ : ∃ (i : Fin 32768) (j : Fin 1024), x = ix2 i j := ⟨x 0, x 1, funext fun a => by match a with
    | ⟨0, _⟩ => rfl
    | ⟨1, _⟩ => rfl⟩
  exact (ref_x1 (args m c) i j).trans (array8 m c i j).symm

theorem same_act : out (conv (padded (up (norms (sums (args m c).x (joined (args m c).a (args m c).b) (args m c).wo) (args m c).nw) (args m c).wu)) (args m c).cw (args m c).cb)
      (up (norms (sums (args m c).x (joined (args m c).a (args m c).b) (args m c).wo) (args m c).nw) (args m c).wu)
    = (Cert.Kernel2Ideal.Gen.dats m 0 c).arrAt 9 Cert.Kernel2Ideal.cfg0.N := by
  funext x
  obtain ⟨i, j, rfl⟩ : ∃ (i : Fin 32768) (j : Fin 2816), x = ix2 i j := ⟨x 0, x 1, funext fun a => by match a with
    | ⟨0, _⟩ => rfl
    | ⟨1, _⟩ => rfl⟩
  exact (ref_y (args m c) i j).trans (array9 m c i j).symm

end Same

/-- The reference's second result, in the names of its steps. -/
theorem res_eq (m : (ℓ : Loc Cert.Reference2Ideal.nD Cert.Reference2Ideal.τ Cert.Reference2Ideal.sig) → Buf (Elt Ideal) ℓ) (c : Dev Cert.Reference2Ideal.nD)
    (A : Args)
    (h0 : m ((c.tc : Thread Cert.Reference2Ideal.nD Cert.Reference2Ideal.τ).loc Cert.Reference2Ideal.main_arg0) = A.x)
    (h1 : m ((c.tc : Thread Cert.Reference2Ideal.nD Cert.Reference2Ideal.τ).loc Cert.Reference2Ideal.main_arg1) = A.a)
    (h2 : m ((c.tc : Thread Cert.Reference2Ideal.nD Cert.Reference2Ideal.τ).loc Cert.Reference2Ideal.main_arg2) = A.b)
    (h3 : m ((c.tc : Thread Cert.Reference2Ideal.nD Cert.Reference2Ideal.τ).loc Cert.Reference2Ideal.main_arg3) = A.wo)
    (h4 : m ((c.tc : Thread Cert.Reference2Ideal.nD Cert.Reference2Ideal.τ).loc Cert.Reference2Ideal.main_arg4) = A.nw)
    (h5 : m ((c.tc : Thread Cert.Reference2Ideal.nD Cert.Reference2Ideal.τ).loc Cert.Reference2Ideal.main_arg5) = A.wu)
    (h6 : m ((c.tc : Thread Cert.Reference2Ideal.nD Cert.Reference2Ideal.τ).loc Cert.Reference2Ideal.main_arg6) = A.cw)
    (h7 : m ((c.tc : Thread Cert.Reference2Ideal.nD Cert.Reference2Ideal.τ).loc Cert.Reference2Ideal.main_arg7) = A.cb) :
    Cert.Reference2Ideal.Value.res_out1 (F := Ideal) m c
      = R.out (R.conv (R.padded (R.up (R.norms (R.sums A.x (R.joined A.a A.b) A.wo) A.nw) A.wu)) A.cw A.cb) (R.up (R.norms (R.sums A.x (R.joined A.a A.b) A.wo) A.nw) A.wu) := by
  rw [← h0, ← h1, ← h2, ← h3, ← h4, ← h5, ← h6, ← h7]
  rfl

theorem res0_eq (m : (ℓ : Loc Cert.Reference2Ideal.nD Cert.Reference2Ideal.τ Cert.Reference2Ideal.sig) → Buf (Elt Ideal) ℓ) (c : Dev Cert.Reference2Ideal.nD)
    (A : Args)
    (h0 : m ((c.tc : Thread Cert.Reference2Ideal.nD Cert.Reference2Ideal.τ).loc Cert.Reference2Ideal.main_arg0) = A.x)
    (h1 : m ((c.tc : Thread Cert.Reference2Ideal.nD Cert.Reference2Ideal.τ).loc Cert.Reference2Ideal.main_arg1) = A.a)
    (h2 : m ((c.tc : Thread Cert.Reference2Ideal.nD Cert.Reference2Ideal.τ).loc Cert.Reference2Ideal.main_arg2) = A.b)
    (h3 : m ((c.tc : Thread Cert.Reference2Ideal.nD Cert.Reference2Ideal.τ).loc Cert.Reference2Ideal.main_arg3) = A.wo) :
    R.sums (m ((c.tc : Thread Cert.Reference2Ideal.nD Cert.Reference2Ideal.τ).loc Cert.Reference2Ideal.main_arg0))
      (R.joined (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)))
      (m ((c.tc : Thread Cert.Reference2Ideal.nD Cert.Reference2Ideal.τ).loc Cert.Reference2Ideal.main_arg3)) = R.sums A.x (R.joined A.a A.b) A.wo := by
  rw [← h0, ← h1, ← h2, ← h3]

theorem algebraic : Cert.algebraic_Kernel2Ideal_Reference2Ideal (hKernel2Ideal := Cert.Kernel2Ideal.Gen.facts) (hReference2Ideal := Cert.Reference2Ideal.Gen.facts) :=
  fun m ρ m' ρ' _ hag => ⟨fun c => (Cert.Kernel2Ideal.Gen.dats m 0 c).arrAt 8 Cert.Kernel2Ideal.cfg0.N, fun c => (Cert.Kernel2Ideal.Gen.dats m 0 c).arrAt 9 Cert.Kernel2Ideal.cfg0.N,
    run_kernel m ρ,
    (θ_run _ _ _).mono (fun r h c => by
      obtain ⟨e0, e1, e2, e3, e4, e5, e6, e7⟩ := hag c
      exact ⟨(h c).1.trans ((res0_eq m' c (args m c) e0 e1 e2 e3).trans (same_res m c)),
        (h c).2.1.trans ((res_eq m' c (args m c) e0 e1 e2 e3 e4 e5 e6 e7).trans (same_act m c)), (h c).2.2⟩)
      (Cert.Reference2Ideal.Value.run (F := Ideal) m' ρ')⟩

end Cert.Mix

end
end
-- ==== Proof.DownPlain.lean ====
module

public import proofs.«01_k».proof.Defs
public import proofs.«01_k».proof.Proof.Gen.Kernel5Ideal.Value
public import proofs.«01_k».proof.Proof.Gen.Reference5Ideal.Run
public import Idealize.ShloMosaic.Lib.StableHlo.RunClose
public import Idealize.ShloMosaic.Lib.Routing.OpsOrder
public import Idealize.ShloMosaic.Lib.Pointwise
public import Idealize.ShloMosaic.Lib.Pipeline.ValueKit.Basic

@[expose] public section

set_option maxRecDepth 16384

/-!
# The down projection with its residual and no norm
-/

noncomputable section

namespace Cert.DownPlain

open Idealize.ShloMosaic Idealize.ShloMosaic.TcCoe Idealize.ShloMosaic.StableHlo Idealize.ShloMosaic.Pointwise Idealize.SL.Sem

namespace K

open Cert.Kernel5Ideal Cert.Kernel5Ideal.Gen Cert.Kernel5Ideal.Value

theorem pay (v0 : FVec Ideal S512x1024 .f32) (v1 : FVec Ideal S512x2816 .bf16) (v2 : FVec Ideal S2816x1024 .bf16)
    (n : Fin 512) (j : Fin 1024) :
    k0_pay1 (F := Ideal) v0 v1 v2 (ix2 n j) = v0 (ix2 n j) + ∑ k : Fin 2816, v1 (ix2 n k) * v2 (ix2 k j) := by
  pointwise [k0_pay1]

theorem ld_x0 (x : FVec Ideal S512x1024 .f32) : View.ld (Val := Elt Ideal) (e' := .f32) x r0_0 = x := by
  exact View.ld_unit_lit (Val := Elt Ideal) (S := S512x1024) (e := .f32) _ x (by decide)
theorem ld_x1 (x : FVec Ideal S512x2816 .bf16) : View.ld (Val := Elt Ideal) (e' := .bf16) x r0_1 = x := by
  exact View.ld_unit_lit (Val := Elt Ideal) (S := S512x2816) (e := .bf16) _ x (by decide)
theorem ld_x2 (x : FVec Ideal S2816x1024 .bf16) : View.ld (Val := Elt Ideal) (e' := .bf16) x r0_2 = x := by
  exact View.ld_unit_lit (Val := Elt Ideal) (S := S2816x1024) (e := .bf16) _ x (by decide)

/-- A block of the output from its blocks of the inputs. -/
theorem out_at (x0 : FVec Ideal S512x1024 .f32) (x1 : FVec Ideal S512x2816 .bf16) (x2 : FVec Ideal S2816x1024 .bf16) (x3 : FVec Ideal S1x1024 .f32)
    (n : Fin 512) (j : Fin 1024) :
    out0_4 (F := Ideal) x0 x1 x2 x3 (ix2 n j) = x0 (ix2 n j) + ∑ k : Fin 2816, x1 (ix2 n k) * x2 (ix2 k j) := by
  unfold out0_4
  have e : (ix2 n j : S512x1024.Idx) = r0_0.emb (ix2 n j) := funext fun a => Fin.ext (by match a with
    | ⟨0, _⟩ => show n.val = 0 + 1 * n.val; omega
    | ⟨1, _⟩ => show j.val = 0 + 1 * j.val; omega)
  refine (congrArg _ e).trans ((View.canon_cons_emb r0_0 _ _ _).trans ?_)
  exact (congrFun (congr (congr (congrArg (k0_pay1 (F := Ideal)) (ld_x0 x0)) (ld_x1 x1)) (ld_x2 x2)) (ix2 n j)).trans (pay x0 x1 x2 n j)

section Blocks

variable (m : (ℓ : Loc nD τ sig) → Buf (Elt Ideal) ℓ) (c : Dev nD)

theorem row_lt (t : Fin cfg0.N) (n : Fin 512) : 512 * t.val + n.val < 32768 := by
  have := lt_of_lt_of_eq t.isLt (show cfg0.N = 64 from N_0)
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, ∀ a : Fin 2, win0_2.index t a = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem blk0 (t : Fin cfg0.N) (n : Fin 512) (j : Fin 1024) :
    iblk m c 0 t (ix2 n j) = m ((c : Thread nD τ).loc main_arg0) (ix2 ⟨512 * t.val + n.val, row_lt t n⟩ j) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * n.val = 512 * t.val + n.val; rw [e0]; omega
  | ⟨1, _⟩ => show win0_0.index t (1 : Fin 2) * 1024 + 1 * j.val = j.val; rw [e1]; omega

theorem blk1 (t : Fin cfg0.N) (n : Fin 512) (j : Fin 2816) :
    iblk m c 1 t (ix2 n j) = m ((c : Thread nD τ).loc main_arg1) (ix2 ⟨512 * t.val + n.val, row_lt t n⟩ j) := by
  unfold iblk
  rw [View.read_apply]
  show V m c main_arg1 _ = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 512 + 1 * n.val = 512 * t.val + n.val; rw [e0]; omega
  | ⟨1, _⟩ => show win0_1.index t (1 : Fin 2) * 2816 + 1 * j.val = j.val; rw [e1]; omega

theorem V_v0 : V m c main_v0 = truncf (F := Ideal) .bf16 (m ((c : Thread nD τ).loc main_arg2)) bitsLt_bf16_f32 := by
  unfold V
  after_reads_simp

theorem blk2 (t : Fin cfg0.N) (k : Fin 2816) (j : Fin 1024) : iblk m c 2 t (ix2 k j) = m ((c : Thread nD τ).loc main_arg2) (ix2 k j) := by
  unfold iblk
  rw [View.read_apply]
  show V m c main_v0 _ = _
  rw [V_v0]
  have e := idx2 t
  refine congrArg (m ((c : Thread nD τ).loc main_arg2)) (funext fun a => Fin.ext ?_)
  match a with
  | ⟨0, _⟩ => show win0_2.index t (0 : Fin 2) * 2816 + 1 * k.val = k.val; rw [e 0]; omega
  | ⟨1, _⟩ => show win0_2.index t (1 : Fin 2) * 1024 + 1 * j.val = j.val; rw [e 1]; omega

/-- An entry of the sum. -/
def summed (a0 : FVec Ideal S32768x1024 .f32) (a1 : FVec Ideal S32768x2816 .bf16) (a2 : FVec Ideal S2816x1024 .f32) (i : Fin 32768) (j : Fin 1024) : EReal :=
  a0 (ix2 i j) + ∑ k : Fin 2816, a1 (ix2 i k) * a2 (ix2 k j)

/-- The kernel's output, entry by entry. -/
theorem kernel_is (i : Fin 32768) (j : Fin 1024) :
    (dats m 0 c).arrAt 4 cfg0.N (ix2 i j)
      = summed (m ((c : Thread nD τ).loc main_arg0)) (m ((c : Thread nD τ).loc main_arg1)) (m ((c : Thread nD τ).loc main_arg2)) i j := by
  have ht : i.val / 512 < cfg0.N := by rw [show cfg0.N = 64 from N_0]; omega
  obtain ⟨e0, e1⟩ := idx4 ⟨i.val / 512, ht⟩
  have h := congrFun (blocks4 m c ⟨i.val / 512, ht⟩ (flush0_4 _)) (ix2 (⟨i.val % 512, by omega⟩ : Fin 512) j)
  rw [View.read_apply, flushed4] at h
  have ei : ((cfg0.win 4).blk ⟨i.val / 512, ht⟩).view.emb (ix2 (⟨i.val % 512, by omega⟩ : Fin 512) j) = (ix2 i j : S32768x1024.Idx) := funext fun a => Fin.ext (by match a with
    | ⟨0, _⟩ => show win0_4.index ⟨i.val / 512, ht⟩ (0 : Fin 2) * 512 + 1 * (i.val % 512) = i.val; rw [e0]; show i.val / 512 * 512 + 1 * (i.val % 512) = i.val; omega
    | ⟨1, _⟩ => show win0_4.index ⟨i.val / 512, ht⟩ (1 : Fin 2) * 1024 + 1 * j.val = j.val; rw [e1]; omega)
  rw [ei] at h
  refine h.trans ((out_at _ _ _ _ _ j).trans ?_)
  have er : (⟨512 * (i.val / 512) + i.val % 512, by omega⟩ : Fin 32768) = i := Fin.ext (by show 512 * (i.val / 512) + i.val % 512 = i.val; omega)
  simp only [blk0, blk1, blk2, er]
  rfl

end Blocks

end K

namespace R

open Cert.Reference5Ideal Cert.Reference5Ideal.Gen Cert.Reference5Ideal.Value

def sums (a0 : FVec Ideal S32768x1024 .f32) (a1 : FVec Ideal S32768x2816 .bf16) (a2 : FVec Ideal S2816x1024 .f32) : FVec Ideal S32768x1024 .f32 :=
  addf (F := Ideal) a0 (Host.dotGeneral (F := Ideal) dot_S32768x2816_S2816x1024_S32768x1024_1_0_0_1_n_n none (extf (F := Ideal) .f32 a1 bitsLt_bf16_f32) a2)

theorem sums_at (a0 : FVec Ideal S32768x1024 .f32) (a1 : FVec Ideal S32768x2816 .bf16) (a2 : FVec Ideal S2816x1024 .f32) (i : Fin 32768) (j : Fin 1024) :
    sums a0 a1 a2 (ix2 i j) = K.summed a0 a1 a2 i j := by
  pointwise [sums, K.summed]

end R

/-- Both programs, from arguments that agree, end with the same output. -/
theorem same (m : (ℓ : Loc Cert.Kernel5Ideal.nD Cert.Kernel5Ideal.τ Cert.Kernel5Ideal.sig) → Buf (Elt Ideal) ℓ) (c : Dev Cert.Kernel5Ideal.nD)
    {a0 : FVec Ideal Cert.Reference5Ideal.S32768x1024 .f32} {a1 : FVec Ideal Cert.Reference5Ideal.S32768x2816 .bf16} {a2 : FVec Ideal Cert.Reference5Ideal.S2816x1024 .f32}
    (h0 : a0 = m ((c.tc : Thread Cert.Kernel5Ideal.nD Cert.Kernel5Ideal.τ).loc Cert.Kernel5Ideal.main_arg0))
    (h1 : a1 = m ((c.tc : Thread Cert.Kernel5Ideal.nD Cert.Kernel5Ideal.τ).loc Cert.Kernel5Ideal.main_arg1))
    (h2 : a2 = m ((c.tc : Thread Cert.Kernel5Ideal.nD Cert.Kernel5Ideal.τ).loc Cert.Kernel5Ideal.main_arg2)) :
    R.sums a0 a1 a2 = (Cert.Kernel5Ideal.Gen.dats m 0 c).arrAt 4 Cert.Kernel5Ideal.cfg0.N := by
  subst h0 h1 h2
  funext x
  obtain ⟨i, j, rfl⟩ : ∃ (i : Fin 32768) (j : Fin 1024), x = ix2 i j := ⟨x 0, x 1, funext fun a => by match a with
    | ⟨0, _⟩ => rfl
    | ⟨1, _⟩ => rfl⟩
  exact (R.sums_at _ _ _ i j).trans (K.kernel_is m c i j).symm

theorem algebraic : Cert.algebraic_Kernel5Ideal_Reference5Ideal (hKernel5Ideal := Cert.Kernel5Ideal.Gen.facts) (hReference5Ideal := Cert.Reference5Ideal.Gen.facts) :=
  fun m ρ m' ρ' _ hag => ⟨fun c => (Cert.Kernel5Ideal.Gen.dats m 0 c).arrAt 4 Cert.Kernel5Ideal.cfg0.N, Cert.Kernel5Ideal.Value.run_blocks (F := Ideal) m ρ,
    (θ_run _ _ _).mono (fun r h c => ⟨(h c).1.trans (same m c (hag c).1 (hag c).2.1 (hag c).2.2.1), (h c).2⟩)
      (Cert.Reference5Ideal.Value.run (F := Ideal) m' ρ')⟩

end Cert.DownPlain

end
end
-- ==== Proof.ProjectNsa.lean ====
module

public import proofs.«01_k».proof.Proof.Project
public import proofs.«01_k».proof.Proof.Gen.Kernel6Ideal.Value
public import proofs.«01_k».proof.Proof.Gen.Reference6Ideal.Run

@[expose] public section

set_option maxRecDepth 16384

/-!
# The input projections of the sparse attention layer
-/

noncomputable section

namespace Cert.ProjectNsa

open Idealize.ShloMosaic Idealize.ShloMosaic.TcCoe Idealize.ShloMosaic.StableHlo Idealize.ShloMosaic.Pointwise Idealize.SL.Sem
open Cert.Down (normed)
open Cert.Project (proj)

namespace K

open Cert.Kernel6Ideal Cert.Kernel6Ideal.Gen Cert.Kernel6Ideal.Value

theorem pay7 (v0 : FVec Ideal S256x1024 .f32) (v1 : FVec Ideal S1x1024 .f32) (w : FVec Ideal S1024x768 .bf16) (n : Fin 256) (j : Fin 768) :
    k0_pay7 (F := Ideal) v0 v1 w (ix2 n j) = proj (fun k => v0 (ix2 n k)) (fun k => v1 (ix2 0 k)) fun k => w (ix2 k j) := by
  pointwise [k0_pay7, k0_pay6, proj, normed]
theorem pay8 (v0 : FVec Ideal S256x1024 .f32) (v1 : FVec Ideal S1x1024 .f32) (w : FVec Ideal S1024x512 .bf16) (n : Fin 256) (j : Fin 512) :
    k0_pay8 (F := Ideal) v0 v1 w (ix2 n j) = proj (fun k => v0 (ix2 n k)) (fun k => v1 (ix2 0 k)) fun k => w (ix2 k j) := by
  pointwise [k0_pay8, k0_pay6, proj, normed]
theorem pay9 (v0 : FVec Ideal S256x1024 .f32) (v1 : FVec Ideal S1x1024 .f32) (w : FVec Ideal S1024x512 .bf16) (n : Fin 256) (j : Fin 512) :
    k0_pay9 (F := Ideal) v0 v1 w (ix2 n j) = proj (fun k => v0 (ix2 n k)) (fun k => v1 (ix2 0 k)) fun k => w (ix2 k j) := by
  pointwise [k0_pay9, k0_pay6, proj, normed]
theorem pay10 (v0 : FVec Ideal S256x1024 .f32) (v1 : FVec Ideal S1x1024 .f32) (w : FVec Ideal S1024x512 .bf16) (n : Fin 256) (j : Fin 512) :
    k0_pay10 (F := Ideal) v0 v1 w (ix2 n j) = proj (fun k => v0 (ix2 n k)) (fun k => v1 (ix2 0 k)) fun k => w (ix2 k j) := by
  pointwise [k0_pay10, k0_pay6, proj, normed]
theorem pay11 (v0 : FVec Ideal S256x1024 .f32) (v1 : FVec Ideal S1x1024 .f32) (w : FVec Ideal S1024x512 .bf16) (n : Fin 256) (j : Fin 512) :
    k0_pay11 (F := Ideal) (k0_pay6 v0 v1) w (ix2 n j) = proj (fun k => v0 (ix2 n k)) (fun k => v1 (ix2 0 k)) fun k => w (ix2 k j) := by
  pointwise [k0_pay11, k0_pay6, proj, normed]
theorem pay12 (v0 : FVec Ideal S256x1024 .f32) (v1 : FVec Ideal S1x1024 .f32) (w : FVec Ideal S1024x512 .bf16) (n : Fin 256) (j : Fin 512) :
    k0_pay12 (F := Ideal) (k0_pay6 v0 v1) w (ix2 n j) = proj (fun k => v0 (ix2 n k)) (fun k => v1 (ix2 0 k)) fun k => w (ix2 k j) := by
  pointwise [k0_pay12, k0_pay6, proj, normed]
theorem pay14 (v0 : FVec Ideal S256x1024 .f32) (v1 : FVec Ideal S1x1024 .f32) (w : FVec Ideal S1024x768 .bf16) (n : Fin 256) (j : Fin 768) :
    k0_pay14 (F := Ideal) v0 v1 w (ix2 n j) = proj (fun k => v0 (ix2 n k)) (fun k => v1 (ix2 0 k)) fun k => w (ix2 k j) := by
  pointwise [k0_pay14, k0_pay13, proj, normed]
theorem pay15 (v0 : FVec Ideal S256x1024 .f32) (v1 : FVec Ideal S1x1024 .f32) (w : FVec Ideal S1024x512 .bf16) (n : Fin 256) (j : Fin 512) :
    k0_pay1 (F := Ideal) (k0_pay15 (F := Ideal) v0 v1 w) (ix2 n j) = proj (fun k => v0 (ix2 n k)) (fun k => v1 (ix2 0 k)) fun k => w (ix2 k j) := by
  pointwise [k0_pay1, k0_pay15, k0_pay13, proj, normed]
theorem pay2 (v0 : FVec Ideal S256x1024 .f32) (v1 : FVec Ideal S1x1024 .f32) (w : FVec Ideal S1024x512 .bf16) (n : Fin 256) (j : Fin 512) :
    k0_pay2 (F := Ideal) (k0_pay13 v0 v1) w (ix2 n j) = proj (fun k => v0 (ix2 n k)) (fun k => v1 (ix2 0 k)) fun k => w (ix2 k j) := by
  pointwise [k0_pay2, k0_pay13, proj, normed]
theorem pay3 (v0 : FVec Ideal S256x1024 .f32) (v1 : FVec Ideal S1x1024 .f32) (w : FVec Ideal S1024x512 .bf16) (n : Fin 256) (j : Fin 512) :
    k0_pay3 (F := Ideal) (k0_pay13 v0 v1) w (ix2 n j) = proj (fun k => v0 (ix2 n k)) (fun k => v1 (ix2 0 k)) fun k => w (ix2 k j) := by
  pointwise [k0_pay3, k0_pay13, proj, normed]
theorem pay4 (v0 : FVec Ideal S256x1024 .f32) (v1 : FVec Ideal S1x1024 .f32) (w : FVec Ideal S1024x512 .bf16) (n : Fin 256) (j : Fin 512) :
    k0_pay4 (F := Ideal) (k0_pay13 v0 v1) w (ix2 n j) = proj (fun k => v0 (ix2 n k)) (fun k => v1 (ix2 0 k)) fun k => w (ix2 k j) := by
  pointwise [k0_pay4, k0_pay13, proj, normed]
theorem pay5 (v0 : FVec Ideal S256x1024 .f32) (v1 : FVec Ideal S1x1024 .f32) (w : FVec Ideal S1024x512 .bf16) (n : Fin 256) (j : Fin 512) :
    k0_pay5 (F := Ideal) (k0_pay13 v0 v1) w (ix2 n j) = proj (fun k => v0 (ix2 n k)) (fun k => v1 (ix2 0 k)) fun k => w (ix2 k j) := by
  pointwise [k0_pay5, k0_pay13, proj, normed]

/-- The first output's block from the blocks of the inputs. -/
def out4 (x0 : FVec Ideal S512x1024 .f32) (x1 : FVec Ideal S1x1024 .f32) (w : FVec Ideal S1024x2560 .bf16) (y : S512x2560.Idx) : EReal :=
  proj (fun k => x0 (ix2 (y 0) k)) (fun k => x1 (ix2 0 k)) fun k => w (ix2 k (y 1))

theorem out4_of {W} (x0 : FVec Ideal S512x1024 .f32) (x1 : FVec Ideal S1x1024 .f32) (w : FVec Ideal S1024x2560 .bf16) (y : S512x2560.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out4 x0 x1 w y := by
  unfold out4
  simp only [h0, h1, h2]

set_option maxHeartbeats 4000000 in
theorem out4_at (x0 : FVec Ideal S512x1024 .f32) (x1 : FVec Ideal S1x1024 .f32) (x2 : FVec Ideal S1024x2560 .bf16) (x3 : FVec Ideal S1024x768 .bf16)
    (y : S512x2560.Idx) : out0_4 (F := Ideal) x0 x1 x2 x3 y = out4 x0 x1 x2 y := by
  unfold out0_4 k0_pay16 k0_pay17
  refine View.canon_apply_of_pieces (Val := Elt Ideal) (fun y => out4 x0 x1 x2 y) _ ?_ y (cover0_4 _ _ _ _ _ _ _ _ _ _ y)
  intro p hp
  simp only [List.mem_cons, List.not_mem_nil, or_false] at hp
  rcases hp with rfl | rfl | rfl | rfl | rfl | rfl | rfl | rfl | rfl | rfl
  all_goals
    intro x
    obtain ⟨n, j, rfl⟩ : ∃ (n : Fin 256) (j : Fin 512), x = ix2 n j := ⟨x 0, x 1, funext fun a => by match a with
      | ⟨0, _⟩ => rfl
      | ⟨1, _⟩ => rfl⟩
    first
    | refine (pay8 _ _ _ n j).trans ?_
    | refine (pay9 _ _ _ n j).trans ?_
    | refine (pay10 _ _ _ n j).trans ?_
    | refine (pay11 _ _ _ n j).trans ?_
    | refine (pay12 _ _ _ n j).trans ?_
    | refine (pay15 _ _ _ n j).trans ?_
    | refine (pay2 _ _ _ n j).trans ?_
    | refine (pay3 _ _ _ n j).trans ?_
    | refine (pay4 _ _ _ n j).trans ?_
    | refine (pay5 _ _ _ n j).trans ?_
    refine out4_of x0 x1 x2 _ _ _ (fun k j => _) n j (fun k => congrArg x0 (funext fun a => Fin.ext ?_)) (fun k => congrArg x1 (funext fun a => Fin.ext ?_))
      (fun k => congrArg x2 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

/-- The second output's block from the blocks of the inputs. -/
def out5 (x0 : FVec Ideal S512x1024 .f32) (x1 : FVec Ideal S1x1024 .f32) (w : FVec Ideal S1024x768 .bf16) (y : S512x768.Idx) : EReal :=
  proj (fun k => x0 (ix2 (y 0) k)) (fun k => x1 (ix2 0 k)) fun k => w (ix2 k (y 1))

theorem out5_of {W} (x0 : FVec Ideal S512x1024 .f32) (x1 : FVec Ideal S1x1024 .f32) (w : FVec Ideal S1024x768 .bf16) (y : S512x768.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out5 x0 x1 w y := by
  unfold out5
  simp only [h0, h1, h2]

set_option maxHeartbeats 4000000 in
theorem out5_at (x0 : FVec Ideal S512x1024 .f32) (x1 : FVec Ideal S1x1024 .f32) (x2 : FVec Ideal S1024x2560 .bf16) (x3 : FVec Ideal S1024x768 .bf16)
    (y : S512x768.Idx) : out0_5 (F := Ideal) x0 x1 x2 x3 y = out5 x0 x1 x3 y := by
  unfold out0_5
  refine View.canon_apply_of_pieces (Val := Elt Ideal) (fun y => out5 x0 x1 x3 y) _ ?_ y (cover0_5 _ _ y)
  intro p hp
  simp only [List.mem_cons, List.not_mem_nil, or_false] at hp
  rcases hp with rfl | rfl
  all_goals
    intro x
    obtain ⟨n, j, rfl⟩ : ∃ (n : Fin 256) (j : Fin 768), x = ix2 n j := ⟨x 0, x 1, funext fun a => by match a with
      | ⟨0, _⟩ => rfl
      | ⟨1, _⟩ => rfl⟩
    first
    | refine (pay7 _ _ _ n j).trans ?_
    | refine (pay14 _ _ _ n j).trans ?_
    refine out5_of x0 x1 x3 _ _ _ (fun k j => _) n j (fun k => congrArg x0 (funext fun a => Fin.ext ?_)) (fun k => congrArg x1 (funext fun a => Fin.ext ?_))
      (fun k => congrArg x3 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

section Blocks

variable (m : (ℓ : Loc nD τ sig) → Buf (Elt Ideal) ℓ) (c : Dev nD)

theorem row_lt (t : Fin cfg0.N) (n : Fin 512) : 512 * t.val + n.val < 32768 := by
  have := lt_of_lt_of_eq t.isLt (show cfg0.N = 64 from N_0)
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, ∀ a : Fin 2, win0_1.index t a = 0 := (by decide +kernel : ∀ t : Fin grid0.N, _)
theorem idx2 : ∀ t : Fin cfg0.N, ∀ a : Fin 2, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem blk0 (t : Fin cfg0.N) (n : Fin 512) (j : Fin 1024) :
    iblk m c 0 t (ix2 n j) = m ((c : Thread nD τ).loc main_arg0) (ix2 ⟨512 * t.val + n.val, row_lt t n⟩ j) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * n.val = 512 * t.val + n.val; rw [e0]; omega
  | ⟨1, _⟩ => show win0_0.index t (1 : Fin 2) * 1024 + 1 * j.val = j.val; rw [e1]; omega

theorem V_v0 : V m c main_v0 = shapeCast S1x1024 (m ((c : Thread nD τ).loc main_arg1)) shapeCasts_S1024_S1x1024 := by
  unfold V
  after_reads_simp
  rfl

theorem blk1 (t : Fin cfg0.N) (j : Fin 1024) : iblk m c 1 t (ix2 0 j) = m ((c : Thread nD τ).loc main_arg1) (ix1 j) := by
  unfold iblk
  rw [View.read_apply]
  show V m c main_v0 _ = _
  rw [V_v0]
  have e := idx1 t
  have ej : ((cfg0.win 1).blk t).view.emb (ix2 (0 : Fin 1) j) = (ix2 (0 : Fin 1) j : S1x1024.Idx) := funext fun a => Fin.ext (by match a with
    | ⟨0, _⟩ => show win0_1.index t (0 : Fin 2) * 1 + 1 * 0 = 0; rw [e 0]
    | ⟨1, _⟩ => show win0_1.index t (1 : Fin 2) * 1024 + 1 * j.val = j.val; rw [e 1]; omega)
  refine Eq.trans (congrArg _ ej) ?_
  pointwise

theorem blk2 (t : Fin cfg0.N) (k : Fin 1024) (j : Fin 2560) : iblk m c 2 t (ix2 k j) = m ((c : Thread nD τ).loc main_arg2) (ix2 k j) := by
  unfold iblk
  rw [View.read_apply]
  show V m c main_arg2 _ = _
  rw [V_main_arg2]
  have e := idx2 t
  refine congrArg (m ((c : Thread nD τ).loc main_arg2)) (funext fun a => Fin.ext ?_)
  match a with
  | ⟨0, _⟩ => show win0_2.index t (0 : Fin 2) * 1024 + 1 * k.val = k.val; rw [e 0]; omega
  | ⟨1, _⟩ => show win0_2.index t (1 : Fin 2) * 2560 + 1 * j.val = j.val; rw [e 1]; omega

theorem blk3 (t : Fin cfg0.N) (k : Fin 1024) (j : Fin 768) : iblk m c 3 t (ix2 k j) = m ((c : Thread nD τ).loc main_arg3) (ix2 k j) := by
  unfold iblk
  rw [View.read_apply]
  show V m c main_arg3 _ = _
  rw [V_main_arg3]
  have e := idx3 t
  refine congrArg (m ((c : Thread nD τ).loc main_arg3)) (funext fun a => Fin.ext ?_)
  match a with
  | ⟨0, _⟩ => show win0_3.index t (0 : Fin 2) * 1024 + 1 * k.val = k.val; rw [e 0]; omega
  | ⟨1, _⟩ => show win0_3.index t (1 : Fin 2) * 768 + 1 * j.val = j.val; rw [e 1]; omega

theorem kernel_is4 (i : Fin 32768) (j : Fin 2560) :
    (dats m 0 c).arrAt 4 cfg0.N (ix2 i j)
      = proj (fun k => m ((c : Thread nD τ).loc main_arg0) (ix2 i k)) (fun k => m ((c : Thread nD τ).loc main_arg1) (ix1 k)) (fun k => m ((c : Thread nD τ).loc main_arg2) (ix2 k j)) := by
  have ht : i.val / 512 < cfg0.N := by rw [show cfg0.N = 64 from N_0]; omega
  obtain ⟨e0, e1⟩ := idx4 ⟨i.val / 512, ht⟩
  have h := congrFun (blocks4 m c ⟨i.val / 512, ht⟩ (flush0_4 _)) (ix2 (⟨i.val % 512, by omega⟩ : Fin 512) j)
  rw [View.read_apply, flushed4] at h
  have ei : ((cfg0.win 4).blk ⟨i.val / 512, ht⟩).view.emb (ix2 (⟨i.val % 512, by omega⟩ : Fin 512) j) = (ix2 i j : S32768x2560.Idx) := funext fun a => Fin.ext (by match a with
    | ⟨0, _⟩ => show win0_4.index ⟨i.val / 512, ht⟩ (0 : Fin 2) * 512 + 1 * (i.val % 512) = i.val; rw [e0]; show i.val / 512 * 512 + 1 * (i.val % 512) = i.val; omega
    | ⟨1, _⟩ => show win0_4.index ⟨i.val / 512, ht⟩ (1 : Fin 2) * 2560 + 1 * j.val = j.val; rw [e1]; omega)
  rw [ei] at h
  refine h.trans ((out4_at _ _ _ _ _).trans ?_)
  have er : (⟨512 * (i.val / 512) + i.val % 512, by omega⟩ : Fin 32768) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 2 ⟨i.val / 512, ht⟩ (ix2 k j)) = _
  simp only [blk0, blk1, blk2, er]

theorem kernel_is5 (i : Fin 32768) (j : Fin 768) :
    (dats m 0 c).arrAt 5 cfg0.N (ix2 i j)
      = proj (fun k => m ((c : Thread nD τ).loc main_arg0) (ix2 i k)) (fun k => m ((c : Thread nD τ).loc main_arg1) (ix1 k)) (fun k => m ((c : Thread nD τ).loc main_arg3) (ix2 k j)) := by
  have ht : i.val / 512 < cfg0.N := by rw [show cfg0.N = 64 from N_0]; omega
  obtain ⟨e0, e1⟩ := idx5 ⟨i.val / 512, ht⟩
  have h := congrFun (blocks5 m c ⟨i.val / 512, ht⟩ (flush0_5 _)) (ix2 (⟨i.val % 512, by omega⟩ : Fin 512) j)
  rw [View.read_apply, flushed5] at h
  have ei : ((cfg0.win 5).blk ⟨i.val / 512, ht⟩).view.emb (ix2 (⟨i.val % 512, by omega⟩ : Fin 512) j) = (ix2 i j : S32768x768.Idx) := funext fun a => Fin.ext (by match a with
    | ⟨0, _⟩ => show win0_5.index ⟨i.val / 512, ht⟩ (0 : Fin 2) * 512 + 1 * (i.val % 512) = i.val; rw [e0]; show i.val / 512 * 512 + 1 * (i.val % 512) = i.val; omega
    | ⟨1, _⟩ => show win0_5.index ⟨i.val / 512, ht⟩ (1 : Fin 2) * 768 + 1 * j.val = j.val; rw [e1]; omega)
  rw [ei] at h
  refine h.trans ((out5_at _ _ _ _ _).trans ?_)
  have er : (⟨512 * (i.val / 512) + i.val % 512, by omega⟩ : Fin 32768) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 3 ⟨i.val / 512, ht⟩ (ix2 k j)) = _
  simp only [blk0, blk1, blk3, er]

end Blocks

end K

namespace R

open Cert.Reference6Ideal Cert.Reference6Ideal.Gen Cert.Reference6Ideal.Value

def norms (y : FVec Ideal S32768x1024 .f32) (a3 : FVec Ideal S1024 .f32) : FVec Ideal S32768x1024 .f32 :=
  mulf (F := Ideal) (mulf (F := Ideal) y (broadcastInDim S32768x1024 ![0, 1] bcast_S32768x1_S32768x1024_0_1 (Host.rsqrt (F := Ideal) (addf (F := Ideal) (Host.divf (F := Ideal)
    (broadcastInDim S32768x1 ![0] bcast_S32768_S32768x1_0 (Host.reduceAdd (F := Ideal) (mulf (F := Ideal) y y) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 a3))

def wide (a0 : FVec Ideal S32768x1024 .f32) (a1 : FVec Ideal S1024 .f32) (a2 : FVec Ideal S1024x2560 .bf16) : FVec Ideal S32768x2560 .bf16 :=
  truncf (F := Ideal) .bf16 (Host.dotGeneral (F := Ideal) dot_S32768x1024_S1024x2560_S32768x2560_1_0_0_1_n_n none (norms a0 a1) (extf (F := Ideal) .f32 a2 bitsLt_bf16_f32)) bitsLt_bf16_f32

def side (a0 : FVec Ideal S32768x1024 .f32) (a1 : FVec Ideal S1024 .f32) (a3 : FVec Ideal S1024x768 .bf16) : FVec Ideal S32768x768 .f32 :=
  Host.dotGeneral (F := Ideal) dot_S32768x1024_S1024x768_S32768x768_1_0_0_1_n_n none (norms a0 a1) (extf (F := Ideal) .f32 a3 bitsLt_bf16_f32)

theorem norms_at (y : FVec Ideal S32768x1024 .f32) (a3 : FVec Ideal S1024 .f32) (i : Fin 32768) (j : Fin 1024) :
    norms y a3 (ix2 i j) = normed (fun j => y (ix2 i j)) (a3 (ix1 j)) j := by
  pointwise [norms, normed]

theorem wide_at (a0 : FVec Ideal S32768x1024 .f32) (a1 : FVec Ideal S1024 .f32) (a2 : FVec Ideal S1024x2560 .bf16) (i : Fin 32768) (j : Fin 2560) :
    wide a0 a1 a2 (ix2 i j) = proj (fun k => a0 (ix2 i k)) (fun k => a1 (ix1 k)) (fun k => a2 (ix2 k j)) := by
  refine Eq.trans (b := ∑ k : Fin 1024, norms a0 a1 (ix2 i k) * a2 (ix2 k j)) ?_ ?_
  · pointwise [wide]
  · simp only [norms_at, proj]

theorem side_at (a0 : FVec Ideal S32768x1024 .f32) (a1 : FVec Ideal S1024 .f32) (a3 : FVec Ideal S1024x768 .bf16) (i : Fin 32768) (j : Fin 768) :
    side a0 a1 a3 (ix2 i j) = proj (fun k => a0 (ix2 i k)) (fun k => a1 (ix1 k)) (fun k => a3 (ix2 k j)) := by
  refine Eq.trans (b := ∑ k : Fin 1024, norms a0 a1 (ix2 i k) * a3 (ix2 k j)) ?_ ?_
  · pointwise [side]
  · simp only [norms_at, proj]

end R

theorem wide_same (m : (ℓ : Loc Cert.Kernel6Ideal.nD Cert.Kernel6Ideal.τ Cert.Kernel6Ideal.sig) → Buf (Elt Ideal) ℓ) (c : Dev Cert.Kernel6Ideal.nD)
    {a0 : FVec Ideal Cert.Reference6Ideal.S32768x1024 .f32} {a1 : FVec Ideal Cert.Reference6Ideal.S1024 .f32} {a2 : FVec Ideal Cert.Reference6Ideal.S1024x2560 .bf16}
    (h0 : a0 = m ((c.tc : Thread Cert.Kernel6Ideal.nD Cert.Kernel6Ideal.τ).loc Cert.Kernel6Ideal.main_arg0))
    (h1 : a1 = m ((c.tc : Thread Cert.Kernel6Ideal.nD Cert.Kernel6Ideal.τ).loc Cert.Kernel6Ideal.main_arg1))
    (h2 : a2 = m ((c.tc : Thread Cert.Kernel6Ideal.nD Cert.Kernel6Ideal.τ).loc Cert.Kernel6Ideal.main_arg2)) :
    R.wide a0 a1 a2 = (Cert.Kernel6Ideal.Gen.dats m 0 c).arrAt 4 Cert.Kernel6Ideal.cfg0.N := by
  subst h0 h1 h2
  funext x
  obtain ⟨i, j, rfl⟩ : ∃ (i : Fin 32768) (j : Fin 2560), x = ix2 i j := ⟨x 0, x 1, funext fun a => by match a with
    | ⟨0, _⟩ => rfl
    | ⟨1, _⟩ => rfl⟩
  exact (R.wide_at _ _ _ i j).trans (K.kernel_is4 m c i j).symm

theorem side_same (m : (ℓ : Loc Cert.Kernel6Ideal.nD Cert.Kernel6Ideal.τ Cert.Kernel6Ideal.sig) → Buf (Elt Ideal) ℓ) (c : Dev Cert.Kernel6Ideal.nD)
    {a0 : FVec Ideal Cert.Reference6Ideal.S32768x1024 .f32} {a1 : FVec Ideal Cert.Reference6Ideal.S1024 .f32} {a3 : FVec Ideal Cert.Reference6Ideal.S1024x768 .bf16}
    (h0 : a0 = m ((c.tc : Thread Cert.Kernel6Ideal.nD Cert.Kernel6Ideal.τ).loc Cert.Kernel6Ideal.main_arg0))
    (h1 : a1 = m ((c.tc : Thread Cert.Kernel6Ideal.nD Cert.Kernel6Ideal.τ).loc Cert.Kernel6Ideal.main_arg1))
    (h3 : a3 = m ((c.tc : Thread Cert.Kernel6Ideal.nD Cert.Kernel6Ideal.τ).loc Cert.Kernel6Ideal.main_arg3)) :
    R.side a0 a1 a3 = (Cert.Kernel6Ideal.Gen.dats m 0 c).arrAt 5 Cert.Kernel6Ideal.cfg0.N := by
  subst h0 h1 h3
  funext x
  obtain ⟨i, j, rfl⟩ : ∃ (i : Fin 32768) (j : Fin 768), x = ix2 i j := ⟨x 0, x 1, funext fun a => by match a with
    | ⟨0, _⟩ => rfl
    | ⟨1, _⟩ => rfl⟩
  exact (R.side_at _ _ _ i j).trans (K.kernel_is5 m c i j).symm

/-- Both programs, from arguments that agree, end with the same two outputs. -/
theorem algebraic : Cert.algebraic_Kernel6Ideal_Reference6Ideal (hKernel6Ideal := Cert.Kernel6Ideal.Gen.facts) (hReference6Ideal := Cert.Reference6Ideal.Gen.facts) :=
  fun m ρ m' ρ' _ hag => ⟨fun c => (Cert.Kernel6Ideal.Gen.dats m 0 c).arrAt 4 Cert.Kernel6Ideal.cfg0.N, fun c => (Cert.Kernel6Ideal.Gen.dats m 0 c).arrAt 5 Cert.Kernel6Ideal.cfg0.N,
    Cert.Kernel6Ideal.Value.run_blocks (F := Ideal) m ρ,
    (θ_run _ _ _).mono (fun r h c => ⟨(h c).1.trans (wide_same m c (hag c).1 (hag c).2.1 (hag c).2.2.1), (h c).2.1.trans (side_same m c (hag c).1 (hag c).2.1 (hag c).2.2.2), (h c).2.2⟩)
      (Cert.Reference6Ideal.Value.run (F := Ideal) m' ρ')⟩

end Cert.ProjectNsa

end
end
-- ==== Proof.ProjectMem.lean ====
module

public import proofs.«01_k».proof.Proof.Project
public import proofs.«01_k».proof.Proof.Gen.Kernel7Ideal.Value
public import proofs.«01_k».proof.Proof.Gen.Reference7Ideal.Run

@[expose] public section

set_option maxRecDepth 16384

/-!
# The projections of the memory after an rms norm
-/

noncomputable section

namespace Cert.ProjectMem

open Idealize.ShloMosaic Idealize.ShloMosaic.TcCoe Idealize.ShloMosaic.StableHlo Idealize.ShloMosaic.Pointwise Idealize.SL.Sem
open Cert.Down (normed)
open Cert.Project (proj)

namespace K

open Cert.Kernel7Ideal Cert.Kernel7Ideal.Gen Cert.Kernel7Ideal.Value

theorem pay6 (v0 : FVec Ideal S256x1024 .f32) (v1 : FVec Ideal S1x1024 .f32) (w : FVec Ideal S1024x128 .bf16) (n : Fin 256) (j : Fin 128) :
    k0_pay6 (F := Ideal) v0 v1 w (ix2 n j) = proj (fun k => v0 (ix2 n k)) (fun k => v1 (ix2 0 k)) fun k => w (ix2 k j) := by
  pointwise [k0_pay6, k0_pay5, proj, normed]
theorem pay7 (v0 : FVec Ideal S256x1024 .f32) (v1 : FVec Ideal S1x1024 .f32) (w : FVec Ideal S1024x512 .bf16) (n : Fin 256) (j : Fin 512) :
    k0_pay7 (F := Ideal) v0 v1 w (ix2 n j) = proj (fun k => v0 (ix2 n k)) (fun k => v1 (ix2 0 k)) fun k => w (ix2 k j) := by
  pointwise [k0_pay7, k0_pay5, proj, normed]
theorem pay8 (v0 : FVec Ideal S256x1024 .f32) (v1 : FVec Ideal S1x1024 .f32) (w : FVec Ideal S1024x512 .bf16) (n : Fin 256) (j : Fin 512) :
    k0_pay8 (F := Ideal) v0 v1 w (ix2 n j) = proj (fun k => v0 (ix2 n k)) (fun k => v1 (ix2 0 k)) fun k => w (ix2 k j) := by
  pointwise [k0_pay8, k0_pay5, proj, normed]
theorem pay2 (v0 : FVec Ideal S256x1024 .f32) (v1 : FVec Ideal S1x1024 .f32) (w : FVec Ideal S1024x128 .bf16) (n : Fin 256) (j : Fin 128) :
    k0_pay2 (F := Ideal) v0 (k0_pay9 v0) v1 w (ix2 n j) = proj (fun k => v0 (ix2 n k)) (fun k => v1 (ix2 0 k)) fun k => w (ix2 k j) := by
  pointwise [k0_pay2, k0_pay1, k0_pay9, proj, normed]
theorem pay3 (v0 : FVec Ideal S256x1024 .f32) (v1 : FVec Ideal S1x1024 .f32) (w : FVec Ideal S1024x512 .bf16) (n : Fin 256) (j : Fin 512) :
    k0_pay3 (F := Ideal) v0 (k0_pay9 v0) v1 w (ix2 n j) = proj (fun k => v0 (ix2 n k)) (fun k => v1 (ix2 0 k)) fun k => w (ix2 k j) := by
  pointwise [k0_pay3, k0_pay1, k0_pay9, proj, normed]
theorem pay4 (v0 : FVec Ideal S256x1024 .f32) (v1 : FVec Ideal S1x1024 .f32) (w : FVec Ideal S1024x512 .bf16) (n : Fin 256) (j : Fin 512) :
    k0_pay4 (F := Ideal) v0 (k0_pay9 v0) v1 w (ix2 n j) = proj (fun k => v0 (ix2 n k)) (fun k => v1 (ix2 0 k)) fun k => w (ix2 k j) := by
  pointwise [k0_pay4, k0_pay1, k0_pay9, proj, normed]

/-- The first output's block from the blocks of the inputs. -/
def out4 (x0 : FVec Ideal S512x1024 .f32) (x1 : FVec Ideal S1x1024 .f32) (w : FVec Ideal S1024x1024 .bf16) (y : S512x1024.Idx) : EReal :=
  proj (fun k => x0 (ix2 (y 0) k)) (fun k => x1 (ix2 0 k)) fun k => w (ix2 k (y 1))

theorem out4_of {W} (x0 : FVec Ideal S512x1024 .f32) (x1 : FVec Ideal S1x1024 .f32) (w : FVec Ideal S1024x1024 .bf16) (y : S512x1024.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out4 x0 x1 w y := by
  unfold out4
  simp only [h0, h1, h2]

set_option maxHeartbeats 4000000 in
theorem out4_at (x0 : FVec Ideal S512x1024 .f32) (x1 : FVec Ideal S1x1024 .f32) (x2 : FVec Ideal S1024x1024 .bf16) (x3 : FVec Ideal S1024x128 .bf16)
    (y : S512x1024.Idx) : out0_4 (F := Ideal) x0 x1 x2 x3 y = out4 x0 x1 x2 y := by
  unfold out0_4 k0_pay10
  refine View.canon_apply_of_pieces (Val := Elt Ideal) (fun y => out4 x0 x1 x2 y) _ ?_ y (cover0_4 _ _ _ _ y)
  intro p hp
  simp only [List.mem_cons, List.not_mem_nil, or_false] at hp
  rcases hp with rfl | rfl | rfl | rfl
  all_goals
    intro x
    obtain ⟨n, j, rfl⟩ : ∃ (n : Fin 256) (j : Fin 512), x = ix2 n j := ⟨x 0, x 1, funext fun a => by match a with
      | ⟨0, _⟩ => rfl
      | ⟨1, _⟩ => rfl⟩
    first
    | refine (pay7 _ _ _ n j).trans ?_
    | refine (pay8 _ _ _ n j).trans ?_
    | refine (pay3 _ _ _ n j).trans ?_
    | refine (pay4 _ _ _ n j).trans ?_
    refine out4_of x0 x1 x2 _ _ _ (fun k j => _) n j (fun k => congrArg x0 (funext fun a => Fin.ext ?_)) (fun k => congrArg x1 (funext fun a => Fin.ext ?_))
      (fun k => congrArg x2 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

/-- The second output's block from the blocks of the inputs. -/
def out5 (x0 : FVec Ideal S512x1024 .f32) (x1 : FVec Ideal S1x1024 .f32) (w : FVec Ideal S1024x128 .bf16) (y : S512x128.Idx) : EReal :=
  proj (fun k => x0 (ix2 (y 0) k)) (fun k => x1 (ix2 0 k)) fun k => w (ix2 k (y 1))

theorem out5_of {W} (x0 : FVec Ideal S512x1024 .f32) (x1 : FVec Ideal S1x1024 .f32) (w : FVec Ideal S1024x128 .bf16) (y : S512x128.Idx)
    (v0 : FVec Ideal S256x1024 .f32) (v1 : FVec Ideal S1x1024 .f32) (u : Fin 1024 → W → EReal) (n : Fin 256) (j : W)
    (h0 : ∀ k, v0 (ix2 n k) = x0 (ix2 (y 0) k)) (h1 : ∀ k, v1 (ix2 0 k) = x1 (ix2 0 k)) (h2 : ∀ k, u k j = w (ix2 k (y 1))) :
    proj (fun k => v0 (ix2 n k)) (fun k => v1 (ix2 0 k)) (fun k => u k j) = out5 x0 x1 w y := by
  unfold out5
  simp only [h0, h1, h2]

set_option maxHeartbeats 4000000 in
theorem out5_at (x0 : FVec Ideal S512x1024 .f32) (x1 : FVec Ideal S1x1024 .f32) (x2 : FVec Ideal S1024x1024 .bf16) (x3 : FVec Ideal S1024x128 .bf16)
    (y : S512x128.Idx) : out0_5 (F := Ideal) x0 x1 x2 x3 y = out5 x0 x1 x3 y := by
  unfold out0_5 k0_pay10
  refine View.canon_apply_of_pieces (Val := Elt Ideal) (fun y => out5 x0 x1 x3 y) _ ?_ y (cover0_5 _ _ y)
  intro p hp
  simp only [List.mem_cons, List.not_mem_nil, or_false] at hp
  rcases hp with rfl | rfl
  all_goals
    intro x
    obtain ⟨n, j, rfl⟩ : ∃ (n : Fin 256) (j : Fin 128), x = ix2 n j := ⟨x 0, x 1, funext fun a => by match a with
      | ⟨0, _⟩ => rfl
      | ⟨1, _⟩ => rfl⟩
    first
    | refine (pay6 _ _ _ n j).trans ?_
    | refine (pay2 _ _ _ n j).trans ?_
    refine out5_of x0 x1 x3 _ _ _ (fun k j => _) n j (fun k => congrArg x0 (funext fun a => Fin.ext ?_)) (fun k => congrArg x1 (funext fun a => Fin.ext ?_))
      (fun k => congrArg x3 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · match a with
      | ⟨0, _⟩ => show 0 + 1 * k.val = k.val; omega
      | ⟨1, _⟩ => rfl

section Blocks

variable (m : (ℓ : Loc nD τ sig) → Buf (Elt Ideal) ℓ) (c : Dev nD)

theorem row_lt (t : Fin cfg0.N) (n : Fin 512) : 512 * t.val + n.val < 2048 := by
  have := lt_of_lt_of_eq t.isLt (show cfg0.N = 4 from N_0)
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, ∀ a : Fin 2, win0_1.index t a = 0 := (by decide +kernel : ∀ t : Fin grid0.N, _)
theorem idx2 : ∀ t : Fin cfg0.N, ∀ a : Fin 2, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem blk0 (t : Fin cfg0.N) (n : Fin 512) (j : Fin 1024) :
    iblk m c 0 t (ix2 n j) = m ((c : Thread nD τ).loc main_arg0) (ix2 ⟨512 * t.val + n.val, row_lt t n⟩ j) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 512 + 1 * n.val = 512 * t.val + n.val; rw [e0]; omega
  | ⟨1, _⟩ => show win0_0.index t (1 : Fin 2) * 1024 + 1 * j.val = j.val; rw [e1]; omega

theorem V_v1 : V m c main_v1 = shapeCast S1x1024 (m ((c : Thread nD τ).loc main_arg1)) shapeCasts_S1024_S1x1024 := by
  unfold V
  after_reads_simp
  rfl

theorem blk1 (t : Fin cfg0.N) (j : Fin 1024) : iblk m c 1 t (ix2 0 j) = m ((c : Thread nD τ).loc main_arg1) (ix1 j) := by
  unfold iblk
  rw [View.read_apply]
  show V m c main_v1 _ = _
  rw [V_v1]
  have e := idx1 t
  have ej : ((cfg0.win 1).blk t).view.emb (ix2 (0 : Fin 1) j) = (ix2 (0 : Fin 1) j : S1x1024.Idx) := funext fun a => Fin.ext (by match a with
    | ⟨0, _⟩ => show win0_1.index t (0 : Fin 2) * 1 + 1 * 0 = 0; rw [e 0]
    | ⟨1, _⟩ => show win0_1.index t (1 : Fin 2) * 1024 + 1 * j.val = j.val; rw [e 1]; omega)
  refine Eq.trans (congrArg _ ej) ?_
  pointwise

theorem blk2 (t : Fin cfg0.N) (k : Fin 1024) (j : Fin 1024) : iblk m c 2 t (ix2 k j) = m ((c : Thread nD τ).loc main_arg2) (ix2 k j) := by
  unfold iblk
  rw [View.read_apply]
  show V m c main_arg2 _ = _
  rw [V_main_arg2]
  have e := idx2 t
  refine congrArg (m ((c : Thread nD τ).loc main_arg2)) (funext fun a => Fin.ext ?_)
  match a with
  | ⟨0, _⟩ => show win0_2.index t (0 : Fin 2) * 1024 + 1 * k.val = k.val; rw [e 0]; omega
  | ⟨1, _⟩ => show win0_2.index t (1 : Fin 2) * 1024 + 1 * j.val = j.val; rw [e 1]; omega

/-- The columns of the second product are the first 128 columns of the weights. -/
def low (j : Fin 128) : Fin 1024 := ⟨j.val, by omega⟩

theorem V_v0 : V m c main_v0 = extractStridedSlice S1024x128 ![0, 0] (m ((c : Thread nD τ).loc main_arg2)) slices_S1024x1024_S1024x128_0_0 := by
  unfold V
  after_reads_simp

theorem blk3 (t : Fin cfg0.N) (k : Fin 1024) (j : Fin 128) : iblk m c 3 t (ix2 k j) = m ((c : Thread nD τ).loc main_arg2) (ix2 k (low j)) := by
  unfold iblk
  rw [View.read_apply]
  show V m c main_v0 _ = _
  rw [V_v0]
  have e := idx3 t
  refine congrArg (m ((c : Thread nD τ).loc main_arg2)) (funext fun a => Fin.ext ?_)
  match a with
  | ⟨0, _⟩ => show 0 + (win0_3.index t (0 : Fin 2) * 1024 + 1 * k.val) = k.val; rw [e 0]; omega
  | ⟨1, _⟩ => show 0 + (win0_3.index t (1 : Fin 2) * 128 + 1 * j.val) = j.val; rw [e 1]; omega

theorem kernel_is4 (i : Fin 2048) (j : Fin 1024) :
    (dats m 0 c).arrAt 4 cfg0.N (ix2 i j)
      = proj (fun k => m ((c : Thread nD τ).loc main_arg0) (ix2 i k)) (fun k => m ((c : Thread nD τ).loc main_arg1) (ix1 k)) (fun k => m ((c : Thread nD τ).loc main_arg2) (ix2 k j)) := by
  have ht : i.val / 512 < cfg0.N := by rw [show cfg0.N = 4 from N_0]; omega
  obtain ⟨e0, e1⟩ := idx4 ⟨i.val / 512, ht⟩
  have h := congrFun (blocks4 m c ⟨i.val / 512, ht⟩ (flush0_4 _)) (ix2 (⟨i.val % 512, by omega⟩ : Fin 512) j)
  rw [View.read_apply, flushed4] at h
  have ei : ((cfg0.win 4).blk ⟨i.val / 512, ht⟩).view.emb (ix2 (⟨i.val % 512, by omega⟩ : Fin 512) j) = (ix2 i j : S2048x1024.Idx) := funext fun a => Fin.ext (by match a with
    | ⟨0, _⟩ => show win0_4.index ⟨i.val / 512, ht⟩ (0 : Fin 2) * 512 + 1 * (i.val % 512) = i.val; rw [e0]; show i.val / 512 * 512 + 1 * (i.val % 512) = i.val; omega
    | ⟨1, _⟩ => show win0_4.index ⟨i.val / 512, ht⟩ (1 : Fin 2) * 1024 + 1 * j.val = j.val; rw [e1]; omega)
  rw [ei] at h
  refine h.trans ((out4_at _ _ _ _ _).trans ?_)
  have er : (⟨512 * (i.val / 512) + i.val % 512, by omega⟩ : Fin 2048) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 2 ⟨i.val / 512, ht⟩ (ix2 k j)) = _
  simp only [blk0, blk1, blk2, er]

theorem kernel_is5 (i : Fin 2048) (j : Fin 128) :
    (dats m 0 c).arrAt 5 cfg0.N (ix2 i j)
      = proj (fun k => m ((c : Thread nD τ).loc main_arg0) (ix2 i k)) (fun k => m ((c : Thread nD τ).loc main_arg1) (ix1 k)) (fun k => m ((c : Thread nD τ).loc main_arg2) (ix2 k (low j))) := by
  have ht : i.val / 512 < cfg0.N := by rw [show cfg0.N = 4 from N_0]; omega
  obtain ⟨e0, e1⟩ := idx5 ⟨i.val / 512, ht⟩
  have h := congrFun (blocks5 m c ⟨i.val / 512, ht⟩ (flush0_5 _)) (ix2 (⟨i.val % 512, by omega⟩ : Fin 512) j)
  rw [View.read_apply, flushed5] at h
  have ei : ((cfg0.win 5).blk ⟨i.val / 512, ht⟩).view.emb (ix2 (⟨i.val % 512, by omega⟩ : Fin 512) j) = (ix2 i j : S2048x128.Idx) := funext fun a => Fin.ext (by match a with
    | ⟨0, _⟩ => show win0_5.index ⟨i.val / 512, ht⟩ (0 : Fin 2) * 512 + 1 * (i.val % 512) = i.val; rw [e0]; show i.val / 512 * 512 + 1 * (i.val % 512) = i.val; omega
    | ⟨1, _⟩ => show win0_5.index ⟨i.val / 512, ht⟩ (1 : Fin 2) * 128 + 1 * j.val = j.val; rw [e1]; omega)
  rw [ei] at h
  refine h.trans ((out5_at _ _ _ _ _).trans ?_)
  have er : (⟨512 * (i.val / 512) + i.val % 512, by omega⟩ : Fin 2048) = i := Fin.ext (by show 512 * (i.val / 512) + i.val % 512 = i.val; omega)
  show proj (fun k => iblk m c 0 ⟨i.val / 512, ht⟩ (ix2 (⟨i.val % 512, by omega⟩ : Fin 512) k)) (fun k => iblk m c 1 ⟨i.val / 512, ht⟩ (ix2 0 k)) (fun k => iblk m c 3 ⟨i.val / 512, ht⟩ (ix2 k j)) = _
  simp only [blk0, blk1, blk3, er]

end Blocks

end K

namespace R

open Cert.Reference7Ideal Cert.Reference7Ideal.Gen Cert.Reference7Ideal.Value

def norms (y : FVec Ideal S2048x1024 .f32) (a3 : FVec Ideal S1024 .f32) : FVec Ideal S2048x1024 .f32 :=
  mulf (F := Ideal) (mulf (F := Ideal) y (broadcastInDim S2048x1024 ![0, 1] bcast_S2048x1_S2048x1024_0_1 (Host.rsqrt (F := Ideal) (addf (F := Ideal) (Host.divf (F := Ideal)
    (broadcastInDim S2048x1 ![0] bcast_S2048_S2048x1_0 (Host.reduceAdd (F := Ideal) (mulf (F := Ideal) y y) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 a3))

def prods (a0 : FVec Ideal S2048x1024 .f32) (a1 : FVec Ideal S1024 .f32) (a2 : FVec Ideal S1024x1024 .bf16) : FVec Ideal S2048x1024 .f32 :=
  Host.dotGeneral (F := Ideal) dot_S2048x1024_S1024x1024_S2048x1024_1_0_0_1_n_n none (norms a0 a1) (extf (F := Ideal) .f32 a2 bitsLt_bf16_f32)

def wide (a0 : FVec Ideal S2048x1024 .f32) (a1 : FVec Ideal S1024 .f32) (a2 : FVec Ideal S1024x1024 .bf16) : FVec Ideal S2048x1024 .bf16 :=
  truncf (F := Ideal) .bf16 (prods a0 a1 a2) bitsLt_bf16_f32

def side (a0 : FVec Ideal S2048x1024 .f32) (a1 : FVec Ideal S1024 .f32) (a2 : FVec Ideal S1024x1024 .bf16) : FVec Ideal S2048x128 .f32 :=
  extractStridedSlice S2048x128 ![0, 0] (prods a0 a1 a2) slices_S2048x1024_S2048x128_0_0

theorem norms_at (y : FVec Ideal S2048x1024 .f32) (a3 : FVec Ideal S1024 .f32) (i : Fin 2048) (j : Fin 1024) :
    norms y a3 (ix2 i j) = normed (fun j => y (ix2 i j)) (a3 (ix1 j)) j := by
  pointwise [norms, normed]

theorem prods_at (a0 : FVec Ideal S2048x1024 .f32) (a1 : FVec Ideal S1024 .f32) (a2 : FVec Ideal S1024x1024 .bf16) (i : Fin 2048) (j : Fin 1024) :
    prods a0 a1 a2 (ix2 i j) = proj (fun k => a0 (ix2 i k)) (fun k => a1 (ix1 k)) (fun k => a2 (ix2 k j)) := by
  refine Eq.trans (b := ∑ k : Fin 1024, norms a0 a1 (ix2 i k) * a2 (ix2 k j)) ?_ ?_
  · pointwise [prods]
  · simp only [norms_at, proj]

theorem wide_at (a0 : FVec Ideal S2048x1024 .f32) (a1 : FVec Ideal S1024 .f32) (a2 : FVec Ideal S1024x1024 .bf16) (i : Fin 2048) (j : Fin 1024) :
    wide a0 a1 a2 (ix2 i j) = proj (fun k => a0 (ix2 i k)) (fun k => a1 (ix1 k)) (fun k => a2 (ix2 k j)) :=
  prods_at a0 a1 a2 i j

theorem side_at (a0 : FVec Ideal S2048x1024 .f32) (a1 : FVec Ideal S1024 .f32) (a2 : FVec Ideal S1024x1024 .bf16) (i : Fin 2048) (j : Fin 128) :
    side a0 a1 a2 (ix2 i j) = proj (fun k => a0 (ix2 i k)) (fun k => a1 (ix1 k)) (fun k => a2 (ix2 k (K.low j))) := by
  refine Eq.trans ?_ (prods_at a0 a1 a2 i (K.low j))
  refine congrArg (prods a0 a1 a2) (funext fun a => Fin.ext ?_)
  match a with
  | ⟨0, _⟩ => show 0 + i.val = i.val; omega
  | ⟨1, _⟩ => show 0 + j.val = j.val; omega

end R

theorem wide_same (m : (ℓ : Loc Cert.Kernel7Ideal.nD Cert.Kernel7Ideal.τ Cert.Kernel7Ideal.sig) → Buf (Elt Ideal) ℓ) (c : Dev Cert.Kernel7Ideal.nD)
    {a0 : FVec Ideal Cert.Reference7Ideal.S2048x1024 .f32} {a1 : FVec Ideal Cert.Reference7Ideal.S1024 .f32} {a2 : FVec Ideal Cert.Reference7Ideal.S1024x1024 .bf16}
    (h0 : a0 = m ((c.tc : Thread Cert.Kernel7Ideal.nD Cert.Kernel7Ideal.τ).loc Cert.Kernel7Ideal.main_arg0))
    (h1 : a1 = m ((c.tc : Thread Cert.Kernel7Ideal.nD Cert.Kernel7Ideal.τ).loc Cert.Kernel7Ideal.main_arg1))
    (h2 : a2 = m ((c.tc : Thread Cert.Kernel7Ideal.nD Cert.Kernel7Ideal.τ).loc Cert.Kernel7Ideal.main_arg2)) :
    R.wide a0 a1 a2 = (Cert.Kernel7Ideal.Gen.dats m 0 c).arrAt 4 Cert.Kernel7Ideal.cfg0.N := by
  subst h0 h1 h2
  funext x
  obtain ⟨i, j, rfl⟩ : ∃ (i : Fin 2048) (j : Fin 1024), x = ix2 i j := ⟨x 0, x 1, funext fun a => by match a with
    | ⟨0, _⟩ => rfl
    | ⟨1, _⟩ => rfl⟩
  exact (R.wide_at _ _ _ i j).trans (K.kernel_is4 m c i j).symm

theorem side_same (m : (ℓ : Loc Cert.Kernel7Ideal.nD Cert.Kernel7Ideal.τ Cert.Kernel7Ideal.sig) → Buf (Elt Ideal) ℓ) (c : Dev Cert.Kernel7Ideal.nD)
    {a0 : FVec Ideal Cert.Reference7Ideal.S2048x1024 .f32} {a1 : FVec Ideal Cert.Reference7Ideal.S1024 .f32} {a2 : FVec Ideal Cert.Reference7Ideal.S1024x1024 .bf16}
    (h0 : a0 = m ((c.tc : Thread Cert.Kernel7Ideal.nD Cert.Kernel7Ideal.τ).loc Cert.Kernel7Ideal.main_arg0))
    (h1 : a1 = m ((c.tc : Thread Cert.Kernel7Ideal.nD Cert.Kernel7Ideal.τ).loc Cert.Kernel7Ideal.main_arg1))
    (h2 : a2 = m ((c.tc : Thread Cert.Kernel7Ideal.nD Cert.Kernel7Ideal.τ).loc Cert.Kernel7Ideal.main_arg2)) :
    R.side a0 a1 a2 = (Cert.Kernel7Ideal.Gen.dats m 0 c).arrAt 5 Cert.Kernel7Ideal.cfg0.N := by
  subst h0 h1 h2
  funext x
  obtain ⟨i, j, rfl⟩ : ∃ (i : Fin 2048) (j : Fin 128), x = ix2 i j := ⟨x 0, x 1, funext fun a => by match a with
    | ⟨0, _⟩ => rfl
    | ⟨1, _⟩ => rfl⟩
  exact (R.side_at _ _ _ i j).trans (K.kernel_is5 m c i j).symm

/-- Both programs, from arguments that agree, end with the same two outputs. -/
theorem algebraic : Cert.algebraic_Kernel7Ideal_Reference7Ideal (hKernel7Ideal := Cert.Kernel7Ideal.Gen.facts) (hReference7Ideal := Cert.Reference7Ideal.Gen.facts) :=
  fun m ρ m' ρ' _ hag => ⟨fun c => (Cert.Kernel7Ideal.Gen.dats m 0 c).arrAt 4 Cert.Kernel7Ideal.cfg0.N, fun c => (Cert.Kernel7Ideal.Gen.dats m 0 c).arrAt 5 Cert.Kernel7Ideal.cfg0.N,
    Cert.Kernel7Ideal.Value.run_blocks (F := Ideal) m ρ,
    (θ_run _ _ _).mono (fun r h c => ⟨(h c).1.trans (wide_same m c (hag c).1 (hag c).2.1 (hag c).2.2), (h c).2.1.trans (side_same m c (hag c).1 (hag c).2.1 (hag c).2.2), (h c).2.2⟩)
      (Cert.Reference7Ideal.Value.run (F := Ideal) m' ρ')⟩

end Cert.ProjectMem

end
end
-- ==== Proof.Memory.lean ====
module

public import proofs.«01_k».proof.Defs
public import proofs.«01_k».proof.Proof.Gen.Kernel8Ideal.Value
public import proofs.«01_k».proof.Proof.Gen.Reference8Ideal.Run
public import proofs.«01_k».proof.Proof.Gen.Pre_finite_args8
public import proofs.«01_k».proof.Proof.Finite
public import Idealize.ShloMosaic.Lib.StableHlo.RunClose
public import Idealize.ShloMosaic.Lib.Routing.OpsOrder
public import Idealize.ShloMosaic.Lib.Pointwise
public import Idealize.ShloMosaic.Lib.Pipeline.ValueKit.Basic

@[expose] public section

set_option maxRecDepth 16384

/-!
# Attention over the memory

A query row meets the 256 memory rows of its own sequence. The kernel divides the weighted sum of the values by the sum of the
weights; the reference divides each weight first. On real numbers the sum of the weights is positive, so the two agree.
-/

noncomputable section

namespace Cert.Memory

open Idealize.ShloMosaic Idealize.ShloMosaic.TcCoe Idealize.ShloMosaic.StableHlo Idealize.ShloMosaic.Pointwise Idealize.SL.Sem

def scores (q : Fin 128 → EReal) (k : Fin 256 → Fin 128 → EReal) (m : Fin 256) : EReal := (∑ d, q d * k m d) * Ideal.ofBits .f32 0x3DB504F3#32
def top (s : Fin 256 → EReal) : EReal := Finset.univ.fold max (Ideal.ofBits .f32 0xFF800000#32) s
def attend (q : Fin 128 → EReal) (k : Fin 256 → Fin 128 → EReal) (v : Fin 256 → EReal) : EReal :=
  Ideal.div (∑ m, Ideal.exp (scores q k m - top (scores q k)) * v m) (∑ m, Ideal.exp (scores q k m - top (scores q k)))

/-- The same row as the reference has it: each weight divided before the sum. -/
def attendR (q : Fin 128 → EReal) (k : Fin 256 → Fin 128 → EReal) (v : Fin 256 → EReal) : EReal :=
  ∑ m, v m * Ideal.div (Ideal.exp (scores q k m - max (Ideal.ofBits .f32 0xFF800000#32) (top (scores q k)))) (∑ m, Ideal.exp (scores q k m - max (Ideal.ofBits .f32 0xFF800000#32) (top (scores q k))))

theorem low_eq : Ideal.ofBits .f32 0xFF800000#32 = ⊥ := by simp [Ideal.ofBits, Ideal.ieee]

theorem top_mem (s : Fin 256 → EReal) : ∃ m, top s = s m := by
  have e : top s = Finset.univ.sup s := by
    unfold top
    rw [low_eq]
    rfl
  obtain ⟨m, _, h⟩ := Finset.exists_mem_eq_sup Finset.univ ⟨0, Finset.mem_univ 0⟩ s
  exact ⟨m, e.trans h⟩

theorem sum_coe {n : ℕ} (f : Fin n → ℝ) : ∑ m, ((f m : ℝ) : EReal) = ((∑ m, f m : ℝ) : EReal) :=
  (map_sum (⟨⟨Real.toEReal, EReal.coe_zero⟩, EReal.coe_add⟩ : ℝ →+ EReal) f Finset.univ).symm

theorem scale_real : ∃ r : ℝ, Ideal.ofBits .f32 0x3DB504F3#32 = (r : EReal) := by
  simp only [Ideal.ofBits, Ideal.ieee]
  simp
  exact ⟨_, (EReal.coe_mul _ _).symm⟩

/-- The weights divided after the sum or before it. -/
theorem split (r v : Fin 256 → ℝ) (M : ℝ) :
    Ideal.div (∑ m, Ideal.exp ((r m : EReal) - (M : EReal)) * ((v m : ℝ) : EReal)) (∑ m, Ideal.exp ((r m : EReal) - (M : EReal)))
      = ∑ m, ((v m : ℝ) : EReal) * Ideal.div (Ideal.exp ((r m : EReal) - (M : EReal))) (∑ m, Ideal.exp ((r m : EReal) - (M : EReal))) := by
  have e : ∀ m, Ideal.exp ((r m : EReal) - (M : EReal)) = ((Real.exp (r m - M) : ℝ) : EReal) := fun m => by rw [← EReal.coe_sub]; rfl
  simp only [e, ← EReal.coe_mul, sum_coe]
  have pos : 0 < ∑ m, Real.exp (r m - M) := Finset.sum_pos (fun m _ => Real.exp_pos _) ⟨0, Finset.mem_univ 0⟩
  have d : ∀ x : ℝ, Ideal.div (x : EReal) ((∑ m, Real.exp (r m - M) : ℝ) : EReal) = ((x * (∑ m, Real.exp (r m - M))⁻¹ : ℝ) : EReal) := fun x => by
    unfold Ideal.div
    rw [if_neg (by exact_mod_cast pos.ne'), ← EReal.coe_inv, ← EReal.coe_mul]
  simp only [d, ← EReal.coe_mul, sum_coe]
  refine congrArg _ ?_
  rw [Finset.sum_mul]
  exact Finset.sum_congr rfl fun m _ => by ring

theorem attend_eq (q : Fin 128 → EReal) (k : Fin 256 → Fin 128 → EReal) (v : Fin 256 → EReal)
    (hq : ∀ d, q d = ((q d).toReal : EReal)) (hk : ∀ m d, k m d = ((k m d).toReal : EReal)) (hv : ∀ m, v m = ((v m).toReal : EReal)) :
    attendR q k v = attend q k v := by
  obtain ⟨c, hc⟩ := scale_real
  have hs : ∀ m, scores q k m = (((∑ d, (q d).toReal * (k m d).toReal) * c : ℝ) : EReal) := fun m => by
    unfold scores
    rw [hc, EReal.coe_mul, ← sum_coe]
    simp only [EReal.coe_mul, ← hq, ← hk]
  obtain ⟨i, hi⟩ := top_mem (scores q k)
  unfold attendR attend
  rw [low_eq, max_eq_right bot_le, hi]
  simp only [hs]
  have h := split (fun m => (∑ d, (q d).toReal * (k m d).toReal) * c) (fun m => (v m).toReal) ((∑ d, (q d).toReal * (k i d).toReal) * c)
  simp only [← hv] at h
  exact h.symm

namespace K
open Cert.Kernel8Ideal Cert.Kernel8Ideal.Gen Cert.Kernel8Ideal.Value

theorem pay2 (q : FVec Ideal S1024x128 .bf16) (k v : FVec Ideal S256x128 .bf16) (n : Fin 1024) (j : Fin 128) :
    k0_pay2 (F := Ideal) q k v (ix2 n j) = attend (fun d => q (ix2 n d)) (fun m d => k (ix2 m d)) fun m => v (ix2 m j) := by
  pointwise [k0_pay2, attend, scores, top]
theorem pay6 (q : FVec Ideal S1024x128 .bf16) (k v : FVec Ideal S256x128 .bf16) (n : Fin 1024) (j : Fin 128) :
    k0_pay6 (F := Ideal) v (k0_pay4 q k) (k0_pay5 q k) (constant S1024x128 .f32 0x00000000#32) (ix2 n j) = attend (fun d => q (ix2 n d)) (fun m d => k (ix2 m d)) fun m => v (ix2 m j) := by
  pointwise [k0_pay6, k0_pay4, k0_pay5, k0_pay3, attend, scores, top]
theorem pay7 (q : FVec Ideal S1024x128 .bf16) (k v : FVec Ideal S256x128 .bf16) (n : Fin 1024) (j : Fin 128) :
    k0_pay7 (F := Ideal) q k v (ix2 n j) = attend (fun d => q (ix2 n d)) (fun m d => k (ix2 m d)) fun m => v (ix2 m j) := by
  pointwise [k0_pay7, attend, scores, top]
theorem pay1 (q : FVec Ideal S1024x128 .bf16) (k v : FVec Ideal S256x128 .bf16) (n : Fin 1024) (j : Fin 128) :
    k0_pay1 (F := Ideal) v (k0_pay8 q k) (ix2 n j) = attend (fun d => q (ix2 n d)) (fun m d => k (ix2 m d)) fun m => v (ix2 m j) := by
  pointwise [k0_pay1, k0_pay8, attend, scores, top]

/-- The head of a column. -/
def head (j : Fin 512) : Fin 4 := ⟨j.val / 128, by omega⟩
/-- A column of a head's queries or keys. -/
def col (h : Fin 4) (d : Fin 128) : Fin 512 := ⟨h.val * 128 + d.val, by omega⟩
/-- A column of the keys, and of the values, in the joined array. -/
def kcol (h : Fin 4) (d : Fin 128) : Fin 1024 := ⟨h.val * 128 + d.val, by omega⟩
def vcol (j : Fin 512) : Fin 1024 := ⟨512 + j.val, by omega⟩

/-- An output block from the queries' and the memory's blocks. -/
def out2 (x0 : FVec Ideal S1024x512 .bf16) (x1 : FVec Ideal S256x1024 .bf16) (y : S1024x512.Idx) : EReal :=
  attend (fun d => x0 (ix2 (y 0) (col (head (y 1)) d))) (fun m d => x1 (ix2 m (kcol (head (y 1)) d))) fun m => x1 (ix2 m (vcol (y 1)))

theorem out2_of {W} (x0 : FVec Ideal S1024x512 .bf16) (x1 : FVec Ideal S256x1024 .bf16) (y : S1024x512.Idx)
    (q : FVec Ideal S1024x128 .bf16) (k : FVec Ideal S256x128 .bf16) (u : Fin 256 → W → EReal) (n : Fin 1024) (j : W)
    (h0 : ∀ d, q (ix2 n d) = x0 (ix2 (y 0) (col (head (y 1)) d))) (h1 : ∀ m d, k (ix2 m d) = x1 (ix2 m (kcol (head (y 1)) d))) (h2 : ∀ m, u m j = x1 (ix2 m (vcol (y 1)))) :
    attend (fun d => q (ix2 n d)) (fun m d => k (ix2 m d)) (fun m => u m j) = out2 x0 x1 y := by
  unfold out2
  simp only [h0, h1, h2]

set_option maxHeartbeats 4000000 in
theorem out2_at (x0 : FVec Ideal S1024x512 .bf16) (x1 : FVec Ideal S256x1024 .bf16) (y : S1024x512.Idx) : out0_2 (F := Ideal) x0 x1 y = out2 x0 x1 y := by
  unfold out0_2
  refine View.canon_apply_of_pieces (Val := Elt Ideal) (fun y => out2 x0 x1 y) _ ?_ y (cover0_2 _ _ _ _ y)
  intro p hp
  simp only [List.mem_cons, List.not_mem_nil, or_false] at hp
  rcases hp with rfl | rfl | rfl | rfl
  all_goals
    intro x
    obtain ⟨n, j, rfl⟩ : ∃ (n : Fin 1024) (j : Fin 128), x = ix2 n j := ⟨x 0, x 1, funext fun a => by match a with
      | ⟨0, _⟩ => rfl
      | ⟨1, _⟩ => rfl⟩
  · refine (pay1 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 384 + 1 * d.val = (384 + 1 * j.val) / 128 * 128 + d.val; omega
    · match a with
      | ⟨0, _⟩ => show 0 + 1 * m.val = m.val; omega
      | ⟨1, _⟩ => show 384 + 1 * d.val = (384 + 1 * j.val) / 128 * 128 + d.val; omega
    · match a with
      | ⟨0, _⟩ => show 0 + 1 * m.val = m.val; omega
      | ⟨1, _⟩ => show 896 + 1 * j.val = 512 + (384 + 1 * j.val); omega
  · refine (pay7 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 256 + 1 * d.val = (256 + 1 * j.val) / 128 * 128 + d.val; omega
    · match a with
      | ⟨0, _⟩ => show 0 + 1 * m.val = m.val; omega
      | ⟨1, _⟩ => show 256 + 1 * d.val = (256 + 1 * j.val) / 128 * 128 + d.val; omega
    · match a with
      | ⟨0, _⟩ => show 0 + 1 * m.val = m.val; omega
      | ⟨1, _⟩ => show 768 + 1 * j.val = 512 + (256 + 1 * j.val); omega
  · refine (pay6 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 128 + 1 * d.val = (128 + 1 * j.val) / 128 * 128 + d.val; omega
    · match a with
      | ⟨0, _⟩ => show 0 + 1 * m.val = m.val; omega
      | ⟨1, _⟩ => show 128 + 1 * d.val = (128 + 1 * j.val) / 128 * 128 + d.val; omega
    · match a with
      | ⟨0, _⟩ => show 0 + 1 * m.val = m.val; omega
      | ⟨1, _⟩ => show 640 + 1 * j.val = 512 + (128 + 1 * j.val); omega
  · refine (pay2 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 0 + 1 * d.val = (0 + 1 * j.val) / 128 * 128 + d.val; omega
    · match a with
      | ⟨0, _⟩ => show 0 + 1 * m.val = m.val; omega
      | ⟨1, _⟩ => show 0 + 1 * d.val = (0 + 1 * j.val) / 128 * 128 + d.val; omega
    · match a with
      | ⟨0, _⟩ => show 0 + 1 * m.val = m.val; omega
      | ⟨1, _⟩ => show 512 + 1 * j.val = 512 + (0 + 1 * j.val); omega

section Blocks

variable (m : (ℓ : Loc nD τ sig) → Buf (Elt Ideal) ℓ) (c : Dev nD)

theorem row_lt (t : Fin cfg0.N) (n : Fin 1024) : 1024 * t.val + n.val < 32768 := by
  have := lt_of_lt_of_eq t.isLt (show cfg0.N = 32 from N_0)
  omega
theorem mem_lt (t : Fin cfg0.N) (n : Fin 256) : 256 * (t.val / 4) + n.val < 2048 := by
  have := lt_of_lt_of_eq t.isLt (show cfg0.N = 32 from N_0)
  omega

theorem idx0 : ∀ t : Fin cfg0.N, win0_0.index t (0 : Fin 2) = t.val ∧ win0_0.index t (1 : Fin 2) = 8 := (by decide +kernel : ∀ t : Fin grid0.N, _)
theorem idx1 : ∀ t : Fin cfg0.N, win0_1.index t (0 : Fin 2) = t.val / 4 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem blk0 (t : Fin cfg0.N) (n : Fin 1024) (j : Fin 512) :
    iblk m c 0 t (ix2 n j) = m ((c : Thread nD τ).loc main_arg0) (ix2 ⟨1024 * t.val + n.val, row_lt t n⟩ ⟨4096 + j.val, by omega⟩) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 1024 + 1 * n.val = 1024 * t.val + n.val; rw [e0]; omega
  | ⟨1, _⟩ => show win0_0.index t (1 : Fin 2) * 512 + 1 * j.val = 4096 + j.val; rw [e1]; omega

theorem blk1 (t : Fin cfg0.N) (n : Fin 256) (j : Fin 1024) :
    iblk m c 1 t (ix2 n j) = m ((c : Thread nD τ).loc main_arg1) (ix2 ⟨256 * (t.val / 4) + n.val, mem_lt t n⟩ j) := by
  unfold iblk
  rw [View.read_apply]
  show V m c main_arg1 _ = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 256 + 1 * n.val = 256 * (t.val / 4) + n.val; rw [e0]; omega
  | ⟨1, _⟩ => show win0_1.index t (1 : Fin 2) * 1024 + 1 * j.val = j.val; rw [e1]; omega

/-- The kernel's output, entry by entry. -/
theorem kernel_is (b : Fin 8) (n : Fin 4096) (h : Fin 4) (d : Fin 128) :
    (dats m 0 c).arrAt 2 cfg0.N (ix2 (⟨b.val * 4096 + n.val, by omega⟩ : Fin 32768) (⟨h.val * 128 + d.val, by omega⟩ : Fin 512))
      = attend (fun e => m ((c : Thread nD τ).loc main_arg0) (ix2 ⟨b.val * 4096 + n.val, by omega⟩ ⟨4096 + (h.val * 128 + e.val), by omega⟩))
        (fun k e => m ((c : Thread nD τ).loc main_arg1) (ix2 ⟨b.val * 256 + k.val, by omega⟩ ⟨h.val * 128 + e.val, by omega⟩))
        (fun k => m ((c : Thread nD τ).loc main_arg1) (ix2 ⟨b.val * 256 + k.val, by omega⟩ ⟨512 + (h.val * 128 + d.val), by omega⟩)) := by
  have ht : b.val * 4 + n.val / 1024 < cfg0.N := by rw [show cfg0.N = 32 from N_0]; omega
  obtain ⟨e0, e1⟩ := idx2 ⟨b.val * 4 + n.val / 1024, ht⟩
  have h' := congrFun (blocks2 m c ⟨b.val * 4 + n.val / 1024, ht⟩ (flush0_2 _)) (ix2 (⟨n.val % 1024, by omega⟩ : Fin 1024) (⟨h.val * 128 + d.val, by omega⟩ : Fin 512))
  rw [View.read_apply, flushed2] at h'
  have ei : ((cfg0.win 2).blk ⟨b.val * 4 + n.val / 1024, ht⟩).view.emb (ix2 (⟨n.val % 1024, by omega⟩ : Fin 1024) (⟨h.val * 128 + d.val, by omega⟩ : Fin 512))
      = (ix2 (⟨b.val * 4096 + n.val, by omega⟩ : Fin 32768) (⟨h.val * 128 + d.val, by omega⟩ : Fin 512) : S32768x512.Idx) := funext fun a => Fin.ext (by match a with
    | ⟨0, _⟩ => show win0_2.index ⟨b.val * 4 + n.val / 1024, ht⟩ (0 : Fin 2) * 1024 + 1 * (n.val % 1024) = b.val * 4096 + n.val; rw [e0]; show (b.val * 4 + n.val / 1024) * 1024 + 1 * (n.val % 1024) = _; omega
    | ⟨1, _⟩ => show win0_2.index ⟨b.val * 4 + n.val / 1024, ht⟩ (1 : Fin 2) * 512 + 1 * (h.val * 128 + d.val) = h.val * 128 + d.val; rw [e1]; omega)
  rw [ei] at h'
  refine h'.trans ((out2_at _ _ _).trans ?_)
  have er : (⟨1024 * (b.val * 4 + n.val / 1024) + n.val % 1024, by omega⟩ : Fin 32768) = ⟨b.val * 4096 + n.val, by omega⟩ := Fin.ext (by show 1024 * (b.val * 4 + n.val / 1024) + n.val % 1024 = b.val * 4096 + n.val; omega)
  have em : ∀ k : Fin 256, (⟨256 * ((b.val * 4 + n.val / 1024) / 4) + k.val, by omega⟩ : Fin 2048) = ⟨b.val * 256 + k.val, by omega⟩ := fun k => Fin.ext (by show 256 * ((b.val * 4 + n.val / 1024) / 4) + k.val = b.val * 256 + k.val; omega)
  have eh : head (⟨h.val * 128 + d.val, by omega⟩ : Fin 512) = h := Fin.ext (by show (h.val * 128 + d.val) / 128 = h.val; omega)
  show attend (fun e => iblk m c 0 ⟨b.val * 4 + n.val / 1024, ht⟩ (ix2 (⟨n.val % 1024, by omega⟩ : Fin 1024) (col (head (⟨h.val * 128 + d.val, by omega⟩ : Fin 512)) e)))
    (fun k e => iblk m c 1 ⟨b.val * 4 + n.val / 1024, ht⟩ (ix2 k (kcol (head (⟨h.val * 128 + d.val, by omega⟩ : Fin 512)) e)))
    (fun k => iblk m c 1 ⟨b.val * 4 + n.val / 1024, ht⟩ (ix2 k (vcol (⟨h.val * 128 + d.val, by omega⟩ : Fin 512)))) = _
  simp only [blk0, blk1, er, em, eh]
  rfl

end Blocks

end K
namespace R
open Cert.Reference8Ideal Cert.Reference8Ideal.Gen Cert.Reference8Ideal.Value

def qs (a0 : FVec Ideal S32768x4608 .bf16) : FVec Ideal S8x4096x4x128 .f32 :=
  shapeCast S8x4096x4x128 (extf (F := Ideal) .f32 (extractStridedSlice S32768x512 ![0, 4096] a0 slices_S32768x4608_S32768x512_0_4096) bitsLt_bf16_f32) shapeCasts_S32768x512_S8x4096x4x128
def ks (a1 : FVec Ideal S2048x1024 .bf16) : FVec Ideal S8x256x4x128 .f32 :=
  shapeCast S8x256x4x128 (extractStridedSlice S8x256x1x4x128 ![0, 0, 0, 0, 0] (shapeCast S8x256x2x4x128 (extf (F := Ideal) .f32 a1 bitsLt_bf16_f32) shapeCasts_S2048x1024_S8x256x2x4x128) slices_S8x256x2x4x128_S8x256x1x4x128_0_0_0_0_0) shapeCasts_S8x256x1x4x128_S8x256x4x128
theorem qs_at (a0 : FVec Ideal S32768x4608 .bf16) (b : Fin 8) (n : Fin 4096) (h : Fin 4) (d : Fin 128) :
    qs a0 (ix4 b n h d) = a0 (ix2 ⟨b.val * 4096 + n.val, by omega⟩ ⟨4096 + (h.val * 128 + d.val), by omega⟩) := by
  pointwise [qs]
theorem ks_at (a1 : FVec Ideal S2048x1024 .bf16) (b : Fin 8) (n : Fin 256) (h : Fin 4) (d : Fin 128) :
    ks a1 (ix4 b n h d) = a1 (ix2 ⟨b.val * 256 + n.val, by omega⟩ ⟨h.val * 128 + d.val, by omega⟩) := by
  pointwise [ks]
def vs (a1 : FVec Ideal S2048x1024 .bf16) : FVec Ideal S8x256x4x128 .f32 :=
  shapeCast S8x256x4x128 (extractStridedSlice S8x256x1x4x128 ![0, 0, 1, 0, 0] (shapeCast S8x256x2x4x128 (extf (F := Ideal) .f32 a1 bitsLt_bf16_f32) shapeCasts_S2048x1024_S8x256x2x4x128) slices_S8x256x2x4x128_S8x256x1x4x128_0_0_1_0_0) shapeCasts_S8x256x1x4x128_S8x256x4x128
theorem vs_at (a1 : FVec Ideal S2048x1024 .bf16) (b : Fin 8) (n : Fin 256) (h : Fin 4) (d : Fin 128) :
    vs a1 (ix4 b n h d) = a1 (ix2 ⟨b.val * 256 + n.val, by omega⟩ ⟨512 + (h.val * 128 + d.val), by omega⟩) := by
  have e : vs a1 (ix4 b n h d) = a1 (ix2 ⟨b.val * 256 + n.val, by omega⟩ ⟨512 + h.val * 128 + d.val, by omega⟩) := by
    pointwise [vs]
  refine e.trans (congrArg (fun j => a1 (ix2 _ j)) (Fin.ext ?_))
  show 512 + h.val * 128 + d.val = 512 + (h.val * 128 + d.val)
  omega

def dots (q : FVec Ideal S8x4096x4x128 .f32) (k : FVec Ideal S8x256x4x128 .f32) : FVec Ideal S8x4x4096x256 .f32 :=
  mulf (F := Ideal) (Host.dotGeneral (F := Ideal) dot_S8x4096x4x128_S8x256x4x128_S8x4x4096x256_3_3_1_1_02_02 none q k) (broadcastInDim S8x4x4096x256 ![] bcast_S_S8x4x4096x256 (constant S_ .f32 0x3DB504F3#32))
theorem dots_at (q : FVec Ideal S8x4096x4x128 .f32) (k : FVec Ideal S8x256x4x128 .f32) (b : Fin 8) (h : Fin 4) (n : Fin 4096) (m : Fin 256) :
    dots q k (ix4 b h n m) = scores (fun d => q (ix4 b n h d)) (fun m d => k (ix4 b m h d)) m := by
  pointwise [dots, scores]
/-- The greatest of each row of an array, whatever its sizes. -/
theorem fold_rows {n0 n1 n2 n3 : ℕ} {u : Shape} (s : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) s init h hu (ix3 a b c) = Finset.univ.fold max (init (Shape.Idx.first hu)) fun m : Fin n3 => s (ix4 a b c m) := by
  simp only [pointwise]

def tops (s : FVec Ideal S8x4x4096x256 .f32) : FVec Ideal S8x4x4096 .f32 :=
  Host.reduce (FloatOps.maximumf (F := Ideal)) s (constant S_ .f32 0xFF800000#32) reducesTo_S8x4x4096x256_S8x4x4096_d3 h_S_
theorem tops_at (s : FVec Ideal S8x4x4096x256 .f32) (b : Fin 8) (h : Fin 4) (n : Fin 4096) : tops s (ix3 b h n) = top fun m => s (ix4 b h n m) :=
  fold_rows s _ reducesTo_S8x4x4096x256_S8x4x4096_d3 h_S_ b h n
def exps (s : FVec Ideal S8x4x4096x256 .f32) (t : FVec Ideal S8x4x4096 .f32) : FVec Ideal S8x4x4096x256 .f32 :=
  Host.exp (F := Ideal) (subf (F := Ideal) s (broadcastInDim S8x4x4096x256 ![0, 1, 2, 3] bcast_S8x4x4096x1_S8x4x4096x256_0_1_2_3 (broadcastInDim S8x4x4096x1 ![0, 1, 2] bcast_S8x4x4096_S8x4x4096x1_0_1_2
    (maximumf (F := Ideal) (broadcastInDim S8x4x4096 ![] bcast_S_S8x4x4096 (constant S_ .f32 0xFF800000#32)) t))))
theorem exps_at (s : FVec Ideal S8x4x4096x256 .f32) (t : FVec Ideal S8x4x4096 .f32) (b : Fin 8) (h : Fin 4) (n : Fin 4096) (m : Fin 256) :
    exps s t (ix4 b h n m) = Ideal.exp (s (ix4 b h n m) - max (Ideal.ofBits .f32 0xFF800000#32) (t (ix3 b h n))) := by
  pointwise [exps]
def weights (p : FVec Ideal S8x4x4096x256 .f32) : FVec Ideal S8x4x4096x256 .f32 :=
  Host.divf (F := Ideal) p (broadcastInDim S8x4x4096x256 ![0, 1, 2, 3] bcast_S8x4x4096x1_S8x4x4096x256_0_1_2_3 (broadcastInDim S8x4x4096x1 ![0, 1, 2] bcast_S8x4x4096_S8x4x4096x1_0_1_2
    (Host.reduceAdd (F := Ideal) p (constant S_ .f32 0x00000000#32) reducesTo_S8x4x4096x256_S8x4x4096_d3 h_S_)))
theorem weights_at (p : FVec Ideal S8x4x4096x256 .f32) (b : Fin 8) (h : Fin 4) (n : Fin 4096) (m : Fin 256) :
    weights p (ix4 b h n m) = Ideal.div (p (ix4 b h n m)) (∑ m, p (ix4 b h n m)) := by
  pointwise [weights]
def outs (v : FVec Ideal S8x256x4x128 .f32) (w : FVec Ideal S8x4x4096x256 .f32) : FVec Ideal S32768x512 .bf16 :=
  truncf (F := Ideal) .bf16 (shapeCast S32768x512 (transpose S8x4096x4x128 [0, 3, 1, 2] (Host.dotGeneral (F := Ideal) dot_S8x256x4x128_S8x4x4096x256_S8x4x128x4096_1_3_3_2_02_01 none v w) transposes_S8x4x128x4096_S8x4096x4x128_0_3_1_2) shapeCasts_S8x4096x4x128_S32768x512) bitsLt_bf16_f32
theorem outs_at (v : FVec Ideal S8x256x4x128 .f32) (w : FVec Ideal S8x4x4096x256 .f32) (i : Fin 32768) (j : Fin 512) :
    outs v w (ix2 i j) = ∑ m, v (ix4 ⟨i.val / 4096, by omega⟩ m ⟨j.val / 128, by omega⟩ ⟨j.val % 128, by omega⟩) * w (ix4 ⟨i.val / 4096, by omega⟩ ⟨j.val / 128, by omega⟩ ⟨i.val % 4096, by omega⟩ m) := by
  pointwise [outs]

/-- The reference's output. -/
def whole (a0 : FVec Ideal S32768x4608 .bf16) (a1 : FVec Ideal S2048x1024 .bf16) : FVec Ideal S32768x512 .bf16 :=
  outs (vs a1) (weights (exps (dots (qs a0) (ks a1)) (tops (dots (qs a0) (ks a1)))))

theorem whole_is (m : (ℓ : Loc nD τ sig) → Buf (Elt Ideal) ℓ) (c : Dev nD) :
    res_main_v26 (F := Ideal) m c = whole (m ((c.tc : Thread nD τ).loc main_arg0)) (m ((c.tc : Thread nD τ).loc main_arg1)) := rfl

/-- The reference's output, entry by entry. -/
theorem whole_at (a0 : FVec Ideal S32768x4608 .bf16) (a1 : FVec Ideal S2048x1024 .bf16) (b : Fin 8) (n : Fin 4096) (h : Fin 4) (d : Fin 128) :
    whole a0 a1 (ix2 (⟨b.val * 4096 + n.val, by omega⟩ : Fin 32768) (⟨h.val * 128 + d.val, by omega⟩ : Fin 512))
      = attendR (fun e => a0 (ix2 ⟨b.val * 4096 + n.val, by omega⟩ ⟨4096 + (h.val * 128 + e.val), by omega⟩))
        (fun k e => a1 (ix2 ⟨b.val * 256 + k.val, by omega⟩ ⟨h.val * 128 + e.val, by omega⟩))
        (fun k => a1 (ix2 ⟨b.val * 256 + k.val, by omega⟩ ⟨512 + (h.val * 128 + d.val), by omega⟩)) := by
  unfold whole
  rw [outs_at]
  have e0 : (⟨(b.val * 4096 + n.val) / 4096, by omega⟩ : Fin 8) = b := Fin.ext (by show (b.val * 4096 + n.val) / 4096 = b.val; omega)
  have e1 : (⟨(b.val * 4096 + n.val) % 4096, by omega⟩ : Fin 4096) = n := Fin.ext (by show (b.val * 4096 + n.val) % 4096 = n.val; omega)
  have e2 : (⟨(h.val * 128 + d.val) / 128, by omega⟩ : Fin 4) = h := Fin.ext (by show (h.val * 128 + d.val) / 128 = h.val; omega)
  have e3 : (⟨(h.val * 128 + d.val) % 128, by omega⟩ : Fin 128) = d := Fin.ext (by show (h.val * 128 + d.val) % 128 = d.val; omega)
  simp only [e0, e1, e2, e3, weights_at, exps_at, tops_at, dots_at, vs_at, qs_at, ks_at]
  rfl
end R

section Finite
open Cert.KernelIdeal.Head

/-- Under the precondition every element is a real number. -/
theorem fin_args (a0 : FVec Ideal Cert.Pre_finite_args8.S32768x4608 .bf16) (a1 : FVec Ideal Cert.Pre_finite_args8.S2048x1024 .bf16)
    (h : Cert.Pre_finite_args8.fn (F := Ideal) a0 a1 = fun _ => 1#1) :
    (∀ i, a0 i = (((a0 i : EReal).toReal : ℝ) : EReal)) ∧ (∀ i, a1 i = (((a1 i : EReal).toReal : ℝ) : EReal)) := by
  have h0 := congrFun h (ix0 : Cert.Pre_finite_args8.S_.Idx)
  simp only [Cert.Pre_finite_args8.fn, andi, and_one] at h0
  obtain ⟨h0, h1⟩ := h0
  exact ⟨fun i => elem _ (and_whole rfl _ _ _ _ _ h0 i), fun i => elem _ (and_whole rfl _ _ _ _ _ h1 i)⟩

end Finite

theorem same (m : (ℓ : Loc Cert.Kernel8Ideal.nD Cert.Kernel8Ideal.τ Cert.Kernel8Ideal.sig) → Buf (Elt Ideal) ℓ) (c : Dev Cert.Kernel8Ideal.nD)
    {a0 : FVec Ideal Cert.Reference8Ideal.S32768x4608 .bf16} {a1 : FVec Ideal Cert.Reference8Ideal.S2048x1024 .bf16}
    (hpre : Cert.Pre_finite_args8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) = fun _ => 1#1)
    (h0 : a0 = m ((c.tc : Thread Cert.Kernel8Ideal.nD Cert.Kernel8Ideal.τ).loc Cert.Kernel8Ideal.main_arg0))
    (h1 : a1 = m ((c.tc : Thread Cert.Kernel8Ideal.nD Cert.Kernel8Ideal.τ).loc Cert.Kernel8Ideal.main_arg1)) :
    R.whole a0 a1 = (Cert.Kernel8Ideal.Gen.dats m 0 c).arrAt 2 Cert.Kernel8Ideal.cfg0.N := by
  obtain ⟨f0, f1⟩ := fin_args _ _ hpre
  subst h0 h1
  funext x
  obtain ⟨b, n, h, d, rfl⟩ : ∃ (b : Fin 8) (n : Fin 4096) (h : Fin 4) (d : Fin 128),
      x = ix2 (⟨b.val * 4096 + n.val, by omega⟩ : Fin 32768) (⟨h.val * 128 + d.val, by omega⟩ : Fin 512) := by
    obtain ⟨i, j, rfl⟩ : ∃ (i : Fin 32768) (j : Fin 512), x = ix2 i j := ⟨x 0, x 1, funext fun a => by match a with
      | ⟨0, _⟩ => rfl
      | ⟨1, _⟩ => rfl⟩
    exact ⟨⟨i.val / 4096, by omega⟩, ⟨i.val % 4096, by omega⟩, ⟨j.val / 128, by omega⟩, ⟨j.val % 128, by omega⟩,
      congrArg₂ ix2 (Fin.ext (by show i.val = i.val / 4096 * 4096 + i.val % 4096; omega)) (Fin.ext (by show j.val = j.val / 128 * 128 + j.val % 128; omega))⟩
  exact (R.whole_at _ _ b n h d).trans ((attend_eq _ _ _ (fun _ => f0 _) (fun _ _ => f1 _) (fun _ => f1 _)).trans (K.kernel_is m c b n h d).symm)

/-- Both programs, from finite arguments that agree, end with the same output. -/
theorem algebraic : Cert.algebraic_Kernel8Ideal_Reference8Ideal_pre_finite_args8 (hKernel8Ideal := Cert.Kernel8Ideal.Gen.facts) (hReference8Ideal := Cert.Reference8Ideal.Gen.facts) (hPre_finite_args8 := Cert.Pre_finite_args8.Gen.facts) :=
  fun m ρ m' ρ' hpre hag => ⟨fun c => (Cert.Kernel8Ideal.Gen.dats m 0 c).arrAt 2 Cert.Kernel8Ideal.cfg0.N, Cert.Kernel8Ideal.Value.run_blocks (F := Ideal) m ρ,
    (θ_run _ _ _).mono (fun r h c => ⟨((h c).1.trans (R.whole_is m' c)).trans (same m c (hpre c) (hag c).1 (hag c).2), (h c).2⟩) (Cert.Reference8Ideal.Value.run (F := Ideal) m' ρ')⟩

end Cert.Memory
end
end
-- ==== Proof.MemoryNsa.lean ====
module

public import proofs.«01_k».proof.Defs
public import proofs.«01_k».proof.Proof.Gen.Kernel9Ideal.Value
public import proofs.«01_k».proof.Proof.Gen.Reference9Ideal.Run
public import proofs.«01_k».proof.Proof.Gen.Pre_finite_args9
public import proofs.«01_k».proof.Proof.Finite
public import proofs.«01_k».proof.Proof.Memory
public import Idealize.ShloMosaic.Lib.StableHlo.RunClose
public import Idealize.ShloMosaic.Lib.Routing.OpsOrder
public import Idealize.ShloMosaic.Lib.Pointwise
public import Idealize.ShloMosaic.Lib.Pipeline.ValueKit.Basic

@[expose] public section

set_option maxRecDepth 16384

/-!
# Attention over the memory, the second layer

The queries lie in columns 2048 to 2559 of a projection of 2560 columns; a row is the same function of them.
-/

noncomputable section

namespace Cert.MemoryNsa

open Idealize.ShloMosaic Idealize.ShloMosaic.TcCoe Idealize.ShloMosaic.StableHlo Idealize.ShloMosaic.Pointwise Idealize.SL.Sem

open Cert.Memory (scores top attend attendR attend_eq)

namespace K
open Cert.Kernel9Ideal Cert.Kernel9Ideal.Gen Cert.Kernel9Ideal.Value

theorem pay2 (q : FVec Ideal S1024x128 .bf16) (k v : FVec Ideal S256x128 .bf16) (n : Fin 1024) (j : Fin 128) :
    k0_pay2 (F := Ideal) q k v (ix2 n j) = attend (fun d => q (ix2 n d)) (fun m d => k (ix2 m d)) fun m => v (ix2 m j) := by
  pointwise [k0_pay2, attend, scores, top]
theorem pay6 (q : FVec Ideal S1024x128 .bf16) (k v : FVec Ideal S256x128 .bf16) (n : Fin 1024) (j : Fin 128) :
    k0_pay6 (F := Ideal) v (k0_pay4 q k) (k0_pay5 q k) (constant S1024x128 .f32 0x00000000#32) (ix2 n j) = attend (fun d => q (ix2 n d)) (fun m d => k (ix2 m d)) fun m => v (ix2 m j) := by
  pointwise [k0_pay6, k0_pay4, k0_pay5, k0_pay3, attend, scores, top]
theorem pay7 (q : FVec Ideal S1024x128 .bf16) (k v : FVec Ideal S256x128 .bf16) (n : Fin 1024) (j : Fin 128) :
    k0_pay7 (F := Ideal) q k v (ix2 n j) = attend (fun d => q (ix2 n d)) (fun m d => k (ix2 m d)) fun m => v (ix2 m j) := by
  pointwise [k0_pay7, attend, scores, top]
theorem pay1 (q : FVec Ideal S1024x128 .bf16) (k v : FVec Ideal S256x128 .bf16) (n : Fin 1024) (j : Fin 128) :
    k0_pay1 (F := Ideal) v (k0_pay8 q k) (ix2 n j) = attend (fun d => q (ix2 n d)) (fun m d => k (ix2 m d)) fun m => v (ix2 m j) := by
  pointwise [k0_pay1, k0_pay8, attend, scores, top]

/-- The head of a column. -/
def head (j : Fin 512) : Fin 4 := ⟨j.val / 128, by omega⟩
/-- A column of a head's queries or keys. -/
def col (h : Fin 4) (d : Fin 128) : Fin 512 := ⟨h.val * 128 + d.val, by omega⟩
/-- A column of the keys, and of the values, in the joined array. -/
def kcol (h : Fin 4) (d : Fin 128) : Fin 1024 := ⟨h.val * 128 + d.val, by omega⟩
def vcol (j : Fin 512) : Fin 1024 := ⟨512 + j.val, by omega⟩

/-- An output block from the queries' and the memory's blocks. -/
def out2 (x0 : FVec Ideal S1024x512 .bf16) (x1 : FVec Ideal S256x1024 .bf16) (y : S1024x512.Idx) : EReal :=
  attend (fun d => x0 (ix2 (y 0) (col (head (y 1)) d))) (fun m d => x1 (ix2 m (kcol (head (y 1)) d))) fun m => x1 (ix2 m (vcol (y 1)))

theorem out2_of {W} (x0 : FVec Ideal S1024x512 .bf16) (x1 : FVec Ideal S256x1024 .bf16) (y : S1024x512.Idx)
    (q : FVec Ideal S1024x128 .bf16) (k : FVec Ideal S256x128 .bf16) (u : Fin 256 → W → EReal) (n : Fin 1024) (j : W)
    (h0 : ∀ d, q (ix2 n d) = x0 (ix2 (y 0) (col (head (y 1)) d))) (h1 : ∀ m d, k (ix2 m d) = x1 (ix2 m (kcol (head (y 1)) d))) (h2 : ∀ m, u m j = x1 (ix2 m (vcol (y 1)))) :
    attend (fun d => q (ix2 n d)) (fun m d => k (ix2 m d)) (fun m => u m j) = out2 x0 x1 y := by
  unfold out2
  simp only [h0, h1, h2]

set_option maxHeartbeats 4000000 in
theorem out2_at (x0 : FVec Ideal S1024x512 .bf16) (x1 : FVec Ideal S256x1024 .bf16) (y : S1024x512.Idx) : out0_2 (F := Ideal) x0 x1 y = out2 x0 x1 y := by
  unfold out0_2
  refine View.canon_apply_of_pieces (Val := Elt Ideal) (fun y => out2 x0 x1 y) _ ?_ y (cover0_2 _ _ _ _ y)
  intro p hp
  simp only [List.mem_cons, List.not_mem_nil, or_false] at hp
  rcases hp with rfl | rfl | rfl | rfl
  all_goals
    intro x
    obtain ⟨n, j, rfl⟩ : ∃ (n : Fin 1024) (j : Fin 128), x = ix2 n j := ⟨x 0, x 1, funext fun a => by match a with
      | ⟨0, _⟩ => rfl
      | ⟨1, _⟩ => rfl⟩
  · refine (pay1 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 384 + 1 * d.val = (384 + 1 * j.val) / 128 * 128 + d.val; omega
    · match a with
      | ⟨0, _⟩ => show 0 + 1 * m.val = m.val; omega
      | ⟨1, _⟩ => show 384 + 1 * d.val = (384 + 1 * j.val) / 128 * 128 + d.val; omega
    · match a with
      | ⟨0, _⟩ => show 0 + 1 * m.val = m.val; omega
      | ⟨1, _⟩ => show 896 + 1 * j.val = 512 + (384 + 1 * j.val); omega
  · refine (pay7 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 256 + 1 * d.val = (256 + 1 * j.val) / 128 * 128 + d.val; omega
    · match a with
      | ⟨0, _⟩ => show 0 + 1 * m.val = m.val; omega
      | ⟨1, _⟩ => show 256 + 1 * d.val = (256 + 1 * j.val) / 128 * 128 + d.val; omega
    · match a with
      | ⟨0, _⟩ => show 0 + 1 * m.val = m.val; omega
      | ⟨1, _⟩ => show 768 + 1 * j.val = 512 + (256 + 1 * j.val); omega
  · refine (pay6 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 128 + 1 * d.val = (128 + 1 * j.val) / 128 * 128 + d.val; omega
    · match a with
      | ⟨0, _⟩ => show 0 + 1 * m.val = m.val; omega
      | ⟨1, _⟩ => show 128 + 1 * d.val = (128 + 1 * j.val) / 128 * 128 + d.val; omega
    · match a with
      | ⟨0, _⟩ => show 0 + 1 * m.val = m.val; omega
      | ⟨1, _⟩ => show 640 + 1 * j.val = 512 + (128 + 1 * j.val); omega
  · refine (pay2 _ _ _ n j).trans ?_
    refine out2_of x0 x1 _ _ _ (fun m j => _) n j (fun d => congrArg x0 (funext fun a => Fin.ext ?_)) (fun m d => congrArg x1 (funext fun a => Fin.ext ?_)) (fun m => congrArg x1 (funext fun a => Fin.ext ?_))
    · match a with
      | ⟨0, _⟩ => rfl
      | ⟨1, _⟩ => show 0 + 1 * d.val = (0 + 1 * j.val) / 128 * 128 + d.val; omega
    · match a with
      | ⟨0, _⟩ => show 0 + 1 * m.val = m.val; omega
      | ⟨1, _⟩ => show 0 + 1 * d.val = (0 + 1 * j.val) / 128 * 128 + d.val; omega
    · match a with
      | ⟨0, _⟩ => show 0 + 1 * m.val = m.val; omega
      | ⟨1, _⟩ => show 512 + 1 * j.val = 512 + (0 + 1 * j.val); omega

section Blocks

variable (m : (ℓ : Loc nD τ sig) → Buf (Elt Ideal) ℓ) (c : Dev nD)

theorem row_lt (t : Fin cfg0.N) (n : Fin 1024) : 1024 * t.val + n.val < 32768 := by
  have := lt_of_lt_of_eq t.isLt (show cfg0.N = 32 from N_0)
  omega
theorem mem_lt (t : Fin cfg0.N) (n : Fin 256) : 256 * (t.val / 4) + n.val < 2048 := by
  have := lt_of_lt_of_eq t.isLt (show cfg0.N = 32 from N_0)
  omega

theorem idx0 : ∀ t : Fin cfg0.N, win0_0.index t (0 : Fin 2) = t.val ∧ win0_0.index t (1 : Fin 2) = 4 := (by decide +kernel : ∀ t : Fin grid0.N, _)
theorem idx1 : ∀ t : Fin cfg0.N, win0_1.index t (0 : Fin 2) = t.val / 4 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem blk0 (t : Fin cfg0.N) (n : Fin 1024) (j : Fin 512) :
    iblk m c 0 t (ix2 n j) = m ((c : Thread nD τ).loc main_arg0) (ix2 ⟨1024 * t.val + n.val, row_lt t n⟩ ⟨2048 + j.val, by omega⟩) := by
  unfold iblk
  rw [View.read_apply]
  show V m c main_arg0 _ = _
  rw [V_main_arg0]
  obtain ⟨e0, e1⟩ := idx0 t
  refine congrArg (m ((c : Thread nD τ).loc main_arg0)) (funext fun a => Fin.ext ?_)
  match a with
  | ⟨0, _⟩ => show win0_0.index t (0 : Fin 2) * 1024 + 1 * n.val = 1024 * t.val + n.val; rw [e0]; omega
  | ⟨1, _⟩ => show win0_0.index t (1 : Fin 2) * 512 + 1 * j.val = 2048 + j.val; rw [e1]; omega

theorem blk1 (t : Fin cfg0.N) (n : Fin 256) (j : Fin 1024) :
    iblk m c 1 t (ix2 n j) = m ((c : Thread nD τ).loc main_arg1) (ix2 ⟨256 * (t.val / 4) + n.val, mem_lt t n⟩ j) := by
  unfold iblk
  rw [View.read_apply]
  show V m c main_arg1 _ = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 256 + 1 * n.val = 256 * (t.val / 4) + n.val; rw [e0]; omega
  | ⟨1, _⟩ => show win0_1.index t (1 : Fin 2) * 1024 + 1 * j.val = j.val; rw [e1]; omega

/-- The kernel's output, entry by entry. -/
theorem kernel_is (b : Fin 8) (n : Fin 4096) (h : Fin 4) (d : Fin 128) :
    (dats m 0 c).arrAt 2 cfg0.N (ix2 (⟨b.val * 4096 + n.val, by omega⟩ : Fin 32768) (⟨h.val * 128 + d.val, by omega⟩ : Fin 512))
      = attend (fun e => m ((c : Thread nD τ).loc main_arg0) (ix2 ⟨b.val * 4096 + n.val, by omega⟩ ⟨2048 + (h.val * 128 + e.val), by omega⟩))
        (fun k e => m ((c : Thread nD τ).loc main_arg1) (ix2 ⟨b.val * 256 + k.val, by omega⟩ ⟨h.val * 128 + e.val, by omega⟩))
        (fun k => m ((c : Thread nD τ).loc main_arg1) (ix2 ⟨b.val * 256 + k.val, by omega⟩ ⟨512 + (h.val * 128 + d.val), by omega⟩)) := by
  have ht : b.val * 4 + n.val / 1024 < cfg0.N := by rw [show cfg0.N = 32 from N_0]; omega
  obtain ⟨e0, e1⟩ := idx2 ⟨b.val * 4 + n.val / 1024, ht⟩
  have h' := congrFun (blocks2 m c ⟨b.val * 4 + n.val / 1024, ht⟩ (flush0_2 _)) (ix2 (⟨n.val % 1024, by omega⟩ : Fin 1024) (⟨h.val * 128 + d.val, by omega⟩ : Fin 512))
  rw [View.read_apply, flushed2] at h'
  have ei : ((cfg0.win 2).blk ⟨b.val * 4 + n.val / 1024, ht⟩).view.emb (ix2 (⟨n.val % 1024, by omega⟩ : Fin 1024) (⟨h.val * 128 + d.val, by omega⟩ : Fin 512))
      = (ix2 (⟨b.val * 4096 + n.val, by omega⟩ : Fin 32768) (⟨h.val * 128 + d.val, by omega⟩ : Fin 512) : S32768x512.Idx) := funext fun a => Fin.ext (by match a with
    | ⟨0, _⟩ => show win0_2.index ⟨b.val * 4 + n.val / 1024, ht⟩ (0 : Fin 2) * 1024 + 1 * (n.val % 1024) = b.val * 4096 + n.val; rw [e0]; show (b.val * 4 + n.val / 1024) * 1024 + 1 * (n.val % 1024) = _; omega
    | ⟨1, _⟩ => show win0_2.index ⟨b.val * 4 + n.val / 1024, ht⟩ (1 : Fin 2) * 512 + 1 * (h.val * 128 + d.val) = h.val * 128 + d.val; rw [e1]; omega)
  rw [ei] at h'
  refine h'.trans ((out2_at _ _ _).trans ?_)
  have er : (⟨1024 * (b.val * 4 + n.val / 1024) + n.val % 1024, by omega⟩ : Fin 32768) = ⟨b.val * 4096 + n.val, by omega⟩ := Fin.ext (by show 1024 * (b.val * 4 + n.val / 1024) + n.val % 1024 = b.val * 4096 + n.val; omega)
  have em : ∀ k : Fin 256, (⟨256 * ((b.val * 4 + n.val / 1024) / 4) + k.val, by omega⟩ : Fin 2048) = ⟨b.val * 256 + k.val, by omega⟩ := fun k => Fin.ext (by show 256 * ((b.val * 4 + n.val / 1024) / 4) + k.val = b.val * 256 + k.val; omega)
  have eh : head (⟨h.val * 128 + d.val, by omega⟩ : Fin 512) = h := Fin.ext (by show (h.val * 128 + d.val) / 128 = h.val; omega)
  show attend (fun e => iblk m c 0 ⟨b.val * 4 + n.val / 1024, ht⟩ (ix2 (⟨n.val % 1024, by omega⟩ : Fin 1024) (col (head (⟨h.val * 128 + d.val, by omega⟩ : Fin 512)) e)))
    (fun k e => iblk m c 1 ⟨b.val * 4 + n.val / 1024, ht⟩ (ix2 k (kcol (head (⟨h.val * 128 + d.val, by omega⟩ : Fin 512)) e)))
    (fun k => iblk m c 1 ⟨b.val * 4 + n.val / 1024, ht⟩ (ix2 k (vcol (⟨h.val * 128 + d.val, by omega⟩ : Fin 512)))) = _
  simp only [blk0, blk1, er, em, eh]
  rfl

end Blocks

end K
namespace R
open Cert.Reference9Ideal Cert.Reference9Ideal.Gen Cert.Reference9Ideal.Value

def qs (a0 : FVec Ideal S32768x2560 .bf16) : FVec Ideal S8x4096x4x128 .f32 :=
  shapeCast S8x4096x4x128 (extf (F := Ideal) .f32 (extractStridedSlice S32768x512 ![0, 2048] a0 slices_S32768x2560_S32768x512_0_2048) bitsLt_bf16_f32) shapeCasts_S32768x512_S8x4096x4x128
def ks (a1 : FVec Ideal S2048x1024 .bf16) : FVec Ideal S8x256x4x128 .f32 :=
  shapeCast S8x256x4x128 (extractStridedSlice S8x256x1x4x128 ![0, 0, 0, 0, 0] (shapeCast S8x256x2x4x128 (extf (F := Ideal) .f32 a1 bitsLt_bf16_f32) shapeCasts_S2048x1024_S8x256x2x4x128) slices_S8x256x2x4x128_S8x256x1x4x128_0_0_0_0_0) shapeCasts_S8x256x1x4x128_S8x256x4x128
theorem qs_at (a0 : FVec Ideal S32768x2560 .bf16) (b : Fin 8) (n : Fin 4096) (h : Fin 4) (d : Fin 128) :
    qs a0 (ix4 b n h d) = a0 (ix2 ⟨b.val * 4096 + n.val, by omega⟩ ⟨2048 + (h.val * 128 + d.val), by omega⟩) := by
  pointwise [qs]
theorem ks_at (a1 : FVec Ideal S2048x1024 .bf16) (b : Fin 8) (n : Fin 256) (h : Fin 4) (d : Fin 128) :
    ks a1 (ix4 b n h d) = a1 (ix2 ⟨b.val * 256 + n.val, by omega⟩ ⟨h.val * 128 + d.val, by omega⟩) := by
  pointwise [ks]
def vs (a1 : FVec Ideal S2048x1024 .bf16) : FVec Ideal S8x256x4x128 .f32 :=
  shapeCast S8x256x4x128 (extractStridedSlice S8x256x1x4x128 ![0, 0, 1, 0, 0] (shapeCast S8x256x2x4x128 (extf (F := Ideal) .f32 a1 bitsLt_bf16_f32) shapeCasts_S2048x1024_S8x256x2x4x128) slices_S8x256x2x4x128_S8x256x1x4x128_0_0_1_0_0) shapeCasts_S8x256x1x4x128_S8x256x4x128
theorem vs_at (a1 : FVec Ideal S2048x1024 .bf16) (b : Fin 8) (n : Fin 256) (h : Fin 4) (d : Fin 128) :
    vs a1 (ix4 b n h d) = a1 (ix2 ⟨b.val * 256 + n.val, by omega⟩ ⟨512 + (h.val * 128 + d.val), by omega⟩) := by
  have e : vs a1 (ix4 b n h d) = a1 (ix2 ⟨b.val * 256 + n.val, by omega⟩ ⟨512 + h.val * 128 + d.val, by omega⟩) := by
    pointwise [vs]
  refine e.trans (congrArg (fun j => a1 (ix2 _ j)) (Fin.ext ?_))
  show 512 + h.val * 128 + d.val = 512 + (h.val * 128 + d.val)
  omega

def dots (q : FVec Ideal S8x4096x4x128 .f32) (k : FVec Ideal S8x256x4x128 .f32) : FVec Ideal S8x4x4096x256 .f32 :=
  mulf (F := Ideal) (Host.dotGeneral (F := Ideal) dot_S8x4096x4x128_S8x256x4x128_S8x4x4096x256_3_3_1_1_02_02 none q k) (broadcastInDim S8x4x4096x256 ![] bcast_S_S8x4x4096x256 (constant S_ .f32 0x3DB504F3#32))
theorem dots_at (q : FVec Ideal S8x4096x4x128 .f32) (k : FVec Ideal S8x256x4x128 .f32) (b : Fin 8) (h : Fin 4) (n : Fin 4096) (m : Fin 256) :
    dots q k (ix4 b h n m) = scores (fun d => q (ix4 b n h d)) (fun m d => k (ix4 b m h d)) m := by
  pointwise [dots, scores]
def tops (s : FVec Ideal S8x4x4096x256 .f32) : FVec Ideal S8x4x4096 .f32 :=
  Host.reduce (FloatOps.maximumf (F := Ideal)) s (constant S_ .f32 0xFF800000#32) reducesTo_S8x4x4096x256_S8x4x4096_d3 h_S_
theorem tops_at (s : FVec Ideal S8x4x4096x256 .f32) (b : Fin 8) (h : Fin 4) (n : Fin 4096) : tops s (ix3 b h n) = top fun m => s (ix4 b h n m) :=
  Cert.Memory.R.fold_rows s _ reducesTo_S8x4x4096x256_S8x4x4096_d3 h_S_ b h n
def exps (s : FVec Ideal S8x4x4096x256 .f32) (t : FVec Ideal S8x4x4096 .f32) : FVec Ideal S8x4x4096x256 .f32 :=
  Host.exp (F := Ideal) (subf (F := Ideal) s (broadcastInDim S8x4x4096x256 ![0, 1, 2, 3] bcast_S8x4x4096x1_S8x4x4096x256_0_1_2_3 (broadcastInDim S8x4x4096x1 ![0, 1, 2] bcast_S8x4x4096_S8x4x4096x1_0_1_2
    (maximumf (F := Ideal) (broadcastInDim S8x4x4096 ![] bcast_S_S8x4x4096 (constant S_ .f32 0xFF800000#32)) t))))
theorem exps_at (s : FVec Ideal S8x4x4096x256 .f32) (t : FVec Ideal S8x4x4096 .f32) (b : Fin 8) (h : Fin 4) (n : Fin 4096) (m : Fin 256) :
    exps s t (ix4 b h n m) = Ideal.exp (s (ix4 b h n m) - max (Ideal.ofBits .f32 0xFF800000#32) (t (ix3 b h n))) := by
  pointwise [exps]
def weights (p : FVec Ideal S8x4x4096x256 .f32) : FVec Ideal S8x4x4096x256 .f32 :=
  Host.divf (F := Ideal) p (broadcastInDim S8x4x4096x256 ![0, 1, 2, 3] bcast_S8x4x4096x1_S8x4x4096x256_0_1_2_3 (broadcastInDim S8x4x4096x1 ![0, 1, 2] bcast_S8x4x4096_S8x4x4096x1_0_1_2
    (Host.reduceAdd (F := Ideal) p (constant S_ .f32 0x00000000#32) reducesTo_S8x4x4096x256_S8x4x4096_d3 h_S_)))
theorem weights_at (p : FVec Ideal S8x4x4096x256 .f32) (b : Fin 8) (h : Fin 4) (n : Fin 4096) (m : Fin 256) :
    weights p (ix4 b h n m) = Ideal.div (p (ix4 b h n m)) (∑ m, p (ix4 b h n m)) := by
  pointwise [weights]
def outs (v : FVec Ideal S8x256x4x128 .f32) (w : FVec Ideal S8x4x4096x256 .f32) : FVec Ideal S32768x512 .bf16 :=
  truncf (F := Ideal) .bf16 (shapeCast S32768x512 (transpose S8x4096x4x128 [0, 3, 1, 2] (Host.dotGeneral (F := Ideal) dot_S8x256x4x128_S8x4x4096x256_S8x4x128x4096_1_3_3_2_02_01 none v w) transposes_S8x4x128x4096_S8x4096x4x128_0_3_1_2) shapeCasts_S8x4096x4x128_S32768x512) bitsLt_bf16_f32
theorem outs_at (v : FVec Ideal S8x256x4x128 .f32) (w : FVec Ideal S8x4x4096x256 .f32) (i : Fin 32768) (j : Fin 512) :
    outs v w (ix2 i j) = ∑ m, v (ix4 ⟨i.val / 4096, by omega⟩ m ⟨j.val / 128, by omega⟩ ⟨j.val % 128, by omega⟩) * w (ix4 ⟨i.val / 4096, by omega⟩ ⟨j.val / 128, by omega⟩ ⟨i.val % 4096, by omega⟩ m) := by
  pointwise [outs]

/-- The reference's output. -/
def whole (a0 : FVec Ideal S32768x2560 .bf16) (a1 : FVec Ideal S2048x1024 .bf16) : FVec Ideal S32768x512 .bf16 :=
  outs (vs a1) (weights (exps (dots (qs a0) (ks a1)) (tops (dots (qs a0) (ks a1)))))

theorem whole_is (m : (ℓ : Loc nD τ sig) → Buf (Elt Ideal) ℓ) (c : Dev nD) :
    res_main_v26 (F := Ideal) m c = whole (m ((c.tc : Thread nD τ).loc main_arg0)) (m ((c.tc : Thread nD τ).loc main_arg1)) := rfl

/-- The reference's output, entry by entry. -/
theorem whole_at (a0 : FVec Ideal S32768x2560 .bf16) (a1 : FVec Ideal S2048x1024 .bf16) (b : Fin 8) (n : Fin 4096) (h : Fin 4) (d : Fin 128) :
    whole a0 a1 (ix2 (⟨b.val * 4096 + n.val, by omega⟩ : Fin 32768) (⟨h.val * 128 + d.val, by omega⟩ : Fin 512))
      = attendR (fun e => a0 (ix2 ⟨b.val * 4096 + n.val, by omega⟩ ⟨2048 + (h.val * 128 + e.val), by omega⟩))
        (fun k e => a1 (ix2 ⟨b.val * 256 + k.val, by omega⟩ ⟨h.val * 128 + e.val, by omega⟩))
        (fun k => a1 (ix2 ⟨b.val * 256 + k.val, by omega⟩ ⟨512 + (h.val * 128 + d.val), by omega⟩)) := by
  unfold whole
  rw [outs_at]
  have e0 : (⟨(b.val * 4096 + n.val) / 4096, by omega⟩ : Fin 8) = b := Fin.ext (by show (b.val * 4096 + n.val) / 4096 = b.val; omega)
  have e1 : (⟨(b.val * 4096 + n.val) % 4096, by omega⟩ : Fin 4096) = n := Fin.ext (by show (b.val * 4096 + n.val) % 4096 = n.val; omega)
  have e2 : (⟨(h.val * 128 + d.val) / 128, by omega⟩ : Fin 4) = h := Fin.ext (by show (h.val * 128 + d.val) / 128 = h.val; omega)
  have e3 : (⟨(h.val * 128 + d.val) % 128, by omega⟩ : Fin 128) = d := Fin.ext (by show (h.val * 128 + d.val) % 128 = d.val; omega)
  simp only [e0, e1, e2, e3, weights_at, exps_at, tops_at, dots_at, vs_at, qs_at, ks_at]
  rfl
end R

section Finite
open Cert.KernelIdeal.Head

/-- Under the precondition every element is a real number. -/
theorem fin_args (a0 : FVec Ideal Cert.Pre_finite_args9.S32768x2560 .bf16) (a1 : FVec Ideal Cert.Pre_finite_args9.S2048x1024 .bf16)
    (h : Cert.Pre_finite_args9.fn (F := Ideal) a0 a1 = fun _ => 1#1) :
    (∀ i, a0 i = (((a0 i : EReal).toReal : ℝ) : EReal)) ∧ (∀ i, a1 i = (((a1 i : EReal).toReal : ℝ) : EReal)) := by
  have h0 := congrFun h (ix0 : Cert.Pre_finite_args9.S_.Idx)
  simp only [Cert.Pre_finite_args9.fn, andi, and_one] at h0
  obtain ⟨h0, h1⟩ := h0
  exact ⟨fun i => elem _ (and_whole rfl _ _ _ _ _ h0 i), fun i => elem _ (and_whole rfl _ _ _ _ _ h1 i)⟩

end Finite

theorem same (m : (ℓ : Loc Cert.Kernel9Ideal.nD Cert.Kernel9Ideal.τ Cert.Kernel9Ideal.sig) → Buf (Elt Ideal) ℓ) (c : Dev Cert.Kernel9Ideal.nD)
    {a0 : FVec Ideal Cert.Reference9Ideal.S32768x2560 .bf16} {a1 : FVec Ideal Cert.Reference9Ideal.S2048x1024 .bf16}
    (hpre : Cert.Pre_finite_args9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) = fun _ => 1#1)
    (h0 : a0 = m ((c.tc : Thread Cert.Kernel9Ideal.nD Cert.Kernel9Ideal.τ).loc Cert.Kernel9Ideal.main_arg0))
    (h1 : a1 = m ((c.tc : Thread Cert.Kernel9Ideal.nD Cert.Kernel9Ideal.τ).loc Cert.Kernel9Ideal.main_arg1)) :
    R.whole a0 a1 = (Cert.Kernel9Ideal.Gen.dats m 0 c).arrAt 2 Cert.Kernel9Ideal.cfg0.N := by
  obtain ⟨f0, f1⟩ := fin_args _ _ hpre
  subst h0 h1
  funext x
  obtain ⟨b, n, h, d, rfl⟩ : ∃ (b : Fin 8) (n : Fin 4096) (h : Fin 4) (d : Fin 128),
      x = ix2 (⟨b.val * 4096 + n.val, by omega⟩ : Fin 32768) (⟨h.val * 128 + d.val, by omega⟩ : Fin 512) := by
    obtain ⟨i, j, rfl⟩ : ∃ (i : Fin 32768) (j : Fin 512), x = ix2 i j := ⟨x 0, x 1, funext fun a => by match a with
      | ⟨0, _⟩ => rfl
      | ⟨1, _⟩ => rfl⟩
    exact ⟨⟨i.val / 4096, by omega⟩, ⟨i.val % 4096, by omega⟩, ⟨j.val / 128, by omega⟩, ⟨j.val % 128, by omega⟩,
      congrArg₂ ix2 (Fin.ext (by show i.val = i.val / 4096 * 4096 + i.val % 4096; omega)) (Fin.ext (by show j.val = j.val / 128 * 128 + j.val % 128; omega))⟩
  exact (R.whole_at _ _ b n h d).trans ((attend_eq _ _ _ (fun _ => f0 _) (fun _ _ => f1 _) (fun _ => f1 _)).trans (K.kernel_is m c b n h d).symm)

/-- Both programs, from finite arguments that agree, end with the same output. -/
theorem algebraic : Cert.algebraic_Kernel9Ideal_Reference9Ideal_pre_finite_args9 (hKernel9Ideal := Cert.Kernel9Ideal.Gen.facts) (hReference9Ideal := Cert.Reference9Ideal.Gen.facts) (hPre_finite_args9 := Cert.Pre_finite_args9.Gen.facts) :=
  fun m ρ m' ρ' hpre hag => ⟨fun c => (Cert.Kernel9Ideal.Gen.dats m 0 c).arrAt 2 Cert.Kernel9Ideal.cfg0.N, Cert.Kernel9Ideal.Value.run_blocks (F := Ideal) m ρ,
    (θ_run _ _ _).mono (fun r h c => ⟨((h c).1.trans (R.whole_is m' c)).trans (same m c (hpre c) (hag c).1 (hag c).2), (h c).2⟩) (Cert.Reference9Ideal.Value.run (F := Ideal) m' ρ')⟩

end Cert.MemoryNsa
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.Pre_finite_args8
public import proofs.«01_k».proof.Proof.Gen.KernelIdeal.Value
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Equal
public import proofs.«01_k».proof.Proof.Down
public import proofs.«01_k».proof.Proof.Project
public import proofs.«01_k».proof.Proof.Mix
public import proofs.«01_k».proof.Proof.DownPlain
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.ProjectNsa
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.ProjectMem
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Memory
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.MemoryNsa
public import proofs.«01_k».proof.Proof.Gen.Pre_finite_args9
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments, and declares no semaphore. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2, Idealize.ShloMosaic.sem_eq_zero_of_no_sems (by decide) r.2⟩) (Cert.ReferenceIdeal.Value.run (F := Ideal) m ρ)

/-- Reference 2 runs, leaves its arguments, and declares no semaphore. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run _ _ _).mono (fun r h => ⟨fun c => (h c).2.2, Idealize.ShloMosaic.sem_eq_zero_of_no_sems (by decide) r.2⟩) (Cert.Reference2Ideal.Value.run (F := Ideal) m ρ)

/-- Reference 3 runs, leaves its arguments, and declares no semaphore. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2, Idealize.ShloMosaic.sem_eq_zero_of_no_sems (by decide) r.2⟩) (Cert.Reference3Ideal.Value.run (F := Ideal) m ρ)

/-- Reference 4 runs, leaves its arguments, and declares no semaphore. -/
theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run _ _ _).mono (fun r h => ⟨fun c => (h c).2.2, Idealize.ShloMosaic.sem_eq_zero_of_no_sems (by decide) r.2⟩) (Cert.Reference4Ideal.Value.run (F := Ideal) m ρ)

/-- Reference 5 runs, leaves its arguments, and declares no semaphore. -/
theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run _ _ _).mono (fun r h => ⟨fun c => (h c).2, Idealize.ShloMosaic.sem_eq_zero_of_no_sems (by decide) r.2⟩) (Cert.Reference5Ideal.Value.run (F := Ideal) m ρ)

/-- Reference 6 runs, leaves its arguments, and declares no semaphore. -/
theorem reference6_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run _ _ _).mono (fun r h => ⟨fun c => (h c).2.2, Idealize.ShloMosaic.sem_eq_zero_of_no_sems (by decide) r.2⟩) (Cert.Reference6Ideal.Value.run (F := Ideal) m ρ)

/-- Reference 7 runs, leaves its arguments, and declares no semaphore. -/
theorem reference7_frame (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run _ _ _).mono (fun r h => ⟨fun c => (h c).2.2, Idealize.ShloMosaic.sem_eq_zero_of_no_sems (by decide) r.2⟩) (Cert.Reference7Ideal.Value.run (F := Ideal) m ρ)

/-- Reference 8 runs, leaves its arguments, and declares no semaphore. -/
theorem reference8_frame (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, Idealize.ShloMosaic.sem_eq_zero_of_no_sems (by decide) r.2⟩) (Cert.Reference8Ideal.Value.run (F := Ideal) m ρ)

/-- Reference 9 runs, leaves its arguments, and declares no semaphore. -/
theorem reference9_frame (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2, Idealize.ShloMosaic.sem_eq_zero_of_no_sems (by decide) r.2⟩) (Cert.Reference9Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite_args.Gen.facts, Cert.Pre_finite_args8.Gen.facts, Cert.Pre_finite_args9.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ _ => Cert.Kernel3.Gen.frame m ρ, fun m ρ _ => Cert.Kernel3Ideal.Gen.frame m ρ, fun m ρ _ => reference3_frame m ρ,
  fun m ρ _ => Cert.Kernel4.Gen.frame m ρ, fun m ρ _ => Cert.Kernel4Ideal.Gen.frame m ρ, fun m ρ _ => reference4_frame m ρ,
  fun m ρ _ => Cert.Kernel5.Gen.frame m ρ, fun m ρ _ => Cert.Kernel5Ideal.Gen.frame m ρ, fun m ρ _ => reference5_frame m ρ,
  fun m ρ _ => Cert.Kernel6.Gen.frame m ρ, fun m ρ _ => Cert.Kernel6Ideal.Gen.frame m ρ, fun m ρ _ => reference6_frame m ρ,
  fun m ρ _ => Cert.Kernel7.Gen.frame m ρ, fun m ρ _ => Cert.Kernel7Ideal.Gen.frame m ρ, fun m ρ _ => reference7_frame m ρ,
  fun m ρ _ => Cert.Kernel8.Gen.frame m ρ, fun m ρ _ => Cert.Kernel8Ideal.Gen.frame m ρ, fun m ρ _ => Cert.Kernel8Ideal.Gen.frame m ρ, fun m ρ _ => reference8_frame m ρ, fun m ρ _ => reference8_frame m ρ,
  fun m ρ _ => Cert.Kernel9.Gen.frame m ρ, fun m ρ _ => Cert.Kernel9Ideal.Gen.frame m ρ, fun m ρ _ => Cert.Kernel9Ideal.Gen.frame m ρ, fun m ρ _ => reference9_frame m ρ, fun m ρ _ => reference9_frame m ρ, trivial,
  fun m ρ m' ρ' hpre hag => ⟨fun c => Cert.KernelIdeal.Value.G9 (F := Ideal) m c, Cert.KernelIdeal.Value.run (F := Ideal) m ρ,
    (θ_run _ _ _).mono (fun r h c => ⟨(h c).1.trans (Cert.KernelIdeal.Head.arrays_same m m' c (hpre c) (hag c).1 (hag c).2.1 (hag c).2.2.1 (hag c).2.2.2.1 (hag c).2.2.2.2.1 (hag c).2.2.2.2.2), (h c).2⟩)
      (Cert.ReferenceIdeal.Value.run (F := Ideal) m' ρ')⟩,
  trivial, Cert.Mix.algebraic,
  trivial, Cert.Down.algebraic,
  trivial, Cert.Project.algebraic,
  trivial, Cert.DownPlain.algebraic,
  trivial, Cert.ProjectNsa.algebraic,
  trivial, Cert.ProjectMem.algebraic,
  trivial, Cert.Memory.algebraic,
  trivial, Cert.MemoryNsa.algebraic⟩

end Cert.Proof

end
